-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesIdeal_scale_sizes_fit [hPre_scale_sizes_fit : Cert.Pre_scale_sizes_fit.Facts] (m : (ℓ : Loc Cert.ScalesIdeal.nD Cert.ScalesIdeal.τ Cert.ScalesIdeal.sig) → Buf (Elt Ideal) ℓ) : Prop :=
  ∀ c : Dev Cert.ScalesIdeal.nD,
    (Cert.Pre_scale_sizes_fit.fn (F := Ideal) (m ((c.tc : Thread Cert.ScalesIdeal.nD Cert.ScalesIdeal.τ).loc Cert.ScalesIdeal.main_arg0)) (m ((c.tc : Thread Cert.ScalesIdeal.nD Cert.ScalesIdeal.τ).loc Cert.ScalesIdeal.main_arg1)) (m ((c.tc : Thread Cert.ScalesIdeal.nD Cert.ScalesIdeal.τ).loc Cert.ScalesIdeal.main_arg2)) (m ((c.tc : Thread Cert.ScalesIdeal.nD Cert.ScalesIdeal.τ).loc Cert.ScalesIdeal.main_arg3)) (m ((c.tc : Thread Cert.ScalesIdeal.nD Cert.ScalesIdeal.τ).loc Cert.ScalesIdeal.main_arg4))) = (fun _ => 1#1)

def Pre_ScalesReferenceIdeal (m : (ℓ : Loc Cert.ScalesReferenceIdeal.nD Cert.ScalesReferenceIdeal.τ Cert.ScalesReferenceIdeal.sig) → Buf (Elt Ideal) ℓ) : Prop :=
  True

def Pre_ScalesReferenceIdeal_scale_sizes_fit [hPre_scale_sizes_fit : Cert.Pre_scale_sizes_fit.Facts] (m : (ℓ : Loc Cert.ScalesReferenceIdeal.nD Cert.ScalesReferenceIdeal.τ Cert.ScalesReferenceIdeal.sig) → Buf (Elt Ideal) ℓ) : Prop :=
  ∀ c : Dev Cert.ScalesReferenceIdeal.nD,
    (Cert.Pre_scale_sizes_fit.fn (F := Ideal) (m ((c.tc : Thread Cert.ScalesReferenceIdeal.nD Cert.ScalesReferenceIdeal.τ).loc Cert.ScalesReferenceIdeal.main_arg0)) (m ((c.tc : Thread Cert.ScalesReferenceIdeal.nD Cert.ScalesReferenceIdeal.τ).loc Cert.ScalesReferenceIdeal.main_arg1)) (m ((c.tc : Thread Cert.ScalesReferenceIdeal.nD Cert.ScalesReferenceIdeal.τ).loc Cert.ScalesReferenceIdeal.main_arg2)) (m ((c.tc : Thread Cert.ScalesReferenceIdeal.nD Cert.ScalesReferenceIdeal.τ).loc Cert.ScalesReferenceIdeal.main_arg3)) (m ((c.tc : Thread Cert.ScalesReferenceIdeal.nD Cert.ScalesReferenceIdeal.τ).loc Cert.ScalesReferenceIdeal.main_arg4))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2)
      ∧ r.2.mem ((c.tc : Thread Cert.Scales.nD Cert.Scales.τ).loc Cert.Scales.main_arg3) = m ((c.tc : Thread Cert.Scales.nD Cert.Scales.τ).loc Cert.Scales.main_arg3)
      ∧ r.2.mem ((c.tc : Thread Cert.Scales.nD Cert.Scales.τ).loc Cert.Scales.main_arg4) = m ((c.tc : Thread Cert.Scales.nD Cert.Scales.τ).loc Cert.Scales.main_arg4))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2)
      ∧ r.2.mem ((c.tc : Thread Cert.ScalesIdeal.nD Cert.ScalesIdeal.τ).loc Cert.ScalesIdeal.main_arg3) = m ((c.tc : Thread Cert.ScalesIdeal.nD Cert.ScalesIdeal.τ).loc Cert.ScalesIdeal.main_arg3)
      ∧ r.2.mem ((c.tc : Thread Cert.ScalesIdeal.nD Cert.ScalesIdeal.τ).loc Cert.ScalesIdeal.main_arg4) = m ((c.tc : Thread Cert.ScalesIdeal.nD Cert.ScalesIdeal.τ).loc Cert.ScalesIdeal.main_arg4))
      ∧ r.2.sem = fun _ => 0)

def quiescent_ScalesIdeal_pre_scale_sizes_fit [hScalesIdeal : Cert.ScalesIdeal.Facts] [hPre_scale_sizes_fit : Cert.Pre_scale_sizes_fit.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal_scale_sizes_fit m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2)
      ∧ r.2.mem ((c.tc : Thread Cert.ScalesIdeal.nD Cert.ScalesIdeal.τ).loc Cert.ScalesIdeal.main_arg3) = m ((c.tc : Thread Cert.ScalesIdeal.nD Cert.ScalesIdeal.τ).loc Cert.ScalesIdeal.main_arg3)
      ∧ r.2.mem ((c.tc : Thread Cert.ScalesIdeal.nD Cert.ScalesIdeal.τ).loc Cert.ScalesIdeal.main_arg4) = m ((c.tc : Thread Cert.ScalesIdeal.nD Cert.ScalesIdeal.τ).loc Cert.ScalesIdeal.main_arg4))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2)
      ∧ r.2.mem ((c.tc : Thread Cert.ScalesReferenceIdeal.nD Cert.ScalesReferenceIdeal.τ).loc Cert.ScalesReferenceIdeal.main_arg3) = m ((c.tc : Thread Cert.ScalesReferenceIdeal.nD Cert.ScalesReferenceIdeal.τ).loc Cert.ScalesReferenceIdeal.main_arg3)
      ∧ r.2.mem ((c.tc : Thread Cert.ScalesReferenceIdeal.nD Cert.ScalesReferenceIdeal.τ).loc Cert.ScalesReferenceIdeal.main_arg4) = m ((c.tc : Thread Cert.ScalesReferenceIdeal.nD Cert.ScalesReferenceIdeal.τ).loc Cert.ScalesReferenceIdeal.main_arg4))
      ∧ r.2.sem = fun _ => 0)

def quiescent_ScalesReferenceIdeal_pre_scale_sizes_fit [hScalesReferenceIdeal : Cert.ScalesReferenceIdeal.Facts] [hPre_scale_sizes_fit : Cert.Pre_scale_sizes_fit.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal_scale_sizes_fit m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2)
      ∧ r.2.mem ((c.tc : Thread Cert.ScalesReferenceIdeal.nD Cert.ScalesReferenceIdeal.τ).loc Cert.ScalesReferenceIdeal.main_arg3) = m ((c.tc : Thread Cert.ScalesReferenceIdeal.nD Cert.ScalesReferenceIdeal.τ).loc Cert.ScalesReferenceIdeal.main_arg3)
      ∧ r.2.mem ((c.tc : Thread Cert.ScalesReferenceIdeal.nD Cert.ScalesReferenceIdeal.τ).loc Cert.ScalesReferenceIdeal.main_arg4) = m ((c.tc : Thread Cert.ScalesReferenceIdeal.nD Cert.ScalesReferenceIdeal.τ).loc Cert.ScalesReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Scales_ScalesIdeal : Prop :=
  True

def algebraic_ScalesIdeal_ScalesReferenceIdeal_pre_scale_sizes_fit [hScalesIdeal : Cert.ScalesIdeal.Facts] [hScalesReferenceIdeal : Cert.ScalesReferenceIdeal.Facts] [hPre_scale_sizes_fit : Cert.Pre_scale_sizes_fit.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal_scale_sizes_fit m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)
      ∧ m' ((c.tc : Thread Cert.ScalesReferenceIdeal.nD Cert.ScalesReferenceIdeal.τ).loc Cert.ScalesReferenceIdeal.main_arg1) = m ((c.tc : Thread Cert.ScalesIdeal.nD Cert.ScalesIdeal.τ).loc Cert.ScalesIdeal.main_arg1)
      ∧ m' ((c.tc : Thread Cert.ScalesReferenceIdeal.nD Cert.ScalesReferenceIdeal.τ).loc Cert.ScalesReferenceIdeal.main_arg2) = m ((c.tc : Thread Cert.ScalesIdeal.nD Cert.ScalesIdeal.τ).loc Cert.ScalesIdeal.main_arg2)
      ∧ m' ((c.tc : Thread Cert.ScalesReferenceIdeal.nD Cert.ScalesReferenceIdeal.τ).loc Cert.ScalesReferenceIdeal.main_arg3) = m ((c.tc : Thread Cert.ScalesIdeal.nD Cert.ScalesIdeal.τ).loc Cert.ScalesIdeal.main_arg3)
      ∧ m' ((c.tc : Thread Cert.ScalesReferenceIdeal.nD Cert.ScalesReferenceIdeal.τ).loc Cert.ScalesReferenceIdeal.main_arg4) = m ((c.tc : Thread Cert.ScalesIdeal.nD Cert.ScalesIdeal.τ).loc Cert.ScalesIdeal.main_arg4)) →
    ∃ (v0 : (c : Dev Cert.ScalesIdeal.nD) → Buf (Elt Ideal) ((c.tc : Thread Cert.ScalesIdeal.nD Cert.ScalesIdeal.τ).loc Cert.ScalesIdeal.main_v0_0)) (v1 : (c : Dev Cert.ScalesIdeal.nD) → Buf (Elt Ideal) ((c.tc : Thread Cert.ScalesIdeal.nD Cert.ScalesIdeal.τ).loc Cert.ScalesIdeal.main_v0_1)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v0_0) = v0 c
          ∧ r.2.mem ((c.tc : Thread Cert.ScalesIdeal.nD Cert.ScalesIdeal.τ).loc Cert.ScalesIdeal.main_v0_1) = v1 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
          ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2)
          ∧ r.2.mem ((c.tc : Thread Cert.ScalesIdeal.nD Cert.ScalesIdeal.τ).loc Cert.ScalesIdeal.main_arg3) = m ((c.tc : Thread Cert.ScalesIdeal.nD Cert.ScalesIdeal.τ).loc Cert.ScalesIdeal.main_arg3)
          ∧ r.2.mem ((c.tc : Thread Cert.ScalesIdeal.nD Cert.ScalesIdeal.τ).loc Cert.ScalesIdeal.main_arg4) = m ((c.tc : Thread Cert.ScalesIdeal.nD Cert.ScalesIdeal.τ).loc Cert.ScalesIdeal.main_arg4))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v70) = v0 c
          ∧ r.2.mem ((c.tc : Thread Cert.ScalesReferenceIdeal.nD Cert.ScalesReferenceIdeal.τ).loc Cert.ScalesReferenceIdeal.main_v141) = v1 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0)
          ∧ r.2.mem ((c.tc : Thread Cert.ScalesReferenceIdeal.nD Cert.ScalesReferenceIdeal.τ).loc Cert.ScalesReferenceIdeal.main_arg1) = m' ((c.tc : Thread Cert.ScalesReferenceIdeal.nD Cert.ScalesReferenceIdeal.τ).loc Cert.ScalesReferenceIdeal.main_arg1)
          ∧ r.2.mem ((c.tc : Thread Cert.ScalesReferenceIdeal.nD Cert.ScalesReferenceIdeal.τ).loc Cert.ScalesReferenceIdeal.main_arg2) = m' ((c.tc : Thread Cert.ScalesReferenceIdeal.nD Cert.ScalesReferenceIdeal.τ).loc Cert.ScalesReferenceIdeal.main_arg2)
          ∧ r.2.mem ((c.tc : Thread Cert.ScalesReferenceIdeal.nD Cert.ScalesReferenceIdeal.τ).loc Cert.ScalesReferenceIdeal.main_arg3) = m' ((c.tc : Thread Cert.ScalesReferenceIdeal.nD Cert.ScalesReferenceIdeal.τ).loc Cert.ScalesReferenceIdeal.main_arg3)
          ∧ r.2.mem ((c.tc : Thread Cert.ScalesReferenceIdeal.nD Cert.ScalesReferenceIdeal.τ).loc Cert.ScalesReferenceIdeal.main_arg4) = m' ((c.tc : Thread Cert.ScalesReferenceIdeal.nD Cert.ScalesReferenceIdeal.τ).loc Cert.ScalesReferenceIdeal.main_arg4))

def Claim : Prop :=
  ∃ (hKernel : Cert.Kernel.Facts) (hKernelIdeal : Cert.KernelIdeal.Facts) (hReferenceIdeal : Cert.ReferenceIdeal.Facts) (hScales : Cert.Scales.Facts) (hScalesIdeal : Cert.ScalesIdeal.Facts) (hScalesReferenceIdeal : Cert.ScalesReferenceIdeal.Facts) (hPre_sizes_fit : Cert.Pre_sizes_fit.Facts) (hPre_scale_sizes_fit : Cert.Pre_scale_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ quiescent_Scales (hScales := hScales)
    ∧ quiescent_ScalesIdeal (hScalesIdeal := hScalesIdeal)
    ∧ quiescent_ScalesIdeal_pre_scale_sizes_fit (hScalesIdeal := hScalesIdeal) (hPre_scale_sizes_fit := hPre_scale_sizes_fit)
    ∧ quiescent_ScalesReferenceIdeal (hScalesReferenceIdeal := hScalesReferenceIdeal)
    ∧ quiescent_ScalesReferenceIdeal_pre_scale_sizes_fit (hScalesReferenceIdeal := hScalesReferenceIdeal) (hPre_scale_sizes_fit := hPre_scale_sizes_fit)
    ∧ preserves_Kernel_KernelIdeal
    ∧ algebraic_KernelIdeal_ReferenceIdeal (hKernelIdeal := hKernelIdeal) (hReferenceIdeal := hReferenceIdeal) (hPre_sizes_fit := hPre_sizes_fit)
    ∧ preserves_Scales_ScalesIdeal
    ∧ algebraic_ScalesIdeal_ScalesReferenceIdeal_pre_scale_sizes_fit (hScalesIdeal := hScalesIdeal) (hScalesReferenceIdeal := hScalesReferenceIdeal) (hPre_scale_sizes_fit := hPre_scale_sizes_fit)
-- ==== Pre_scale_sizes_fit.lean ====
abbrev S6 : Shape := ⟨1, ![6]⟩
abbrev S7 : Shape := ⟨1, ![7]⟩
abbrev S800x1536 : Shape := ⟨2, ![800, 1536]⟩
abbrev S800x640 : Shape := ⟨2, ![800, 640]⟩
abbrev S1 : Shape := ⟨1, ![1]⟩
abbrev S_ : Shape := ⟨0, ![]⟩

class Facts : Prop where
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1

variable [Facts]

def fn_part3 {F : FTy → Type} [FloatOps F] (main_v47 : IVec S_ 32) (main_v51 : IVec S_ 1) (main_c_18 : IVec S_ 32) : IVec S_ 1 :=
  let main_v52 : IVec S_ 1 := cmpi .sle main_v47 main_c_18
  let main_v53 : IVec S_ 1 := andi main_v51 main_v52
  main_v53

def fn_part2 {F : FTy → Type} [FloatOps F] (main_arg0 : IVec S6 32) (main_v29 : IVec S_ 32) (main_v33 : IVec S_ 1) (main_c_12 : IVec S_ 32) : IVec S_ 1 :=
  let main_v34 : IVec S_ 1 := cmpi .sle main_v29 main_c_12
  let main_v35 : IVec S_ 1 := andi main_v33 main_v34
  let main_v36 : IVec S1 32 := (extractStridedSlice S1 ![4] · slices_S6_S1_4) main_arg0
  let main_v37 : IVec S_ 32 := shapeCast S_ main_v36 shapeCasts_S1_S_
  let main_v38 : IVec S_ 32 := addi main_v29 main_v37
  let main_c_13 : IVec S_ 32 := constantI S_ 32 0#32
  let main_v39 : IVec S_ 1 := cmpi .sge main_v37 main_c_13
  let main_v40 : IVec S_ 1 := andi main_v35 main_v39
  let main_c_14 : IVec S_ 32 := constantI S_ 32 12288#32
  let main_v41 : IVec S_ 1 := cmpi .sle main_v37 main_c_14
  let main_v42 : IVec S_ 1 := andi main_v40 main_v41
  let main_c_15 : IVec S_ 32 := constantI S_ 32 12288#32
  let main_v43 : IVec S_ 1 := cmpi .sle main_v38 main_c_15
  let main_v44 : IVec S_ 1 := andi main_v42 main_v43
  let main_v45 : IVec S1 32 := (extractStridedSlice S1 ![5] · slices_S6_S1_5) main_arg0
  let main_v46 : IVec S_ 32 := shapeCast S_ main_v45 shapeCasts_S1_S_
  let main_v47 : IVec S_ 32 := addi main_v38 main_v46
  let main_c_16 : IVec S_ 32 := constantI S_ 32 0#32
  let main_v48 : IVec S_ 1 := cmpi .sge main_v46 main_c_16
  let main_v49 : IVec S_ 1 := andi main_v44 main_v48
  let main_c_17 : IVec S_ 32 := constantI S_ 32 12288#32
  let main_v50 : IVec S_ 1 := cmpi .sle main_v46 main_c_17
  let main_v51 : IVec S_ 1 := andi main_v49 main_v50
  let main_c_18 : IVec S_ 32 := constantI S_ 32 12288#32
  fn_part3 (F := F) main_v47 main_v51 main_c_18

def fn_part1 {F : FTy → Type} [FloatOps F] (main_arg0 : IVec S6 32) (main_v11 : IVec S_ 32) (main_v15 : IVec S_ 1) (main_c_6 : IVec S_ 32) : IVec S_ 1 :=
  let main_v16 : IVec S_ 1 := cmpi .sle main_v11 main_c_6
  let main_v17 : IVec S_ 1 := andi main_v15 main_v16
  let main_v18 : IVec S1 32 := (extractStridedSlice S1 ![2] · slices_S6_S1_2) main_arg0
  let main_v19 : IVec S_ 32 := shapeCast S_ main_v18 shapeCasts_S1_S_
  let main_v20 : IVec S_ 32 := addi main_v11 main_v19
  let main_c_7 : IVec S_ 32 := constantI S_ 32 0#32
  let main_v21 : IVec S_ 1 := cmpi .sge main_v19 main_c_7
  let main_v22 : IVec S_ 1 := andi main_v17 main_v21
  let main_c_8 : IVec S_ 32 := constantI S_ 32 12288#32
  let main_v23 : IVec S_ 1 := cmpi .sle main_v19 main_c_8
  let main_v24 : IVec S_ 1 := andi main_v22 main_v23
  let main_c_9 : IVec S_ 32 := constantI S_ 32 12288#32
  let main_v25 : IVec S_ 1 := cmpi .sle main_v20 main_c_9
  let main_v26 : IVec S_ 1 := andi main_v24 main_v25
  let main_v27 : IVec S1 32 := (extractStridedSlice S1 ![3] · slices_S6_S1_3) main_arg0
  let main_v28 : IVec S_ 32 := shapeCast S_ main_v27 shapeCasts_S1_S_
  let main_v29 : IVec S_ 32 := addi main_v20 main_v28
  let main_c_10 : IVec S_ 32 := constantI S_ 32 0#32
  let main_v30 : IVec S_ 1 := cmpi .sge main_v28 main_c_10
  let main_v31 : IVec S_ 1 := andi main_v26 main_v30
  let main_c_11 : IVec S_ 32 := constantI S_ 32 12288#32
  let main_v32 : IVec S_ 1 := cmpi .sle main_v28 main_c_11
  let main_v33 : IVec S_ 1 := andi main_v31 main_v32
  let main_c_12 : IVec S_ 32 := constantI S_ 32 12288#32
  fn_part2 (F := F) main_arg0 main_v29 main_v33 main_c_12

def fn {F : FTy → Type} [FloatOps F] (main_arg0 : IVec S6 32) (main_arg1 : FVec F S7 .f32) (main_arg2 : FVec F S7 .f32) (main_arg3 : FVec F S800x1536 .f32) (main_arg4 : FVec F S800x640 .f32) : IVec S_ 1 :=
  let main_v0 : IVec S1 32 := (extractStridedSlice S1 ![0] · slices_S6_S1_0) main_arg0
  let main_v1 : IVec S_ 32 := shapeCast S_ main_v0 shapeCasts_S1_S_
  let main_c : IVec S_ 32 := constantI S_ 32 0#32
  let main_v2 : IVec S_ 32 := addi main_c main_v1
  let main_c_0 : IVec S_ 32 := constantI S_ 32 0#32
  let main_v3 : IVec S_ 1 := cmpi .sge main_v1 main_c_0
  let main_c_1 : IVec S_ 1 := constantI S_ 1 1#1
  let main_v4 : IVec S_ 1 := andi main_c_1 main_v3
  let main_c_2 : IVec S_ 32 := constantI S_ 32 12288#32
  let main_v5 : IVec S_ 1 := cmpi .sle main_v1 main_c_2
  let main_v6 : IVec S_ 1 := andi main_v4 main_v5
  let main_c_3 : IVec S_ 32 := constantI S_ 32 12288#32
  let main_v7 : IVec S_ 1 := cmpi .sle main_v2 main_c_3
  let main_v8 : IVec S_ 1 := andi main_v6 main_v7
  let main_v9 : IVec S1 32 := (extractStridedSlice S1 ![1] · slices_S6_S1_1) main_arg0
  let main_v10 : IVec S_ 32 := shapeCast S_ main_v9 shapeCasts_S1_S_
  let main_v11 : IVec S_ 32 := addi main_v2 main_v10
  let main_c_4 : IVec S_ 32 := constantI S_ 32 0#32
  let main_v12 : IVec S_ 1 := cmpi .sge main_v10 main_c_4
  let main_v13 : IVec S_ 1 := andi main_v8 main_v12
  let main_c_5 : IVec S_ 32 := constantI S_ 32 12288#32
  let main_v14 : IVec S_ 1 := cmpi .sle main_v10 main_c_5
  let main_v15 : IVec S_ 1 := andi main_v13 main_v14
  let main_c_6 : IVec S_ 32 := constantI S_ 32 12288#32
  fn_part1 (F := F) main_arg0 main_v11 main_v15 main_c_6
-- ==== Pre_sizes_fit.lean ====
abbrev S6 : Shape := ⟨1, ![6]⟩
abbrev S7 : Shape := ⟨1, ![7]⟩
abbrev S12800x1536 : Shape := ⟨2, ![12800, 1536]⟩
abbrev S800x1536 : Shape := ⟨2, ![800, 1536]⟩
abbrev S12800x640 : Shape := ⟨2, ![12800, 640]⟩
abbrev S800x640 : Shape := ⟨2, ![800, 640]⟩
abbrev S1 : Shape := ⟨1, ![1]⟩
abbrev S_ : Shape := ⟨0, ![]⟩

class Facts : Prop where
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1

variable [Facts]

def fn_part3 {F : FTy → Type} [FloatOps F] (main_v47 : IVec S_ 32) (main_v51 : IVec S_ 1) (main_c_18 : IVec S_ 32) : IVec S_ 1 :=
  let main_v52 : IVec S_ 1 := cmpi .sle main_v47 main_c_18
  let main_v53 : IVec S_ 1 := andi main_v51 main_v52
  main_v53

def fn_part2 {F : FTy → Type} [FloatOps F] (main_arg0 : IVec S6 32) (main_v29 : IVec S_ 32) (main_v33 : IVec S_ 1) (main_c_12 : IVec S_ 32) : IVec S_ 1 :=
  let main_v34 : IVec S_ 1 := cmpi .sle main_v29 main_c_12
  let main_v35 : IVec S_ 1 := andi main_v33 main_v34
  let main_v36 : IVec S1 32 := (extractStridedSlice S1 ![4] · slices_S6_S1_4) main_arg0
  let main_v37 : IVec S_ 32 := shapeCast S_ main_v36 shapeCasts_S1_S_
  let main_v38 : IVec S_ 32 := addi main_v29 main_v37
  let main_c_13 : IVec S_ 32 := constantI S_ 32 0#32
  let main_v39 : IVec S_ 1 := cmpi .sge main_v37 main_c_13
  let main_v40 : IVec S_ 1 := andi main_v35 main_v39
  let main_c_14 : IVec S_ 32 := constantI S_ 32 12288#32
  let main_v41 : IVec S_ 1 := cmpi .sle main_v37 main_c_14
  let main_v42 : IVec S_ 1 := andi main_v40 main_v41
  let main_c_15 : IVec S_ 32 := constantI S_ 32 12288#32
  let main_v43 : IVec S_ 1 := cmpi .sle main_v38 main_c_15
  let main_v44 : IVec S_ 1 := andi main_v42 main_v43
  let main_v45 : IVec S1 32 := (extractStridedSlice S1 ![5] · slices_S6_S1_5) main_arg0
  let main_v46 : IVec S_ 32 := shapeCast S_ main_v45 shapeCasts_S1_S_
  let main_v47 : IVec S_ 32 := addi main_v38 main_v46
  let main_c_16 : IVec S_ 32 := constantI S_ 32 0#32
  let main_v48 : IVec S_ 1 := cmpi .sge main_v46 main_c_16
  let main_v49 : IVec S_ 1 := andi main_v44 main_v48
  let main_c_17 : IVec S_ 32 := constantI S_ 32 12288#32
  let main_v50 : IVec S_ 1 := cmpi .sle main_v46 main_c_17
  let main_v51 : IVec S_ 1 := andi main_v49 main_v50
  let main_c_18 : IVec S_ 32 := constantI S_ 32 12288#32
  fn_part3 (F := F) main_v47 main_v51 main_c_18

def fn_part1 {F : FTy → Type} [FloatOps F] (main_arg0 : IVec S6 32) (main_v11 : IVec S_ 32) (main_v15 : IVec S_ 1) (main_c_6 : IVec S_ 32) : IVec S_ 1 :=
  let main_v16 : IVec S_ 1 := cmpi .sle main_v11 main_c_6
  let main_v17 : IVec S_ 1 := andi main_v15 main_v16
  let main_v18 : IVec S1 32 := (extractStridedSlice S1 ![2] · slices_S6_S1_2) main_arg0
  let main_v19 : IVec S_ 32 := shapeCast S_ main_v18 shapeCasts_S1_S_
  let main_v20 : IVec S_ 32 := addi main_v11 main_v19
  let main_c_7 : IVec S_ 32 := constantI S_ 32 0#32
  let main_v21 : IVec S_ 1 := cmpi .sge main_v19 main_c_7
  let main_v22 : IVec S_ 1 := andi main_v17 main_v21
  let main_c_8 : IVec S_ 32 := constantI S_ 32 12288#32
  let main_v23 : IVec S_ 1 := cmpi .sle main_v19 main_c_8
  let main_v24 : IVec S_ 1 := andi main_v22 main_v23
  let main_c_9 : IVec S_ 32 := constantI S_ 32 12288#32
  let main_v25 : IVec S_ 1 := cmpi .sle main_v20 main_c_9
  let main_v26 : IVec S_ 1 := andi main_v24 main_v25
  let main_v27 : IVec S1 32 := (extractStridedSlice S1 ![3] · slices_S6_S1_3) main_arg0
  let main_v28 : IVec S_ 32 := shapeCast S_ main_v27 shapeCasts_S1_S_
  let main_v29 : IVec S_ 32 := addi main_v20 main_v28
  let main_c_10 : IVec S_ 32 := constantI S_ 32 0#32
  let main_v30 : IVec S_ 1 := cmpi .sge main_v28 main_c_10
  let main_v31 : IVec S_ 1 := andi main_v26 main_v30
  let main_c_11 : IVec S_ 32 := constantI S_ 32 12288#32
  let main_v32 : IVec S_ 1 := cmpi .sle main_v28 main_c_11
  let main_v33 : IVec S_ 1 := andi main_v31 main_v32
  let main_c_12 : IVec S_ 32 := constantI S_ 32 12288#32
  fn_part2 (F := F) main_arg0 main_v29 main_v33 main_c_12

def fn {F : FTy → Type} [FloatOps F] (main_arg0 : IVec S6 32) (main_arg1 : FVec F S7 .f32) (main_arg2 : FVec F S7 .f32) (main_arg3 : FVec F S12800x1536 .bf16) (main_arg4 : FVec F S800x1536 .f32) (main_arg5 : FVec F S12800x640 .bf16) (main_arg6 : FVec F S800x640 .f32) : IVec S_ 1 :=
  let main_v0 : IVec S1 32 := (extractStridedSlice S1 ![0] · slices_S6_S1_0) main_arg0
  let main_v1 : IVec S_ 32 := shapeCast S_ main_v0 shapeCasts_S1_S_
  let main_c : IVec S_ 32 := constantI S_ 32 0#32
  let main_v2 : IVec S_ 32 := addi main_c main_v1
  let main_c_0 : IVec S_ 32 := constantI S_ 32 0#32
  let main_v3 : IVec S_ 1 := cmpi .sge main_v1 main_c_0
  let main_c_1 : IVec S_ 1 := constantI S_ 1 1#1
  let main_v4 : IVec S_ 1 := andi main_c_1 main_v3
  let main_c_2 : IVec S_ 32 := constantI S_ 32 12288#32
  let main_v5 : IVec S_ 1 := cmpi .sle main_v1 main_c_2
  let main_v6 : IVec S_ 1 := andi main_v4 main_v5
  let main_c_3 : IVec S_ 32 := constantI S_ 32 12288#32
  let main_v7 : IVec S_ 1 := cmpi .sle main_v2 main_c_3
  let main_v8 : IVec S_ 1 := andi main_v6 main_v7
  let main_v9 : IVec S1 32 := (extractStridedSlice S1 ![1] · slices_S6_S1_1) main_arg0
  let main_v10 : IVec S_ 32 := shapeCast S_ main_v9 shapeCasts_S1_S_
  let main_v11 : IVec S_ 32 := addi main_v2 main_v10
  let main_c_4 : IVec S_ 32 := constantI S_ 32 0#32
  let main_v12 : IVec S_ 1 := cmpi .sge main_v10 main_c_4
  let main_v13 : IVec S_ 1 := andi main_v8 main_v12
  let main_c_5 : IVec S_ 32 := constantI S_ 32 12288#32
  let main_v14 : IVec S_ 1 := cmpi .sle main_v10 main_c_5
  let main_v15 : IVec S_ 1 := andi main_v13 main_v14
  let main_c_6 : IVec S_ 32 := constantI S_ 32 12288#32
  fn_part1 (F := F) main_arg0 main_v11 main_v15 main_c_6
-- ==== Kernel.lean ====
abbrev S6 : Shape := ⟨1, ![6]⟩
abbrev S7 : Shape := ⟨1, ![7]⟩
abbrev S12800x1536 : Shape := ⟨2, ![12800, 1536]⟩
abbrev S800x1536 : Shape := ⟨2, ![800, 1536]⟩
abbrev S12800x640 : Shape := ⟨2, ![12800, 640]⟩
abbrev S800x640 : Shape := ⟨2, ![800, 640]⟩
abbrev S6x1536x640 : Shape := ⟨3, ![6, 1536, 640]⟩
abbrev S512x1536 : Shape := ⟨2, ![512, 1536]⟩
abbrev S32x1536 : Shape := ⟨2, ![32, 1536]⟩
abbrev S512x640 : Shape := ⟨2, ![512, 640]⟩
abbrev S32x640 : Shape := ⟨2, ![32, 640]⟩
abbrev S3x7 : Shape := ⟨2, ![3, 7]⟩
abbrev S2 : Shape := ⟨1, ![2]⟩
abbrev S256x1536 : Shape := ⟨2, ![256, 1536]⟩
abbrev S256x640 : Shape := ⟨2, ![256, 640]⟩
abbrev S1536x640 : Shape := ⟨2, ![1536, 640]⟩
abbrev S_ : Shape := ⟨0, ![]⟩
abbrev S1 : Shape := ⟨1, ![1]⟩
abbrev S1x1 : Shape := ⟨2, ![1, 1]⟩
abbrev S256x256 : Shape := ⟨2, ![256, 256]⟩
abbrev S64x128 : Shape := ⟨2, ![64, 128]⟩
abbrev S1x128 : Shape := ⟨2, ![1, 128]⟩
abbrev S16x128 : Shape := ⟨2, ![16, 128]⟩
abbrev S64x256 : Shape := ⟨2, ![64, 256]⟩
abbrev S1x256 : Shape := ⟨2, ![1, 256]⟩
abbrev S16x256 : Shape := ⟨2, ![16, 256]⟩
abbrev S1x1536x640 : Shape := ⟨3, ![1, 1536, 640]⟩
abbrev S128x640 : Shape := ⟨2, ![128, 640]⟩

abbrev nBuf : Space → Nat
  | .hbm => 8
  | .vmem => 15
  | .smem => 5
  | _ => 0

abbrev bufTy : (tb : Table) → Fin (tcTables nBuf tb) → BufTy
  | .hbm, ⟨0, _⟩ => ⟨S6, .i32⟩
  | .hbm, ⟨1, _⟩ => ⟨S7, .f32⟩
  | .hbm, ⟨2, _⟩ => ⟨S7, .f32⟩
  | .hbm, ⟨3, _⟩ => ⟨S12800x1536, .bf16⟩
  | .hbm, ⟨4, _⟩ => ⟨S800x1536, .f32⟩
  | .hbm, ⟨5, _⟩ => ⟨S12800x640, .bf16⟩
  | .hbm, ⟨6, _⟩ => ⟨S800x640, .f32⟩
  | .hbm, ⟨7, _⟩ => ⟨S6x1536x640, .f32⟩
  | .local _ .vmem, ⟨0, _⟩ => ⟨S512x1536, .bf16⟩
  | .local _ .vmem, ⟨1, _⟩ => ⟨S512x1536, .bf16⟩
  | .local _ .vmem, ⟨2, _⟩ => ⟨S32x1536, .f32⟩
  | .local _ .vmem, ⟨3, _⟩ => ⟨S32x1536, .f32⟩
  | .local _ .vmem, ⟨4, _⟩ => ⟨S512x640, .bf16⟩
  | .local _ .vmem, ⟨5, _⟩ => ⟨S512x640, .bf16⟩
  | .local _ .vmem, ⟨6, _⟩ => ⟨S32x640, .f32⟩
  | .local _ .vmem, ⟨7, _⟩ => ⟨S32x640, .f32⟩
  | .local _ .vmem, ⟨8, _⟩ => ⟨S256x1536, .bf16⟩
  | .local _ .vmem, ⟨9, _⟩ => ⟨S256x640, .bf16⟩
  | .local _ .vmem, ⟨10, _⟩ => ⟨S256x1536, .bf16⟩
  | .local _ .vmem, ⟨11, _⟩ => ⟨S256x640, .bf16⟩
  | .local _ .vmem, ⟨12, _⟩ => ⟨S256x640, .bf16⟩
  | .local _ .vmem, ⟨13, _⟩ => ⟨S1536x640, .f32⟩
  | .local _ .vmem, ⟨14, _⟩ => ⟨S1536x640, .f32⟩
  | .local _ .smem, ⟨0, _⟩ => ⟨S6, .i32⟩
  | .local _ .smem, ⟨1, _⟩ => ⟨S7, .f32⟩
  | .local _ .smem, ⟨2, _⟩ => ⟨S7, .f32⟩
  | .local _ .smem, ⟨3, _⟩ => ⟨S3x7, .i32⟩
  | .local _ .smem, ⟨4, _⟩ => ⟨S2, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch0 : Ref sig .tc := ⟨.smem, 3, rfl⟩
abbrev cc0_scratch1 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def k0_off1 (v5 : BitVec 32) : Fin 2 → Nat :=
  let c0_1 : Index := 0#32
  let v8 : Index := Scalar.indexCast v5
  ![0, v8.toNat]

def k0_chk1 (v5 : BitVec 32) : Prop :=
  (∀ a, (k0_off1 v5) a + S1x1.size a ≤ S3x7.size a)
theorem k0_off1_inb : ∀ (v5 : BitVec 32) (k0_hw1 : k0_chk1 v5), ∀ a, (k0_off1 v5) a + S1x1.size a ≤ S3x7.size a := fun v5 k0_hw1 => k0_hw1

def k0_off2 (v5 : BitVec 32) : Fin 2 → Nat :=
  let c0_1191 : Index := 0#32
  let c1_i32_1189 : BitVec 32 := 1#32
  let v1897 : BitVec 32 := Scalar.subi v5 c1_i32_1189
  let c0_i32_1190 : BitVec 32 := 0#32
  let v1898 : BitVec 32 := Scalar.maxsi v1897 c0_i32_1190
  let v1899 : Index := Scalar.indexCast v1898
  ![0, v1899.toNat]
def k0_cond2 (i : grid0.Coords) (v5 : BitVec 32) (v9 : BitVec 32) : BitVec 1 :=
  let c6_i32 : BitVec 32 := 6#32
  let v7 : BitVec 1 := Scalar.cmpi .slt v5 c6_i32
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32 : BitVec 32 := 16#32
  let v6 : BitVec 32 := Scalar.addi v4 c16_i32
  let v10 : BitVec 1 := Scalar.cmpi .slt v9 v6
  let v11 : BitVec 1 := Scalar.andi v7 v10
  let v12 : BitVec 32 := Scalar.extui v11
  let c0_i32_2 : BitVec 32 := 0#32
  let v13 : BitVec 1 := Scalar.cmpi .ne v12 c0_i32_2
  v13

def k0_off3 (v5 : BitVec 32) : Fin 2 → Nat :=
  let c0_1193 : Index := 0#32
  let v1904 : Index := Scalar.indexCast v5
  ![0, v1904.toNat]

def k0_chk2 (i : grid0.Coords) (v5 : BitVec 32) (v9 : BitVec 32) : Prop :=
  (∀ (k0_h2 : k0_cond2 i v5 v9 = 1#1), ∀ a, (k0_off2 v5) a + S1x1.size a ≤ S3x7.size a) ∧
  (∀ (k0_h2 : k0_cond2 i v5 v9 = 1#1), ∀ a, (k0_off3 v5) a + S1x1.size a ≤ S3x7.size a)
theorem k0_off2_inb : ∀ (i : grid0.Coords) (v5 : BitVec 32) (v9 : BitVec 32) (k0_hw2 : k0_chk2 i v5 v9), ∀ (k0_h2 : k0_cond2 i v5 v9 = 1#1), ∀ a, (k0_off2 v5) a + S1x1.size a ≤ S3x7.size a := fun i v5 v9 k0_hw2 k0_h2 => k0_hw2.1 k0_h2
theorem k0_off3_inb : ∀ (i : grid0.Coords) (v5 : BitVec 32) (v9 : BitVec 32) (k0_hw2 : k0_chk2 i v5 v9), ∀ (k0_h2 : k0_cond2 i v5 v9 = 1#1), ∀ a, (k0_off3 v5) a + S1x1.size a ≤ S3x7.size a := fun i v5 v9 k0_hw2 k0_h2 => k0_hw2.2 k0_h2

@[reducible] def k0_t1_loop (i : grid0.Coords) (v899 : BitVec 32) (v901 : BitVec 32) (v907 : BitVec 32) (v913 : BitVec 32) (v919 : BitVec 32) (v925 : BitVec 32) (v931 : BitVec 32) : Scf.Loop 32 :=
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_579 : BitVec 32 := 1#32
  ⟨c0_i32_577, v940, c1_i32_579⟩

def k0_off4 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) : Fin 1 → Nat :=
  let c0_i32_577 : BitVec 32 := 0#32
  let c1_i32_579 : BitVec 32 := 1#32
  let arg19 : BitVec 32 := Scf.iv c0_i32_577 c1_i32_579 k0_t1
  let v1886 : BitVec 32 := Scalar.addi v899 arg19
  let v1891 : Index := Scalar.indexCast v1886
  ![v1891.toNat]
def k0_off5 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) : Fin 3 → Nat :=
  let c0_i32_577 : BitVec 32 := 0#32
  let c1_i32_579 : BitVec 32 := 1#32
  let arg19 : BitVec 32 := Scf.iv c0_i32_577 c1_i32_579 k0_t1
  let v1886 : BitVec 32 := Scalar.addi v899 arg19
  let c0_i32_1264 : BitVec 32 := 0#32
  let c0_i32_1265 : BitVec 32 := 0#32
  ![v1886.toNat, 0, 0]
def k0_off6 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) : Fin 2 → Nat :=
  let c0_1269 : Index := 0#32
  let c0_i32_577 : BitVec 32 := 0#32
  let c1_i32_579 : BitVec 32 := 1#32
  let arg19 : BitVec 32 := Scf.iv c0_i32_577 c1_i32_579 k0_t1
  let v1886 : BitVec 32 := Scalar.addi v899 arg19
  let v2020 : Index := Scalar.indexCast v1886
  ![0, v2020.toNat]
def k0_off7 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) : Fin 2 → Nat :=
  let c0_1272 : Index := 0#32
  let c0_i32_577 : BitVec 32 := 0#32
  let c1_i32_579 : BitVec 32 := 1#32
  let arg19 : BitVec 32 := Scf.iv c0_i32_577 c1_i32_579 k0_t1
  let v1886 : BitVec 32 := Scalar.addi v899 arg19
  let c1_i32_1268 : BitVec 32 := 1#32
  let v2019 : BitVec 32 := Scalar.addi v1886 c1_i32_1268
  let v2027 : Index := Scalar.indexCast v2019
  ![0, v2027.toNat]
def k0_cond4 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) (v2021 : BitVec 32) : BitVec 1 :=
  let c0_i32_577 : BitVec 32 := 0#32
  let c1_i32_579 : BitVec 32 := 1#32
  let arg19 : BitVec 32 := Scf.iv c0_i32_577 c1_i32_579 k0_t1
  let v1886 : BitVec 32 := Scalar.addi v899 arg19
  let c1_i32_1268 : BitVec 32 := 1#32
  let v2019 : BitVec 32 := Scalar.addi v1886 c1_i32_1268
  let c6_i32_1270 : BitVec 32 := 6#32
  let v2022 : BitVec 1 := Scalar.cmpi .slt v2019 c6_i32_1270
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v2023 : BitVec 1 := Scalar.cmpi .slt v2021 v898
  let v2024 : BitVec 1 := Scalar.andi v2022 v2023
  let v2025 : BitVec 32 := Scalar.extui v2024
  let c0_i32_1271 : BitVec 32 := 0#32
  let v2026 : BitVec 1 := Scalar.cmpi .ne v2025 c0_i32_1271
  v2026

def k0_chk4 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) (v2021 : BitVec 32) : Prop :=
  (∀ (k0_h4 : k0_cond4 i v899 v901 v907 v913 v919 v925 v931 k0_t1 v2021 = 1#1), ∀ a, (k0_off7 i v899 v901 v907 v913 v919 v925 v931 k0_t1) a + S1x1.size a ≤ S3x7.size a)
theorem k0_off7_inb : ∀ (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) (v2021 : BitVec 32) (k0_hw4 : k0_chk4 i v899 v901 v907 v913 v919 v925 v931 k0_t1 v2021), ∀ (k0_h4 : k0_cond4 i v899 v901 v907 v913 v919 v925 v931 k0_t1 v2021 = 1#1), ∀ a, (k0_off7 i v899 v901 v907 v913 v919 v925 v931 k0_t1) a + S1x1.size a ≤ S3x7.size a := fun i v899 v901 v907 v913 v919 v925 v931 k0_t1 v2021 k0_hw4 k0_h4 => k0_hw4 k0_h4

def k0_off8 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) : Fin 2 → Nat :=
  let c0_1280 : Index := 0#32
  let c0_i32_577 : BitVec 32 := 0#32
  let c1_i32_579 : BitVec 32 := 1#32
  let arg19 : BitVec 32 := Scf.iv c0_i32_577 c1_i32_579 k0_t1
  let v1886 : BitVec 32 := Scalar.addi v899 arg19
  let c1_i32_1268 : BitVec 32 := 1#32
  let v2019 : BitVec 32 := Scalar.addi v1886 c1_i32_1268
  let c1_i32_1278 : BitVec 32 := 1#32
  let v2039 : BitVec 32 := Scalar.subi v2019 c1_i32_1278
  let c0_i32_1279 : BitVec 32 := 0#32
  let v2040 : BitVec 32 := Scalar.maxsi v2039 c0_i32_1279
  let v2041 : Index := Scalar.indexCast v2040
  ![0, v2041.toNat]
def k0_cond5 (v2021 : BitVec 32) (v2028 : BitVec 32) : BitVec 1 :=
  let v2029 : BitVec 1 := Scalar.cmpi .sgt v2028 v2021
  let v2030 : BitVec 32 := Scalar.extui v2029
  let c0_i32_1273 : BitVec 32 := 0#32
  let v2031 : BitVec 1 := Scalar.cmpi .ne v2030 c0_i32_1273
  v2031

def k0_off9 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) : Fin 2 → Nat :=
  let c0_1282 : Index := 0#32
  let c0_i32_577 : BitVec 32 := 0#32
  let c1_i32_579 : BitVec 32 := 1#32
  let arg19 : BitVec 32 := Scf.iv c0_i32_577 c1_i32_579 k0_t1
  let v1886 : BitVec 32 := Scalar.addi v899 arg19
  let c1_i32_1268 : BitVec 32 := 1#32
  let v2019 : BitVec 32 := Scalar.addi v1886 c1_i32_1268
  let v2046 : Index := Scalar.indexCast v2019
  ![0, v2046.toNat]

def k0_chk5 (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) (v2021 : BitVec 32) (v2028 : BitVec 32) : Prop :=
  (∀ (k0_h4 : k0_cond4 i v899 v901 v907 v913 v919 v925 v931 k0_t1 v2021 = 1#1), ∀ (k0_h5 : k0_cond5 v2021 v2028 = 1#1), ∀ a, (k0_off8 i v899 v901 v907 v913 v919 v925 v931 k0_t1) a + S1x1.size a ≤ S3x7.size a) ∧
  (∀ (k0_h4 : k0_cond4 i v899 v901 v907 v913 v919 v925 v931 k0_t1 v2021 = 1#1), ∀ (k0_h5 : k0_cond5 v2021 v2028 = 1#1), ∀ a, (k0_off9 i v899 v901 v907 v913 v919 v925 v931 k0_t1) a + S1x1.size a ≤ S3x7.size a)
theorem k0_off8_inb : ∀ (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) (v2021 : BitVec 32) (v2028 : BitVec 32) (k0_hw5 : k0_chk5 i v899 v901 v907 v913 v919 v925 v931 k0_t1 v2021 v2028), ∀ (k0_h4 : k0_cond4 i v899 v901 v907 v913 v919 v925 v931 k0_t1 v2021 = 1#1), ∀ (k0_h5 : k0_cond5 v2021 v2028 = 1#1), ∀ a, (k0_off8 i v899 v901 v907 v913 v919 v925 v931 k0_t1) a + S1x1.size a ≤ S3x7.size a := fun i v899 v901 v907 v913 v919 v925 v931 k0_t1 v2021 v2028 k0_hw5 k0_h4 k0_h5 => k0_hw5.1 k0_h4 k0_h5
theorem k0_off9_inb : ∀ (i : grid0.Coords) (v899 : BitVec 32) (v901 : BitVec 32) (v907 : BitVec 32) (v913 : BitVec 32) (v919 : BitVec 32) (v925 : BitVec 32) (v931 : BitVec 32) (k0_t1 : Fin (k0_t1_loop i v899 v901 v907 v913 v919 v925 v931).trips) (v2021 : BitVec 32) (v2028 : BitVec 32) (k0_hw5 : k0_chk5 i v899 v901 v907 v913 v919 v925 v931 k0_t1 v2021 v2028), ∀ (k0_h4 : k0_cond4 i v899 v901 v907 v913 v919 v925 v931 k0_t1 v2021 = 1#1), ∀ (k0_h5 : k0_cond5 v2021 v2028 = 1#1), ∀ a, (k0_off9 i v899 v901 v907 v913 v919 v925 v931 k0_t1) a + S1x1.size a ≤ S3x7.size a := fun i v899 v901 v907 v913 v919 v925 v931 k0_t1 v2021 v2028 k0_hw5 k0_h4 k0_h5 => k0_hw5.2 k0_h4 k0_h5

@[reducible] def k0_t2_loop (i : grid0.Coords) (v899 : BitVec 32) (v901 : BitVec 32) (v907 : BitVec 32) (v913 : BitVec 32) (v919 : BitVec 32) (v925 : BitVec 32) (v931 : BitVec 32) : Scf.Loop 32 :=
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let v937 : BitVec 32 := Scalar.addi c0_i32_577 v936
  let c1_i32_580 : BitVec 32 := 1#32
  ⟨v940, v937, c1_i32_580⟩
def k0_off10 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) : Fin 1 → Nat :=
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_580 : BitVec 32 := 1#32
  let arg19 : BitVec 32 := Scf.iv v940 c1_i32_580 k0_t2
  let v1886 : BitVec 32 := Scalar.addi v899 arg19
  let v1891 : Index := Scalar.indexCast v1886
  ![v1891.toNat]
def k0_off11 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) : Fin 3 → Nat :=
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_580 : BitVec 32 := 1#32
  let arg19 : BitVec 32 := Scf.iv v940 c1_i32_580 k0_t2
  let v1886 : BitVec 32 := Scalar.addi v899 arg19
  let c0_i32_1264 : BitVec 32 := 0#32
  let c0_i32_1265 : BitVec 32 := 0#32
  ![v1886.toNat, 0, 0]
def k0_off12 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) : Fin 2 → Nat :=
  let c0_1269 : Index := 0#32
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_580 : BitVec 32 := 1#32
  let arg19 : BitVec 32 := Scf.iv v940 c1_i32_580 k0_t2
  let v1886 : BitVec 32 := Scalar.addi v899 arg19
  let v2020 : Index := Scalar.indexCast v1886
  ![0, v2020.toNat]

def k0_chk3 (i : grid0.Coords) (v899 : BitVec 32) (v901 : BitVec 32) (v907 : BitVec 32) (v913 : BitVec 32) (v919 : BitVec 32) (v925 : BitVec 32) (v931 : BitVec 32) : Prop :=
  ((k0_t1_loop i v899 v901 v907 v913 v919 v925 v931).OK) ∧
  (∀ k0_t1 : Fin (k0_t1_loop i v899 v901 v907 v913 v919 v925 v931).trips, ∀ a, (k0_off4 i v899 v901 v907 v913 v919 v925 v931 k0_t1) a + S1.size a ≤ S7.size a) ∧
  (∀ k0_t1 : Fin (k0_t1_loop i v899 v901 v907 v913 v919 v925 v931).trips, ∀ a, (k0_off5 i v899 v901 v907 v913 v919 v925 v931 k0_t1) a + S1x1536x640.size a ≤ S6x1536x640.size a) ∧
  (∀ k0_t1 : Fin (k0_t1_loop i v899 v901 v907 v913 v919 v925 v931).trips, ∀ a, (k0_off6 i v899 v901 v907 v913 v919 v925 v931 k0_t1) a + S1x1.size a ≤ S3x7.size a) ∧
  ((k0_t2_loop i v899 v901 v907 v913 v919 v925 v931).OK) ∧
  (∀ k0_t2 : Fin (k0_t2_loop i v899 v901 v907 v913 v919 v925 v931).trips, ∀ a, (k0_off10 i v899 v901 v907 v913 v919 v925 v931 k0_t2) a + S1.size a ≤ S7.size a) ∧
  (∀ k0_t2 : Fin (k0_t2_loop i v899 v901 v907 v913 v919 v925 v931).trips, ∀ a, (k0_off11 i v899 v901 v907 v913 v919 v925 v931 k0_t2) a + S1x1536x640.size a ≤ S6x1536x640.size a) ∧
  (∀ k0_t2 : Fin (k0_t2_loop i v899 v901 v907 v913 v919 v925 v931).trips, ∀ a, (k0_off12 i v899 v901 v907 v913 v919 v925 v931 k0_t2) a + S1x1.size a ≤ S3x7.size a)
theorem k0_t1_ok : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931), (k0_t1_loop i v899 v901 v907 v913 v919 v925 v931).OK := fun i v899 v901 v907 v913 v919 v925 v931 k0_hw3 => k0_hw3.1
theorem k0_off4_inb : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931) (k0_t1 : Fin (k0_t1_loop i v899 v901 v907 v913 v919 v925 v931).trips), ∀ a, (k0_off4 i v899 v901 v907 v913 v919 v925 v931 k0_t1) a + S1.size a ≤ S7.size a := fun i v899 v901 v907 v913 v919 v925 v931 k0_hw3 k0_t1 => k0_hw3.2.1 k0_t1
theorem k0_off5_inb : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931) (k0_t1 : Fin (k0_t1_loop i v899 v901 v907 v913 v919 v925 v931).trips), ∀ a, (k0_off5 i v899 v901 v907 v913 v919 v925 v931 k0_t1) a + S1x1536x640.size a ≤ S6x1536x640.size a := fun i v899 v901 v907 v913 v919 v925 v931 k0_hw3 k0_t1 => k0_hw3.2.2.1 k0_t1
theorem k0_off6_inb : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931) (k0_t1 : Fin (k0_t1_loop i v899 v901 v907 v913 v919 v925 v931).trips), ∀ a, (k0_off6 i v899 v901 v907 v913 v919 v925 v931 k0_t1) a + S1x1.size a ≤ S3x7.size a := fun i v899 v901 v907 v913 v919 v925 v931 k0_hw3 k0_t1 => k0_hw3.2.2.2.1 k0_t1
theorem k0_t2_ok : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931), (k0_t2_loop i v899 v901 v907 v913 v919 v925 v931).OK := fun i v899 v901 v907 v913 v919 v925 v931 k0_hw3 => k0_hw3.2.2.2.2.1
theorem k0_off10_inb : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931) (k0_t2 : Fin (k0_t2_loop i v899 v901 v907 v913 v919 v925 v931).trips), ∀ a, (k0_off10 i v899 v901 v907 v913 v919 v925 v931 k0_t2) a + S1.size a ≤ S7.size a := fun i v899 v901 v907 v913 v919 v925 v931 k0_hw3 k0_t2 => k0_hw3.2.2.2.2.2.1 k0_t2
theorem k0_off11_inb : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931) (k0_t2 : Fin (k0_t2_loop i v899 v901 v907 v913 v919 v925 v931).trips), ∀ a, (k0_off11 i v899 v901 v907 v913 v919 v925 v931 k0_t2) a + S1x1536x640.size a ≤ S6x1536x640.size a := fun i v899 v901 v907 v913 v919 v925 v931 k0_hw3 k0_t2 => k0_hw3.2.2.2.2.2.2.1 k0_t2
theorem k0_off12_inb : ∀ (i : grid0.Coords) (v899 : BitVec 32) (v901 : BitVec 32) (v907 : BitVec 32) (v913 : BitVec 32) (v919 : BitVec 32) (v925 : BitVec 32) (v931 : BitVec 32) (k0_hw3 : k0_chk3 i v899 v901 v907 v913 v919 v925 v931) (k0_t2 : Fin (k0_t2_loop i v899 v901 v907 v913 v919 v925 v931).trips), ∀ a, (k0_off12 i v899 v901 v907 v913 v919 v925 v931 k0_t2) a + S1x1.size a ≤ S3x7.size a := fun i v899 v901 v907 v913 v919 v925 v931 k0_hw3 k0_t2 => k0_hw3.2.2.2.2.2.2.2 k0_t2

def k0_off13 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) : Fin 2 → Nat :=
  let c0_1272 : Index := 0#32
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_580 : BitVec 32 := 1#32
  let arg19 : BitVec 32 := Scf.iv v940 c1_i32_580 k0_t2
  let v1886 : BitVec 32 := Scalar.addi v899 arg19
  let c1_i32_1268 : BitVec 32 := 1#32
  let v2019 : BitVec 32 := Scalar.addi v1886 c1_i32_1268
  let v2027 : Index := Scalar.indexCast v2019
  ![0, v2027.toNat]
def k0_cond7 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) (v2021 : BitVec 32) : BitVec 1 :=
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_580 : BitVec 32 := 1#32
  let arg19 : BitVec 32 := Scf.iv v940 c1_i32_580 k0_t2
  let v1886 : BitVec 32 := Scalar.addi v899 arg19
  let c1_i32_1268 : BitVec 32 := 1#32
  let v2019 : BitVec 32 := Scalar.addi v1886 c1_i32_1268
  let c6_i32_1270 : BitVec 32 := 6#32
  let v2022 : BitVec 1 := Scalar.cmpi .slt v2019 c6_i32_1270
  let v2023 : BitVec 1 := Scalar.cmpi .slt v2021 v898
  let v2024 : BitVec 1 := Scalar.andi v2022 v2023
  let v2025 : BitVec 32 := Scalar.extui v2024
  let c0_i32_1271 : BitVec 32 := 0#32
  let v2026 : BitVec 1 := Scalar.cmpi .ne v2025 c0_i32_1271
  v2026

def k0_chk6 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) (v2021 : BitVec 32) : Prop :=
  (∀ (k0_h7 : k0_cond7 i v899 v901 v907 v913 v919 v925 v931 k0_t2 v2021 = 1#1), ∀ a, (k0_off13 i v899 v901 v907 v913 v919 v925 v931 k0_t2) a + S1x1.size a ≤ S3x7.size a)
theorem k0_off13_inb : ∀ (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) (v2021 : BitVec 32) (k0_hw6 : k0_chk6 i v899 v901 v907 v913 v919 v925 v931 k0_t2 v2021), ∀ (k0_h7 : k0_cond7 i v899 v901 v907 v913 v919 v925 v931 k0_t2 v2021 = 1#1), ∀ a, (k0_off13 i v899 v901 v907 v913 v919 v925 v931 k0_t2) a + S1x1.size a ≤ S3x7.size a := fun i v899 v901 v907 v913 v919 v925 v931 k0_t2 v2021 k0_hw6 k0_h7 => k0_hw6 k0_h7

def k0_off14 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) : Fin 2 → Nat :=
  let c0_1280 : Index := 0#32
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_580 : BitVec 32 := 1#32
  let arg19 : BitVec 32 := Scf.iv v940 c1_i32_580 k0_t2
  let v1886 : BitVec 32 := Scalar.addi v899 arg19
  let c1_i32_1268 : BitVec 32 := 1#32
  let v2019 : BitVec 32 := Scalar.addi v1886 c1_i32_1268
  let c1_i32_1278 : BitVec 32 := 1#32
  let v2039 : BitVec 32 := Scalar.subi v2019 c1_i32_1278
  let c0_i32_1279 : BitVec 32 := 0#32
  let v2040 : BitVec 32 := Scalar.maxsi v2039 c0_i32_1279
  let v2041 : Index := Scalar.indexCast v2040
  ![0, v2041.toNat]
def k0_cond8 (v2021 : BitVec 32) (v2028 : BitVec 32) : BitVec 1 :=
  let v2029 : BitVec 1 := Scalar.cmpi .sgt v2028 v2021
  let v2030 : BitVec 32 := Scalar.extui v2029
  let c0_i32_1273 : BitVec 32 := 0#32
  let v2031 : BitVec 1 := Scalar.cmpi .ne v2030 c0_i32_1273
  v2031

def k0_off15 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) : Fin 2 → Nat :=
  let c0_1282 : Index := 0#32
  let c0_i32_577 : BitVec 32 := 0#32
  let c0_i32_565 : BitVec 32 := 0#32
  let c0_i32_562 : BitVec 32 := 0#32
  let v900 : BitVec 1 := Scalar.cmpi .sle v899 c0_i32_562
  let arg0 : BitVec 32 := BitVec.ofNat 32 (i 0).val
  let c32_i32 : BitVec 32 := 32#32
  let v3 : BitVec 32 := Scalar.muli arg0 c32_i32
  let c_m16_i32 : BitVec 32 := 4294967280#32
  let v4 : BitVec 32 := Scalar.addi v3 c_m16_i32
  let c16_i32_560 : BitVec 32 := 16#32
  let v898 : BitVec 32 := Scalar.addi v4 c16_i32_560
  let v902 : BitVec 1 := Scalar.cmpi .sle v901 v898
  let v903 : BitVec 1 := Scalar.andi v900 v902
  let v904 : BitVec 32 := Scalar.extui v903
  let v905 : BitVec 32 := Scalar.addi c0_i32_565 v904
  let c1_i32 : BitVec 32 := 1#32
  let v906 : BitVec 1 := Scalar.cmpi .sle v899 c1_i32
  let v908 : BitVec 1 := Scalar.cmpi .sle v907 v898
  let v909 : BitVec 1 := Scalar.andi v906 v908
  let v910 : BitVec 32 := Scalar.extui v909
  let v911 : BitVec 32 := Scalar.addi v905 v910
  let c2_i32 : BitVec 32 := 2#32
  let v912 : BitVec 1 := Scalar.cmpi .sle v899 c2_i32
  let v914 : BitVec 1 := Scalar.cmpi .sle v913 v898
  let v915 : BitVec 1 := Scalar.andi v912 v914
  let v916 : BitVec 32 := Scalar.extui v915
  let v917 : BitVec 32 := Scalar.addi v911 v916
  let c3_i32 : BitVec 32 := 3#32
  let v918 : BitVec 1 := Scalar.cmpi .sle v899 c3_i32
  let v920 : BitVec 1 := Scalar.cmpi .sle v919 v898
  let v921 : BitVec 1 := Scalar.andi v918 v920
  let v922 : BitVec 32 := Scalar.extui v921
  let v923 : BitVec 32 := Scalar.addi v917 v922
  let c4_i32 : BitVec 32 := 4#32
  let v924 : BitVec 1 := Scalar.cmpi .sle v899 c4_i32
  let v926 : BitVec 1 := Scalar.cmpi .sle v925 v898
  let v927 : BitVec 1 := Scalar.andi v924 v926
  let v928 : BitVec 32 := Scalar.extui v927
  let v929 : BitVec 32 := Scalar.addi v923 v928
  let c5_i32 : BitVec 32 := 5#32
  let v930 : BitVec 1 := Scalar.cmpi .sle v899 c5_i32
  let v932 : BitVec 1 := Scalar.cmpi .sle v931 v898
  let v933 : BitVec 1 := Scalar.andi v930 v932
  let v934 : BitVec 32 := Scalar.extui v933
  let v935 : BitVec 32 := Scalar.addi v929 v934
  let v936 : BitVec 32 := Scalar.subi v935 c0_i32_577
  let c1_i32_578 : BitVec 32 := 1#32
  let v938 : BitVec 32 := Scalar.divsi v936 c1_i32_578
  let v939 : BitVec 32 := Scalar.muli v938 c1_i32_578
  let v940 : BitVec 32 := Scalar.addi c0_i32_577 v939
  let c1_i32_580 : BitVec 32 := 1#32
  let arg19 : BitVec 32 := Scf.iv v940 c1_i32_580 k0_t2
  let v1886 : BitVec 32 := Scalar.addi v899 arg19
  let c1_i32_1268 : BitVec 32 := 1#32
  let v2019 : BitVec 32 := Scalar.addi v1886 c1_i32_1268
  let v2046 : Index := Scalar.indexCast v2019
  ![0, v2046.toNat]

def k0_chk7 (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) (v2021 : BitVec 32) (v2028 : BitVec 32) : Prop :=
  (∀ (k0_h7 : k0_cond7 i v899 v901 v907 v913 v919 v925 v931 k0_t2 v2021 = 1#1), ∀ (k0_h8 : k0_cond8 v2021 v2028 = 1#1), ∀ a, (k0_off14 i v899 v901 v907 v913 v919 v925 v931 k0_t2) a + S1x1.size a ≤ S3x7.size a) ∧
  (∀ (k0_h7 : k0_cond7 i v899 v901 v907 v913 v919 v925 v931 k0_t2 v2021 = 1#1), ∀ (k0_h8 : k0_cond8 v2021 v2028 = 1#1), ∀ a, (k0_off15 i v899 v901 v907 v913 v919 v925 v931 k0_t2) a + S1x1.size a ≤ S3x7.size a)
theorem k0_off14_inb : ∀ (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) (v2021 : BitVec 32) (v2028 : BitVec 32) (k0_hw7 : k0_chk7 i v899 v901 v907 v913 v919 v925 v931 k0_t2 v2021 v2028), ∀ (k0_h7 : k0_cond7 i v899 v901 v907 v913 v919 v925 v931 k0_t2 v2021 = 1#1), ∀ (k0_h8 : k0_cond8 v2021 v2028 = 1#1), ∀ a, (k0_off14 i v899 v901 v907 v913 v919 v925 v931 k0_t2) a + S1x1.size a ≤ S3x7.size a := fun i v899 v901 v907 v913 v919 v925 v931 k0_t2 v2021 v2028 k0_hw7 k0_h7 k0_h8 => k0_hw7.1 k0_h7 k0_h8
theorem k0_off15_inb : ∀ (i : grid0.Coords) (v899 : BitVec 32) (v901 : BitVec 32) (v907 : BitVec 32) (v913 : BitVec 32) (v919 : BitVec 32) (v925 : BitVec 32) (v931 : BitVec 32) (k0_t2 : Fin (k0_t2_loop i v899 v901 v907 v913 v919 v925 v931).trips) (v2021 : BitVec 32) (v2028 : BitVec 32) (k0_hw7 : k0_chk7 i v899 v901 v907 v913 v919 v925 v931 k0_t2 v2021 v2028), ∀ (k0_h7 : k0_cond7 i v899 v901 v907 v913 v919 v925 v931 k0_t2 v2021 = 1#1), ∀ (k0_h8 : k0_cond8 v2021 v2028 = 1#1), ∀ a, (k0_off15 i v899 v901 v907 v913 v919 v925 v931 k0_t2) a + S1x1.size a ≤ S3x7.size a := fun i v899 v901 v907 v913 v919 v925 v931 k0_t2 v2021 v2028 k0_hw7 k0_h7 k0_h8 => k0_hw7.2 k0_h7 k0_h8

def k0_off16 (v945 : BitVec 32) : Fin 2 → Nat :=
  let c0_587 : Index := 0#32
  let v948 : Index := Scalar.indexCast v945
  ![0, v948.toNat]

def k0_chk8 (v945 : BitVec 32) : Prop :=
  (∀ a, (k0_off16 v945) a + S1x1.size a ≤ S3x7.size a)
theorem k0_off16_inb : ∀ (v945 : BitVec 32) (k0_hw8 : k0_chk8 v945), ∀ a, (k0_off16 v945) a + S1x1.size a ≤ S3x7.size a := fun v945 k0_hw8 => k0_hw8

def k0_off17 (v945 : BitVec 32) : Fin 2 → Nat :=
  let c0_1191 : Index := 0#32
  let c1_i32_1189 : BitVec 32 := 1#32
  let v1897 : BitVec 32 := Scalar.subi v945 c1_i32_1189
  let c0_i32_1190 : BitVec 32 := 0#32
  let v1898 : BitVec 32 := Scalar.maxsi v1897 c0_i32_1190
  let v1899 : Index := Scalar.indexCast v1898
  ![0, v1899.toNat]
def k0_cond9 (i : grid0.Coords) (v945 : BitVec 32) (v949 : BitVec 32) : BitVec 1 :=
  let c6_i32_586 : BitVec 32 := 6#32
  let v947 : BitVec 1 := Scalar.cmpi .slt v945 c6_i32_586
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_585 : BitVec 32 := 16#32
  let v946 : BitVec 32 := Scalar.addi v944 c16_i32_585
  let v950 : BitVec 1 := Scalar.cmpi .slt v949 v946
  let v951 : BitVec 1 := Scalar.andi v947 v950
  let v952 : BitVec 32 := Scalar.extui v951
  let c0_i32_588 : BitVec 32 := 0#32
  let v953 : BitVec 1 := Scalar.cmpi .ne v952 c0_i32_588
  v953

def k0_off18 (v945 : BitVec 32) : Fin 2 → Nat :=
  let c0_1193 : Index := 0#32
  let v1904 : Index := Scalar.indexCast v945
  ![0, v1904.toNat]

def k0_chk9 (i : grid0.Coords) (v945 : BitVec 32) (v949 : BitVec 32) : Prop :=
  (∀ (k0_h9 : k0_cond9 i v945 v949 = 1#1), ∀ a, (k0_off17 v945) a + S1x1.size a ≤ S3x7.size a) ∧
  (∀ (k0_h9 : k0_cond9 i v945 v949 = 1#1), ∀ a, (k0_off18 v945) a + S1x1.size a ≤ S3x7.size a)
theorem k0_off17_inb : ∀ (i : grid0.Coords) (v945 : BitVec 32) (v949 : BitVec 32) (k0_hw9 : k0_chk9 i v945 v949), ∀ (k0_h9 : k0_cond9 i v945 v949 = 1#1), ∀ a, (k0_off17 v945) a + S1x1.size a ≤ S3x7.size a := fun i v945 v949 k0_hw9 k0_h9 => k0_hw9.1 k0_h9
theorem k0_off18_inb : ∀ (i : grid0.Coords) (v945 : BitVec 32) (v949 : BitVec 32) (k0_hw9 : k0_chk9 i v945 v949), ∀ (k0_h9 : k0_cond9 i v945 v949 = 1#1), ∀ a, (k0_off18 v945) a + S1x1.size a ≤ S3x7.size a := fun i v945 v949 k0_hw9 k0_h9 => k0_hw9.2 k0_h9

@[reducible] def k0_t3_loop (i : grid0.Coords) (v1839 : BitVec 32) (v1841 : BitVec 32) (v1847 : BitVec 32) (v1853 : BitVec 32) (v1859 : BitVec 32) (v1865 : BitVec 32) (v1871 : BitVec 32) : Scf.Loop 32 :=
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1177 : BitVec 32 := 1#32
  ⟨c0_i32_1175, v1880, c1_i32_1177⟩

def k0_off19 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) : Fin 1 → Nat :=
  let c0_i32_1175 : BitVec 32 := 0#32
  let c1_i32_1177 : BitVec 32 := 1#32
  let arg19 : BitVec 32 := Scf.iv c0_i32_1175 c1_i32_1177 k0_t3
  let v1886 : BitVec 32 := Scalar.addi v1839 arg19
  let v1891 : Index := Scalar.indexCast v1886
  ![v1891.toNat]
def k0_off20 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) : Fin 3 → Nat :=
  let c0_i32_1175 : BitVec 32 := 0#32
  let c1_i32_1177 : BitVec 32 := 1#32
  let arg19 : BitVec 32 := Scf.iv c0_i32_1175 c1_i32_1177 k0_t3
  let v1886 : BitVec 32 := Scalar.addi v1839 arg19
  let c0_i32_1264 : BitVec 32 := 0#32
  let c0_i32_1265 : BitVec 32 := 0#32
  ![v1886.toNat, 0, 0]
def k0_off21 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) : Fin 2 → Nat :=
  let c0_1269 : Index := 0#32
  let c0_i32_1175 : BitVec 32 := 0#32
  let c1_i32_1177 : BitVec 32 := 1#32
  let arg19 : BitVec 32 := Scf.iv c0_i32_1175 c1_i32_1177 k0_t3
  let v1886 : BitVec 32 := Scalar.addi v1839 arg19
  let v2020 : Index := Scalar.indexCast v1886
  ![0, v2020.toNat]
def k0_off22 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) : Fin 2 → Nat :=
  let c0_1272 : Index := 0#32
  let c0_i32_1175 : BitVec 32 := 0#32
  let c1_i32_1177 : BitVec 32 := 1#32
  let arg19 : BitVec 32 := Scf.iv c0_i32_1175 c1_i32_1177 k0_t3
  let v1886 : BitVec 32 := Scalar.addi v1839 arg19
  let c1_i32_1268 : BitVec 32 := 1#32
  let v2019 : BitVec 32 := Scalar.addi v1886 c1_i32_1268
  let v2027 : Index := Scalar.indexCast v2019
  ![0, v2027.toNat]
def k0_cond11 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) (v2021 : BitVec 32) : BitVec 1 :=
  let c0_i32_1175 : BitVec 32 := 0#32
  let c1_i32_1177 : BitVec 32 := 1#32
  let arg19 : BitVec 32 := Scf.iv c0_i32_1175 c1_i32_1177 k0_t3
  let v1886 : BitVec 32 := Scalar.addi v1839 arg19
  let c1_i32_1268 : BitVec 32 := 1#32
  let v2019 : BitVec 32 := Scalar.addi v1886 c1_i32_1268
  let c6_i32_1270 : BitVec 32 := 6#32
  let v2022 : BitVec 1 := Scalar.cmpi .slt v2019 c6_i32_1270
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v2023 : BitVec 1 := Scalar.cmpi .slt v2021 v1838
  let v2024 : BitVec 1 := Scalar.andi v2022 v2023
  let v2025 : BitVec 32 := Scalar.extui v2024
  let c0_i32_1271 : BitVec 32 := 0#32
  let v2026 : BitVec 1 := Scalar.cmpi .ne v2025 c0_i32_1271
  v2026

def k0_chk11 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) (v2021 : BitVec 32) : Prop :=
  (∀ (k0_h11 : k0_cond11 i v1839 v1841 v1847 v1853 v1859 v1865 v1871 k0_t3 v2021 = 1#1), ∀ a, (k0_off22 i v1839 v1841 v1847 v1853 v1859 v1865 v1871 k0_t3) a + S1x1.size a ≤ S3x7.size a)
theorem k0_off22_inb : ∀ (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) (v2021 : BitVec 32) (k0_hw11 : k0_chk11 i v1839 v1841 v1847 v1853 v1859 v1865 v1871 k0_t3 v2021), ∀ (k0_h11 : k0_cond11 i v1839 v1841 v1847 v1853 v1859 v1865 v1871 k0_t3 v2021 = 1#1), ∀ a, (k0_off22 i v1839 v1841 v1847 v1853 v1859 v1865 v1871 k0_t3) a + S1x1.size a ≤ S3x7.size a := fun i v1839 v1841 v1847 v1853 v1859 v1865 v1871 k0_t3 v2021 k0_hw11 k0_h11 => k0_hw11 k0_h11

def k0_off23 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) : Fin 2 → Nat :=
  let c0_1280 : Index := 0#32
  let c0_i32_1175 : BitVec 32 := 0#32
  let c1_i32_1177 : BitVec 32 := 1#32
  let arg19 : BitVec 32 := Scf.iv c0_i32_1175 c1_i32_1177 k0_t3
  let v1886 : BitVec 32 := Scalar.addi v1839 arg19
  let c1_i32_1268 : BitVec 32 := 1#32
  let v2019 : BitVec 32 := Scalar.addi v1886 c1_i32_1268
  let c1_i32_1278 : BitVec 32 := 1#32
  let v2039 : BitVec 32 := Scalar.subi v2019 c1_i32_1278
  let c0_i32_1279 : BitVec 32 := 0#32
  let v2040 : BitVec 32 := Scalar.maxsi v2039 c0_i32_1279
  let v2041 : Index := Scalar.indexCast v2040
  ![0, v2041.toNat]
def k0_cond12 (v2021 : BitVec 32) (v2028 : BitVec 32) : BitVec 1 :=
  let v2029 : BitVec 1 := Scalar.cmpi .sgt v2028 v2021
  let v2030 : BitVec 32 := Scalar.extui v2029
  let c0_i32_1273 : BitVec 32 := 0#32
  let v2031 : BitVec 1 := Scalar.cmpi .ne v2030 c0_i32_1273
  v2031

def k0_off24 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) : Fin 2 → Nat :=
  let c0_1282 : Index := 0#32
  let c0_i32_1175 : BitVec 32 := 0#32
  let c1_i32_1177 : BitVec 32 := 1#32
  let arg19 : BitVec 32 := Scf.iv c0_i32_1175 c1_i32_1177 k0_t3
  let v1886 : BitVec 32 := Scalar.addi v1839 arg19
  let c1_i32_1268 : BitVec 32 := 1#32
  let v2019 : BitVec 32 := Scalar.addi v1886 c1_i32_1268
  let v2046 : Index := Scalar.indexCast v2019
  ![0, v2046.toNat]

def k0_chk12 (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) (v2021 : BitVec 32) (v2028 : BitVec 32) : Prop :=
  (∀ (k0_h11 : k0_cond11 i v1839 v1841 v1847 v1853 v1859 v1865 v1871 k0_t3 v2021 = 1#1), ∀ (k0_h12 : k0_cond12 v2021 v2028 = 1#1), ∀ a, (k0_off23 i v1839 v1841 v1847 v1853 v1859 v1865 v1871 k0_t3) a + S1x1.size a ≤ S3x7.size a) ∧
  (∀ (k0_h11 : k0_cond11 i v1839 v1841 v1847 v1853 v1859 v1865 v1871 k0_t3 v2021 = 1#1), ∀ (k0_h12 : k0_cond12 v2021 v2028 = 1#1), ∀ a, (k0_off24 i v1839 v1841 v1847 v1853 v1859 v1865 v1871 k0_t3) a + S1x1.size a ≤ S3x7.size a)
theorem k0_off23_inb : ∀ (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) (v2021 : BitVec 32) (v2028 : BitVec 32) (k0_hw12 : k0_chk12 i v1839 v1841 v1847 v1853 v1859 v1865 v1871 k0_t3 v2021 v2028), ∀ (k0_h11 : k0_cond11 i v1839 v1841 v1847 v1853 v1859 v1865 v1871 k0_t3 v2021 = 1#1), ∀ (k0_h12 : k0_cond12 v2021 v2028 = 1#1), ∀ a, (k0_off23 i v1839 v1841 v1847 v1853 v1859 v1865 v1871 k0_t3) a + S1x1.size a ≤ S3x7.size a := fun i v1839 v1841 v1847 v1853 v1859 v1865 v1871 k0_t3 v2021 v2028 k0_hw12 k0_h11 k0_h12 => k0_hw12.1 k0_h11 k0_h12
theorem k0_off24_inb : ∀ (i : grid0.Coords) (v1839 : BitVec 32) (v1841 : BitVec 32) (v1847 : BitVec 32) (v1853 : BitVec 32) (v1859 : BitVec 32) (v1865 : BitVec 32) (v1871 : BitVec 32) (k0_t3 : Fin (k0_t3_loop i v1839 v1841 v1847 v1853 v1859 v1865 v1871).trips) (v2021 : BitVec 32) (v2028 : BitVec 32) (k0_hw12 : k0_chk12 i v1839 v1841 v1847 v1853 v1859 v1865 v1871 k0_t3 v2021 v2028), ∀ (k0_h11 : k0_cond11 i v1839 v1841 v1847 v1853 v1859 v1865 v1871 k0_t3 v2021 = 1#1), ∀ (k0_h12 : k0_cond12 v2021 v2028 = 1#1), ∀ a, (k0_off24 i v1839 v1841 v1847 v1853 v1859 v1865 v1871 k0_t3) a + S1x1.size a ≤ S3x7.size a := fun i v1839 v1841 v1847 v1853 v1859 v1865 v1871 k0_t3 v2021 v2028 k0_hw12 k0_h11 k0_h12 => k0_hw12.2 k0_h11 k0_h12

@[reducible] def k0_t4_loop (i : grid0.Coords) (v1839 : BitVec 32) (v1841 : BitVec 32) (v1847 : BitVec 32) (v1853 : BitVec 32) (v1859 : BitVec 32) (v1865 : BitVec 32) (v1871 : BitVec 32) : Scf.Loop 32 :=
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let v1877 : BitVec 32 := Scalar.addi c0_i32_1175 v1876
  let c1_i32_1178 : BitVec 32 := 1#32
  ⟨v1880, v1877, c1_i32_1178⟩
def k0_off25 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) : Fin 1 → Nat :=
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1178 : BitVec 32 := 1#32
  let arg19 : BitVec 32 := Scf.iv v1880 c1_i32_1178 k0_t4
  let v1886 : BitVec 32 := Scalar.addi v1839 arg19
  let v1891 : Index := Scalar.indexCast v1886
  ![v1891.toNat]
def k0_off26 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) : Fin 3 → Nat :=
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1178 : BitVec 32 := 1#32
  let arg19 : BitVec 32 := Scf.iv v1880 c1_i32_1178 k0_t4
  let v1886 : BitVec 32 := Scalar.addi v1839 arg19
  let c0_i32_1264 : BitVec 32 := 0#32
  let c0_i32_1265 : BitVec 32 := 0#32
  ![v1886.toNat, 0, 0]
def k0_off27 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) : Fin 2 → Nat :=
  let c0_1269 : Index := 0#32
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1178 : BitVec 32 := 1#32
  let arg19 : BitVec 32 := Scf.iv v1880 c1_i32_1178 k0_t4
  let v1886 : BitVec 32 := Scalar.addi v1839 arg19
  let v2020 : Index := Scalar.indexCast v1886
  ![0, v2020.toNat]

def k0_chk10 (i : grid0.Coords) (v1839 : BitVec 32) (v1841 : BitVec 32) (v1847 : BitVec 32) (v1853 : BitVec 32) (v1859 : BitVec 32) (v1865 : BitVec 32) (v1871 : BitVec 32) : Prop :=
  ((k0_t3_loop i v1839 v1841 v1847 v1853 v1859 v1865 v1871).OK) ∧
  (∀ k0_t3 : Fin (k0_t3_loop i v1839 v1841 v1847 v1853 v1859 v1865 v1871).trips, ∀ a, (k0_off19 i v1839 v1841 v1847 v1853 v1859 v1865 v1871 k0_t3) a + S1.size a ≤ S7.size a) ∧
  (∀ k0_t3 : Fin (k0_t3_loop i v1839 v1841 v1847 v1853 v1859 v1865 v1871).trips, ∀ a, (k0_off20 i v1839 v1841 v1847 v1853 v1859 v1865 v1871 k0_t3) a + S1x1536x640.size a ≤ S6x1536x640.size a) ∧
  (∀ k0_t3 : Fin (k0_t3_loop i v1839 v1841 v1847 v1853 v1859 v1865 v1871).trips, ∀ a, (k0_off21 i v1839 v1841 v1847 v1853 v1859 v1865 v1871 k0_t3) a + S1x1.size a ≤ S3x7.size a) ∧
  ((k0_t4_loop i v1839 v1841 v1847 v1853 v1859 v1865 v1871).OK) ∧
  (∀ k0_t4 : Fin (k0_t4_loop i v1839 v1841 v1847 v1853 v1859 v1865 v1871).trips, ∀ a, (k0_off25 i v1839 v1841 v1847 v1853 v1859 v1865 v1871 k0_t4) a + S1.size a ≤ S7.size a) ∧
  (∀ k0_t4 : Fin (k0_t4_loop i v1839 v1841 v1847 v1853 v1859 v1865 v1871).trips, ∀ a, (k0_off26 i v1839 v1841 v1847 v1853 v1859 v1865 v1871 k0_t4) a + S1x1536x640.size a ≤ S6x1536x640.size a) ∧
  (∀ k0_t4 : Fin (k0_t4_loop i v1839 v1841 v1847 v1853 v1859 v1865 v1871).trips, ∀ a, (k0_off27 i v1839 v1841 v1847 v1853 v1859 v1865 v1871 k0_t4) a + S1x1.size a ≤ S3x7.size a)
theorem k0_t3_ok : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871), (k0_t3_loop i v1839 v1841 v1847 v1853 v1859 v1865 v1871).OK := fun i v1839 v1841 v1847 v1853 v1859 v1865 v1871 k0_hw10 => k0_hw10.1
theorem k0_off19_inb : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871) (k0_t3 : Fin (k0_t3_loop i v1839 v1841 v1847 v1853 v1859 v1865 v1871).trips), ∀ a, (k0_off19 i v1839 v1841 v1847 v1853 v1859 v1865 v1871 k0_t3) a + S1.size a ≤ S7.size a := fun i v1839 v1841 v1847 v1853 v1859 v1865 v1871 k0_hw10 k0_t3 => k0_hw10.2.1 k0_t3
theorem k0_off20_inb : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871) (k0_t3 : Fin (k0_t3_loop i v1839 v1841 v1847 v1853 v1859 v1865 v1871).trips), ∀ a, (k0_off20 i v1839 v1841 v1847 v1853 v1859 v1865 v1871 k0_t3) a + S1x1536x640.size a ≤ S6x1536x640.size a := fun i v1839 v1841 v1847 v1853 v1859 v1865 v1871 k0_hw10 k0_t3 => k0_hw10.2.2.1 k0_t3
theorem k0_off21_inb : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871) (k0_t3 : Fin (k0_t3_loop i v1839 v1841 v1847 v1853 v1859 v1865 v1871).trips), ∀ a, (k0_off21 i v1839 v1841 v1847 v1853 v1859 v1865 v1871 k0_t3) a + S1x1.size a ≤ S3x7.size a := fun i v1839 v1841 v1847 v1853 v1859 v1865 v1871 k0_hw10 k0_t3 => k0_hw10.2.2.2.1 k0_t3
theorem k0_t4_ok : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871), (k0_t4_loop i v1839 v1841 v1847 v1853 v1859 v1865 v1871).OK := fun i v1839 v1841 v1847 v1853 v1859 v1865 v1871 k0_hw10 => k0_hw10.2.2.2.2.1
theorem k0_off25_inb : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871) (k0_t4 : Fin (k0_t4_loop i v1839 v1841 v1847 v1853 v1859 v1865 v1871).trips), ∀ a, (k0_off25 i v1839 v1841 v1847 v1853 v1859 v1865 v1871 k0_t4) a + S1.size a ≤ S7.size a := fun i v1839 v1841 v1847 v1853 v1859 v1865 v1871 k0_hw10 k0_t4 => k0_hw10.2.2.2.2.2.1 k0_t4
theorem k0_off26_inb : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871) (k0_t4 : Fin (k0_t4_loop i v1839 v1841 v1847 v1853 v1859 v1865 v1871).trips), ∀ a, (k0_off26 i v1839 v1841 v1847 v1853 v1859 v1865 v1871 k0_t4) a + S1x1536x640.size a ≤ S6x1536x640.size a := fun i v1839 v1841 v1847 v1853 v1859 v1865 v1871 k0_hw10 k0_t4 => k0_hw10.2.2.2.2.2.2.1 k0_t4
theorem k0_off27_inb : ∀ (i : grid0.Coords) (v1839 : BitVec 32) (v1841 : BitVec 32) (v1847 : BitVec 32) (v1853 : BitVec 32) (v1859 : BitVec 32) (v1865 : BitVec 32) (v1871 : BitVec 32) (k0_hw10 : k0_chk10 i v1839 v1841 v1847 v1853 v1859 v1865 v1871) (k0_t4 : Fin (k0_t4_loop i v1839 v1841 v1847 v1853 v1859 v1865 v1871).trips), ∀ a, (k0_off27 i v1839 v1841 v1847 v1853 v1859 v1865 v1871 k0_t4) a + S1x1.size a ≤ S3x7.size a := fun i v1839 v1841 v1847 v1853 v1859 v1865 v1871 k0_hw10 k0_t4 => k0_hw10.2.2.2.2.2.2.2 k0_t4

def k0_off28 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) : Fin 2 → Nat :=
  let c0_1272 : Index := 0#32
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1178 : BitVec 32 := 1#32
  let arg19 : BitVec 32 := Scf.iv v1880 c1_i32_1178 k0_t4
  let v1886 : BitVec 32 := Scalar.addi v1839 arg19
  let c1_i32_1268 : BitVec 32 := 1#32
  let v2019 : BitVec 32 := Scalar.addi v1886 c1_i32_1268
  let v2027 : Index := Scalar.indexCast v2019
  ![0, v2027.toNat]
def k0_cond14 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) (v2021 : BitVec 32) : BitVec 1 :=
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1178 : BitVec 32 := 1#32
  let arg19 : BitVec 32 := Scf.iv v1880 c1_i32_1178 k0_t4
  let v1886 : BitVec 32 := Scalar.addi v1839 arg19
  let c1_i32_1268 : BitVec 32 := 1#32
  let v2019 : BitVec 32 := Scalar.addi v1886 c1_i32_1268
  let c6_i32_1270 : BitVec 32 := 6#32
  let v2022 : BitVec 1 := Scalar.cmpi .slt v2019 c6_i32_1270
  let v2023 : BitVec 1 := Scalar.cmpi .slt v2021 v1838
  let v2024 : BitVec 1 := Scalar.andi v2022 v2023
  let v2025 : BitVec 32 := Scalar.extui v2024
  let c0_i32_1271 : BitVec 32 := 0#32
  let v2026 : BitVec 1 := Scalar.cmpi .ne v2025 c0_i32_1271
  v2026

def k0_chk13 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) (v2021 : BitVec 32) : Prop :=
  (∀ (k0_h14 : k0_cond14 i v1839 v1841 v1847 v1853 v1859 v1865 v1871 k0_t4 v2021 = 1#1), ∀ a, (k0_off28 i v1839 v1841 v1847 v1853 v1859 v1865 v1871 k0_t4) a + S1x1.size a ≤ S3x7.size a)
theorem k0_off28_inb : ∀ (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) (v2021 : BitVec 32) (k0_hw13 : k0_chk13 i v1839 v1841 v1847 v1853 v1859 v1865 v1871 k0_t4 v2021), ∀ (k0_h14 : k0_cond14 i v1839 v1841 v1847 v1853 v1859 v1865 v1871 k0_t4 v2021 = 1#1), ∀ a, (k0_off28 i v1839 v1841 v1847 v1853 v1859 v1865 v1871 k0_t4) a + S1x1.size a ≤ S3x7.size a := fun i v1839 v1841 v1847 v1853 v1859 v1865 v1871 k0_t4 v2021 k0_hw13 k0_h14 => k0_hw13 k0_h14

def k0_off29 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) : Fin 2 → Nat :=
  let c0_1280 : Index := 0#32
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1178 : BitVec 32 := 1#32
  let arg19 : BitVec 32 := Scf.iv v1880 c1_i32_1178 k0_t4
  let v1886 : BitVec 32 := Scalar.addi v1839 arg19
  let c1_i32_1268 : BitVec 32 := 1#32
  let v2019 : BitVec 32 := Scalar.addi v1886 c1_i32_1268
  let c1_i32_1278 : BitVec 32 := 1#32
  let v2039 : BitVec 32 := Scalar.subi v2019 c1_i32_1278
  let c0_i32_1279 : BitVec 32 := 0#32
  let v2040 : BitVec 32 := Scalar.maxsi v2039 c0_i32_1279
  let v2041 : Index := Scalar.indexCast v2040
  ![0, v2041.toNat]
def k0_cond15 (v2021 : BitVec 32) (v2028 : BitVec 32) : BitVec 1 :=
  let v2029 : BitVec 1 := Scalar.cmpi .sgt v2028 v2021
  let v2030 : BitVec 32 := Scalar.extui v2029
  let c0_i32_1273 : BitVec 32 := 0#32
  let v2031 : BitVec 1 := Scalar.cmpi .ne v2030 c0_i32_1273
  v2031

def k0_off30 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) : Fin 2 → Nat :=
  let c0_1282 : Index := 0#32
  let c0_i32_1175 : BitVec 32 := 0#32
  let c0_i32_1158 : BitVec 32 := 0#32
  let c0_i32_1155 : BitVec 32 := 0#32
  let v1840 : BitVec 1 := Scalar.cmpi .sle v1839 c0_i32_1155
  let arg0 : BitVec 32 := BitVec.ofNat 32 (i 0).val
  let c32_i32_582 : BitVec 32 := 32#32
  let v943 : BitVec 32 := Scalar.muli arg0 c32_i32_582
  let c0_i32_583 : BitVec 32 := 0#32
  let v944 : BitVec 32 := Scalar.addi v943 c0_i32_583
  let c16_i32_1153 : BitVec 32 := 16#32
  let v1838 : BitVec 32 := Scalar.addi v944 c16_i32_1153
  let v1842 : BitVec 1 := Scalar.cmpi .sle v1841 v1838
  let v1843 : BitVec 1 := Scalar.andi v1840 v1842
  let v1844 : BitVec 32 := Scalar.extui v1843
  let v1845 : BitVec 32 := Scalar.addi c0_i32_1158 v1844
  let c1_i32_1159 : BitVec 32 := 1#32
  let v1846 : BitVec 1 := Scalar.cmpi .sle v1839 c1_i32_1159
  let v1848 : BitVec 1 := Scalar.cmpi .sle v1847 v1838
  let v1849 : BitVec 1 := Scalar.andi v1846 v1848
  let v1850 : BitVec 32 := Scalar.extui v1849
  let v1851 : BitVec 32 := Scalar.addi v1845 v1850
  let c2_i32_1162 : BitVec 32 := 2#32
  let v1852 : BitVec 1 := Scalar.cmpi .sle v1839 c2_i32_1162
  let v1854 : BitVec 1 := Scalar.cmpi .sle v1853 v1838
  let v1855 : BitVec 1 := Scalar.andi v1852 v1854
  let v1856 : BitVec 32 := Scalar.extui v1855
  let v1857 : BitVec 32 := Scalar.addi v1851 v1856
  let c3_i32_1165 : BitVec 32 := 3#32
  let v1858 : BitVec 1 := Scalar.cmpi .sle v1839 c3_i32_1165
  let v1860 : BitVec 1 := Scalar.cmpi .sle v1859 v1838
  let v1861 : BitVec 1 := Scalar.andi v1858 v1860
  let v1862 : BitVec 32 := Scalar.extui v1861
  let v1863 : BitVec 32 := Scalar.addi v1857 v1862
  let c4_i32_1168 : BitVec 32 := 4#32
  let v1864 : BitVec 1 := Scalar.cmpi .sle v1839 c4_i32_1168
  let v1866 : BitVec 1 := Scalar.cmpi .sle v1865 v1838
  let v1867 : BitVec 1 := Scalar.andi v1864 v1866
  let v1868 : BitVec 32 := Scalar.extui v1867
  let v1869 : BitVec 32 := Scalar.addi v1863 v1868
  let c5_i32_1171 : BitVec 32 := 5#32
  let v1870 : BitVec 1 := Scalar.cmpi .sle v1839 c5_i32_1171
  let v1872 : BitVec 1 := Scalar.cmpi .sle v1871 v1838
  let v1873 : BitVec 1 := Scalar.andi v1870 v1872
  let v1874 : BitVec 32 := Scalar.extui v1873
  let v1875 : BitVec 32 := Scalar.addi v1869 v1874
  let v1876 : BitVec 32 := Scalar.subi v1875 c0_i32_1175
  let c1_i32_1176 : BitVec 32 := 1#32
  let v1878 : BitVec 32 := Scalar.divsi v1876 c1_i32_1176
  let v1879 : BitVec 32 := Scalar.muli v1878 c1_i32_1176
  let v1880 : BitVec 32 := Scalar.addi c0_i32_1175 v1879
  let c1_i32_1178 : BitVec 32 := 1#32
  let arg19 : BitVec 32 := Scf.iv v1880 c1_i32_1178 k0_t4
  let v1886 : BitVec 32 := Scalar.addi v1839 arg19
  let c1_i32_1268 : BitVec 32 := 1#32
  let v2019 : BitVec 32 := Scalar.addi v1886 c1_i32_1268
  let v2046 : Index := Scalar.indexCast v2019
  ![0, v2046.toNat]

def k0_chk14 (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) (v2021 : BitVec 32) (v2028 : BitVec 32) : Prop :=
  (∀ (k0_h14 : k0_cond14 i v1839 v1841 v1847 v1853 v1859 v1865 v1871 k0_t4 v2021 = 1#1), ∀ (k0_h15 : k0_cond15 v2021 v2028 = 1#1), ∀ a, (k0_off29 i v1839 v1841 v1847 v1853 v1859 v1865 v1871 k0_t4) a + S1x1.size a ≤ S3x7.size a) ∧
  (∀ (k0_h14 : k0_cond14 i v1839 v1841 v1847 v1853 v1859 v1865 v1871 k0_t4 v2021 = 1#1), ∀ (k0_h15 : k0_cond15 v2021 v2028 = 1#1), ∀ a, (k0_off30 i v1839 v1841 v1847 v1853 v1859 v1865 v1871 k0_t4) a + S1x1.size a ≤ S3x7.size a)
theorem k0_off29_inb : ∀ (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) (v2021 : BitVec 32) (v2028 : BitVec 32) (k0_hw14 : k0_chk14 i v1839 v1841 v1847 v1853 v1859 v1865 v1871 k0_t4 v2021 v2028), ∀ (k0_h14 : k0_cond14 i v1839 v1841 v1847 v1853 v1859 v1865 v1871 k0_t4 v2021 = 1#1), ∀ (k0_h15 : k0_cond15 v2021 v2028 = 1#1), ∀ a, (k0_off29 i v1839 v1841 v1847 v1853 v1859 v1865 v1871 k0_t4) a + S1x1.size a ≤ S3x7.size a := fun i v1839 v1841 v1847 v1853 v1859 v1865 v1871 k0_t4 v2021 v2028 k0_hw14 k0_h14 k0_h15 => k0_hw14.1 k0_h14 k0_h15
theorem k0_off30_inb : ∀ (i : grid0.Coords) (v1839 : BitVec 32) (v1841 : BitVec 32) (v1847 : BitVec 32) (v1853 : BitVec 32) (v1859 : BitVec 32) (v1865 : BitVec 32) (v1871 : BitVec 32) (k0_t4 : Fin (k0_t4_loop i v1839 v1841 v1847 v1853 v1859 v1865 v1871).trips) (v2021 : BitVec 32) (v2028 : BitVec 32) (k0_hw14 : k0_chk14 i v1839 v1841 v1847 v1853 v1859 v1865 v1871 k0_t4 v2021 v2028), ∀ (k0_h14 : k0_cond14 i v1839 v1841 v1847 v1853 v1859 v1865 v1871 k0_t4 v2021 = 1#1), ∀ (k0_h15 : k0_cond15 v2021 v2028 = 1#1), ∀ a, (k0_off30 i v1839 v1841 v1847 v1853 v1859 v1865 v1871 k0_t4) a + S1x1.size a ≤ S3x7.size a := fun i v1839 v1841 v1847 v1853 v1859 v1865 v1871 k0_t4 v2021 v2028 k0_hw14 k0_h14 k0_h15 => k0_hw14.2 k0_h14 k0_h15

def k0_cond16 (i : grid0.Coords) : BitVec 1 :=
  let arg0 : BitVec 32 := BitVec.ofNat 32 (i 0).val
  let c24_i32 : BitVec 32 := 24#32
  let v1883 : BitVec 1 := Scalar.cmpi .eq arg0 c24_i32
  let v1884 : BitVec 32 := Scalar.extui v1883
  let c0_i32_1180 : BitVec 32 := 0#32
  let v1885 : BitVec 1 := Scalar.cmpi .ne v1884 c0_i32_1180
  v1885

def k0_off31 (v1888 : BitVec 32) : Fin 2 → Nat :=
  let c0_1186 : Index := 0#32
  let v1891 : Index := Scalar.indexCast v1888
  ![0, v1891.toNat]

def k0_chk15 (i : grid0.Coords) (v1888 : BitVec 32) : Prop :=
  (∀ (k0_h16 : k0_cond16 i = 1#1), ∀ a, (k0_off31 v1888) a + S1x1.size a ≤ S3x7.size a)
theorem k0_off31_inb : ∀ (i : grid0.Coords) (v1888 : BitVec 32) (k0_hw15 : k0_chk15 i v1888), ∀ (k0_h16 : k0_cond16 i = 1#1), ∀ a, (k0_off31 v1888) a + S1x1.size a ≤ S3x7.size a := fun i v1888 k0_hw15 k0_h16 => k0_hw15 k0_h16

def k0_off32 (v1888 : BitVec 32) : Fin 2 → Nat :=
  let c0_1282 : Index := 0#32
  let c1_i32_1280 : BitVec 32 := 1#32
  let v2003 : BitVec 32 := Scalar.subi v1888 c1_i32_1280
  let c0_i32_1281 : BitVec 32 := 0#32
  let v2004 : BitVec 32 := Scalar.maxsi v2003 c0_i32_1281
  let v2005 : Index := Scalar.indexCast v2004
  ![0, v2005.toNat]
def k0_cond17 (i : grid0.Coords) (v1888 : BitVec 32) (v1892 : BitVec 32) : BitVec 1 :=
  let c6_i32_1185 : BitVec 32 := 6#32
  let v1890 : BitVec 1 := Scalar.cmpi .slt v1888 c6_i32_1185
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1184 : BitVec 32 := 16#32
  let v1889 : BitVec 32 := Scalar.addi v1887 c16_i32_1184
  let v1893 : BitVec 1 := Scalar.cmpi .slt v1892 v1889
  let v1894 : BitVec 1 := Scalar.andi v1890 v1893
  let v1895 : BitVec 32 := Scalar.extui v1894
  let c0_i32_1187 : BitVec 32 := 0#32
  let v1896 : BitVec 1 := Scalar.cmpi .ne v1895 c0_i32_1187
  v1896

def k0_off33 (v1888 : BitVec 32) : Fin 2 → Nat :=
  let c0_1284 : Index := 0#32
  let v2010 : Index := Scalar.indexCast v1888
  ![0, v2010.toNat]

def k0_chk16 (i : grid0.Coords) (v1888 : BitVec 32) (v1892 : BitVec 32) : Prop :=
  (∀ (k0_h16 : k0_cond16 i = 1#1), ∀ (k0_h17 : k0_cond17 i v1888 v1892 = 1#1), ∀ a, (k0_off32 v1888) a + S1x1.size a ≤ S3x7.size a) ∧
  (∀ (k0_h16 : k0_cond16 i = 1#1), ∀ (k0_h17 : k0_cond17 i v1888 v1892 = 1#1), ∀ a, (k0_off33 v1888) a + S1x1.size a ≤ S3x7.size a)
theorem k0_off32_inb : ∀ (i : grid0.Coords) (v1888 : BitVec 32) (v1892 : BitVec 32) (k0_hw16 : k0_chk16 i v1888 v1892), ∀ (k0_h16 : k0_cond16 i = 1#1), ∀ (k0_h17 : k0_cond17 i v1888 v1892 = 1#1), ∀ a, (k0_off32 v1888) a + S1x1.size a ≤ S3x7.size a := fun i v1888 v1892 k0_hw16 k0_h16 k0_h17 => k0_hw16.1 k0_h16 k0_h17
theorem k0_off33_inb : ∀ (i : grid0.Coords) (v1888 : BitVec 32) (v1892 : BitVec 32) (k0_hw16 : k0_chk16 i v1888 v1892), ∀ (k0_h16 : k0_cond16 i = 1#1), ∀ (k0_h17 : k0_cond17 i v1888 v1892 = 1#1), ∀ a, (k0_off33 v1888) a + S1x1.size a ≤ S3x7.size a := fun i v1888 v1892 k0_hw16 k0_h16 k0_h17 => k0_hw16.2 k0_h16 k0_h17

@[reducible] def k0_t5_loop (i : grid0.Coords) (v1946 : BitVec 32) (v1948 : BitVec 32) (v1954 : BitVec 32) (v1960 : BitVec 32) (v1966 : BitVec 32) (v1972 : BitVec 32) (v1978 : BitVec 32) : Scf.Loop 32 :=
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1266 : BitVec 32 := 1#32
  ⟨c0_i32_1264, v1987, c1_i32_1266⟩

def k0_off34 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) : Fin 1 → Nat :=
  let c0_i32_1264 : BitVec 32 := 0#32
  let c1_i32_1266 : BitVec 32 := 1#32
  let arg19 : BitVec 32 := Scf.iv c0_i32_1264 c1_i32_1266 k0_t5
  let v1992 : BitVec 32 := Scalar.addi v1946 arg19
  let v1997 : Index := Scalar.indexCast v1992
  ![v1997.toNat]
def k0_off35 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) : Fin 3 → Nat :=
  let c0_i32_1264 : BitVec 32 := 0#32
  let c1_i32_1266 : BitVec 32 := 1#32
  let arg19 : BitVec 32 := Scf.iv c0_i32_1264 c1_i32_1266 k0_t5
  let v1992 : BitVec 32 := Scalar.addi v1946 arg19
  let c0_i32_1355 : BitVec 32 := 0#32
  let c0_i32_1356 : BitVec 32 := 0#32
  ![v1992.toNat, 0, 0]
def k0_off36 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) : Fin 2 → Nat :=
  let c0_1360 : Index := 0#32
  let c0_i32_1264 : BitVec 32 := 0#32
  let c1_i32_1266 : BitVec 32 := 1#32
  let arg19 : BitVec 32 := Scf.iv c0_i32_1264 c1_i32_1266 k0_t5
  let v1992 : BitVec 32 := Scalar.addi v1946 arg19
  let v2126 : Index := Scalar.indexCast v1992
  ![0, v2126.toNat]
def k0_off37 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) : Fin 2 → Nat :=
  let c0_1363 : Index := 0#32
  let c0_i32_1264 : BitVec 32 := 0#32
  let c1_i32_1266 : BitVec 32 := 1#32
  let arg19 : BitVec 32 := Scf.iv c0_i32_1264 c1_i32_1266 k0_t5
  let v1992 : BitVec 32 := Scalar.addi v1946 arg19
  let c1_i32_1359 : BitVec 32 := 1#32
  let v2125 : BitVec 32 := Scalar.addi v1992 c1_i32_1359
  let v2133 : Index := Scalar.indexCast v2125
  ![0, v2133.toNat]
def k0_cond19 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) (v2127 : BitVec 32) : BitVec 1 :=
  let c0_i32_1264 : BitVec 32 := 0#32
  let c1_i32_1266 : BitVec 32 := 1#32
  let arg19 : BitVec 32 := Scf.iv c0_i32_1264 c1_i32_1266 k0_t5
  let v1992 : BitVec 32 := Scalar.addi v1946 arg19
  let c1_i32_1359 : BitVec 32 := 1#32
  let v2125 : BitVec 32 := Scalar.addi v1992 c1_i32_1359
  let c6_i32_1361 : BitVec 32 := 6#32
  let v2128 : BitVec 1 := Scalar.cmpi .slt v2125 c6_i32_1361
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v2129 : BitVec 1 := Scalar.cmpi .slt v2127 v1945
  let v2130 : BitVec 1 := Scalar.andi v2128 v2129
  let v2131 : BitVec 32 := Scalar.extui v2130
  let c0_i32_1362 : BitVec 32 := 0#32
  let v2132 : BitVec 1 := Scalar.cmpi .ne v2131 c0_i32_1362
  v2132

def k0_chk18 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) (v2127 : BitVec 32) : Prop :=
  (∀ (k0_h16 : k0_cond16 i = 1#1), ∀ (k0_h19 : k0_cond19 i v1946 v1948 v1954 v1960 v1966 v1972 v1978 k0_t5 v2127 = 1#1), ∀ a, (k0_off37 i v1946 v1948 v1954 v1960 v1966 v1972 v1978 k0_t5) a + S1x1.size a ≤ S3x7.size a)
theorem k0_off37_inb : ∀ (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) (v2127 : BitVec 32) (k0_hw18 : k0_chk18 i v1946 v1948 v1954 v1960 v1966 v1972 v1978 k0_t5 v2127), ∀ (k0_h16 : k0_cond16 i = 1#1), ∀ (k0_h19 : k0_cond19 i v1946 v1948 v1954 v1960 v1966 v1972 v1978 k0_t5 v2127 = 1#1), ∀ a, (k0_off37 i v1946 v1948 v1954 v1960 v1966 v1972 v1978 k0_t5) a + S1x1.size a ≤ S3x7.size a := fun i v1946 v1948 v1954 v1960 v1966 v1972 v1978 k0_t5 v2127 k0_hw18 k0_h16 k0_h19 => k0_hw18 k0_h16 k0_h19

def k0_off38 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) : Fin 2 → Nat :=
  let c0_1371 : Index := 0#32
  let c0_i32_1264 : BitVec 32 := 0#32
  let c1_i32_1266 : BitVec 32 := 1#32
  let arg19 : BitVec 32 := Scf.iv c0_i32_1264 c1_i32_1266 k0_t5
  let v1992 : BitVec 32 := Scalar.addi v1946 arg19
  let c1_i32_1359 : BitVec 32 := 1#32
  let v2125 : BitVec 32 := Scalar.addi v1992 c1_i32_1359
  let c1_i32_1369 : BitVec 32 := 1#32
  let v2145 : BitVec 32 := Scalar.subi v2125 c1_i32_1369
  let c0_i32_1370 : BitVec 32 := 0#32
  let v2146 : BitVec 32 := Scalar.maxsi v2145 c0_i32_1370
  let v2147 : Index := Scalar.indexCast v2146
  ![0, v2147.toNat]
def k0_cond20 (v2127 : BitVec 32) (v2134 : BitVec 32) : BitVec 1 :=
  let v2135 : BitVec 1 := Scalar.cmpi .sgt v2134 v2127
  let v2136 : BitVec 32 := Scalar.extui v2135
  let c0_i32_1364 : BitVec 32 := 0#32
  let v2137 : BitVec 1 := Scalar.cmpi .ne v2136 c0_i32_1364
  v2137

def k0_off39 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) : Fin 2 → Nat :=
  let c0_1373 : Index := 0#32
  let c0_i32_1264 : BitVec 32 := 0#32
  let c1_i32_1266 : BitVec 32 := 1#32
  let arg19 : BitVec 32 := Scf.iv c0_i32_1264 c1_i32_1266 k0_t5
  let v1992 : BitVec 32 := Scalar.addi v1946 arg19
  let c1_i32_1359 : BitVec 32 := 1#32
  let v2125 : BitVec 32 := Scalar.addi v1992 c1_i32_1359
  let v2152 : Index := Scalar.indexCast v2125
  ![0, v2152.toNat]

def k0_chk19 (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) (v2127 : BitVec 32) (v2134 : BitVec 32) : Prop :=
  (∀ (k0_h16 : k0_cond16 i = 1#1), ∀ (k0_h19 : k0_cond19 i v1946 v1948 v1954 v1960 v1966 v1972 v1978 k0_t5 v2127 = 1#1), ∀ (k0_h20 : k0_cond20 v2127 v2134 = 1#1), ∀ a, (k0_off38 i v1946 v1948 v1954 v1960 v1966 v1972 v1978 k0_t5) a + S1x1.size a ≤ S3x7.size a) ∧
  (∀ (k0_h16 : k0_cond16 i = 1#1), ∀ (k0_h19 : k0_cond19 i v1946 v1948 v1954 v1960 v1966 v1972 v1978 k0_t5 v2127 = 1#1), ∀ (k0_h20 : k0_cond20 v2127 v2134 = 1#1), ∀ a, (k0_off39 i v1946 v1948 v1954 v1960 v1966 v1972 v1978 k0_t5) a + S1x1.size a ≤ S3x7.size a)
theorem k0_off38_inb : ∀ (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) (v2127 : BitVec 32) (v2134 : BitVec 32) (k0_hw19 : k0_chk19 i v1946 v1948 v1954 v1960 v1966 v1972 v1978 k0_t5 v2127 v2134), ∀ (k0_h16 : k0_cond16 i = 1#1), ∀ (k0_h19 : k0_cond19 i v1946 v1948 v1954 v1960 v1966 v1972 v1978 k0_t5 v2127 = 1#1), ∀ (k0_h20 : k0_cond20 v2127 v2134 = 1#1), ∀ a, (k0_off38 i v1946 v1948 v1954 v1960 v1966 v1972 v1978 k0_t5) a + S1x1.size a ≤ S3x7.size a := fun i v1946 v1948 v1954 v1960 v1966 v1972 v1978 k0_t5 v2127 v2134 k0_hw19 k0_h16 k0_h19 k0_h20 => k0_hw19.1 k0_h16 k0_h19 k0_h20
theorem k0_off39_inb : ∀ (i : grid0.Coords) (v1946 : BitVec 32) (v1948 : BitVec 32) (v1954 : BitVec 32) (v1960 : BitVec 32) (v1966 : BitVec 32) (v1972 : BitVec 32) (v1978 : BitVec 32) (k0_t5 : Fin (k0_t5_loop i v1946 v1948 v1954 v1960 v1966 v1972 v1978).trips) (v2127 : BitVec 32) (v2134 : BitVec 32) (k0_hw19 : k0_chk19 i v1946 v1948 v1954 v1960 v1966 v1972 v1978 k0_t5 v2127 v2134), ∀ (k0_h16 : k0_cond16 i = 1#1), ∀ (k0_h19 : k0_cond19 i v1946 v1948 v1954 v1960 v1966 v1972 v1978 k0_t5 v2127 = 1#1), ∀ (k0_h20 : k0_cond20 v2127 v2134 = 1#1), ∀ a, (k0_off39 i v1946 v1948 v1954 v1960 v1966 v1972 v1978 k0_t5) a + S1x1.size a ≤ S3x7.size a := fun i v1946 v1948 v1954 v1960 v1966 v1972 v1978 k0_t5 v2127 v2134 k0_hw19 k0_h16 k0_h19 k0_h20 => k0_hw19.2 k0_h16 k0_h19 k0_h20

@[reducible] def k0_t6_loop (i : grid0.Coords) (v1946 : BitVec 32) (v1948 : BitVec 32) (v1954 : BitVec 32) (v1960 : BitVec 32) (v1966 : BitVec 32) (v1972 : BitVec 32) (v1978 : BitVec 32) : Scf.Loop 32 :=
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let v1984 : BitVec 32 := Scalar.addi c0_i32_1264 v1983
  let c1_i32_1267 : BitVec 32 := 1#32
  ⟨v1987, v1984, c1_i32_1267⟩
def k0_off40 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) : Fin 1 → Nat :=
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1267 : BitVec 32 := 1#32
  let arg19 : BitVec 32 := Scf.iv v1987 c1_i32_1267 k0_t6
  let v1992 : BitVec 32 := Scalar.addi v1946 arg19
  let v1997 : Index := Scalar.indexCast v1992
  ![v1997.toNat]
def k0_off41 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) : Fin 3 → Nat :=
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1267 : BitVec 32 := 1#32
  let arg19 : BitVec 32 := Scf.iv v1987 c1_i32_1267 k0_t6
  let v1992 : BitVec 32 := Scalar.addi v1946 arg19
  let c0_i32_1355 : BitVec 32 := 0#32
  let c0_i32_1356 : BitVec 32 := 0#32
  ![v1992.toNat, 0, 0]
def k0_off42 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) : Fin 2 → Nat :=
  let c0_1360 : Index := 0#32
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1267 : BitVec 32 := 1#32
  let arg19 : BitVec 32 := Scf.iv v1987 c1_i32_1267 k0_t6
  let v1992 : BitVec 32 := Scalar.addi v1946 arg19
  let v2126 : Index := Scalar.indexCast v1992
  ![0, v2126.toNat]

def k0_chk17 (i : grid0.Coords) (v1946 : BitVec 32) (v1948 : BitVec 32) (v1954 : BitVec 32) (v1960 : BitVec 32) (v1966 : BitVec 32) (v1972 : BitVec 32) (v1978 : BitVec 32) : Prop :=
  (∀ (k0_h16 : k0_cond16 i = 1#1), (k0_t5_loop i v1946 v1948 v1954 v1960 v1966 v1972 v1978).OK) ∧
  (∀ k0_t5 : Fin (k0_t5_loop i v1946 v1948 v1954 v1960 v1966 v1972 v1978).trips, ∀ (k0_h16 : k0_cond16 i = 1#1), ∀ a, (k0_off34 i v1946 v1948 v1954 v1960 v1966 v1972 v1978 k0_t5) a + S1.size a ≤ S7.size a) ∧
  (∀ k0_t5 : Fin (k0_t5_loop i v1946 v1948 v1954 v1960 v1966 v1972 v1978).trips, ∀ (k0_h16 : k0_cond16 i = 1#1), ∀ a, (k0_off35 i v1946 v1948 v1954 v1960 v1966 v1972 v1978 k0_t5) a + S1x1536x640.size a ≤ S6x1536x640.size a) ∧
  (∀ k0_t5 : Fin (k0_t5_loop i v1946 v1948 v1954 v1960 v1966 v1972 v1978).trips, ∀ (k0_h16 : k0_cond16 i = 1#1), ∀ a, (k0_off36 i v1946 v1948 v1954 v1960 v1966 v1972 v1978 k0_t5) a + S1x1.size a ≤ S3x7.size a) ∧
  (∀ (k0_h16 : k0_cond16 i = 1#1), (k0_t6_loop i v1946 v1948 v1954 v1960 v1966 v1972 v1978).OK) ∧
  (∀ k0_t6 : Fin (k0_t6_loop i v1946 v1948 v1954 v1960 v1966 v1972 v1978).trips, ∀ (k0_h16 : k0_cond16 i = 1#1), ∀ a, (k0_off40 i v1946 v1948 v1954 v1960 v1966 v1972 v1978 k0_t6) a + S1.size a ≤ S7.size a) ∧
  (∀ k0_t6 : Fin (k0_t6_loop i v1946 v1948 v1954 v1960 v1966 v1972 v1978).trips, ∀ (k0_h16 : k0_cond16 i = 1#1), ∀ a, (k0_off41 i v1946 v1948 v1954 v1960 v1966 v1972 v1978 k0_t6) a + S1x1536x640.size a ≤ S6x1536x640.size a) ∧
  (∀ k0_t6 : Fin (k0_t6_loop i v1946 v1948 v1954 v1960 v1966 v1972 v1978).trips, ∀ (k0_h16 : k0_cond16 i = 1#1), ∀ a, (k0_off42 i v1946 v1948 v1954 v1960 v1966 v1972 v1978 k0_t6) a + S1x1.size a ≤ S3x7.size a)
theorem k0_t5_ok : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978), ∀ (k0_h16 : k0_cond16 i = 1#1), (k0_t5_loop i v1946 v1948 v1954 v1960 v1966 v1972 v1978).OK := fun i v1946 v1948 v1954 v1960 v1966 v1972 v1978 k0_hw17 k0_h16 => k0_hw17.1 k0_h16
theorem k0_off34_inb : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978) (k0_t5 : Fin (k0_t5_loop i v1946 v1948 v1954 v1960 v1966 v1972 v1978).trips), ∀ (k0_h16 : k0_cond16 i = 1#1), ∀ a, (k0_off34 i v1946 v1948 v1954 v1960 v1966 v1972 v1978 k0_t5) a + S1.size a ≤ S7.size a := fun i v1946 v1948 v1954 v1960 v1966 v1972 v1978 k0_hw17 k0_t5 k0_h16 => k0_hw17.2.1 k0_t5 k0_h16
theorem k0_off35_inb : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978) (k0_t5 : Fin (k0_t5_loop i v1946 v1948 v1954 v1960 v1966 v1972 v1978).trips), ∀ (k0_h16 : k0_cond16 i = 1#1), ∀ a, (k0_off35 i v1946 v1948 v1954 v1960 v1966 v1972 v1978 k0_t5) a + S1x1536x640.size a ≤ S6x1536x640.size a := fun i v1946 v1948 v1954 v1960 v1966 v1972 v1978 k0_hw17 k0_t5 k0_h16 => k0_hw17.2.2.1 k0_t5 k0_h16
theorem k0_off36_inb : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978) (k0_t5 : Fin (k0_t5_loop i v1946 v1948 v1954 v1960 v1966 v1972 v1978).trips), ∀ (k0_h16 : k0_cond16 i = 1#1), ∀ a, (k0_off36 i v1946 v1948 v1954 v1960 v1966 v1972 v1978 k0_t5) a + S1x1.size a ≤ S3x7.size a := fun i v1946 v1948 v1954 v1960 v1966 v1972 v1978 k0_hw17 k0_t5 k0_h16 => k0_hw17.2.2.2.1 k0_t5 k0_h16
theorem k0_t6_ok : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978), ∀ (k0_h16 : k0_cond16 i = 1#1), (k0_t6_loop i v1946 v1948 v1954 v1960 v1966 v1972 v1978).OK := fun i v1946 v1948 v1954 v1960 v1966 v1972 v1978 k0_hw17 k0_h16 => k0_hw17.2.2.2.2.1 k0_h16
theorem k0_off40_inb : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978) (k0_t6 : Fin (k0_t6_loop i v1946 v1948 v1954 v1960 v1966 v1972 v1978).trips), ∀ (k0_h16 : k0_cond16 i = 1#1), ∀ a, (k0_off40 i v1946 v1948 v1954 v1960 v1966 v1972 v1978 k0_t6) a + S1.size a ≤ S7.size a := fun i v1946 v1948 v1954 v1960 v1966 v1972 v1978 k0_hw17 k0_t6 k0_h16 => k0_hw17.2.2.2.2.2.1 k0_t6 k0_h16
theorem k0_off41_inb : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978) (k0_t6 : Fin (k0_t6_loop i v1946 v1948 v1954 v1960 v1966 v1972 v1978).trips), ∀ (k0_h16 : k0_cond16 i = 1#1), ∀ a, (k0_off41 i v1946 v1948 v1954 v1960 v1966 v1972 v1978 k0_t6) a + S1x1536x640.size a ≤ S6x1536x640.size a := fun i v1946 v1948 v1954 v1960 v1966 v1972 v1978 k0_hw17 k0_t6 k0_h16 => k0_hw17.2.2.2.2.2.2.1 k0_t6 k0_h16
theorem k0_off42_inb : ∀ (i : grid0.Coords) (v1946 : BitVec 32) (v1948 : BitVec 32) (v1954 : BitVec 32) (v1960 : BitVec 32) (v1966 : BitVec 32) (v1972 : BitVec 32) (v1978 : BitVec 32) (k0_hw17 : k0_chk17 i v1946 v1948 v1954 v1960 v1966 v1972 v1978) (k0_t6 : Fin (k0_t6_loop i v1946 v1948 v1954 v1960 v1966 v1972 v1978).trips), ∀ (k0_h16 : k0_cond16 i = 1#1), ∀ a, (k0_off42 i v1946 v1948 v1954 v1960 v1966 v1972 v1978 k0_t6) a + S1x1.size a ≤ S3x7.size a := fun i v1946 v1948 v1954 v1960 v1966 v1972 v1978 k0_hw17 k0_t6 k0_h16 => k0_hw17.2.2.2.2.2.2.2 k0_t6 k0_h16

def k0_off43 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) : Fin 2 → Nat :=
  let c0_1363 : Index := 0#32
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1267 : BitVec 32 := 1#32
  let arg19 : BitVec 32 := Scf.iv v1987 c1_i32_1267 k0_t6
  let v1992 : BitVec 32 := Scalar.addi v1946 arg19
  let c1_i32_1359 : BitVec 32 := 1#32
  let v2125 : BitVec 32 := Scalar.addi v1992 c1_i32_1359
  let v2133 : Index := Scalar.indexCast v2125
  ![0, v2133.toNat]
def k0_cond22 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) (v2127 : BitVec 32) : BitVec 1 :=
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1267 : BitVec 32 := 1#32
  let arg19 : BitVec 32 := Scf.iv v1987 c1_i32_1267 k0_t6
  let v1992 : BitVec 32 := Scalar.addi v1946 arg19
  let c1_i32_1359 : BitVec 32 := 1#32
  let v2125 : BitVec 32 := Scalar.addi v1992 c1_i32_1359
  let c6_i32_1361 : BitVec 32 := 6#32
  let v2128 : BitVec 1 := Scalar.cmpi .slt v2125 c6_i32_1361
  let v2129 : BitVec 1 := Scalar.cmpi .slt v2127 v1945
  let v2130 : BitVec 1 := Scalar.andi v2128 v2129
  let v2131 : BitVec 32 := Scalar.extui v2130
  let c0_i32_1362 : BitVec 32 := 0#32
  let v2132 : BitVec 1 := Scalar.cmpi .ne v2131 c0_i32_1362
  v2132

def k0_chk20 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) (v2127 : BitVec 32) : Prop :=
  (∀ (k0_h16 : k0_cond16 i = 1#1), ∀ (k0_h22 : k0_cond22 i v1946 v1948 v1954 v1960 v1966 v1972 v1978 k0_t6 v2127 = 1#1), ∀ a, (k0_off43 i v1946 v1948 v1954 v1960 v1966 v1972 v1978 k0_t6) a + S1x1.size a ≤ S3x7.size a)
theorem k0_off43_inb : ∀ (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) (v2127 : BitVec 32) (k0_hw20 : k0_chk20 i v1946 v1948 v1954 v1960 v1966 v1972 v1978 k0_t6 v2127), ∀ (k0_h16 : k0_cond16 i = 1#1), ∀ (k0_h22 : k0_cond22 i v1946 v1948 v1954 v1960 v1966 v1972 v1978 k0_t6 v2127 = 1#1), ∀ a, (k0_off43 i v1946 v1948 v1954 v1960 v1966 v1972 v1978 k0_t6) a + S1x1.size a ≤ S3x7.size a := fun i v1946 v1948 v1954 v1960 v1966 v1972 v1978 k0_t6 v2127 k0_hw20 k0_h16 k0_h22 => k0_hw20 k0_h16 k0_h22

def k0_off44 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) : Fin 2 → Nat :=
  let c0_1371 : Index := 0#32
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1267 : BitVec 32 := 1#32
  let arg19 : BitVec 32 := Scf.iv v1987 c1_i32_1267 k0_t6
  let v1992 : BitVec 32 := Scalar.addi v1946 arg19
  let c1_i32_1359 : BitVec 32 := 1#32
  let v2125 : BitVec 32 := Scalar.addi v1992 c1_i32_1359
  let c1_i32_1369 : BitVec 32 := 1#32
  let v2145 : BitVec 32 := Scalar.subi v2125 c1_i32_1369
  let c0_i32_1370 : BitVec 32 := 0#32
  let v2146 : BitVec 32 := Scalar.maxsi v2145 c0_i32_1370
  let v2147 : Index := Scalar.indexCast v2146
  ![0, v2147.toNat]
def k0_cond23 (v2127 : BitVec 32) (v2134 : BitVec 32) : BitVec 1 :=
  let v2135 : BitVec 1 := Scalar.cmpi .sgt v2134 v2127
  let v2136 : BitVec 32 := Scalar.extui v2135
  let c0_i32_1364 : BitVec 32 := 0#32
  let v2137 : BitVec 1 := Scalar.cmpi .ne v2136 c0_i32_1364
  v2137

def k0_off45 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) : Fin 2 → Nat :=
  let c0_1373 : Index := 0#32
  let c0_i32_1264 : BitVec 32 := 0#32
  let c0_i32_1247 : BitVec 32 := 0#32
  let c0_i32_1244 : BitVec 32 := 0#32
  let v1947 : BitVec 1 := Scalar.cmpi .sle v1946 c0_i32_1244
  let arg0 : BitVec 32 := BitVec.ofNat 32 (i 0).val
  let c32_i32_1181 : BitVec 32 := 32#32
  let v1886 : BitVec 32 := Scalar.muli arg0 c32_i32_1181
  let c16_i32_1182 : BitVec 32 := 16#32
  let v1887 : BitVec 32 := Scalar.addi v1886 c16_i32_1182
  let c16_i32_1242 : BitVec 32 := 16#32
  let v1945 : BitVec 32 := Scalar.addi v1887 c16_i32_1242
  let v1949 : BitVec 1 := Scalar.cmpi .sle v1948 v1945
  let v1950 : BitVec 1 := Scalar.andi v1947 v1949
  let v1951 : BitVec 32 := Scalar.extui v1950
  let v1952 : BitVec 32 := Scalar.addi c0_i32_1247 v1951
  let c1_i32_1248 : BitVec 32 := 1#32
  let v1953 : BitVec 1 := Scalar.cmpi .sle v1946 c1_i32_1248
  let v1955 : BitVec 1 := Scalar.cmpi .sle v1954 v1945
  let v1956 : BitVec 1 := Scalar.andi v1953 v1955
  let v1957 : BitVec 32 := Scalar.extui v1956
  let v1958 : BitVec 32 := Scalar.addi v1952 v1957
  let c2_i32_1251 : BitVec 32 := 2#32
  let v1959 : BitVec 1 := Scalar.cmpi .sle v1946 c2_i32_1251
  let v1961 : BitVec 1 := Scalar.cmpi .sle v1960 v1945
  let v1962 : BitVec 1 := Scalar.andi v1959 v1961
  let v1963 : BitVec 32 := Scalar.extui v1962
  let v1964 : BitVec 32 := Scalar.addi v1958 v1963
  let c3_i32_1254 : BitVec 32 := 3#32
  let v1965 : BitVec 1 := Scalar.cmpi .sle v1946 c3_i32_1254
  let v1967 : BitVec 1 := Scalar.cmpi .sle v1966 v1945
  let v1968 : BitVec 1 := Scalar.andi v1965 v1967
  let v1969 : BitVec 32 := Scalar.extui v1968
  let v1970 : BitVec 32 := Scalar.addi v1964 v1969
  let c4_i32_1257 : BitVec 32 := 4#32
  let v1971 : BitVec 1 := Scalar.cmpi .sle v1946 c4_i32_1257
  let v1973 : BitVec 1 := Scalar.cmpi .sle v1972 v1945
  let v1974 : BitVec 1 := Scalar.andi v1971 v1973
  let v1975 : BitVec 32 := Scalar.extui v1974
  let v1976 : BitVec 32 := Scalar.addi v1970 v1975
  let c5_i32_1260 : BitVec 32 := 5#32
  let v1977 : BitVec 1 := Scalar.cmpi .sle v1946 c5_i32_1260
  let v1979 : BitVec 1 := Scalar.cmpi .sle v1978 v1945
  let v1980 : BitVec 1 := Scalar.andi v1977 v1979
  let v1981 : BitVec 32 := Scalar.extui v1980
  let v1982 : BitVec 32 := Scalar.addi v1976 v1981
  let v1983 : BitVec 32 := Scalar.subi v1982 c0_i32_1264
  let c1_i32_1265 : BitVec 32 := 1#32
  let v1985 : BitVec 32 := Scalar.divsi v1983 c1_i32_1265
  let v1986 : BitVec 32 := Scalar.muli v1985 c1_i32_1265
  let v1987 : BitVec 32 := Scalar.addi c0_i32_1264 v1986
  let c1_i32_1267 : BitVec 32 := 1#32
  let arg19 : BitVec 32 := Scf.iv v1987 c1_i32_1267 k0_t6
  let v1992 : BitVec 32 := Scalar.addi v1946 arg19
  let c1_i32_1359 : BitVec 32 := 1#32
  let v2125 : BitVec 32 := Scalar.addi v1992 c1_i32_1359
  let v2152 : Index := Scalar.indexCast v2125
  ![0, v2152.toNat]

def k0_chk21 (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) (v2127 : BitVec 32) (v2134 : BitVec 32) : Prop :=
  (∀ (k0_h16 : k0_cond16 i = 1#1), ∀ (k0_h22 : k0_cond22 i v1946 v1948 v1954 v1960 v1966 v1972 v1978 k0_t6 v2127 = 1#1), ∀ (k0_h23 : k0_cond23 v2127 v2134 = 1#1), ∀ a, (k0_off44 i v1946 v1948 v1954 v1960 v1966 v1972 v1978 k0_t6) a + S1x1.size a ≤ S3x7.size a) ∧
  (∀ (k0_h16 : k0_cond16 i = 1#1), ∀ (k0_h22 : k0_cond22 i v1946 v1948 v1954 v1960 v1966 v1972 v1978 k0_t6 v2127 = 1#1), ∀ (k0_h23 : k0_cond23 v2127 v2134 = 1#1), ∀ a, (k0_off45 i v1946 v1948 v1954 v1960 v1966 v1972 v1978 k0_t6) a + S1x1.size a ≤ S3x7.size a)
theorem k0_off44_inb : ∀ (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) (v2127 : BitVec 32) (v2134 : BitVec 32) (k0_hw21 : k0_chk21 i v1946 v1948 v1954 v1960 v1966 v1972 v1978 k0_t6 v2127 v2134), ∀ (k0_h16 : k0_cond16 i = 1#1), ∀ (k0_h22 : k0_cond22 i v1946 v1948 v1954 v1960 v1966 v1972 v1978 k0_t6 v2127 = 1#1), ∀ (k0_h23 : k0_cond23 v2127 v2134 = 1#1), ∀ a, (k0_off44 i v1946 v1948 v1954 v1960 v1966 v1972 v1978 k0_t6) a + S1x1.size a ≤ S3x7.size a := fun i v1946 v1948 v1954 v1960 v1966 v1972 v1978 k0_t6 v2127 v2134 k0_hw21 k0_h16 k0_h22 k0_h23 => k0_hw21.1 k0_h16 k0_h22 k0_h23
theorem k0_off45_inb : ∀ (i : grid0.Coords) (v1946 : BitVec 32) (v1948 : BitVec 32) (v1954 : BitVec 32) (v1960 : BitVec 32) (v1966 : BitVec 32) (v1972 : BitVec 32) (v1978 : BitVec 32) (k0_t6 : Fin (k0_t6_loop i v1946 v1948 v1954 v1960 v1966 v1972 v1978).trips) (v2127 : BitVec 32) (v2134 : BitVec 32) (k0_hw21 : k0_chk21 i v1946 v1948 v1954 v1960 v1966 v1972 v1978 k0_t6 v2127 v2134), ∀ (k0_h16 : k0_cond16 i = 1#1), ∀ (k0_h22 : k0_cond22 i v1946 v1948 v1954 v1960 v1966 v1972 v1978 k0_t6 v2127 = 1#1), ∀ (k0_h23 : k0_cond23 v2127 v2134 = 1#1), ∀ a, (k0_off45 i v1946 v1948 v1954 v1960 v1966 v1972 v1978 k0_t6) a + S1x1.size a ≤ S3x7.size a := fun i v1946 v1948 v1954 v1960 v1966 v1972 v1978 k0_t6 v2127 v2134 k0_hw21 k0_h16 k0_h22 k0_h23 => k0_hw21.2 k0_h16 k0_h22 k0_h23

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6 : Shape := ⟨1, ![6]⟩
abbrev S7 : Shape := ⟨1, ![7]⟩
abbrev S12800x1536 : Shape := ⟨2, ![12800, 1536]⟩
abbrev S800x1536 : Shape := ⟨2, ![800, 1536]⟩
abbrev S12800x640 : Shape := ⟨2, ![12800, 640]⟩
abbrev S800x640 : Shape := ⟨2, ![800, 640]⟩
abbrev S800x16x1536 : Shape := ⟨3, ![800, 16, 1536]⟩
abbrev S800x1x1536 : Shape := ⟨3, ![800, 1, 1536]⟩
abbrev S800x16x640 : Shape := ⟨3, ![800, 16, 640]⟩
abbrev S800x1x640 : Shape := ⟨3, ![800, 1, 640]⟩
abbrev S1 : Shape := ⟨1, ![1]⟩
abbrev S_ : Shape := ⟨0, ![]⟩
abbrev S1536x640 : Shape := ⟨2, ![1536, 640]⟩
abbrev S1x1536x640 : Shape := ⟨3, ![1, 1536, 640]⟩
abbrev S6x1536x640 : Shape := ⟨3, ![6, 1536, 640]⟩

abbrev nBuf : Space → Nat
  | .hbm => 245
  | .vmem => 0
  | .smem => 0
  | _ => 0

abbrev hbmTy0_0 (i : Nat) : BufTy := match i % 128 with
  | 0 => ⟨S6, .i32⟩
  | 1 => ⟨S7, .f32⟩
  | 2 => ⟨S7, .f32⟩
  | 3 => ⟨S12800x1536, .bf16⟩
  | 4 => ⟨S800x1536, .f32⟩
  | 5 => ⟨S12800x640, .bf16⟩
  | 6 => ⟨S800x640, .f32⟩
  | 7 => ⟨S800x16x1536, .bf16⟩
  | 8 => ⟨S800x1536, .bf16⟩
  | 9 => ⟨S800x1x1536, .bf16⟩
  | 10 => ⟨S800x16x1536, .bf16⟩
  | 11 => ⟨S800x16x1536, .bf16⟩
  | 12 => ⟨S12800x1536, .bf16⟩
  | 13 => ⟨S800x16x640, .bf16⟩
  | 14 => ⟨S800x640, .bf16⟩
  | 15 => ⟨S800x1x640, .bf16⟩
  | 16 => ⟨S800x16x640, .bf16⟩
  | 17 => ⟨S800x16x640, .bf16⟩
  | 18 => ⟨S12800x640, .bf16⟩
  | 19 => ⟨S12800x640, .i32⟩
  | 20 => ⟨S1, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i1⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S12800x640, .i32⟩
  | 43 => ⟨S12800x640, .i1⟩
  | 44 => ⟨S12800x640, .i32⟩
  | 45 => ⟨S12800x640, .i1⟩
  | 46 => ⟨S12800x640, .i1⟩
  | 47 => ⟨S_, .bf16⟩
  | 48 => ⟨S12800x640, .bf16⟩
  | 49 => ⟨S12800x640, .bf16⟩
  | 50 => ⟨S1536x640, .f32⟩
  | 51 => ⟨S1, .f32⟩
  | 52 => ⟨S_, .f32⟩
  | 53 => ⟨S1, .f32⟩
  | 54 => ⟨S_, .f32⟩
  | 55 => ⟨S_, .f32⟩
  | 56 => ⟨S1536x640, .f32⟩
  | 57 => ⟨S1536x640, .f32⟩
  | 58 => ⟨S1, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i1⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S12800x640, .i32⟩
  | 79 => ⟨S12800x640, .i1⟩
  | 80 => ⟨S12800x640, .i32⟩
  | 81 => ⟨S12800x640, .i1⟩
  | 82 => ⟨S12800x640, .i1⟩
  | 83 => ⟨S_, .bf16⟩
  | 84 => ⟨S12800x640, .bf16⟩
  | 85 => ⟨S12800x640, .bf16⟩
  | 86 => ⟨S1536x640, .f32⟩
  | 87 => ⟨S1, .f32⟩
  | 88 => ⟨S_, .f32⟩
  | 89 => ⟨S1, .f32⟩
  | 90 => ⟨S_, .f32⟩
  | 91 => ⟨S_, .f32⟩
  | 92 => ⟨S1536x640, .f32⟩
  | 93 => ⟨S1536x640, .f32⟩
  | 94 => ⟨S1, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i1⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S12800x640, .i32⟩
  | 115 => ⟨S12800x640, .i1⟩
  | 116 => ⟨S12800x640, .i32⟩
  | 117 => ⟨S12800x640, .i1⟩
  | 118 => ⟨S12800x640, .i1⟩
  | 119 => ⟨S_, .bf16⟩
  | 120 => ⟨S12800x640, .bf16⟩
  | 121 => ⟨S12800x640, .bf16⟩
  | 122 => ⟨S1536x640, .f32⟩
  | 123 => ⟨S1, .f32⟩
  | 124 => ⟨S_, .f32⟩
  | 125 => ⟨S1, .f32⟩
  | 126 => ⟨S_, .f32⟩
  | 127 => ⟨S_, .f32⟩
  | _ => ⟨S6, .i32⟩

abbrev hbmTy0_1 (i : Nat) : BufTy := match i % 128 with
  | 0 => ⟨S1536x640, .f32⟩
  | 1 => ⟨S1536x640, .f32⟩
  | 2 => ⟨S1, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i1⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S12800x640, .i32⟩
  | 23 => ⟨S12800x640, .i1⟩
  | 24 => ⟨S12800x640, .i32⟩
  | 25 => ⟨S12800x640, .i1⟩
  | 26 => ⟨S12800x640, .i1⟩
  | 27 => ⟨S_, .bf16⟩
  | 28 => ⟨S12800x640, .bf16⟩
  | 29 => ⟨S12800x640, .bf16⟩
  | 30 => ⟨S1536x640, .f32⟩
  | 31 => ⟨S1, .f32⟩
  | 32 => ⟨S_, .f32⟩
  | 33 => ⟨S1, .f32⟩
  | 34 => ⟨S_, .f32⟩
  | 35 => ⟨S_, .f32⟩
  | 36 => ⟨S1536x640, .f32⟩
  | 37 => ⟨S1536x640, .f32⟩
  | 38 => ⟨S1, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i1⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S12800x640, .i32⟩
  | 59 => ⟨S12800x640, .i1⟩
  | 60 => ⟨S12800x640, .i32⟩
  | 61 => ⟨S12800x640, .i1⟩
  | 62 => ⟨S12800x640, .i1⟩
  | 63 => ⟨S_, .bf16⟩
  | 64 => ⟨S12800x640, .bf16⟩
  | 65 => ⟨S12800x640, .bf16⟩
  | 66 => ⟨S1536x640, .f32⟩
  | 67 => ⟨S1, .f32⟩
  | 68 => ⟨S_, .f32⟩
  | 69 => ⟨S1, .f32⟩
  | 70 => ⟨S_, .f32⟩
  | 71 => ⟨S_, .f32⟩
  | 72 => ⟨S1536x640, .f32⟩
  | 73 => ⟨S1536x640, .f32⟩
  | 74 => ⟨S1, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i1⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S12800x640, .i32⟩
  | 95 => ⟨S12800x640, .i1⟩
  | 96 => ⟨S12800x640, .i32⟩
  | 97 => ⟨S12800x640, .i1⟩
  | 98 => ⟨S12800x640, .i1⟩
  | 99 => ⟨S_, .bf16⟩
  | 100 => ⟨S12800x640, .bf16⟩
  | 101 => ⟨S12800x640, .bf16⟩
  | 102 => ⟨S1536x640, .f32⟩
  | 103 => ⟨S1, .f32⟩
  | 104 => ⟨S_, .f32⟩
  | 105 => ⟨S1, .f32⟩
  | 106 => ⟨S_, .f32⟩
  | 107 => ⟨S_, .f32⟩
  | 108 => ⟨S1536x640, .f32⟩
  | 109 => ⟨S1536x640, .f32⟩
  | 110 => ⟨S1x1536x640, .f32⟩
  | 111 => ⟨S1x1536x640, .f32⟩
  | 112 => ⟨S1x1536x640, .f32⟩
  | 113 => ⟨S1x1536x640, .f32⟩
  | 114 => ⟨S1x1536x640, .f32⟩
  | 115 => ⟨S1x1536x640, .f32⟩
  | 116 => ⟨S6x1536x640, .f32⟩
  | _ => ⟨S6, .i32⟩

abbrev hbmTy (i : Nat) : BufTy := match i / 128 with
  | 0 => hbmTy0_0 i
  | 1 => hbmTy0_1 i
  | _ => ⟨S6, .i32⟩

abbrev bufTy : (tb : Table) → Fin (tcTables nBuf tb) → BufTy
  | .hbm, ⟨i, _⟩ => hbmTy i
  | _, _ => ⟨S6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c : Ref sig .tc := ⟨.hbm, 31, rfl⟩
abbrev main_call0_v6 : Ref sig .tc := ⟨.hbm, 32, rfl⟩
abbrev main_call0_v7 : Ref sig .tc := ⟨.hbm, 33, rfl⟩
abbrev main_call0_c_0 : Ref sig .tc := ⟨.hbm, 34, rfl⟩
abbrev main_call0_v8 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_call1_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_c_5 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c : Ref sig .tc := ⟨.hbm, 69, rfl⟩
abbrev main_call2_v6 : Ref sig .tc := ⟨.hbm, 70, rfl⟩
abbrev main_call2_v7 : Ref sig .tc := ⟨.hbm, 71, rfl⟩
abbrev main_call2_c_0 : Ref sig .tc := ⟨.hbm, 72, rfl⟩
abbrev main_call2_v8 : Ref sig .tc := ⟨.hbm, 73, rfl⟩
abbrev main_v36 : Ref sig .tc := ⟨.hbm, 74, rfl⟩
abbrev main_c_6 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_7 : Ref sig .tc := ⟨.hbm, 83, rfl⟩
abbrev main_call3_v0 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_8 : Ref sig .tc := ⟨.hbm, 96, rfl⟩
abbrev main_v55 : Ref sig .tc := ⟨.hbm, 97, rfl⟩
abbrev main_c_9 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_c : Ref sig .tc := ⟨.hbm, 105, rfl⟩
abbrev main_call4_v6 : Ref sig .tc := ⟨.hbm, 106, rfl⟩
abbrev main_call4_v7 : Ref sig .tc := ⟨.hbm, 107, rfl⟩
abbrev main_call4_c_0 : Ref sig .tc := ⟨.hbm, 108, rfl⟩
abbrev main_call4_v8 : Ref sig .tc := ⟨.hbm, 109, rfl⟩
abbrev main_v56 : Ref sig .tc := ⟨.hbm, 110, rfl⟩
abbrev main_c_10 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_cst_11 : Ref sig .tc := ⟨.hbm, 119, rfl⟩
abbrev main_call5_v0 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_c_12 : Ref sig .tc := ⟨.hbm, 132, rfl⟩
abbrev main_v75 : Ref sig .tc := ⟨.hbm, 133, rfl⟩
abbrev main_c_13 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_c : Ref sig .tc := ⟨.hbm, 141, rfl⟩
abbrev main_call6_v6 : Ref sig .tc := ⟨.hbm, 142, rfl⟩
abbrev main_call6_v7 : Ref sig .tc := ⟨.hbm, 143, rfl⟩
abbrev main_call6_c_0 : Ref sig .tc := ⟨.hbm, 144, rfl⟩
abbrev main_call6_v8 : Ref sig .tc := ⟨.hbm, 145, rfl⟩
abbrev main_v76 : Ref sig .tc := ⟨.hbm, 146, rfl⟩
abbrev main_c_14 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_15 : Ref sig .tc := ⟨.hbm, 155, rfl⟩
abbrev main_call7_v0 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_c_16 : Ref sig .tc := ⟨.hbm, 168, rfl⟩
abbrev main_v95 : Ref sig .tc := ⟨.hbm, 169, rfl⟩
abbrev main_c_17 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_call8_v3 : Ref sig .tc := ⟨.hbm, 174, rfl⟩
abbrev main_call8_v4 : Ref sig .tc := ⟨.hbm, 175, rfl⟩
abbrev main_call8_v5 : Ref sig .tc := ⟨.hbm, 176, rfl⟩
abbrev main_call8_c : Ref sig .tc := ⟨.hbm, 177, rfl⟩
abbrev main_call8_v6 : Ref sig .tc := ⟨.hbm, 178, rfl⟩
abbrev main_call8_v7 : Ref sig .tc := ⟨.hbm, 179, rfl⟩
abbrev main_call8_c_0 : Ref sig .tc := ⟨.hbm, 180, rfl⟩
abbrev main_call8_v8 : Ref sig .tc := ⟨.hbm, 181, rfl⟩
abbrev main_v96 : Ref sig .tc := ⟨.hbm, 182, rfl⟩
abbrev main_c_18 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_19 : Ref sig .tc := ⟨.hbm, 191, rfl⟩
abbrev main_call9_v0 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_c_20 : Ref sig .tc := ⟨.hbm, 204, rfl⟩
abbrev main_v115 : Ref sig .tc := ⟨.hbm, 205, rfl⟩
abbrev main_c_21 : Ref sig .tc := ⟨.hbm, 206, rfl⟩
abbrev main_call10_v0 : Ref sig .tc := ⟨.hbm, 207, rfl⟩
abbrev main_call10_v1 : Ref sig .tc := ⟨.hbm, 208, rfl⟩
abbrev main_call10_v2 : Ref sig .tc := ⟨.hbm, 209, rfl⟩
abbrev main_call10_v3 : Ref sig .tc := ⟨.hbm, 210, rfl⟩
abbrev main_call10_v4 : Ref sig .tc := ⟨.hbm, 211, rfl⟩
abbrev main_call10_v5 : Ref sig .tc := ⟨.hbm, 212, rfl⟩
abbrev main_call10_c : Ref sig .tc := ⟨.hbm, 213, rfl⟩
abbrev main_call10_v6 : Ref sig .tc := ⟨.hbm, 214, rfl⟩
abbrev main_call10_v7 : Ref sig .tc := ⟨.hbm, 215, rfl⟩
abbrev main_call10_c_0 : Ref sig .tc := ⟨.hbm, 216, rfl⟩
abbrev main_call10_v8 : Ref sig .tc := ⟨.hbm, 217, rfl⟩
abbrev main_v116 : Ref sig .tc := ⟨.hbm, 218, rfl⟩
abbrev main_c_22 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_cst_23 : Ref sig .tc := ⟨.hbm, 227, rfl⟩
abbrev main_call11_v0 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩

abbrev nD : Nat := 1
abbrev τ : Topo := Topo.v7x

variable {F : FTy → Type} [FloatOps F]
-- ==== Scales.lean ====
abbrev S6 : Shape := ⟨1, ![6]⟩
abbrev S7 : Shape := ⟨1, ![7]⟩
abbrev S800x1536 : Shape := ⟨2, ![800, 1536]⟩
abbrev S800x640 : Shape := ⟨2, ![800, 640]⟩
abbrev S32x1536 : Shape := ⟨2, ![32, 1536]⟩
abbrev S32x640 : Shape := ⟨2, ![32, 640]⟩
abbrev S3x7 : Shape := ⟨2, ![3, 7]⟩
abbrev S1 : Shape := ⟨1, ![1]⟩
abbrev S1x1 : Shape := ⟨2, ![1, 1]⟩
abbrev S16x128 : Shape := ⟨2, ![16, 128]⟩

abbrev nBuf : Space → Nat
  | .hbm => 7
  | .vmem => 8
  | .smem => 4
  | _ => 0

abbrev bufTy : (tb : Table) → Fin (tcTables nBuf tb) → BufTy
  | .hbm, ⟨0, _⟩ => ⟨S6, .i32⟩
  | .hbm, ⟨1, _⟩ => ⟨S7, .f32⟩
  | .hbm, ⟨2, _⟩ => ⟨S7, .f32⟩
  | .hbm, ⟨3, _⟩ => ⟨S800x1536, .f32⟩
  | .hbm, ⟨4, _⟩ => ⟨S800x640, .f32⟩
  | .hbm, ⟨5, _⟩ => ⟨S800x1536, .fp8e4m3⟩
  | .hbm, ⟨6, _⟩ => ⟨S800x640, .fp8e4m3⟩
  | .local _ .vmem, ⟨0, _⟩ => ⟨S32x1536, .f32⟩
  | .local _ .vmem, ⟨1, _⟩ => ⟨S32x1536, .f32⟩
  | .local _ .vmem, ⟨2, _⟩ => ⟨S32x640, .f32⟩
  | .local _ .vmem, ⟨3, _⟩ => ⟨S32x640, .f32⟩
  | .local _ .vmem, ⟨4, _⟩ => ⟨S32x1536, .fp8e4m3⟩
  | .local _ .vmem, ⟨5, _⟩ => ⟨S32x1536, .fp8e4m3⟩
  | .local _ .vmem, ⟨6, _⟩ => ⟨S32x640, .fp8e4m3⟩
  | .local _ .vmem, ⟨7, _⟩ => ⟨S32x640, .fp8e4m3⟩
  | .local _ .smem, ⟨0, _⟩ => ⟨S6, .i32⟩
  | .local _ .smem, ⟨1, _⟩ => ⟨S7, .f32⟩
  | .local _ .smem, ⟨2, _⟩ => ⟨S7, .f32⟩
  | .local _ .smem, ⟨3, _⟩ => ⟨S3x7, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x640 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScalesReferenceIdeal.lean ====
abbrev S6 : Shape := ⟨1, ![6]⟩
abbrev S7 : Shape := ⟨1, ![7]⟩
abbrev S800x1536 : Shape := ⟨2, ![800, 1536]⟩
abbrev S800x640 : Shape := ⟨2, ![800, 640]⟩
abbrev S1 : Shape := ⟨1, ![1]⟩
abbrev S_ : Shape := ⟨0, ![]⟩

abbrev nBuf : Space → Nat
  | .hbm => 335
  | .vmem => 0
  | .smem => 0
  | _ => 0

abbrev hbmTy0_0 (i : Nat) : BufTy := match i % 128 with
  | 0 => ⟨S6, .i32⟩
  | 1 => ⟨S7, .f32⟩
  | 2 => ⟨S7, .f32⟩
  | 3 => ⟨S800x1536, .f32⟩
  | 4 => ⟨S800x640, .f32⟩
  | 5 => ⟨S800x1536, .i32⟩
  | 6 => ⟨S1, .f32⟩
  | 7 => ⟨S_, .f32⟩
  | 8 => ⟨S800x1536, .f32⟩
  | 9 => ⟨S1, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i1⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S800x1536, .i32⟩
  | 29 => ⟨S800x1536, .i1⟩
  | 30 => ⟨S1, .f32⟩
  | 31 => ⟨S_, .f32⟩
  | 32 => ⟨S800x1536, .f32⟩
  | 33 => ⟨S800x1536, .f32⟩
  | 34 => ⟨S1, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i1⟩
  | 47 => ⟨S_, .i1⟩
  | 48 => ⟨S_, .i32⟩
  | 49 => ⟨S_, .i32⟩
  | 50 => ⟨S_, .i32⟩
  | 51 => ⟨S_, .i32⟩
  | 52 => ⟨S800x1536, .i32⟩
  | 53 => ⟨S800x1536, .i1⟩
  | 54 => ⟨S1, .f32⟩
  | 55 => ⟨S_, .f32⟩
  | 56 => ⟨S800x1536, .f32⟩
  | 57 => ⟨S800x1536, .f32⟩
  | 58 => ⟨S1, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i1⟩
  | 71 => ⟨S_, .i1⟩
  | 72 => ⟨S_, .i32⟩
  | 73 => ⟨S_, .i32⟩
  | 74 => ⟨S_, .i32⟩
  | 75 => ⟨S_, .i32⟩
  | 76 => ⟨S800x1536, .i32⟩
  | 77 => ⟨S800x1536, .i1⟩
  | 78 => ⟨S1, .f32⟩
  | 79 => ⟨S_, .f32⟩
  | 80 => ⟨S800x1536, .f32⟩
  | 81 => ⟨S800x1536, .f32⟩
  | 82 => ⟨S1, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i1⟩
  | 95 => ⟨S_, .i1⟩
  | 96 => ⟨S_, .i32⟩
  | 97 => ⟨S_, .i32⟩
  | 98 => ⟨S_, .i32⟩
  | 99 => ⟨S_, .i32⟩
  | 100 => ⟨S800x1536, .i32⟩
  | 101 => ⟨S800x1536, .i1⟩
  | 102 => ⟨S1, .f32⟩
  | 103 => ⟨S_, .f32⟩
  | 104 => ⟨S800x1536, .f32⟩
  | 105 => ⟨S800x1536, .f32⟩
  | 106 => ⟨S1, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i1⟩
  | 119 => ⟨S_, .i1⟩
  | 120 => ⟨S_, .i32⟩
  | 121 => ⟨S_, .i32⟩
  | 122 => ⟨S_, .i32⟩
  | 123 => ⟨S_, .i32⟩
  | 124 => ⟨S800x1536, .i32⟩
  | 125 => ⟨S800x1536, .i1⟩
  | 126 => ⟨S1, .f32⟩
  | 127 => ⟨S_, .f32⟩
  | _ => ⟨S6, .i32⟩

abbrev hbmTy0_1 (i : Nat) : BufTy := match i % 128 with
  | 0 => ⟨S800x1536, .f32⟩
  | 1 => ⟨S800x1536, .f32⟩
  | 2 => ⟨S1, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i1⟩
  | 15 => ⟨S_, .i1⟩
  | 16 => ⟨S_, .i32⟩
  | 17 => ⟨S_, .i32⟩
  | 18 => ⟨S_, .i32⟩
  | 19 => ⟨S_, .i32⟩
  | 20 => ⟨S800x1536, .i32⟩
  | 21 => ⟨S800x1536, .i1⟩
  | 22 => ⟨S1, .f32⟩
  | 23 => ⟨S_, .f32⟩
  | 24 => ⟨S800x1536, .f32⟩
  | 25 => ⟨S800x1536, .f32⟩
  | 26 => ⟨S_, .f32⟩
  | 27 => ⟨S800x1536, .f32⟩
  | 28 => ⟨S800x1536, .f32⟩
  | 29 => ⟨S_, .f32⟩
  | 30 => ⟨S800x1536, .f32⟩
  | 31 => ⟨S800x1536, .f32⟩
  | 32 => ⟨S800x1536, .f32⟩
  | 33 => ⟨S_, .f32⟩
  | 34 => ⟨S_, .f32⟩
  | 35 => ⟨S_, .f32⟩
  | 36 => ⟨S800x1536, .f32⟩
  | 37 => ⟨S800x1536, .f32⟩
  | 38 => ⟨S_, .f32⟩
  | 39 => ⟨S800x1536, .f32⟩
  | 40 => ⟨S800x1536, .f32⟩
  | 41 => ⟨S800x1536, .fp8e4m3⟩
  | 42 => ⟨S800x640, .i32⟩
  | 43 => ⟨S1, .f32⟩
  | 44 => ⟨S_, .f32⟩
  | 45 => ⟨S800x640, .f32⟩
  | 46 => ⟨S1, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i1⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S800x640, .i32⟩
  | 66 => ⟨S800x640, .i1⟩
  | 67 => ⟨S1, .f32⟩
  | 68 => ⟨S_, .f32⟩
  | 69 => ⟨S800x640, .f32⟩
  | 70 => ⟨S800x640, .f32⟩
  | 71 => ⟨S1, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i1⟩
  | 84 => ⟨S_, .i1⟩
  | 85 => ⟨S_, .i32⟩
  | 86 => ⟨S_, .i32⟩
  | 87 => ⟨S_, .i32⟩
  | 88 => ⟨S_, .i32⟩
  | 89 => ⟨S800x640, .i32⟩
  | 90 => ⟨S800x640, .i1⟩
  | 91 => ⟨S1, .f32⟩
  | 92 => ⟨S_, .f32⟩
  | 93 => ⟨S800x640, .f32⟩
  | 94 => ⟨S800x640, .f32⟩
  | 95 => ⟨S1, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i1⟩
  | 108 => ⟨S_, .i1⟩
  | 109 => ⟨S_, .i32⟩
  | 110 => ⟨S_, .i32⟩
  | 111 => ⟨S_, .i32⟩
  | 112 => ⟨S_, .i32⟩
  | 113 => ⟨S800x640, .i32⟩
  | 114 => ⟨S800x640, .i1⟩
  | 115 => ⟨S1, .f32⟩
  | 116 => ⟨S_, .f32⟩
  | 117 => ⟨S800x640, .f32⟩
  | 118 => ⟨S800x640, .f32⟩
  | 119 => ⟨S1, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S6, .i32⟩

abbrev hbmTy0_2 (i : Nat) : BufTy := match i % 128 with
  | 0 => ⟨S_, .i1⟩
  | 1 => ⟨S_, .i32⟩
  | 2 => ⟨S_, .i32⟩
  | 3 => ⟨S_, .i1⟩
  | 4 => ⟨S_, .i1⟩
  | 5 => ⟨S_, .i32⟩
  | 6 => ⟨S_, .i32⟩
  | 7 => ⟨S_, .i32⟩
  | 8 => ⟨S_, .i32⟩
  | 9 => ⟨S800x640, .i32⟩
  | 10 => ⟨S800x640, .i1⟩
  | 11 => ⟨S1, .f32⟩
  | 12 => ⟨S_, .f32⟩
  | 13 => ⟨S800x640, .f32⟩
  | 14 => ⟨S800x640, .f32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i1⟩
  | 28 => ⟨S_, .i1⟩
  | 29 => ⟨S_, .i32⟩
  | 30 => ⟨S_, .i32⟩
  | 31 => ⟨S_, .i32⟩
  | 32 => ⟨S_, .i32⟩
  | 33 => ⟨S800x640, .i32⟩
  | 34 => ⟨S800x640, .i1⟩
  | 35 => ⟨S1, .f32⟩
  | 36 => ⟨S_, .f32⟩
  | 37 => ⟨S800x640, .f32⟩
  | 38 => ⟨S800x640, .f32⟩
  | 39 => ⟨S1, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i1⟩
  | 52 => ⟨S_, .i1⟩
  | 53 => ⟨S_, .i32⟩
  | 54 => ⟨S_, .i32⟩
  | 55 => ⟨S_, .i32⟩
  | 56 => ⟨S_, .i32⟩
  | 57 => ⟨S800x640, .i32⟩
  | 58 => ⟨S800x640, .i1⟩
  | 59 => ⟨S1, .f32⟩
  | 60 => ⟨S_, .f32⟩
  | 61 => ⟨S800x640, .f32⟩
  | 62 => ⟨S800x640, .f32⟩
  | 63 => ⟨S_, .f32⟩
  | 64 => ⟨S800x640, .f32⟩
  | 65 => ⟨S800x640, .f32⟩
  | 66 => ⟨S_, .f32⟩
  | 67 => ⟨S800x640, .f32⟩
  | 68 => ⟨S800x640, .f32⟩
  | 69 => ⟨S800x640, .f32⟩
  | 70 => ⟨S_, .f32⟩
  | 71 => ⟨S_, .f32⟩
  | 72 => ⟨S_, .f32⟩
  | 73 => ⟨S800x640, .f32⟩
  | 74 => ⟨S800x640, .f32⟩
  | 75 => ⟨S_, .f32⟩
  | 76 => ⟨S800x640, .f32⟩
  | 77 => ⟨S800x640, .f32⟩
  | 78 => ⟨S800x640, .fp8e4m3⟩
  | _ => ⟨S6, .i32⟩

abbrev hbmTy (i : Nat) : BufTy := match i / 128 with
  | 0 => hbmTy0_0 i
  | 1 => hbmTy0_1 i
  | 2 => hbmTy0_2 i
  | _ => ⟨S6, .i32⟩

abbrev bufTy : (tb : Table) → Fin (tcTables nBuf tb) → BufTy
  | .hbm, ⟨i, _⟩ => hbmTy i
  | _, _ => ⟨S6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c : Ref sig .tc := ⟨.hbm, 20, rfl⟩
abbrev main_call0_v6 : Ref sig .tc := ⟨.hbm, 21, rfl⟩
abbrev main_call0_v7 : Ref sig .tc := ⟨.hbm, 22, rfl⟩
abbrev main_call0_c_0 : Ref sig .tc := ⟨.hbm, 23, rfl⟩
abbrev main_call0_v8 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_c_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c : Ref sig .tc := ⟨.hbm, 45, rfl⟩
abbrev main_call2_v6 : Ref sig .tc := ⟨.hbm, 46, rfl⟩
abbrev main_call2_v7 : Ref sig .tc := ⟨.hbm, 47, rfl⟩
abbrev main_call2_c_0 : Ref sig .tc := ⟨.hbm, 48, rfl⟩
abbrev main_call2_v8 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call3_v0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_4 : Ref sig .tc := ⟨.hbm, 60, rfl⟩
abbrev main_v26 : Ref sig .tc := ⟨.hbm, 61, rfl⟩
abbrev main_c_5 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_c : Ref sig .tc := ⟨.hbm, 69, rfl⟩
abbrev main_call4_v6 : Ref sig .tc := ⟨.hbm, 70, rfl⟩
abbrev main_call4_v7 : Ref sig .tc := ⟨.hbm, 71, rfl⟩
abbrev main_call4_c_0 : Ref sig .tc := ⟨.hbm, 72, rfl⟩
abbrev main_call4_v8 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_call5_v0 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_6 : Ref sig .tc := ⟨.hbm, 84, rfl⟩
abbrev main_v36 : Ref sig .tc := ⟨.hbm, 85, rfl⟩
abbrev main_c_7 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_c : Ref sig .tc := ⟨.hbm, 93, rfl⟩
abbrev main_call6_v6 : Ref sig .tc := ⟨.hbm, 94, rfl⟩
abbrev main_call6_v7 : Ref sig .tc := ⟨.hbm, 95, rfl⟩
abbrev main_call6_c_0 : Ref sig .tc := ⟨.hbm, 96, rfl⟩
abbrev main_call6_v8 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_call7_v0 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c_8 : Ref sig .tc := ⟨.hbm, 108, rfl⟩
abbrev main_v46 : Ref sig .tc := ⟨.hbm, 109, rfl⟩
abbrev main_c_9 : Ref sig .tc := ⟨.hbm, 110, rfl⟩
abbrev main_call8_v0 : Ref sig .tc := ⟨.hbm, 111, rfl⟩
abbrev main_call8_v1 : Ref sig .tc := ⟨.hbm, 112, rfl⟩
abbrev main_call8_v2 : Ref sig .tc := ⟨.hbm, 113, rfl⟩
abbrev main_call8_v3 : Ref sig .tc := ⟨.hbm, 114, rfl⟩
abbrev main_call8_v4 : Ref sig .tc := ⟨.hbm, 115, rfl⟩
abbrev main_call8_v5 : Ref sig .tc := ⟨.hbm, 116, rfl⟩
abbrev main_call8_c : Ref sig .tc := ⟨.hbm, 117, rfl⟩
abbrev main_call8_v6 : Ref sig .tc := ⟨.hbm, 118, rfl⟩
abbrev main_call8_v7 : Ref sig .tc := ⟨.hbm, 119, rfl⟩
abbrev main_call8_c_0 : Ref sig .tc := ⟨.hbm, 120, rfl⟩
abbrev main_call8_v8 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_call9_v0 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_c_10 : Ref sig .tc := ⟨.hbm, 132, rfl⟩
abbrev main_v56 : Ref sig .tc := ⟨.hbm, 133, rfl⟩
abbrev main_c_11 : Ref sig .tc := ⟨.hbm, 134, rfl⟩
abbrev main_call10_v0 : Ref sig .tc := ⟨.hbm, 135, rfl⟩
abbrev main_call10_v1 : Ref sig .tc := ⟨.hbm, 136, rfl⟩
abbrev main_call10_v2 : Ref sig .tc := ⟨.hbm, 137, rfl⟩
abbrev main_call10_v3 : Ref sig .tc := ⟨.hbm, 138, rfl⟩
abbrev main_call10_v4 : Ref sig .tc := ⟨.hbm, 139, rfl⟩
abbrev main_call10_v5 : Ref sig .tc := ⟨.hbm, 140, rfl⟩
abbrev main_call10_c : Ref sig .tc := ⟨.hbm, 141, rfl⟩
abbrev main_call10_v6 : Ref sig .tc := ⟨.hbm, 142, rfl⟩
abbrev main_call10_v7 : Ref sig .tc := ⟨.hbm, 143, rfl⟩
abbrev main_call10_c_0 : Ref sig .tc := ⟨.hbm, 144, rfl⟩
abbrev main_call10_v8 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_call11_v0 : Ref sig .tc := ⟨.hbm, 152, rfl⟩
abbrev main_v63 : Ref sig .tc := ⟨.hbm, 153, rfl⟩
abbrev main_cst : Ref sig .tc := ⟨.hbm, 154, rfl⟩
abbrev main_v64 : Ref sig .tc := ⟨.hbm, 155, rfl⟩
abbrev main_v65 : Ref sig .tc := ⟨.hbm, 156, rfl⟩
abbrev main_cst_12 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_cst_13 : Ref sig .tc := ⟨.hbm, 161, rfl⟩
abbrev main_cst_14 : Ref sig .tc := ⟨.hbm, 162, rfl⟩
abbrev main_call12_v0 : Ref sig .tc := ⟨.hbm, 163, rfl⟩
abbrev main_call12_v1 : Ref sig .tc := ⟨.hbm, 164, rfl⟩
abbrev main_call12_v2 : Ref sig .tc := ⟨.hbm, 165, rfl⟩
abbrev main_call12_v3 : Ref sig .tc := ⟨.hbm, 166, rfl⟩
abbrev main_call12_v4 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_c_15 : Ref sig .tc := ⟨.hbm, 176, rfl⟩
abbrev main_v77 : Ref sig .tc := ⟨.hbm, 177, rfl⟩
abbrev main_c_16 : Ref sig .tc := ⟨.hbm, 178, rfl⟩
abbrev main_call13_v0 : Ref sig .tc := ⟨.hbm, 179, rfl⟩
abbrev main_call13_v1 : Ref sig .tc := ⟨.hbm, 180, rfl⟩
abbrev main_call13_v2 : Ref sig .tc := ⟨.hbm, 181, rfl⟩
abbrev main_call13_v3 : Ref sig .tc := ⟨.hbm, 182, rfl⟩
abbrev main_call13_v4 : Ref sig .tc := ⟨.hbm, 183, rfl⟩
abbrev main_call13_v5 : Ref sig .tc := ⟨.hbm, 184, rfl⟩
abbrev main_call13_c : Ref sig .tc := ⟨.hbm, 185, rfl⟩
abbrev main_call13_v6 : Ref sig .tc := ⟨.hbm, 186, rfl⟩
abbrev main_call13_v7 : Ref sig .tc := ⟨.hbm, 187, rfl⟩
abbrev main_call13_c_0 : Ref sig .tc := ⟨.hbm, 188, rfl⟩
abbrev main_call13_v8 : Ref sig .tc := ⟨.hbm, 189, rfl⟩
abbrev main_v78 : Ref sig .tc := ⟨.hbm, 190, rfl⟩
abbrev main_c_17 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_call14_v0 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_c_18 : Ref sig .tc := ⟨.hbm, 201, rfl⟩
abbrev main_v87 : Ref sig .tc := ⟨.hbm, 202, rfl⟩
abbrev main_c_19 : Ref sig .tc := ⟨.hbm, 203, rfl⟩
abbrev main_call15_v0 : Ref sig .tc := ⟨.hbm, 204, rfl⟩
abbrev main_call15_v1 : Ref sig .tc := ⟨.hbm, 205, rfl⟩
abbrev main_call15_v2 : Ref sig .tc := ⟨.hbm, 206, rfl⟩
abbrev main_call15_v3 : Ref sig .tc := ⟨.hbm, 207, rfl⟩
abbrev main_call15_v4 : Ref sig .tc := ⟨.hbm, 208, rfl⟩
abbrev main_call15_v5 : Ref sig .tc := ⟨.hbm, 209, rfl⟩
abbrev main_call15_c : Ref sig .tc := ⟨.hbm, 210, rfl⟩
abbrev main_call15_v6 : Ref sig .tc := ⟨.hbm, 211, rfl⟩
abbrev main_call15_v7 : Ref sig .tc := ⟨.hbm, 212, rfl⟩
abbrev main_call15_c_0 : Ref sig .tc := ⟨.hbm, 213, rfl⟩
abbrev main_call15_v8 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_v93 : Ref sig .tc := ⟨.hbm, 220, rfl⟩
abbrev main_call16_v0 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_c_20 : Ref sig .tc := ⟨.hbm, 225, rfl⟩
abbrev main_v97 : Ref sig .tc := ⟨.hbm, 226, rfl⟩
abbrev main_c_21 : Ref sig .tc := ⟨.hbm, 227, rfl⟩
abbrev main_call17_v0 : Ref sig .tc := ⟨.hbm, 228, rfl⟩
abbrev main_call17_v1 : Ref sig .tc := ⟨.hbm, 229, rfl⟩
abbrev main_call17_v2 : Ref sig .tc := ⟨.hbm, 230, rfl⟩
abbrev main_call17_v3 : Ref sig .tc := ⟨.hbm, 231, rfl⟩
abbrev main_call17_v4 : Ref sig .tc := ⟨.hbm, 232, rfl⟩
abbrev main_call17_v5 : Ref sig .tc := ⟨.hbm, 233, rfl⟩
abbrev main_call17_c : Ref sig .tc := ⟨.hbm, 234, rfl⟩
abbrev main_call17_v6 : Ref sig .tc := ⟨.hbm, 235, rfl⟩
abbrev main_call17_v7 : Ref sig .tc := ⟨.hbm, 236, rfl⟩
abbrev main_call17_c_0 : Ref sig .tc := ⟨.hbm, 237, rfl⟩
abbrev main_call17_v8 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_call18_v0 : Ref sig .tc := ⟨.hbm, 245, rfl⟩
abbrev main_v104 : Ref sig .tc := ⟨.hbm, 246, rfl⟩
abbrev main_v105 : Ref sig .tc := ⟨.hbm, 247, rfl⟩
abbrev main_v106 : Ref sig .tc := ⟨.hbm, 248, rfl⟩
abbrev main_c_22 : Ref sig .tc := ⟨.hbm, 249, rfl⟩
abbrev main_v107 : Ref sig .tc := ⟨.hbm, 250, rfl⟩
abbrev main_c_23 : Ref sig .tc := ⟨.hbm, 251, rfl⟩
abbrev main_call19_v0 : Ref sig .tc := ⟨.hbm, 252, rfl⟩
abbrev main_call19_v1 : Ref sig .tc := ⟨.hbm, 253, rfl⟩
abbrev main_call19_v2 : Ref sig .tc := ⟨.hbm, 254, rfl⟩
abbrev main_call19_v3 : Ref sig .tc := ⟨.hbm, 255, rfl⟩
abbrev main_call19_v4 : Ref sig .tc := ⟨.hbm, 256, rfl⟩
abbrev main_call19_v5 : Ref sig .tc := ⟨.hbm, 257, rfl⟩
abbrev main_call19_c : Ref sig .tc := ⟨.hbm, 258, rfl⟩
abbrev main_call19_v6 : Ref sig .tc := ⟨.hbm, 259, rfl⟩
abbrev main_call19_v7 : Ref sig .tc := ⟨.hbm, 260, rfl⟩
abbrev main_call19_c_0 : Ref sig .tc := ⟨.hbm, 261, rfl⟩
abbrev main_call19_v8 : Ref sig .tc := ⟨.hbm, 262, rfl⟩
abbrev main_v108 : Ref sig .tc := ⟨.hbm, 263, rfl⟩
abbrev main_v109 : Ref sig .tc := ⟨.hbm, 264, rfl⟩
abbrev main_v110 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_call20_v0 : Ref sig .tc := ⟨.hbm, 269, rfl⟩
abbrev main_v114 : Ref sig .tc := ⟨.hbm, 270, rfl⟩
abbrev main_v115 : Ref sig .tc := ⟨.hbm, 271, rfl⟩
abbrev main_v116 : Ref sig .tc := ⟨.hbm, 272, rfl⟩
abbrev main_c_24 : Ref sig .tc := ⟨.hbm, 273, rfl⟩
abbrev main_v117 : Ref sig .tc := ⟨.hbm, 274, rfl⟩
abbrev main_c_25 : Ref sig .tc := ⟨.hbm, 275, rfl⟩
abbrev main_call21_v0 : Ref sig .tc := ⟨.hbm, 276, rfl⟩
abbrev main_call21_v1 : Ref sig .tc := ⟨.hbm, 277, rfl⟩
abbrev main_call21_v2 : Ref sig .tc := ⟨.hbm, 278, rfl⟩
abbrev main_call21_v3 : Ref sig .tc := ⟨.hbm, 279, rfl⟩
abbrev main_call21_v4 : Ref sig .tc := ⟨.hbm, 280, rfl⟩
abbrev main_call21_v5 : Ref sig .tc := ⟨.hbm, 281, rfl⟩
abbrev main_call21_c : Ref sig .tc := ⟨.hbm, 282, rfl⟩
abbrev main_call21_v6 : Ref sig .tc := ⟨.hbm, 283, rfl⟩
abbrev main_call21_v7 : Ref sig .tc := ⟨.hbm, 284, rfl⟩
abbrev main_call21_c_0 : Ref sig .tc := ⟨.hbm, 285, rfl⟩
abbrev main_call21_v8 : Ref sig .tc := ⟨.hbm, 286, rfl⟩
abbrev main_v118 : Ref sig .tc := ⟨.hbm, 287, rfl⟩
abbrev main_v119 : Ref sig .tc := ⟨.hbm, 288, rfl⟩
abbrev main_v120 : Ref sig .tc := ⟨.hbm, 289, rfl⟩
abbrev main_v121 : Ref sig .tc := ⟨.hbm, 290, rfl⟩
abbrev main_v122 : Ref sig .tc := ⟨.hbm, 291, rfl⟩
abbrev main_v123 : Ref sig .tc := ⟨.hbm, 292, rfl⟩
abbrev main_call22_v0 : Ref sig .tc := ⟨.hbm, 293, rfl⟩
abbrev main_v124 : Ref sig .tc := ⟨.hbm, 294, rfl⟩
abbrev main_v125 : Ref sig .tc := ⟨.hbm, 295, rfl⟩
abbrev main_v126 : Ref sig .tc := ⟨.hbm, 296, rfl⟩
abbrev main_c_26 : Ref sig .tc := ⟨.hbm, 297, rfl⟩
abbrev main_v127 : Ref sig .tc := ⟨.hbm, 298, rfl⟩
abbrev main_c_27 : Ref sig .tc := ⟨.hbm, 299, rfl⟩
abbrev main_call23_v0 : Ref sig .tc := ⟨.hbm, 300, rfl⟩
abbrev main_call23_v1 : Ref sig .tc := ⟨.hbm, 301, rfl⟩
abbrev main_call23_v2 : Ref sig .tc := ⟨.hbm, 302, rfl⟩
abbrev main_call23_v3 : Ref sig .tc := ⟨.hbm, 303, rfl⟩
abbrev main_call23_v4 : Ref sig .tc := ⟨.hbm, 304, rfl⟩
abbrev main_call23_v5 : Ref sig .tc := ⟨.hbm, 305, rfl⟩
abbrev main_call23_c : Ref sig .tc := ⟨.hbm, 306, rfl⟩
abbrev main_call23_v6 : Ref sig .tc := ⟨.hbm, 307, rfl⟩
abbrev main_call23_v7 : Ref sig .tc := ⟨.hbm, 308, rfl⟩
abbrev main_call23_c_0 : Ref sig .tc := ⟨.hbm, 309, rfl⟩
abbrev main_call23_v8 : Ref sig .tc := ⟨.hbm, 310, rfl⟩
abbrev main_v128 : Ref sig .tc := ⟨.hbm, 311, rfl⟩
abbrev main_v129 : Ref sig .tc := ⟨.hbm, 312, rfl⟩
abbrev main_v130 : Ref sig .tc := ⟨.hbm, 313, rfl⟩
abbrev main_v131 : Ref sig .tc := ⟨.hbm, 314, rfl⟩
abbrev main_v132 : Ref sig .tc := ⟨.hbm, 315, rfl⟩
abbrev main_v133 : Ref sig .tc := ⟨.hbm, 316, rfl⟩
abbrev main_call24_v0 : Ref sig .tc := ⟨.hbm, 317, rfl⟩
abbrev main_v134 : Ref sig .tc := ⟨.hbm, 318, rfl⟩
abbrev main_cst_28 : Ref sig .tc := ⟨.hbm, 319, rfl⟩
abbrev main_v135 : Ref sig .tc := ⟨.hbm, 320, rfl⟩
abbrev main_v136 : Ref sig .tc := ⟨.hbm, 321, rfl⟩
abbrev main_cst_29 : Ref sig .tc := ⟨.hbm, 322, rfl⟩
abbrev main_v137 : Ref sig .tc := ⟨.hbm, 323, rfl⟩
abbrev main_v138 : Ref sig .tc := ⟨.hbm, 324, rfl⟩
abbrev main_v139 : Ref sig .tc := ⟨.hbm, 325, rfl⟩
abbrev main_cst_30 : Ref sig .tc := ⟨.hbm, 326, rfl⟩
abbrev main_cst_31 : Ref sig .tc := ⟨.hbm, 327, rfl⟩
abbrev main_call25_v0 : Ref sig .tc := ⟨.hbm, 328, rfl⟩
abbrev main_call25_v1 : Ref sig .tc := ⟨.hbm, 329, rfl⟩
abbrev main_call25_v2 : Ref sig .tc := ⟨.hbm, 330, rfl⟩
abbrev main_call25_v3 : Ref sig .tc := ⟨.hbm, 331, rfl⟩
abbrev main_call25_v4 : Ref sig .tc := ⟨.hbm, 332, rfl⟩
abbrev main_v140 : Ref sig .tc := ⟨.hbm, 333, rfl⟩
abbrev main_v141 : Ref sig .tc := ⟨.hbm, 334, rfl⟩

abbrev nD : Nat := 1
abbrev τ : Topo := Topo.v7x

variable {F : FTy → Type} [FloatOps F]
-- ==== Proof.Spec.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The index of shape `s` with the coordinates `f`, each taken modulo its axis. -/
def mk (s : Shape) (f : Fin s.rank → ℕ) (h : ∀ a, 0 < s.size a := by decide) : s.Idx :=
  fun a => ⟨f a % s.size a, Nat.mod_lt _ (h a)⟩

/-- The accumulator after one chunk: every tile of 256 rows gains the product of that tile's columns of `x` with `y`. -/
def accT (acc : Vec F S1536x640 .f32) (x : Vec F S256x1536 .bf16) (y : Vec F S256x640 .bf16) : Vec F S1536x640 .f32 := fun i =>
  k0_pay218 (fun j : S256x640.Idx => acc (mk S1536x640 ![256 * ((i 0).val / 256) + (j 0).val, (j 1).val]))
    (fun j : S256x256.Idx => x (mk S256x1536 ![(j 0).val, 256 * ((i 0).val / 256) + (j 1).val])) y
    (mk S256x640 ![(i 0).val % 256, (i 1).val])

/-- The rows of `y` that belong to expert `e` — those whose block number lies between the end of the expert before and its
    own end —, the others zero. `base` is the block number of the first row. -/
def maskT (m : Vec F S3x7 .i32) (base : BitVec 32) (e : ℕ) (y : Vec F S256x640 .bf16) : Vec F S256x640 .bf16 :=
  k0_pay15 base (BitVec.ofNat 32 e) y (m (mk S3x7 ![0, e - 1])) (m (mk S3x7 ![0, e]))

/-- A closed expert's result: the accumulator times the product of its two global scales. -/
def finT (acc : Vec F S1536x640 .f32) (a b : F .f32) : Vec F S1536x640 .f32 :=
  mulf acc (broadcast S1536x640 (Scalar.mulf a b))

/-- The accumulator of zeros. -/
def zeroT : Vec F S1536x640 .f32 := broadcast S1536x640 (Scalar.ofBits .f32 0x00000000#32)

/-- `dw` with expert `e`'s slice replaced by `v`. -/
def updT (dw : Vec F S6x1536x640 .f32) (e : ℕ) (v : Vec F S1536x640 .f32) : Vec F S6x1536x640 .f32 := fun i =>
  if (i 0).val = e then v (mk S1536x640 ![(i 1).val, (i 2).val]) else dw i

/-- The values times their scales, for the half `h` of a step's 512 rows of the first operand. -/
def deqX (h : ℕ) (xv : Vec F S512x1536 .bf16) (xs : Vec F S32x1536 .f32) : Vec F S256x1536 .bf16 := fun i =>
  FloatOps.mulf (xv (mk S512x1536 ![256 * h + (i 0).val, (i 1).val]))
    (FloatOps.truncf .bf16 bitsLt_bf16_f32 (xs (mk S32x1536 ![16 * h + (i 0).val / 16, (i 1).val])))

/-- The values times their scales, for the half `h` of a step's 512 rows of the second operand. -/
def deqY (h : ℕ) (yv : Vec F S512x640 .bf16) (ys : Vec F S32x640 .f32) : Vec F S256x640 .bf16 := fun i =>
  FloatOps.mulf (yv (mk S512x640 ![256 * h + (i 0).val, (i 1).val]))
    (FloatOps.truncf .bf16 bitsLt_bf16_f32 (ys (mk S32x640 ![16 * h + (i 0).val / 16, (i 1).val])))

/-- What the kernel carries from chunk to chunk: the expert being accumulated, whether a copy out was ever started, the
    accumulator, and the result written so far. -/
structure St (F : FTy → Type) [FloatOps F] where
  e : ℕ
  fl : Bool
  acc : Vec F S1536x640 .f32
  dw : Vec F S6x1536x640 .f32

/-- One expert closed: its slice written, the accumulator restarted with the next expert's rows of this chunk. -/
def closeOne (M : ℕ → ℕ) (m : Vec F S3x7 .i32) (x : Vec F S256x1536 .bf16) (y : Vec F S256x640 .bf16) (base : BitVec 32) (en : ℕ)
    (gx gy : Vec F S7 .f32) (s : St F) : St F where
  e := s.e + 1
  fl := true
  acc := if s.e + 1 < 6 ∧ M s.e < en ∧ M s.e < M (s.e + 1) then accT zeroT x (maskT m base (s.e + 1) y) else zeroT
  dw := updT s.dw s.e (finT s.acc (gx (mk S7 ![s.e])) (gy (mk S7 ![s.e])))

/-- The number of experts, from expert `e` on, whose rows end by block `en`. -/
def nFin (M : ℕ → ℕ) (e en : ℕ) : ℕ := ((List.range 6).filter fun k => e ≤ k ∧ M k ≤ en).length

/-- The chunk's rows as the open expert sees them: masked when the expert ends inside the chunk. -/
def primT (M : ℕ → ℕ) (m : Vec F S3x7 .i32) (base : BitVec 32) (en e : ℕ) (y : Vec F S256x640 .bf16) : Vec F S256x640 .bf16 :=
  if e < 6 ∧ M e < en then maskT m base e y else y

/-- One chunk. -/
def chunk (M : ℕ → ℕ) (m : Vec F S3x7 .i32) (gx gy : Vec F S7 .f32) (x : Vec F S256x1536 .bf16) (y : Vec F S256x640 .bf16)
    (base : BitVec 32) (en : ℕ) (s : St F) : St F :=
  (closeOne M m x y base en gx gy)^[nFin M s.e en] { s with acc := accT s.acc x (primT M m base en s.e y) }

/-- What is known of the table of block ends: `M k` in words, rising over the six experts, the last within the rows, and a
    seventh entry larger than any block number. -/
structure Meta (M : ℕ → ℕ) (m : Vec F S3x7 .i32) : Prop where
  word : ∀ k, k < 7 → m (mk S3x7 ![0, k]) = BitVec.ofNat 32 (M k)
  mono : ∀ k, k < 5 → M k ≤ M (k + 1)
  last : M 5 ≤ 800
  seven : M 6 = 1073741824

/-- The words of the two counters: the expert being accumulated, and whether a copy out was started. -/
def cuV (e : ℕ) (fl : Bool) : Vec F S2 .i32 := fun j => if (j 0).val = 0 then BitVec.ofNat 32 e else if fl then 1#32 else 0#32

/-- A load through a rectangle of contents known to read `x` gives `x` at the rectangle's indices. -/
theorem readAt_of {sp : Space} {s : Shape} {e : EltTy} {v : View sig .tc sp s e} {f : v.ty.Contents (Elt F)} {x : Vec F s e}
    (h : View.read (Elt F) v f = x) (r : Rect s) (j : r.shape.Idx) : View.readAt (Elt F) v r.toLoadRect f j = x (r.emb j) := by
  subst h; rfl

theorem cu0_of {v : View sig .tc .smem S2 .i32} {f : v.ty.Contents (Elt F)} {e : ℕ} {fl : Bool} (h : View.read (Elt F) v f = cuV e fl)
    (inb) (j) : View.readAt (Elt F) v (Rect.unit (s := S2) ![0] S1.size inb).toLoadRect f j = BitVec.ofNat 32 e := by
  have hj : (j 0).val = 0 := by have := (j 0).isLt; change _ < 1 at this; omega
  rw [readAt_of h]
  unfold cuV
  rw [if_pos]
  change 0 + 1 * (j 0).val = 0
  omega

theorem cu1_of {v : View sig .tc .smem S2 .i32} {f : v.ty.Contents (Elt F)} {e : ℕ} {fl : Bool} (h : View.read (Elt F) v f = cuV e fl)
    (inb) (j) : View.readAt (Elt F) v (Rect.unit (s := S2) ![1] S1.size inb).toLoadRect f j = if fl then 1#32 else 0#32 := by
  rw [readAt_of h]
  unfold cuV
  rw [if_neg]
  change ¬ 1 + 1 * (j 0).val = 0
  omega

section
variable (c : Dev nD) (arg8 : Memref sig .tc .hbm S6x1536x640 .f32) (arg17 : Memref sig .tc .vmem S1536x640 .f32) (arg18 : DmaSems sig S_)

/-- The staging buffer, the result and the copy's semaphore: after a first copy was started they are what its wait gives
    back, before it they are at hand. The result is (or will be) `dw`. -/
def DW : Bool → Vec F S6x1536x640 .f32 → sProp 𝕄
  | true, dw => iprop(∃ g f, ⌜View.read (Elt F) arg8.view g = dw⌝ ∗
      Transfers.Flight countersEmb (c : Thread nD τ) (SemLoc.dma arg18.sem) (default : Unit) 122880
        iprop((View.loc (c : Thread nD τ) arg8.view ↦[arg8.view.set]{fullShare} g) ∗
          (View.loc (c : Thread nD τ) arg17.view ↦[arg17.view.set]{fullShare} f)))
  | false, dw => iprop(semVal ((c : Thread nD τ), .dma arg18.sem) 0 ∗ owns (c : Thread nD τ) arg8 fullShare dw ∗ ∃ v, owns (c : Thread nD τ) arg17 fullShare v)
end

end Cert.Kernel.Hand
-- ==== Proof.Vals.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import Idealize.ShloMosaic.Lib.Tactic.Stretches
public import Idealize.ShloMosaic.Lib.WordCmp
public import Idealize.ShloMosaic.Lib.Ring
public import Idealize.ShloMosaic.Lib.Pipeline.Value
public import Idealize.ShloMosaic.Lib.VecWindow
public import proofs.«01_k».proof.Proof.Spec
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A run of stores whose rectangles tile the memref, each storing its part of `G`, leaves `G`. -/
theorem read_pieces {sp : Space} {s : Shape} {e : EltTy} (v : View sig .tc sp s e) (f : v.ty.Contents (Elt F)) (G : Vec F s e) (L : List (View.Piece (Elt F) s e))
    (size : Fin s.rank → ℕ) (ht : View.Piece.tiledL L size = true) (hG : ∀ p ∈ L, ∀ x, p.2 x = G (p.1.emb x)) :
    View.read (Elt F) v (View.writes v (Elt F) f L) = G := by
  funext y
  exact View.read_writes_apply_of_pieces v f G L hG y (View.cover_of_tiledL L size ht y)

/-- A load of one entry of a table of seven. -/
theorem ld7 {e : EltTy} {v : View sig .tc .smem S7 e} {f : v.ty.Contents (Elt F)} {x : Vec F S7 e} (h : View.read (Elt F) v f = x)
    (off : Fin 1 → ℕ) (inb) (j) (n : ℕ) (hn : off 0 = n) :
    View.readAt (Elt F) v (Rect.unit (s := S7) off S1.size inb).toLoadRect f j = x (mk S7 ![n]) := by
  rw [readAt_of h]
  congr 1
  funext a
  have ha : a = 0 := Subsingleton.elim _ _
  subst ha
  apply Fin.ext
  have h1 := inb 0
  change off 0 + 1 ≤ 7 at h1
  have hj : (j 0).val = 0 := by have := (j 0).isLt; change _ < 1 at this; omega
  change off 0 + 1 * (j 0).val = n % 7
  rw [Nat.mod_eq_of_lt (by omega)]; omega

/-- A load of one entry of the first row of the table of block ends. -/
theorem ld37 {e : EltTy} {v : View sig .tc .smem S3x7 e} {f : v.ty.Contents (Elt F)} {x : Vec F S3x7 e} (h : View.read (Elt F) v f = x)
    (off : Fin 2 → ℕ) (inb) (j) (n : ℕ) (h0 : off 0 = 0) (hn : off 1 = n) :
    View.readAt (Elt F) v (Rect.unit (s := S3x7) off S1x1.size inb).toLoadRect f j = x (mk S3x7 ![0, n]) := by
  rw [readAt_of h]
  congr 1
  have h1 := inb 1
  change off 1 + 1 ≤ 7 at h1
  have hj : (j 1).val = 0 := by have := (j 1).isLt; change _ < 1 at this; omega
  have hj0 : (j 0).val = 0 := by have := (j 0).isLt; change _ < 1 at this; omega
  funext a
  apply Fin.ext
  match a with
  | ⟨0, _⟩ => change off 0 + 1 * (j 0).val = 0 % 3; omega
  | ⟨1, _⟩ => change off 1 + 1 * (j 1).val = n % 7; rw [Nat.mod_eq_of_lt (by omega)]; omega

/-- What a result written through the slice of one expert reads as. -/
theorem read8 (arg8 : Memref sig .tc .hbm S6x1536x640 .f32) (off : Fin 3 → ℕ) (n : ℕ) (h0 : off 0 = n) (h1 : off 1 = 0) (h2 : off 2 = 0)
    (inb) (hu) (hq) (f : arg8.view.ty.Contents (Elt F)) (w : Vec F S1536x640 .f32) (dw : Vec F S6x1536x640 .f32) (h : View.read (Elt F) arg8.view f = dw) :
    View.read (Elt F) arg8.view (View.write (Elt F) ((arg8.slice (Rect.unit (s := S6x1536x640) off S1x1536x640.size inb) hu).squeeze S1536x640 hq).view f w Finset.univ)
      = updT dw n w := by
  have hw : View.write (Elt F) ((arg8.slice (Rect.unit (s := S6x1536x640) off S1x1536x640.size inb) hu).squeeze S1536x640 hq).view f w Finset.univ
      = (arg8.view.slice (Rect.unit (s := S6x1536x640) off S1x1536x640.size inb)).write (Elt F) f (fun x => w ((Shape.reshapeEquiv hq.numel_eq).symm x)) Finset.univ :=
    View.write_reshape_univ _ _ _ _
  rw [hw]
  funext y
  unfold updT
  have e0 := inb 0
  change off 0 + 1 ≤ 6 at e0
  by_cases hy : (y 0).val = n
  · rw [if_pos hy]
    have hx : (Rect.unit (s := S6x1536x640) off S1x1536x640.size inb).emb (Shape.reshapeEquiv hq.numel_eq (mk S1536x640 ![(y 1).val, (y 2).val])) = y := by
      have : (Shape.reshapeEquiv hq.numel_eq (mk S1536x640 ![(y 1).val, (y 2).val])) = (Fin.cons ⟨0, Nat.one_pos⟩ (mk S1536x640 ![(y 1).val, (y 2).val]) : S1x1536x640.Idx) :=
        Shape.reshapeEquiv_cons_one ..
      rw [this]
      funext a
      apply Fin.ext
      have y1 := (y 1).isLt
      have y2 := (y 2).isLt
      change (y 1).val < 1536 at y1
      change (y 2).val < 640 at y2
      match a with
      | ⟨0, _⟩ => change off 0 + 1 * 0 = (y 0).val; omega
      | ⟨1, _⟩ => change off 1 + 1 * ((y 1).val % 1536) = (y 1).val; omega
      | ⟨2, _⟩ => change off 2 + 1 * ((y 2).val % 640) = (y 2).val; omega
    conv_lhs => rw [← hx]
    rw [View.read_slice_write_emb _ _ _ (Finset.mem_univ _)]
    simp
  · rw [if_neg hy, View.read_slice_write_of_not_mem, h]
    intro hm
    obtain ⟨x, -, hx⟩ := Finset.mem_map.mp hm
    apply hy
    rw [← hx]
    have hx0 : (x 0).val = 0 := by have := (x 0).isLt; change _ < 1 at this; omega
    change off 0 + 1 * (x 0).val = n
    omega

/-- One tile of the closing product. -/
theorem fin_tile {v : View sig .tc .vmem S1536x640 .f32} {f : v.ty.Contents (Elt F)} {acc : Vec F S1536x640 .f32} (h : View.read (Elt F) v f = acc)
    {A B a b : F .f32} (hA : A = a) (hB : B = b) (o : Fin 2 → ℕ) (inb) (x : S128x640.Idx) :
    k0_pay21 A B (View.readAt (Elt F) v (Rect.unit (s := S1536x640) o S128x640.size inb).toLoadRect f) x
      = finT acc a b ((Rect.unit (s := S1536x640) o S128x640.size inb).emb x) := by
  subst hA hB h
  unfold k0_pay21 finT
  rw [shapeCast_self]
  rfl

theorem cu1_set {v : View sig .tc .smem S2 .i32} {f : v.ty.Contents (Elt F)} {e : ℕ} {fl : Bool} (h : View.read (Elt F) v f = cuV e fl) (inb) (w) (hw : w = fun _ => 1#32) :
    View.read (Elt F) v (View.writes v (Elt F) f [⟨Rect.unit (s := S2) ![1] S1.size inb, w⟩]) = cuV e true := by
  subst hw
  funext y
  rw [View.writes_cons, View.writes_nil]
  by_cases hy : (y 0).val = 0
  · rw [View.read_slice_write_of_not_mem, h]
    · unfold cuV; rw [if_pos hy, if_pos hy]
    · intro hm
      obtain ⟨x, -, hx⟩ := Finset.mem_map.mp hm
      rw [← hx] at hy
      change 1 + 1 * _ = 0 at hy
      omega
  · have hx : (Rect.unit (s := S2) ![1] S1.size inb).emb (mk S1 ![0]) = y := by
      funext a
      have ha : a = 0 := Subsingleton.elim _ _
      subst ha
      apply Fin.ext
      have := (y 0).isLt
      change (y 0).val < 2 at this
      change 1 + 1 * (0 % 1) = (y 0).val
      omega
    conv_lhs => rw [← hx]
    rw [View.read_slice_write_emb _ _ _ (Finset.mem_univ _)]
    unfold cuV; rw [if_neg hy]; rfl

theorem cu0_set {v : View sig .tc .smem S2 .i32} {f : v.ty.Contents (Elt F)} {e e' : ℕ} {fl : Bool} (h : View.read (Elt F) v f = cuV e fl) (inb) (w) (hw : w = fun _ => BitVec.ofNat 32 e') :
    View.read (Elt F) v (View.writes v (Elt F) f [⟨Rect.unit (s := S2) ![0] S1.size inb, w⟩]) = cuV e' fl := by
  subst hw
  funext y
  rw [View.writes_cons, View.writes_nil]
  by_cases hy : (y 0).val = 0
  · have hx : (Rect.unit (s := S2) ![0] S1.size inb).emb (mk S1 ![0]) = y := by
      funext a
      have ha : a = 0 := Subsingleton.elim _ _
      subst ha
      apply Fin.ext
      change 0 + 1 * (0 % 1) = (y 0).val
      omega
    conv_lhs => rw [← hx]
    rw [View.read_slice_write_emb _ _ _ (Finset.mem_univ _)]
    unfold cuV; rw [if_pos hy]
  · rw [View.read_slice_write_of_not_mem, h]
    · unfold cuV; rw [if_neg hy, if_neg hy]
    · intro hm
      obtain ⟨x, -, hx⟩ := Finset.mem_map.mp hm
      apply hy
      rw [← hx]
      have hx0 : (x 0).val = 0 := by have := (x 0).isLt; change _ < 1 at this; omega
      change 0 + 1 * (x 0).val = 0
      omega

/-- One tile of the accumulating product. -/
theorem acc_tile {v : View sig .tc .vmem S1536x640 .f32} {f : v.ty.Contents (Elt F)} {acc : Vec F S1536x640 .f32} (h : View.read (Elt F) v f = acc)
    {vx : View sig .tc .vmem S256x1536 .bf16} {fx : vx.ty.Contents (Elt F)} {x : Vec F S256x1536 .bf16} (hx : View.read (Elt F) vx fx = x)
    {Y y : Vec F S256x640 .bf16} (hy : Y = y) (k : ℕ) (hk : k < 6) (o o' : ℕ) (ho : o = 256 * k) (ho' : o' = 256 * k) (inb) (inb') (j : S256x640.Idx) :
    k0_pay218 (View.readAt (Elt F) v (Rect.unit (s := S1536x640) ![o, 0] S256x640.size inb).toLoadRect f)
        (View.readAt (Elt F) vx (Rect.unit (s := S256x1536) ![0, o'] S256x256.size inb').toLoadRect fx) Y j
      = accT acc x y ((Rect.unit (s := S1536x640) ![o, 0] S256x640.size inb).emb j) := by
  subst hy ho ho'
  have hj0 := (j 0).isLt
  have hj1 := (j 1).isLt
  change (j 0).val < 256 at hj0
  change (j 1).val < 640 at hj1
  unfold accT
  have e0 : (((Rect.unit (s := S1536x640) ![256 * k, 0] S256x640.size inb).emb j) 0).val = 256 * k + (j 0).val := by
    change 256 * k + 1 * (j 0).val = _; omega
  have e1 : (((Rect.unit (s := S1536x640) ![256 * k, 0] S256x640.size inb).emb j) 1).val = (j 1).val := by
    change 0 + 1 * (j 1).val = _; omega
  rw [e0, e1]
  have d : (256 * k + (j 0).val) / 256 = k := by omega
  have r : (256 * k + (j 0).val) % 256 = (j 0).val := by omega
  rw [d, r]
  congr 1
  · funext q
    have q0 := (q 0).isLt
    have q1 := (q 1).isLt
    change (q 0).val < 256 at q0
    change (q 1).val < 640 at q1
    rw [readAt_of h]
    congr 1
    funext a; apply Fin.ext
    match a with
    | ⟨0, _⟩ => change 256 * k + 1 * (q 0).val = (256 * k + (q 0).val) % 1536; omega
    | ⟨1, _⟩ => change 0 + 1 * (q 1).val = (q 1).val % 640; omega
  · funext q
    have q0 := (q 0).isLt
    have q1 := (q 1).isLt
    change (q 0).val < 256 at q0
    change (q 1).val < 256 at q1
    rw [readAt_of hx]
    congr 1
    funext a; apply Fin.ext
    match a with
    | ⟨0, _⟩ => change 0 + 1 * (q 0).val = (q 0).val % 256; omega
    | ⟨1, _⟩ => change 256 * k + 1 * (q 1).val = (256 * k + (q 1).val) % 1536; omega
  · funext a; apply Fin.ext
    match a with
    | ⟨0, _⟩ => change (j 0).val = (j 0).val % 256; omega
    | ⟨1, _⟩ => change (j 1).val = (j 1).val % 640; omega

/-- A whole load of contents known to read `x`. -/
theorem ldAll {sp : Space} {s : Shape} {e : EltTy} {v : View sig .tc sp s e} {f : v.ty.Contents (Elt F)} {x : Vec F s e} (h : View.read (Elt F) v f = x)
    (off : Fin s.rank → ℕ) (hoff : ∀ a, off a = 0) (inb) : View.readAt (Elt F) v (Rect.unit (s := s) off s.size inb).toLoadRect f = x := by
  funext j
  rw [readAt_of h]
  congr 1
  funext a; apply Fin.ext
  change off a + 1 * (j a).val = (j a).val
  rw [hoff a]; omega

theorem DW_true (c : Dev nD) (arg8 : Memref sig .tc .hbm S6x1536x640 .f32) (arg17 : Memref sig .tc .vmem S1536x640 .f32) (arg18 : DmaSems sig S_) (dw : Vec F S6x1536x640 .f32) :
    DW c arg8 arg17 arg18 true dw = iprop(∃ g f, ⌜View.read (Elt F) arg8.view g = dw⌝ ∗
      Transfers.Flight countersEmb (c : Thread nD τ) (SemLoc.dma arg18.sem) (default : Unit) 122880
        iprop((View.loc (c : Thread nD τ) arg8.view ↦[arg8.view.set]{fullShare} g) ∗
          (View.loc (c : Thread nD τ) arg17.view ↦[arg17.view.set]{fullShare} f))) := rfl

theorem DW_false (c : Dev nD) (arg8 : Memref sig .tc .hbm S6x1536x640 .f32) (arg17 : Memref sig .tc .vmem S1536x640 .f32) (arg18 : DmaSems sig S_) (dw : Vec F S6x1536x640 .f32) :
    DW c arg8 arg17 arg18 false dw = iprop(semVal ((c : Thread nD τ), .dma arg18.sem) 0 ∗ owns (c : Thread nD τ) arg8 fullShare dw ∗ ∃ v, owns (c : Thread nD τ) arg17 fullShare v) := rfl

/-- What a closing loop holds before a trip: the tables, the chunk's operands, and the state reached. -/
def LI (c : Dev nD) (arg2 arg3 : Memref sig .tc .smem S7 .f32) (arg8 : Memref sig .tc .hbm S6x1536x640 .f32) (arg9 : Memref sig .tc .smem S3x7 .i32)
    (arg10 : Memref sig .tc .smem S2 .i32) (ax : Memref sig .tc .vmem S256x1536 .bf16) (ay arg15 : Memref sig .tc .vmem S256x640 .bf16)
    (arg16 arg17 : Memref sig .tc .vmem S1536x640 .f32) (arg18 : DmaSems sig S_) (gx gy : Vec F S7 .f32) (m : Vec F S3x7 .i32) (x : Vec F S256x1536 .bf16)
    (ysv : Vec F S256x640 .bf16) (e0 : ℕ) (s : St F) : sProp 𝕄 :=
  iprop(owns (c : Thread nD τ) arg2 fullShare gx ∗ owns (c : Thread nD τ) arg3 fullShare gy ∗ owns (c : Thread nD τ) arg9 fullShare m
    ∗ owns (c : Thread nD τ) ax fullShare x ∗ owns (c : Thread nD τ) arg15 fullShare ysv ∗ (∃ yb, owns (c : Thread nD τ) ay fullShare yb)
    ∗ owns (c : Thread nD τ) arg10 fullShare (cuV (F := F) e0 s.fl) ∗ owns (c : Thread nD τ) arg16 fullShare s.acc ∗ DW c arg8 arg17 arg18 s.fl s.dw
    ∗ (∃ W, owes (c : Thread nD τ) 0 W))

theorem mask_eq (m : Vec F S3x7 .i32) (base : BitVec 32) (e : ℕ) (y : Vec F S256x640 .bf16) {A lo hi : BitVec 32} {Y : Vec F S256x640 .bf16}
    (hA : A = BitVec.ofNat 32 e) (hY : Y = y) (hlo : lo = m (mk S3x7 ![0, e - 1])) (hhi : hi = m (mk S3x7 ![0, e])) :
    k0_pay15 base A Y lo hi = maskT m base e y := by
  subst hA hY hlo hhi; rfl

theorem zero2 : ∀ a, (![0, 0] : Fin 2 → ℕ) a = 0 := fun a => match a with | ⟨0, _⟩ => rfl | ⟨1, _⟩ => rfl

/-- The whole rectangle's indices are the shape's. -/
theorem zero_idx {s : Shape} (off : Fin s.rank → ℕ) (hoff : ∀ a, off a = 0) (inb) (j : s.Idx) : (Rect.unit (s := s) off s.size inb).emb j = j := by
  funext a; apply Fin.ext
  change off a + 1 * (j a).val = (j a).val
  rw [hoff a]; omega

theorem zero_tile (x : S128x640.Idx) (y : S1536x640.Idx) : k0_pay22 (F := F) x = zeroT y := by
  unfold k0_pay22 zeroT
  rfl

end Cert.Kernel.Hand
-- ==== Proof.Words.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import Idealize.ShloMosaic.Lib.Tactic.Stretches
public import Idealize.ShloMosaic.Lib.WordCmp
public import proofs.«01_k».proof.Proof.Vals
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! The kernel's word arithmetic over small numbers. -/

theorem slt_n (a b : ℕ) (ha : a < 2 ^ 31) (hb : b < 2 ^ 31) : Scalar.cmpi .slt (BitVec.ofNat 32 a) (BitVec.ofNat 32 b) = BitVec.ofBool (decide (a < b)) :=
  WordCmp.cmpi_slt_ofNat (w := 32) ha hb

theorem sle_n (a b : ℕ) (ha : a < 2 ^ 31) (hb : b < 2 ^ 31) : Scalar.cmpi .sle (BitVec.ofNat 32 a) (BitVec.ofNat 32 b) = BitVec.ofBool (decide (a ≤ b)) :=
  WordCmp.cmpi_sle_ofNat (w := 32) ha hb

theorem sgt_n (a b : ℕ) (ha : a < 2 ^ 31) (hb : b < 2 ^ 31) : Scalar.cmpi .sgt (BitVec.ofNat 32 a) (BitVec.ofNat 32 b) = BitVec.ofBool (decide (b < a)) :=
  WordCmp.cmpi_sgt_ofNat (w := 32) ha hb

theorem ne_ext (b : Bool) : Scalar.cmpi .ne (Scalar.extui (BitVec.ofBool b)) 0#32 = BitVec.ofBool b := by cases b <;> rfl

theorem ext_bool (b : Bool) : (Scalar.extui (BitVec.ofBool b) : BitVec 32) = BitVec.ofNat 32 b.toNat := by cases b <;> rfl

theorem and_bool (a b : Bool) : Scalar.andi (BitVec.ofBool a) (BitVec.ofBool b) = BitVec.ofBool (a && b) := by cases a <;> cases b <;> rfl

theorem add_n (a b : ℕ) : Scalar.addi (BitVec.ofNat 32 a) (BitVec.ofNat 32 b) = BitVec.ofNat 32 (a + b) := by
  unfold Scalar.addi IntOp.addi; simp [BitVec.ofNat_add]

theorem ofBool_one (b : Bool) : BitVec.ofBool b = 1#1 ↔ b = true := by cases b <;> decide

/-- The test whether an expert after the one closed opens in the same chunk. -/
def condA (nxt me en : BitVec 32) : BitVec 1 := Scalar.cmpi .ne (Scalar.extui (Scalar.andi (Scalar.cmpi .slt nxt 6#32) (Scalar.cmpi .slt me en))) 0#32

theorem condA_iff (n a b : ℕ) (hn : n < 2 ^ 31) (ha : a < 2 ^ 31) (hb : b < 2 ^ 31) :
    condA (BitVec.ofNat 32 n) (BitVec.ofNat 32 a) (BitVec.ofNat 32 b) = 1#1 ↔ n < 6 ∧ a < b := by
  unfold condA
  rw [show (6#32 : BitVec 32) = BitVec.ofNat 32 6 from rfl, slt_n _ _ hn (by decide), slt_n _ _ ha hb, and_bool, ne_ext, ofBool_one]
  simp

/-- The test whether the expert opened has rows. -/
def condB (me mn : BitVec 32) : BitVec 1 := Scalar.cmpi .ne (Scalar.extui (Scalar.cmpi .sgt mn me)) 0#32

theorem condB_iff (a b : ℕ) (ha : a < 2 ^ 31) (hb : b < 2 ^ 31) :
    condB (BitVec.ofNat 32 a) (BitVec.ofNat 32 b) = 1#1 ↔ a < b := by
  unfold condB
  rw [sgt_n _ _ hb ha, ne_ext, ofBool_one]
  simp

/-- One expert's part of the count of experts to close. -/
def cntW (e k m en : BitVec 32) : BitVec 32 := Scalar.extui (Scalar.andi (Scalar.cmpi .sle e k) (Scalar.cmpi .sle m en))

theorem cntW_n (e k m en : ℕ) (he : e < 2 ^ 31) (hk : k < 2 ^ 31) (hm : m < 2 ^ 31) (hn : en < 2 ^ 31) :
    cntW (BitVec.ofNat 32 e) (BitVec.ofNat 32 k) (BitVec.ofNat 32 m) (BitVec.ofNat 32 en) = BitVec.ofNat 32 (if e ≤ k ∧ m ≤ en then 1 else 0) := by
  unfold cntW
  rw [sle_n _ _ he hk, sle_n _ _ hm hn, and_bool, ext_bool]
  congr 1
  by_cases h1 : e ≤ k <;> by_cases h2 : m ≤ en <;> simp [h1, h2]

/-- The count of experts to close, as the kernel sums it. -/
def sumW (e en m0 m1 m2 m3 m4 m5 : BitVec 32) : BitVec 32 :=
  Scalar.addi (Scalar.addi (Scalar.addi (Scalar.addi (Scalar.addi (Scalar.addi 0#32 (cntW e 0#32 m0 en)) (cntW e 1#32 m1 en)) (cntW e 2#32 m2 en)) (cntW e 3#32 m3 en)) (cntW e 4#32 m4 en)) (cntW e 5#32 m5 en)

theorem nFin_eq (M : ℕ → ℕ) (e en : ℕ) : nFin M e en = 0 + (if e ≤ 0 ∧ M 0 ≤ en then 1 else 0) + (if e ≤ 1 ∧ M 1 ≤ en then 1 else 0) + (if e ≤ 2 ∧ M 2 ≤ en then 1 else 0)
    + (if e ≤ 3 ∧ M 3 ≤ en then 1 else 0) + (if e ≤ 4 ∧ M 4 ≤ en then 1 else 0) + (if e ≤ 5 ∧ M 5 ≤ en then 1 else 0) := by
  unfold nFin
  rw [← List.countP_eq_length_filter]
  rw [show List.range 6 = [0, 1, 2, 3, 4, 5] from rfl]
  simp only [List.countP_cons, List.countP_nil, decide_eq_true_eq]
  omega

theorem nFin_le (M : ℕ → ℕ) (e en : ℕ) : nFin M e en ≤ 6 := by
  unfold nFin
  exact (List.length_filter_le _ _).trans (by simp)

theorem sumW_eq (M : ℕ → ℕ) (e en : ℕ) (he : e ≤ 6) (hen : en < 2 ^ 31) (hM : ∀ k, k < 6 → M k < 2 ^ 31) :
    sumW (BitVec.ofNat 32 e) (BitVec.ofNat 32 en) (BitVec.ofNat 32 (M 0)) (BitVec.ofNat 32 (M 1)) (BitVec.ofNat 32 (M 2)) (BitVec.ofNat 32 (M 3)) (BitVec.ofNat 32 (M 4)) (BitVec.ofNat 32 (M 5))
      = BitVec.ofNat 32 (nFin M e en) := by
  have he' : e < 2 ^ 31 := by omega
  unfold sumW
  have c (k : ℕ) (hk : k < 6) := cntW_n e k (M k) en he' (by omega) (hM k hk) hen
  rw [nFin_eq, c 0 (by decide), c 1 (by decide), c 2 (by decide), c 3 (by decide), c 4 (by decide), c 5 (by decide)]
  rw [show (0#32 : BitVec 32) = BitVec.ofNat 32 0 from rfl]
  simp only [add_n]

/-- The closing loop's upper bound, as computed from the count. -/
def ubW (n : BitVec 32) : BitVec 32 := Scalar.addi 0#32 (Scalar.muli (Scalar.divsi (Scalar.subi n 0#32) 1#32) 1#32)

theorem ubW_n : ∀ n : ℕ, n < 7 → ubW (BitVec.ofNat 32 n) = BitVec.ofNat 32 n ∧ Scf.trips 0#32 (BitVec.ofNat 32 n) 1#32 = n ∧ Scf.OK 0#32 (BitVec.ofNat 32 n) 1#32
    ∧ Scf.trips (BitVec.ofNat 32 n) (BitVec.ofNat 32 n) 1#32 = 0 ∧ Scf.OK (BitVec.ofNat 32 n) (BitVec.ofNat 32 n) 1#32 ∧ Scalar.addi 0#32 (Scalar.subi (BitVec.ofNat 32 n) 0#32) = BitVec.ofNat 32 n := by
  decide

theorem inb37 (off : Fin 2 → ℕ) (h0 : off 0 = 0) (h1 : off 1 ≤ 6) : ∀ a, off a + S1x1.size a ≤ S3x7.size a := fun a =>
  match a with
  | ⟨0, _⟩ => by change off 0 + 1 ≤ 3; omega
  | ⟨1, _⟩ => by change off 1 + 1 ≤ 7; omega

theorem inb7 (off : Fin 1 → ℕ) (h1 : off 0 ≤ 6) : ∀ a, off a + S1.size a ≤ S7.size a := fun a =>
  match a with
  | ⟨0, _⟩ => by change off 0 + 1 ≤ 7; omega

theorem inb8 (off : Fin 3 → ℕ) (h0 : off 0 ≤ 5) (h1 : off 1 = 0) (h2 : off 2 = 0) : ∀ a, off a + S1x1536x640.size a ≤ S6x1536x640.size a := fun a =>
  match a with
  | ⟨0, _⟩ => by change off 0 + 1 ≤ 6; omega
  | ⟨1, _⟩ => by change off 1 + 1536 ≤ 1536; omega
  | ⟨2, _⟩ => by change off 2 + 640 ≤ 640; omega

/-- The counter's word at a trip. -/
theorem ivAdd (e t : ℕ) (w : BitVec 32) (he : w = BitVec.ofNat 32 e) : Scalar.addi w (Scf.iv 0#32 1#32 t) = BitVec.ofNat 32 (e + t) := by
  subst he
  unfold Scf.iv Scalar.addi IntOp.addi
  simp [BitVec.ofNat_add]

/-- The word before a small positive one, and its larger of it and zero. -/
theorem prevW : ∀ n : ℕ, n < 7 → (Scalar.maxsi (Scalar.subi (BitVec.ofNat 32 n) 1#32) 0#32).toNat = n - 1 := by
  decide

theorem toNat_n (n : ℕ) (h : n < 2 ^ 32) : (BitVec.ofNat 32 n).toNat = n := by rw [BitVec.toNat_ofNat]; omega

theorem Meta.lt {M : ℕ → ℕ} {m : Vec F S3x7 .i32} (h : Meta M m) : ∀ k, k < 7 → M k < 2 ^ 31 := by
  have : M 0 ≤ M 1 := h.mono 0 (by decide)
  have : M 1 ≤ M 2 := h.mono 1 (by decide)
  have : M 2 ≤ M 3 := h.mono 2 (by decide)
  have : M 3 ≤ M 4 := h.mono 3 (by decide)
  have : M 4 ≤ M 5 := h.mono 4 (by decide)
  have := h.last
  have := h.seven
  intro k hk
  have hc : k = 0 ∨ k = 1 ∨ k = 2 ∨ k = 3 ∨ k = 4 ∨ k = 5 ∨ k = 6 := by omega
  rcases hc with h | h | h | h | h | h | h <;> subst h <;> omega

theorem Meta.mono' {M : ℕ → ℕ} {m : Vec F S3x7 .i32} (h : Meta M m) : ∀ a b, a ≤ b → b < 6 → M a ≤ M b := by
  intro a b hab hb
  induction b with
  | zero => have : a = 0 := by omega
            subst this; exact le_refl _
  | succ b ih =>
    by_cases h' : a = b + 1
    · subst h'; exact le_refl _
    · exact (ih (by omega) (by omega)).trans (h.mono b (by omega))

theorem nFin_add (M : ℕ → ℕ) (e en : ℕ) (he : e ≤ 6) : e + nFin M e en ≤ 6 := by
  rw [nFin_eq]
  split_ifs <;> omega

theorem closeOne_iter_e (M : ℕ → ℕ) (m : Vec F S3x7 .i32) (x : Vec F S256x1536 .bf16) (y : Vec F S256x640 .bf16) (base : BitVec 32) (en : ℕ) (gx gy : Vec F S7 .f32) (s : St F) :
    ∀ n, (((closeOne M m x y base en gx gy)^[n]) s).e = s.e + n := by
  intro n
  induction n with
  | zero => rfl
  | succ n ih => rw [Function.iterate_succ_apply']; show _ + 1 = _; rw [ih]; omega

/-- The words of a chunk's end and of its last block, from the step's number. -/
theorem en0 : ∀ a : ℕ, a < 25 → Scalar.addi (Scalar.addi (Scalar.muli (BitVec.ofNat 32 a) 32#32) 4294967280#32) 16#32 = BitVec.ofNat 32 (32 * a) := by
  decide

theorem en1 : ∀ a : ℕ, a < 25 → Scalar.addi (Scalar.addi (Scalar.muli (BitVec.ofNat 32 a) 32#32) 0#32) 16#32 = BitVec.ofNat 32 (32 * a + 16) := by
  decide

theorem en2 : ∀ a : ℕ, a < 25 → Scalar.addi (Scalar.addi (Scalar.muli (BitVec.ofNat 32 a) 32#32) 16#32) 16#32 = BitVec.ofNat 32 (32 * a + 32) := by
  decide

end Cert.Kernel.Hand
-- ==== Proof.Emit.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Words
public import Idealize.ShloMosaic.Lib.Pipeline.Value
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Four scale rows, each spread over sixteen rows and rounded, times the 64 rows of values. -/
theorem emitY (v : Vec F S64x128 .bf16) (rows : Fin 4 → Vec F S1x128 .f32) (j : S64x128.Idx) (r : Fin 4) (hr : (j 0).val / 16 = r.val) :
    k0_pay222 v (rows 0) (rows 1) (rows 2) (rows 3) j
      = FloatOps.mulf (v j) (FloatOps.truncf .bf16 bitsLt_bf16_f32 (rows r (mk S1x128 ![0, (j 1).val]))) := by
  have hj0 := (j 0).isLt
  have hj1 := (j 1).isLt
  change (j 0).val < 64 at hj0
  change (j 1).val < 128 at hj1
  unfold k0_pay222
  rw [shapeCast_self, shapeCast_self, shapeCast_self, shapeCast_self, shapeCast_self]
  show FloatOps.mulf (v j) (FloatOps.truncf .bf16 bitsLt_bf16_f32 (concatenate S64x128 0 _ _ j)) = _
  congr 2
  refine (concatenate_ofFn_apply (t := S64x128) (s₁ := S16x128) 0 (N := 4) (fun n => broadcastTo S16x128 (rows n) broadcasts_S1x128_S16x128)
    concatenates_S16x128_S16x128_S16x128_S16x128_S64x128_d0 rfl 16 rfl j r hr
    (mk S16x128 ![(j 0).val % 16, (j 1).val]) ?_ ?_).trans ?_
  · change ((j 0).val % 16) % 16 = (j 0).val % 16; omega
  · intro b hb
    match b with
    | ⟨0, _⟩ => exact absurd rfl hb
    | ⟨1, _⟩ => change (j 1).val % 128 = (j 1).val; omega
  · unfold broadcastTo
    congr 1
    funext a; apply Fin.ext
    match a with
    | ⟨0, _⟩ => rfl
    | ⟨1, _⟩ => rfl

/-- One stored block of dequantised rows is that block of the whole. -/
theorem emitY_tile {vv : View sig .tc .vmem S512x640 .bf16} {fv : vv.ty.Contents (Elt F)} {xv : Vec F S512x640 .bf16} (h : View.read (Elt F) vv fv = xv)
    {vs : View sig .tc .vmem S32x640 .f32} {fs : vs.ty.Contents (Elt F)} {xs : Vec F S32x640 .f32} (hs : View.read (Elt F) vs fs = xs)
    (hf b col o s0 s1 s2 s3 d : ℕ) (hh : hf < 2) (hb : b + 4 ≤ 16) (hc : col + 128 ≤ 640) (ho : o = 256 * hf + 16 * b) (hd : d = 16 * b)
    (h0 : s0 = 16 * hf + b) (h1 : s1 = 16 * hf + b + 1) (h2 : s2 = 16 * hf + b + 2) (h3 : s3 = 16 * hf + b + 3)
    (inb inb0 inb1 inb2 inb3 inbd) (j : S64x128.Idx) :
    k0_pay222 (View.readAt (Elt F) vv (Rect.unit (s := S512x640) ![o, col] S64x128.size inb).toLoadRect fv)
        (View.readAt (Elt F) vs (Rect.unit (s := S32x640) ![s0, col] S1x128.size inb0).toLoadRect fs)
        (View.readAt (Elt F) vs (Rect.unit (s := S32x640) ![s1, col] S1x128.size inb1).toLoadRect fs)
        (View.readAt (Elt F) vs (Rect.unit (s := S32x640) ![s2, col] S1x128.size inb2).toLoadRect fs)
        (View.readAt (Elt F) vs (Rect.unit (s := S32x640) ![s3, col] S1x128.size inb3).toLoadRect fs) j
      = deqY hf xv xs ((Rect.unit (s := S256x640) ![d, col] S64x128.size inbd).emb j) := by
  subst ho hd h0 h1 h2 h3
  have hj0 := (j 0).isLt
  have hj1 := (j 1).isLt
  change (j 0).val < 64 at hj0
  change (j 1).val < 128 at hj1
  refine (emitY _ (fun n : Fin 4 => View.readAt (Elt F) vs (Rect.unit (s := S32x640) ![16 * hf + b + n.val, col] S1x128.size (by
      intro a; match a with
        | ⟨0, _⟩ => change 16 * hf + b + n.val + 1 ≤ 32; omega
        | ⟨1, _⟩ => change col + 128 ≤ 640; omega)).toLoadRect fs) j ⟨(j 0).val / 16, by omega⟩ rfl).trans ?_
  have e0 : (((Rect.unit (s := S256x640) ![16 * b, col] S64x128.size inbd).emb j) 0).val = 16 * b + (j 0).val := by
    change 16 * b + 1 * (j 0).val = _; omega
  have e1 : (((Rect.unit (s := S256x640) ![16 * b, col] S64x128.size inbd).emb j) 1).val = col + (j 1).val := by
    change col + 1 * (j 1).val = _; omega
  unfold deqY
  rw [e0, e1, readAt_of h, readAt_of hs]
  congr 1
  · congr 1
    funext a; apply Fin.ext
    match a with
    | ⟨0, _⟩ => change 256 * hf + 16 * b + 1 * (j 0).val = (256 * hf + (16 * b + (j 0).val)) % 512; omega
    | ⟨1, _⟩ => change col + 1 * (j 1).val = (col + (j 1).val) % 640; omega
  · congr 2
    funext a; apply Fin.ext
    match a with
    | ⟨0, _⟩ => change 16 * hf + b + (j 0).val / 16 + 1 * (0 % 1) = (16 * hf + (16 * b + (j 0).val) / 16) % 32; omega
    | ⟨1, _⟩ => change col + 1 * ((j 1).val % 128) = (col + (j 1).val) % 640; omega

/-- Four scale rows, each spread over sixteen rows and rounded, times the 64 rows of values. -/
theorem emitX (v : Vec F S64x256 .bf16) (rows : Fin 4 → Vec F S1x256 .f32) (j : S64x256.Idx) (r : Fin 4) (hr : (j 0).val / 16 = r.val) :
    k0_pay227 v (rows 0) (rows 1) (rows 2) (rows 3) j
      = FloatOps.mulf (v j) (FloatOps.truncf .bf16 bitsLt_bf16_f32 (rows r (mk S1x256 ![0, (j 1).val]))) := by
  have hj0 := (j 0).isLt
  have hj1 := (j 1).isLt
  change (j 0).val < 64 at hj0
  change (j 1).val < 256 at hj1
  unfold k0_pay227
  rw [shapeCast_self, shapeCast_self, shapeCast_self, shapeCast_self, shapeCast_self]
  show FloatOps.mulf (v j) (FloatOps.truncf .bf16 bitsLt_bf16_f32 (concatenate S64x256 0 _ _ j)) = _
  congr 2
  refine (concatenate_ofFn_apply (t := S64x256) (s₁ := S16x256) 0 (N := 4) (fun n => broadcastTo S16x256 (rows n) broadcasts_S1x256_S16x256)
    concatenates_S16x256_S16x256_S16x256_S16x256_S64x256_d0 rfl 16 rfl j r hr
    (mk S16x256 ![(j 0).val % 16, (j 1).val]) ?_ ?_).trans ?_
  · change ((j 0).val % 16) % 16 = (j 0).val % 16; omega
  · intro b hb
    match b with
    | ⟨0, _⟩ => exact absurd rfl hb
    | ⟨1, _⟩ => change (j 1).val % 256 = (j 1).val; omega
  · unfold broadcastTo
    congr 1
    funext a; apply Fin.ext
    match a with
    | ⟨0, _⟩ => rfl
    | ⟨1, _⟩ => rfl

/-- One stored block of dequantised rows is that block of the whole. -/
theorem emitX_tile {vv : View sig .tc .vmem S512x1536 .bf16} {fv : vv.ty.Contents (Elt F)} {xv : Vec F S512x1536 .bf16} (h : View.read (Elt F) vv fv = xv)
    {vs : View sig .tc .vmem S32x1536 .f32} {fs : vs.ty.Contents (Elt F)} {xs : Vec F S32x1536 .f32} (hs : View.read (Elt F) vs fs = xs)
    (hf b col o s0 s1 s2 s3 d : ℕ) (hh : hf < 2) (hb : b + 4 ≤ 16) (hc : col + 256 ≤ 1536) (ho : o = 256 * hf + 16 * b) (hd : d = 16 * b)
    (h0 : s0 = 16 * hf + b) (h1 : s1 = 16 * hf + b + 1) (h2 : s2 = 16 * hf + b + 2) (h3 : s3 = 16 * hf + b + 3)
    (inb inb0 inb1 inb2 inb3 inbd) (j : S64x256.Idx) :
    k0_pay227 (View.readAt (Elt F) vv (Rect.unit (s := S512x1536) ![o, col] S64x256.size inb).toLoadRect fv)
        (View.readAt (Elt F) vs (Rect.unit (s := S32x1536) ![s0, col] S1x256.size inb0).toLoadRect fs)
        (View.readAt (Elt F) vs (Rect.unit (s := S32x1536) ![s1, col] S1x256.size inb1).toLoadRect fs)
        (View.readAt (Elt F) vs (Rect.unit (s := S32x1536) ![s2, col] S1x256.size inb2).toLoadRect fs)
        (View.readAt (Elt F) vs (Rect.unit (s := S32x1536) ![s3, col] S1x256.size inb3).toLoadRect fs) j
      = deqX hf xv xs ((Rect.unit (s := S256x1536) ![d, col] S64x256.size inbd).emb j) := by
  subst ho hd h0 h1 h2 h3
  have hj0 := (j 0).isLt
  have hj1 := (j 1).isLt
  change (j 0).val < 64 at hj0
  change (j 1).val < 256 at hj1
  refine (emitX _ (fun n : Fin 4 => View.readAt (Elt F) vs (Rect.unit (s := S32x1536) ![16 * hf + b + n.val, col] S1x256.size (by
      intro a; match a with
        | ⟨0, _⟩ => change 16 * hf + b + n.val + 1 ≤ 32; omega
        | ⟨1, _⟩ => change col + 256 ≤ 1536; omega)).toLoadRect fs) j ⟨(j 0).val / 16, by omega⟩ rfl).trans ?_
  have e0 : (((Rect.unit (s := S256x1536) ![16 * b, col] S64x256.size inbd).emb j) 0).val = 16 * b + (j 0).val := by
    change 16 * b + 1 * (j 0).val = _; omega
  have e1 : (((Rect.unit (s := S256x1536) ![16 * b, col] S64x256.size inbd).emb j) 1).val = col + (j 1).val := by
    change col + 1 * (j 1).val = _; omega
  unfold deqX
  rw [e0, e1, readAt_of h, readAt_of hs]
  congr 1
  · congr 1
    funext a; apply Fin.ext
    match a with
    | ⟨0, _⟩ => change 256 * hf + 16 * b + 1 * (j 0).val = (256 * hf + (16 * b + (j 0).val)) % 512; omega
    | ⟨1, _⟩ => change col + 1 * (j 1).val = (col + (j 1).val) % 1536; omega
  · congr 2
    funext a; apply Fin.ext
    match a with
    | ⟨0, _⟩ => change 16 * hf + b + (j 0).val / 16 + 1 * (0 % 1) = (16 * hf + (16 * b + (j 0).val) / 16) % 32; omega
    | ⟨1, _⟩ => change col + 1 * ((j 1).val % 256) = (col + (j 1).val) % 1536; omega

end Cert.Kernel.Hand
-- ==== Proof.Str0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Words
public import proofs.«01_k».proof.Proof.Emit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

cut_chain hr := cc0_quant_dw_skel at 2, 10
cut_chain hs := k0_part96_skel at 2, 27, 28, 29, 54
cut_chain ha := k0_part43_skel at 2, 7
cut_chain hb := k0_part70_skel at 6
cut_chain hl := k0_part40_skel at 6

end Cert.Kernel.Hand
-- ==== Proof.Trip1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import Idealize.ShloMosaic.Lib.Tactic.Stretches
public import proofs.«01_k».proof.Proof.Words
@[expose] public section

set_option maxRecDepth 16384

noncomputable section

namespace Cert.Kernel.Hand.T1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

cut_chain tb := k0_t1_body at 9

/-- The closing of one expert up to the copy out: the tiles multiplied into the staging buffer, the accumulator cleared. -/
theorem fin (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (v899 v901 v907 v913 v919 v925 v931 : Elt F .i32) (hw3 : k0_chk3 i v899 v901 v907 v913 v919 v925 v931) (t : Fin (k0_t1_loop i v899 v901 v907 v913 v919 v925 v931).trips)
   (gx gy : Vec F S7 .f32) (e0 : ℕ) (fl : Bool) (W : Waits sig Unit) (he : v899 = BitVec.ofNat 32 e0) (ht : e0 + t.val < 6)
   (acc : Vec F S1536x640 .f32) (dw : Vec F S6x1536x640 .f32) (R : Type) (κ : BitVec 32 → Prog (TpuEff nD τ sig (Elt F) Λ₀ .tc) R) (Q : _ → sProp 𝕄) :
   iprop(owns (c : Thread nD τ) arg2 fullShare gx ∗ owns (c : Thread nD τ) arg3 fullShare gy
     ∗ owns (c : Thread nD τ) arg10 fullShare (cuV (F := F) e0 fl)
     ∗ owns (c : Thread nD τ) arg16 fullShare acc ∗ DW c arg8 arg17 arg18 fl dw ∗ owes (c : Thread nD τ) 0 W)
   ⊢ iprop((∀ v : BitVec 32, ⌜v = BitVec.ofNat 32 (e0 + t.val)⌝ -∗ owns (c : Thread nD τ) arg2 fullShare gx ∗ owns (c : Thread nD τ) arg3 fullShare gy
     ∗ owns (c : Thread nD τ) arg10 fullShare (cuV (F := F) e0 true)
     ∗ owns (c : Thread nD τ) arg16 fullShare (zeroT (F := F)) ∗ DW c arg8 arg17 arg18 true (updT dw (e0 + t.val) (finT acc (gx (mk S7 ![e0 + t.val])) (gy (mk S7 ![e0 + t.val]))))
     ∗ (∃ W', owes (c : Thread nD τ) 0 W') -∗ wp frame (wpE (defs₀ (F := F)) Variants.none c none) Set.univ (κ v) Q)
    -∗ wp frame (wpE (defs₀ (F := F)) Variants.none c none) Set.univ (tb1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v899 v901 v907 v913 v919 v925 v931 hw3 t κ) Q) := by
  cases fl
  · rw [DW_true, DW_false]; unfold owns
    iintro ⟨⟨%f2, %h2, H2⟩, ⟨%f3, %h3, H3⟩, ⟨%f10, %h10, H10⟩, ⟨%f16, %hf16, H16⟩, ⟨Hs, ⟨%f8, %h8, H8⟩, ⟨%v17, %f17, %h17, H17⟩⟩, HO⟩ Hk
    unfold tb1
    have hc : ¬ (Scalar.cmpi .ne (Scalar.extui (Scalar.cmpi .sgt ((View.readAt (Elt F) arg10.view (Rect.unit (s := S2) ![1] S1.size inb_S2_S1_1).toLoadRect f10) (Shape.Idx.first (by decide))) 0#32)) (0#32 : BitVec 32) = 1#1) := by rw [cu1_of h10]; decide
    sl_exec (disch := sl_exact hc)
    have hw : Scalar.addi v899 (Scf.iv 0#32 1#32 t) = BitVec.ofNat 32 (e0 + t.val) := ivAdd e0 t.val v899 he
    have hn : (Scalar.addi v899 (Scf.iv 0#32 1#32 t)).toNat = e0 + t.val := by rw [hw, BitVec.toNat_ofNat]; omega
    iapply Hk $$ %_ %hw
    isplitl [H2]
    · iexists f2; isplitr; swap; iexact H2; ipureintro; exact h2
    isplitl [H3]
    · iexists f3; isplitr; swap; iexact H3; ipureintro; exact h3
    isplitl [H10]
    · iexists _; isplitr; swap; iexact H10; ipureintro; exact cu1_set h10 _ _ rfl
    isplitl [H16]
    · iexists _; isplitr; swap; iexact H16; ipureintro
      exact read_pieces _ _ _ _ S128x640.size (by sl_kernel_rfl) (List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, fun _ h => absurd h List.not_mem_nil⟩⟩⟩⟩⟩⟩⟩⟩⟩⟩⟩⟩)
    isplitl [Hs]
    · iexists _, _; isplitr; swap; iexact Hs; ipureintro
      refine (read8 arg8 _ (e0 + t.val) hn rfl rfl _ _ _ _ _ dw h8).trans (congrArg (updT dw (e0 + t.val)) ?_)
      exact read_pieces _ _ _ _ S128x640.size (by sl_kernel_rfl) (List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, fun _ h => absurd h List.not_mem_nil⟩⟩⟩⟩⟩⟩⟩⟩⟩⟩⟩⟩)
    · iexists _; iexact HO
  · simp only [DW_true]; unfold owns
    iintro ⟨⟨%f2, %h2, H2⟩, ⟨%f3, %h3, H3⟩, ⟨%f10, %h10, H10⟩, ⟨%f16, %hf16, H16⟩, ⟨%f8, %f17, %h8, Hs⟩, HO⟩ Hk
    unfold tb1
    have hc : (Scalar.cmpi .ne (Scalar.extui (Scalar.cmpi .sgt ((View.readAt (Elt F) arg10.view (Rect.unit (s := S2) ![1] S1.size inb_S2_S1_1).toLoadRect f10) (Shape.Idx.first (by decide))) 0#32)) (0#32 : BitVec 32) = 1#1) := by rw [cu1_of h10]; decide
    sl_exec (disch := sl_exact hc)
    have hw : Scalar.addi v899 (Scf.iv 0#32 1#32 t) = BitVec.ofNat 32 (e0 + t.val) := ivAdd e0 t.val v899 he
    have hn : (Scalar.addi v899 (Scf.iv 0#32 1#32 t)).toNat = e0 + t.val := by rw [hw, BitVec.toNat_ofNat]; omega
    iapply Hk $$ %_ %hw
    isplitl [H2]
    · iexists f2; isplitr; swap; iexact H2; ipureintro; exact h2
    isplitl [H3]
    · iexists f3; isplitr; swap; iexact H3; ipureintro; exact h3
    isplitl [H10]
    · iexists _; isplitr; swap; iexact H10; ipureintro; exact cu1_set h10 _ _ rfl
    isplitl [H16]
    · iexists _; isplitr; swap; iexact H16; ipureintro
      exact read_pieces _ _ _ _ S128x640.size (by sl_kernel_rfl) (List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, fun _ h => absurd h List.not_mem_nil⟩⟩⟩⟩⟩⟩⟩⟩⟩⟩⟩⟩)
    isplitl [Hs]
    · iexists _, _; isplitr; swap; iexact Hs; ipureintro
      refine (read8 arg8 _ (e0 + t.val) hn rfl rfl _ _ _ _ _ dw h8).trans (congrArg (updT dw (e0 + t.val)) ?_)
      exact read_pieces _ _ _ _ S128x640.size (by sl_kernel_rfl) (List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, fun _ h => absurd h List.not_mem_nil⟩⟩⟩⟩⟩⟩⟩⟩⟩⟩⟩⟩)
    · iexists _; iexact HO

/-- One trip of the closing loop: the expert closed and, where the next one has rows in the chunk, its rows accumulated. -/
theorem trip (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (v4 v898 : BitVec 32) (v899 v901 v907 v913 v919 v925 v931 : Elt F .i32) (v905 : BitVec 32) (v906 : BitVec 1) (hw3 : k0_chk3 i v899 v901 v907 v913 v919 v925 v931) (t : Fin (k0_t1_loop i v899 v901 v907 v913 v919 v925 v931).trips)
   (M : ℕ → ℕ) (m : Vec F S3x7 .i32) (hM : Meta M m) (gx gy : Vec F S7 .f32) (e0 : ℕ) (he : v899 = BitVec.ofNat 32 e0)
   (x : Vec F S256x1536 .bf16) (y ysv : Vec F S256x640 .bf16) (s : St F) (hse : s.e = e0 + t.val) (hs6 : s.e < 6) (hy : M s.e < 32 * (i 0).val → ysv = y) :
   LI c arg2 arg3 arg8 arg9 arg10 arg13 arg14 arg15 arg16 arg17 arg18 gx gy m x ysv e0 s
   ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v4 v898 v899 v901 v905 v906 v907 v913 v919 v925 v931 hw3 t ())
      (fun _ => LI c arg2 arg3 arg8 arg9 arg10 arg13 arg14 arg15 arg16 arg17 arg18 gx gy m x ysv e0 (closeOne M m x y v4 (32 * (i 0).val) gx gy s)) := by
  have hi : (i 0).val < 25 := (i 0).isLt
  have hiv := ivAdd e0 t.val v899 he
  obtain ⟨se, fl, acc, dw⟩ := s
  dsimp only at hse hs6 hy
  have h1 : Scalar.addi (Scalar.addi v899 (Scf.iv 0#32 1#32 t.val)) 1#32 = BitVec.ofNat 32 (se + 1) := by
    rw [hiv, hse]; exact add_n _ 1
  have ht6 : e0 + t.val < 6 := by omega
  have hme := hM.word se (by omega)
  have hmn := hM.word (se + 1) (by omega)
  have hMe := hM.lt se (by omega)
  have hMn := hM.lt (se + 1) (by omega)
  have hoS0 : (k0_off6 i v899 v901 v907 v913 v919 v925 v931 t) 1 = se := by
    show (Scalar.addi v899 (Scf.iv 0#32 1#32 t.val)).toNat = se
    rw [hiv, toNat_n _ (by omega), hse]
  have hoN : (k0_off7 i v899 v901 v907 v913 v919 v925 v931 t) 1 = se + 1 := by
    show (Scalar.addi (Scalar.addi v899 (Scf.iv 0#32 1#32 t.val)) 1#32).toNat = se + 1
    rw [h1, toNat_n _ (by omega)]
  have hoE : (k0_off9 i v899 v901 v907 v913 v919 v925 v931 t) 1 = se + 1 := hoN
  have hoP : (k0_off8 i v899 v901 v907 v913 v919 v925 v931 t) 1 = se := by
    show (Scalar.maxsi (Scalar.subi (Scalar.addi (Scalar.addi v899 (Scf.iv 0#32 1#32 t.val)) 1#32) 1#32) 0#32).toNat = se
    rw [h1, prevW _ (by omega)]; omega
  have hA : ∀ w : BitVec 32, w = BitVec.ofNat 32 (M se) → (k0_cond4 i v899 v901 v907 v913 v919 v925 v931 t w = 1#1 ↔ se + 1 < 6 ∧ M se < 32 * (i 0).val) := by
    intro w hw
    show condA (Scalar.addi (Scalar.addi v899 (Scf.iv 0#32 1#32 t.val)) 1#32) w _ = 1#1 ↔ _
    rw [h1, hw, en0 (i 0).val hi]
    exact condA_iff _ _ _ (by omega) hMe (by omega)
  have hB : ∀ w w' : BitVec 32, w = BitVec.ofNat 32 (M se) → w' = BitVec.ofNat 32 (M (se + 1)) → (k0_cond5 w w' = 1#1 ↔ M se < M (se + 1)) := by
    intro w w' hw hw'
    show condB w w' = 1#1 ↔ _
    rw [hw, hw']
    exact condB_iff _ _ hMe hMn
  have hchkA : ∀ w : BitVec 32, w = BitVec.ofNat 32 (M se) → k0_chk4 i v899 v901 v907 v913 v919 v925 v931 t w := fun w hw =>
    fun h4 => inb37 _ rfl (by rw [hoN]; have := ((hA w hw).mp h4).1; omega)
  have hchkB : ∀ w w' : BitVec 32, w = BitVec.ofNat 32 (M se) → k0_chk5 i v899 v901 v907 v913 v919 v925 v931 t w w' := fun w w' hw =>
    ⟨fun h4 h5 => inb37 _ rfl (by rw [hoP]; omega), fun h4 h5 => inb37 _ rfl (by rw [hoE]; have := ((hA w hw).mp h4).1; omega)⟩
  rw [tb1.eq]
  unfold LI
  iintro ⟨H2, H3, H9, Hx, H15, Hy, H10, H16, Hd, ⟨%W, HO⟩⟩
  iapply (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v899 v901 v907 v913 v919 v925 v931 hw3 t gx gy e0 fl W he ht6 acc dw _ _ _) $$ [H2 H3 H10 H16 Hd HO]
  · isplitl [H2]; iexact H2
    isplitl [H3]; iexact H3
    isplitl [H10]; iexact H10
    isplitl [H16]; iexact H16
    isplitl [Hd]; iexact Hd
    iexact HO
  iintro %v %hv ⟨H2, H3, H10, H16, Hd, HO⟩
  subst hv
  rw [← hse]
  unfold owns
  icases H9 with ⟨%f9, %h9, H9⟩
  icases Hx with ⟨%fx, %hx, Hx⟩
  icases H15 with ⟨%f15, %h15, H15⟩
  icases Hy with ⟨%yb, %fy, %hyb, Hy⟩
  icases H16 with ⟨%f16, %hf16, H16⟩
  unfold tb1.tail
  have hw : View.readAt (Elt F) arg9.view (Rect.unit (s := S3x7) (k0_off6 i v899 v901 v907 v913 v919 v925 v931 t) S1x1.size (k0_off6_inb i v899 v901 v907 v913 v919 v925 v931 hw3 t)).toLoadRect f9 (Shape.Idx.first (s := S1x1) (by decide)) = BitVec.ofNat 32 (M se) :=
    (ld37 h9 _ _ _ se rfl hoS0).trans hme
  have hcA := hchkA _ hw
  by_cases hca : se + 1 < 6 ∧ M se < 32 * (i 0).val
  · have hc4 := (hA _ hw).mpr hca
    have hw' : View.readAt (Elt F) arg9.view (Rect.unit (s := S3x7) (k0_off7 i v899 v901 v907 v913 v919 v925 v931 t) S1x1.size (k0_off7_inb i v899 v901 v907 v913 v919 v925 v931 t _ hcA hc4)).toLoadRect f9 (Shape.Idx.first (s := S1x1) (by decide)) = BitVec.ofNat 32 (M (se + 1)) :=
      (ld37 h9 _ _ _ (se + 1) rfl hoN).trans hmn
    have hcB := hchkB _ (View.readAt (Elt F) arg9.view (Rect.unit (s := S3x7) (k0_off7 i v899 v901 v907 v913 v919 v925 v931 t) S1x1.size (k0_off7_inb i v899 v901 v907 v913 v919 v925 v931 t _ hcA hc4)).toLoadRect f9 (Shape.Idx.first (s := S1x1) (by decide))) hw
    by_cases hcb : M se < M (se + 1)
    · have hc5 := (hB _ _ hw hw').mpr hcb
      have hyy := hy hca.2
      sl_exec (disch := first | sl_exact hc4 | sl_exact hc5)
      rw [show closeOne M m x y v4 (32 * (i 0).val) gx gy (⟨se, fl, acc, dw⟩ : St F) = ⟨se + 1, true, accT zeroT x (maskT m v4 (se + 1) y), updT dw se (finT acc (gx (mk S7 ![se])) (gy (mk S7 ![se])))⟩ from by
        unfold closeOne; rw [if_pos ⟨hca.1, hca.2, hcb⟩]]
      rw [wp_ret]; imodintro
      isplitl [H2]; iexact H2
      isplitl [H3]; iexact H3
      isplitl [H9]
      · iexists f9; isplitr; swap; iexact H9; ipureintro; exact h9
      isplitl [Hx]
      · iexists fx; isplitr; swap; iexact Hx; ipureintro; exact hx
      isplitl [H15]
      · iexists f15; isplitr; swap; iexact H15; ipureintro; exact h15
      isplitl [Hy]
      · iexists _, _; isplitr; swap; iexact Hy; ipureintro; rfl
      isplitl [H10]; iexact H10
      isplitl [H16]
      · iexists _; isplitr; swap; iexact H16; ipureintro; exact read_pieces _ _ _ _ S256x640.size (by sl_kernel_rfl) (List.forall_mem_cons.mpr ⟨fun j => acc_tile hf16 hx ((View.readCov_full _ _ _ _ _).trans (mask_eq m v4 (se + 1) y (add_n se 1) ((ldAll h15 _ (zero2) _).trans hyy) (ld37 h9 _ _ _ se rfl hoP) (ld37 h9 _ _ _ (se + 1) rfl hoE))) 5 (by decide) _ _ rfl rfl _ _ j, List.forall_mem_cons.mpr ⟨fun j => acc_tile hf16 hx ((View.readCov_full _ _ _ _ _).trans (mask_eq m v4 (se + 1) y (add_n se 1) ((ldAll h15 _ (zero2) _).trans hyy) (ld37 h9 _ _ _ se rfl hoP) (ld37 h9 _ _ _ (se + 1) rfl hoE))) 4 (by decide) _ _ rfl rfl _ _ j, List.forall_mem_cons.mpr ⟨fun j => acc_tile hf16 hx ((View.readCov_full _ _ _ _ _).trans (mask_eq m v4 (se + 1) y (add_n se 1) ((ldAll h15 _ (zero2) _).trans hyy) (ld37 h9 _ _ _ se rfl hoP) (ld37 h9 _ _ _ (se + 1) rfl hoE))) 3 (by decide) _ _ rfl rfl _ _ j, List.forall_mem_cons.mpr ⟨fun j => acc_tile hf16 hx ((View.readCov_full _ _ _ _ _).trans (mask_eq m v4 (se + 1) y (add_n se 1) ((ldAll h15 _ (zero2) _).trans hyy) (ld37 h9 _ _ _ se rfl hoP) (ld37 h9 _ _ _ (se + 1) rfl hoE))) 2 (by decide) _ _ rfl rfl _ _ j, List.forall_mem_cons.mpr ⟨fun j => acc_tile hf16 hx ((View.readCov_full _ _ _ _ _).trans (mask_eq m v4 (se + 1) y (add_n se 1) ((ldAll h15 _ (zero2) _).trans hyy) (ld37 h9 _ _ _ se rfl hoP) (ld37 h9 _ _ _ (se + 1) rfl hoE))) 1 (by decide) _ _ rfl rfl _ _ j, List.forall_mem_cons.mpr ⟨fun j => acc_tile hf16 hx ((View.readCov_full _ _ _ _ _).trans (mask_eq m v4 (se + 1) y (add_n se 1) ((ldAll h15 _ (zero2) _).trans hyy) (ld37 h9 _ _ _ se rfl hoP) (ld37 h9 _ _ _ (se + 1) rfl hoE))) 0 (by decide) _ _ rfl rfl _ _ j, fun _ h => absurd h List.not_mem_nil⟩⟩⟩⟩⟩⟩)
      isplitl [Hd]; iexact Hd
      iexact HO
    · have hc5 := mt (hB _ _ hw hw').mp hcb
      sl_exec (disch := first | sl_exact hc4 | sl_exact hc5)
      rw [show closeOne M m x y v4 (32 * (i 0).val) gx gy (⟨se, fl, acc, dw⟩ : St F) = ⟨se + 1, true, zeroT, updT dw se (finT acc (gx (mk S7 ![se])) (gy (mk S7 ![se])))⟩ from by
        unfold closeOne; rw [if_neg (fun h => hcb h.2.2)]]
      rw [wp_ret]; imodintro
      isplitl [H2]; iexact H2
      isplitl [H3]; iexact H3
      isplitl [H9]
      · iexists f9; isplitr; swap; iexact H9; ipureintro; exact h9
      isplitl [Hx]
      · iexists fx; isplitr; swap; iexact Hx; ipureintro; exact hx
      isplitl [H15]
      · iexists f15; isplitr; swap; iexact H15; ipureintro; exact h15
      isplitl [Hy]
      · iexists _, _; isplitr; swap; iexact Hy; ipureintro; rfl
      isplitl [H10]; iexact H10
      isplitl [H16]
      · iexists _; isplitr; swap; iexact H16; ipureintro; exact hf16
      isplitl [Hd]; iexact Hd
      iexact HO
  · have hc4 := mt (hA _ hw).mp hca
    sl_exec (disch := sl_exact hc4)
    rw [show closeOne M m x y v4 (32 * (i 0).val) gx gy (⟨se, fl, acc, dw⟩ : St F) = ⟨se + 1, true, zeroT, updT dw se (finT acc (gx (mk S7 ![se])) (gy (mk S7 ![se])))⟩ from by
      unfold closeOne; rw [if_neg (fun h => hca ⟨h.1, h.2.1⟩)]]
    rw [wp_ret]; imodintro
    isplitl [H2]; iexact H2
    isplitl [H3]; iexact H3
    isplitl [H9]
    · iexists f9; isplitr; swap; iexact H9; ipureintro; exact h9
    isplitl [Hx]
    · iexists fx; isplitr; swap; iexact Hx; ipureintro; exact hx
    isplitl [H15]
    · iexists f15; isplitr; swap; iexact H15; ipureintro; exact h15
    isplitl [Hy]
    · iexists _, _; isplitr; swap; iexact Hy; ipureintro; rfl
    isplitl [H10]; iexact H10
    isplitl [H16]
    · iexists _; isplitr; swap; iexact H16; ipureintro; exact hf16
    isplitl [Hd]; iexact Hd
    iexact HO

section
variable (i : grid0.Coords) (v899 v901 v907 v913 v919 v925 v931 : Elt F .i32) (M : ℕ → ℕ) (m : Vec F S3x7 .i32) (hM : Meta M m) (e0 : ℕ) (he6 : e0 ≤ 6)
  (hws : v899 = BitVec.ofNat 32 e0 ∧ v901 = BitVec.ofNat 32 (M 0) ∧ v907 = BitVec.ofNat 32 (M 1) ∧ v913 = BitVec.ofNat 32 (M 2) ∧ v919 = BitVec.ofNat 32 (M 3) ∧ v925 = BitVec.ofNat 32 (M 4) ∧ v931 = BitVec.ofNat 32 (M 5))
include hM he6 hws

/-- The loop's upper bound is the number of experts that end with the chunk. -/
theorem ub_eq : (k0_t1_loop i v899 v901 v907 v913 v919 v925 v931).ub = BitVec.ofNat 32 (nFin M e0 (32 * (i 0).val)) ∧ (k0_t2_loop i v899 v901 v907 v913 v919 v925 v931) = ⟨BitVec.ofNat 32 (nFin M e0 (32 * (i 0).val)), BitVec.ofNat 32 (nFin M e0 (32 * (i 0).val)), 1#32⟩ := by
  have hi : (i 0).val < 25 := (i 0).isLt
  obtain ⟨h0, h1, h2, h3, h4, h5, h6⟩ := hws
  have hs := sumW_eq M e0 (32 * (i 0).val) he6 (by omega) (fun k hk => hM.lt k (by omega))
  obtain ⟨u1, u2, u3, u4, u5, u6⟩ := ubW_n (nFin M e0 (32 * (i 0).val)) (by have := nFin_le M e0 (32 * (i 0).val); omega)
  have hub : (k0_t1_loop i v899 v901 v907 v913 v919 v925 v931).ub = ubW (sumW v899 (Scalar.addi (Scalar.addi (Scalar.muli (BitVec.ofNat 32 (i 0).val) 32#32) 4294967280#32) 16#32) v901 v907 v913 v919 v925 v931) := rfl
  have hl2 : (k0_t2_loop i v899 v901 v907 v913 v919 v925 v931) = ⟨ubW (sumW v899 (Scalar.addi (Scalar.addi (Scalar.muli (BitVec.ofNat 32 (i 0).val) 32#32) 4294967280#32) 16#32) v901 v907 v913 v919 v925 v931),
     Scalar.addi 0#32 (Scalar.subi (sumW v899 (Scalar.addi (Scalar.addi (Scalar.muli (BitVec.ofNat 32 (i 0).val) 32#32) 4294967280#32) 16#32) v901 v907 v913 v919 v925 v931) 0#32), 1#32⟩ := rfl
  rw [hub, hl2, en0 _ hi, h0, h1, h2, h3, h4, h5, h6, hs, u1, u6]
  exact ⟨rfl, rfl⟩

theorem trips_eq : (k0_t1_loop i v899 v901 v907 v913 v919 v925 v931).trips = nFin M e0 (32 * (i 0).val) := by
  obtain ⟨u1, u2, u3, u4, u5, u6⟩ := ubW_n (nFin M e0 (32 * (i 0).val)) (by have := nFin_le M e0 (32 * (i 0).val); omega)
  show Scf.trips 0#32 (k0_t1_loop i v899 v901 v907 v913 v919 v925 v931).ub 1#32 = _
  rw [(ub_eq i v899 v901 v907 v913 v919 v925 v931 M m hM e0 he6 hws).1, u2]

theorem trips2_eq : (k0_t2_loop i v899 v901 v907 v913 v919 v925 v931).trips = 0 := by
  obtain ⟨u1, u2, u3, u4, u5, u6⟩ := ubW_n (nFin M e0 (32 * (i 0).val)) (by have := nFin_le M e0 (32 * (i 0).val); omega)
  rw [(ub_eq i v899 v901 v907 v913 v919 v925 v931 M m hM e0 he6 hws).2]
  exact u4

/-- The loops' side conditions hold. -/
theorem chk_of : k0_chk3 i v899 v901 v907 v913 v919 v925 v931 := by
  obtain ⟨u1, u2, u3, u4, u5, u6⟩ := ubW_n (nFin M e0 (32 * (i 0).val)) (by have := nFin_le M e0 (32 * (i 0).val); omega)
  have hub := ub_eq i v899 v901 v907 v913 v919 v925 v931 M m hM e0 he6 hws
  have ht := trips_eq i v899 v901 v907 v913 v919 v925 v931 M m hM e0 he6 hws
  have ht2 := trips2_eq i v899 v901 v907 v913 v919 v925 v931 M m hM e0 he6 hws
  have hn := nFin_add M e0 (32 * (i 0).val) he6
  have hv : ∀ t : Fin (k0_t1_loop i v899 v901 v907 v913 v919 v925 v931).trips, (Scalar.addi v899 (Scf.iv 0#32 1#32 t.val)).toNat = e0 + t.val ∧ e0 + t.val ≤ 5 := fun t => by
    have h := lt_of_lt_of_eq t.isLt ht
    rw [ivAdd e0 t.val v899 hws.1, toNat_n _ (by omega)]
    omega
  refine ⟨?_, fun t => ?_, fun t => ?_, fun t => ?_, ?_, fun t => absurd (lt_of_lt_of_eq t.isLt ht2) (Nat.not_lt_zero _), fun t => absurd (lt_of_lt_of_eq t.isLt ht2) (Nat.not_lt_zero _), fun t => absurd (lt_of_lt_of_eq t.isLt ht2) (Nat.not_lt_zero _)⟩
  · show Scf.OK 0#32 (k0_t1_loop i v899 v901 v907 v913 v919 v925 v931).ub 1#32
    rw [hub.1]; exact u3
  · exact inb7 _ (by show (Scalar.addi v899 (Scf.iv 0#32 1#32 t.val)).toNat ≤ 6; have := hv t; omega)
  · exact inb8 _ (by show (Scalar.addi v899 (Scf.iv 0#32 1#32 t.val)).toNat ≤ 5; have := hv t; omega) rfl rfl
  · exact inb37 _ rfl (by show (Scalar.addi v899 (Scf.iv 0#32 1#32 t.val)).toNat ≤ 6; have := hv t; omega)
  · rw [hub.2]; exact u5

end

/-- The closing loop: every expert that ends with the chunk closed. -/
theorem loop (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (v4 v898 : BitVec 32) (v899 v901 v907 v913 v919 v925 v931 : Elt F .i32) (v905 : BitVec 32) (v906 : BitVec 1) (hw3 : k0_chk3 i v899 v901 v907 v913 v919 v925 v931)
   (M : ℕ → ℕ) (m : Vec F S3x7 .i32) (hM : Meta M m) (gx gy : Vec F S7 .f32) (e0 : ℕ) (he6 : e0 ≤ 6)
   (hws : v899 = BitVec.ofNat 32 e0 ∧ v901 = BitVec.ofNat 32 (M 0) ∧ v907 = BitVec.ofNat 32 (M 1) ∧ v913 = BitVec.ofNat 32 (M 2) ∧ v919 = BitVec.ofNat 32 (M 3) ∧ v925 = BitVec.ofNat 32 (M 4) ∧ v931 = BitVec.ofNat 32 (M 5))
   (x : Vec F S256x1536 .bf16) (y ysv : Vec F S256x640 .bf16) (s : St F) (hse : s.e = e0) (hy : e0 < 6 → M e0 < 32 * (i 0).val → ysv = y)
   (R : Type) (kk : PUnit → Prog (TpuEff nD τ sig (Elt F) Λ₀ .tc) R) (Q : _ → sProp 𝕄) :
   LI c arg2 arg3 arg8 arg9 arg10 arg13 arg14 arg15 arg16 arg17 arg18 gx gy m x ysv e0 s
   ⊢ iprop((LI c arg2 arg3 arg8 arg9 arg10 arg13 arg14 arg15 arg16 arg17 arg18 gx gy m x ysv e0 ((closeOne M m x y v4 (32 * (i 0).val) gx gy)^[nFin M e0 (32 * (i 0).val)] s)
        -∗ wp frame (wpE (defs₀ (F := F)) Variants.none c none) Set.univ (kk ⟨⟩) Q)
      -∗ wp frame (wpE (defs₀ (F := F)) Variants.none c none) Set.univ
        (Scf.Loop.for (k0_t1_loop i v899 v901 v907 v913 v919 v925 v931) (k0_t1_ok i v899 v901 v907 v913 v919 v925 v931 hw3) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v4 v898 v899 v901 v905 v906 v907 v913 v919 v925 v931 hw3) >>= kk) Q) := by
  have ht := trips_eq i v899 v901 v907 v913 v919 v925 v931 M m hM e0 he6 hws
  have hn := nFin_add M e0 (32 * (i 0).val) he6
  have hbody : ∀ (t : Fin (k0_t1_loop i v899 v901 v907 v913 v919 v925 v931).trips) (acc : Unit),
      LI c arg2 arg3 arg8 arg9 arg10 arg13 arg14 arg15 arg16 arg17 arg18 gx gy m x ysv e0 ((closeOne M m x y v4 (32 * (i 0).val) gx gy)^[t.val] s)
      ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v4 v898 v899 v901 v905 v906 v907 v913 v919 v925 v931 hw3 t acc)
        (fun _ => LI c arg2 arg3 arg8 arg9 arg10 arg13 arg14 arg15 arg16 arg17 arg18 gx gy m x ysv e0 ((closeOne M m x y v4 (32 * (i 0).val) gx gy)^[t.val + 1] s)) := by
    intro t acc
    have hlt' : t.val < nFin M e0 (32 * (i 0).val) := lt_of_lt_of_eq t.isLt ht
    have hse' : (((closeOne M m x y v4 (32 * (i 0).val) gx gy)^[t.val]) s).e = e0 + t.val := by rw [closeOne_iter_e, hse]
    rw [Function.iterate_succ_apply']
    exact trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v4 v898 v899 v901 v907 v913 v919 v925 v931 v905 v906 hw3 t M m hM gx gy e0 hws.1 x y ysv (((closeOne M m x y v4 (32 * (i 0).val) gx gy)^[t.val]) s) hse' (by omega)
      (fun h => hy (by omega) (lt_of_le_of_lt (hM.mono' e0 (e0 + t.val) (by omega) (by omega)) (by rw [← hse']; exact h)))
  iintro H Hk
  have hl := Scf.wp_for_bind frame (wpE (defs₀ (F := F)) Variants.none c none) Set.univ (k0_t1_loop i v899 v901 v907 v913 v919 v925 v931).lb (k0_t1_loop i v899 v901 v907 v913 v919 v925 v931).ub (k0_t1_loop i v899 v901 v907 v913 v919 v925 v931).st (k0_t1_ok i v899 v901 v907 v913 v919 v925 v931 hw3) (⟨⟩ : Unit) (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v4 v898 v899 v901 v905 v906 v907 v913 v919 v925 v931 hw3)
    (kk := kk) (Q := Q)
    (fun k _ => LI c arg2 arg3 arg8 arg9 arg10 arg13 arg14 arg15 arg16 arg17 arg18 gx gy m x ysv e0 ((closeOne M m x y v4 (32 * (i 0).val) gx gy)^[k] s)) hbody
  iapply hl $$ [H]
  · iexact H
  · iintro %acc H
    rw [show Scf.trips (k0_t1_loop i v899 v901 v907 v913 v919 v925 v931).lb (k0_t1_loop i v899 v901 v907 v913 v919 v925 v931).ub (k0_t1_loop i v899 v901 v907 v913 v919 v925 v931).st = nFin M e0 (32 * (i 0).val) from ht]
    iapply Hk $$ H

/-- The remainder loop makes no trip. -/
theorem loop2 (c : Dev nD) (i : grid0.Coords) (v899 v901 v907 v913 v919 v925 v931 : Elt F .i32)
   (M : ℕ → ℕ) (m : Vec F S3x7 .i32) (hM : Meta M m) (e0 : ℕ) (he6 : e0 ≤ 6)
   (hws : v899 = BitVec.ofNat 32 e0 ∧ v901 = BitVec.ofNat 32 (M 0) ∧ v907 = BitVec.ofNat 32 (M 1) ∧ v913 = BitVec.ofNat 32 (M 2) ∧ v919 = BitVec.ofNat 32 (M 3) ∧ v925 = BitVec.ofNat 32 (M 4) ∧ v931 = BitVec.ofNat 32 (M 5))
   (ok : (k0_t2_loop i v899 v901 v907 v913 v919 v925 v931).OK) (body : Fin (k0_t2_loop i v899 v901 v907 v913 v919 v925 v931).trips → Unit → Prog (TpuEff nD τ sig (Elt F) Λ₀ .tc) Unit)
   (R : Type) (kk : PUnit → Prog (TpuEff nD τ sig (Elt F) Λ₀ .tc) R) (Q : _ → sProp 𝕄) :
   wp frame (wpE (defs₀ (F := F)) Variants.none c none) Set.univ (kk ⟨⟩) Q
   ⊢ wp frame (wpE (defs₀ (F := F)) Variants.none c none) Set.univ (Scf.Loop.for (k0_t2_loop i v899 v901 v907 v913 v919 v925 v931) ok ⟨⟩ body >>= kk) Q := by
  have ht := trips2_eq i v899 v901 v907 v913 v919 v925 v931 M m hM e0 he6 hws
  have hbody : ∀ (t : Fin (k0_t2_loop i v899 v901 v907 v913 v919 v925 v931).trips) (acc : Unit), wp frame (wpE (defs₀ (F := F)) Variants.none c none) Set.univ (kk ⟨⟩) Q
      ⊢ wp frame (wpE (defs₀ (F := F)) Variants.none c none) Set.univ (body t acc) (fun _ => wp frame (wpE (defs₀ (F := F)) Variants.none c none) Set.univ (kk ⟨⟩) Q) :=
    fun t => absurd (lt_of_lt_of_eq t.isLt ht) (Nat.not_lt_zero _)
  have hl := Scf.wp_for_bind frame (wpE (defs₀ (F := F)) Variants.none c none) Set.univ (k0_t2_loop i v899 v901 v907 v913 v919 v925 v931).lb (k0_t2_loop i v899 v901 v907 v913 v919 v925 v931).ub (k0_t2_loop i v899 v901 v907 v913 v919 v925 v931).st ok (⟨⟩ : Unit) body
    (kk := kk) (Q := Q) (fun _ _ => wp frame (wpE (defs₀ (F := F)) Variants.none c none) Set.univ (kk ⟨⟩) Q) hbody
  iintro H
  iapply hl $$ [H]
  · iexact H
  · iintro %acc H
    iexact H

end Cert.Kernel.Hand.T1
-- ==== Proof.Trip3.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import Idealize.ShloMosaic.Lib.Tactic.Stretches
public import proofs.«01_k».proof.Proof.Words
@[expose] public section

set_option maxRecDepth 16384

noncomputable section

namespace Cert.Kernel.Hand.T3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

cut_chain tc := k0_t3_body at 9

/-- The closing of one expert up to the copy out: the tiles multiplied into the staging buffer, the accumulator cleared. -/
theorem fin (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (v1839 v1841 v1847 v1853 v1859 v1865 v1871 : Elt F .i32) (hw3 : k0_chk10 i v1839 v1841 v1847 v1853 v1859 v1865 v1871) (t : Fin (k0_t3_loop i v1839 v1841 v1847 v1853 v1859 v1865 v1871).trips)
   (gx gy : Vec F S7 .f32) (e0 : ℕ) (fl : Bool) (W : Waits sig Unit) (he : v1839 = BitVec.ofNat 32 e0) (ht : e0 + t.val < 6)
   (acc : Vec F S1536x640 .f32) (dw : Vec F S6x1536x640 .f32) (R : Type) (κ : BitVec 32 → Prog (TpuEff nD τ sig (Elt F) Λ₀ .tc) R) (Q : _ → sProp 𝕄) :
   iprop(owns (c : Thread nD τ) arg2 fullShare gx ∗ owns (c : Thread nD τ) arg3 fullShare gy
     ∗ owns (c : Thread nD τ) arg10 fullShare (cuV (F := F) e0 fl)
     ∗ owns (c : Thread nD τ) arg16 fullShare acc ∗ DW c arg8 arg17 arg18 fl dw ∗ owes (c : Thread nD τ) 0 W)
   ⊢ iprop((∀ v : BitVec 32, ⌜v = BitVec.ofNat 32 (e0 + t.val)⌝ -∗ owns (c : Thread nD τ) arg2 fullShare gx ∗ owns (c : Thread nD τ) arg3 fullShare gy
     ∗ owns (c : Thread nD τ) arg10 fullShare (cuV (F := F) e0 true)
     ∗ owns (c : Thread nD τ) arg16 fullShare (zeroT (F := F)) ∗ DW c arg8 arg17 arg18 true (updT dw (e0 + t.val) (finT acc (gx (mk S7 ![e0 + t.val])) (gy (mk S7 ![e0 + t.val]))))
     ∗ (∃ W', owes (c : Thread nD τ) 0 W') -∗ wp frame (wpE (defs₀ (F := F)) Variants.none c none) Set.univ (κ v) Q)
    -∗ wp frame (wpE (defs₀ (F := F)) Variants.none c none) Set.univ (tc1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1839 v1841 v1847 v1853 v1859 v1865 v1871 hw3 t κ) Q) := by
  cases fl
  · rw [DW_true, DW_false]; unfold owns
    iintro ⟨⟨%f2, %h2, H2⟩, ⟨%f3, %h3, H3⟩, ⟨%f10, %h10, H10⟩, ⟨%f16, %hf16, H16⟩, ⟨Hs, ⟨%f8, %h8, H8⟩, ⟨%v17, %f17, %h17, H17⟩⟩, HO⟩ Hk
    unfold tc1
    have hc : ¬ (Scalar.cmpi .ne (Scalar.extui (Scalar.cmpi .sgt ((View.readAt (Elt F) arg10.view (Rect.unit (s := S2) ![1] S1.size inb_S2_S1_1).toLoadRect f10) (Shape.Idx.first (by decide))) 0#32)) (0#32 : BitVec 32) = 1#1) := by rw [cu1_of h10]; decide
    sl_exec (disch := sl_exact hc)
    have hw : Scalar.addi v1839 (Scf.iv 0#32 1#32 t) = BitVec.ofNat 32 (e0 + t.val) := ivAdd e0 t.val v1839 he
    have hn : (Scalar.addi v1839 (Scf.iv 0#32 1#32 t)).toNat = e0 + t.val := by rw [hw, BitVec.toNat_ofNat]; omega
    iapply Hk $$ %_ %hw
    isplitl [H2]
    · iexists f2; isplitr; swap; iexact H2; ipureintro; exact h2
    isplitl [H3]
    · iexists f3; isplitr; swap; iexact H3; ipureintro; exact h3
    isplitl [H10]
    · iexists _; isplitr; swap; iexact H10; ipureintro; exact cu1_set h10 _ _ rfl
    isplitl [H16]
    · iexists _; isplitr; swap; iexact H16; ipureintro
      exact read_pieces _ _ _ _ S128x640.size (by sl_kernel_rfl) (List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, fun _ h => absurd h List.not_mem_nil⟩⟩⟩⟩⟩⟩⟩⟩⟩⟩⟩⟩)
    isplitl [Hs]
    · iexists _, _; isplitr; swap; iexact Hs; ipureintro
      refine (read8 arg8 _ (e0 + t.val) hn rfl rfl _ _ _ _ _ dw h8).trans (congrArg (updT dw (e0 + t.val)) ?_)
      exact read_pieces _ _ _ _ S128x640.size (by sl_kernel_rfl) (List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, fun _ h => absurd h List.not_mem_nil⟩⟩⟩⟩⟩⟩⟩⟩⟩⟩⟩⟩)
    · iexists _; iexact HO
  · simp only [DW_true]; unfold owns
    iintro ⟨⟨%f2, %h2, H2⟩, ⟨%f3, %h3, H3⟩, ⟨%f10, %h10, H10⟩, ⟨%f16, %hf16, H16⟩, ⟨%f8, %f17, %h8, Hs⟩, HO⟩ Hk
    unfold tc1
    have hc : (Scalar.cmpi .ne (Scalar.extui (Scalar.cmpi .sgt ((View.readAt (Elt F) arg10.view (Rect.unit (s := S2) ![1] S1.size inb_S2_S1_1).toLoadRect f10) (Shape.Idx.first (by decide))) 0#32)) (0#32 : BitVec 32) = 1#1) := by rw [cu1_of h10]; decide
    sl_exec (disch := sl_exact hc)
    have hw : Scalar.addi v1839 (Scf.iv 0#32 1#32 t) = BitVec.ofNat 32 (e0 + t.val) := ivAdd e0 t.val v1839 he
    have hn : (Scalar.addi v1839 (Scf.iv 0#32 1#32 t)).toNat = e0 + t.val := by rw [hw, BitVec.toNat_ofNat]; omega
    iapply Hk $$ %_ %hw
    isplitl [H2]
    · iexists f2; isplitr; swap; iexact H2; ipureintro; exact h2
    isplitl [H3]
    · iexists f3; isplitr; swap; iexact H3; ipureintro; exact h3
    isplitl [H10]
    · iexists _; isplitr; swap; iexact H10; ipureintro; exact cu1_set h10 _ _ rfl
    isplitl [H16]
    · iexists _; isplitr; swap; iexact H16; ipureintro
      exact read_pieces _ _ _ _ S128x640.size (by sl_kernel_rfl) (List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, fun _ h => absurd h List.not_mem_nil⟩⟩⟩⟩⟩⟩⟩⟩⟩⟩⟩⟩)
    isplitl [Hs]
    · iexists _, _; isplitr; swap; iexact Hs; ipureintro
      refine (read8 arg8 _ (e0 + t.val) hn rfl rfl _ _ _ _ _ dw h8).trans (congrArg (updT dw (e0 + t.val)) ?_)
      exact read_pieces _ _ _ _ S128x640.size (by sl_kernel_rfl) (List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, fun _ h => absurd h List.not_mem_nil⟩⟩⟩⟩⟩⟩⟩⟩⟩⟩⟩⟩)
    · iexists _; iexact HO

/-- One trip of the closing loop: the expert closed and, where the next one has rows in the chunk, its rows accumulated. -/
theorem trip (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (v944 : BitVec 32) (v1839 v1841 v1847 v1853 v1859 v1865 v1871 : Elt F .i32)  (hw3 : k0_chk10 i v1839 v1841 v1847 v1853 v1859 v1865 v1871) (t : Fin (k0_t3_loop i v1839 v1841 v1847 v1853 v1859 v1865 v1871).trips)
   (M : ℕ → ℕ) (m : Vec F S3x7 .i32) (hM : Meta M m) (gx gy : Vec F S7 .f32) (e0 : ℕ) (he : v1839 = BitVec.ofNat 32 e0)
   (x : Vec F S256x1536 .bf16) (y ysv : Vec F S256x640 .bf16) (s : St F) (hse : s.e = e0 + t.val) (hs6 : s.e < 6) (hy : M s.e < 32 * (i 0).val + 16 → ysv = y) :
   LI c arg2 arg3 arg8 arg9 arg10 arg11 arg12 arg15 arg16 arg17 arg18 gx gy m x ysv e0 s
   ⊢ wp frame (wpE (defs₀ (F := F)) Variants.none c none) Set.univ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v944 v1839 v1841 v1847 v1853 v1859 v1865 v1871 hw3 t ())
      (fun _ => LI c arg2 arg3 arg8 arg9 arg10 arg11 arg12 arg15 arg16 arg17 arg18 gx gy m x ysv e0 (closeOne M m x y v944 (32 * (i 0).val + 16) gx gy s)) := by
  have hi : (i 0).val < 25 := (i 0).isLt
  have hiv := ivAdd e0 t.val v1839 he
  obtain ⟨se, fl, acc, dw⟩ := s
  dsimp only at hse hs6 hy
  have h1 : Scalar.addi (Scalar.addi v1839 (Scf.iv 0#32 1#32 t.val)) 1#32 = BitVec.ofNat 32 (se + 1) := by
    rw [hiv, hse]; exact add_n _ 1
  have ht6 : e0 + t.val < 6 := by omega
  have hme := hM.word se (by omega)
  have hmn := hM.word (se + 1) (by omega)
  have hMe := hM.lt se (by omega)
  have hMn := hM.lt (se + 1) (by omega)
  have hoS0 : (k0_off21 i v1839 v1841 v1847 v1853 v1859 v1865 v1871 t) 1 = se := by
    show (Scalar.addi v1839 (Scf.iv 0#32 1#32 t.val)).toNat = se
    rw [hiv, toNat_n _ (by omega), hse]
  have hoN : (k0_off22 i v1839 v1841 v1847 v1853 v1859 v1865 v1871 t) 1 = se + 1 := by
    show (Scalar.addi (Scalar.addi v1839 (Scf.iv 0#32 1#32 t.val)) 1#32).toNat = se + 1
    rw [h1, toNat_n _ (by omega)]
  have hoE : (k0_off24 i v1839 v1841 v1847 v1853 v1859 v1865 v1871 t) 1 = se + 1 := hoN
  have hoP : (k0_off23 i v1839 v1841 v1847 v1853 v1859 v1865 v1871 t) 1 = se := by
    show (Scalar.maxsi (Scalar.subi (Scalar.addi (Scalar.addi v1839 (Scf.iv 0#32 1#32 t.val)) 1#32) 1#32) 0#32).toNat = se
    rw [h1, prevW _ (by omega)]; omega
  have hA : ∀ w : BitVec 32, w = BitVec.ofNat 32 (M se) → (k0_cond11 i v1839 v1841 v1847 v1853 v1859 v1865 v1871 t w = 1#1 ↔ se + 1 < 6 ∧ M se < 32 * (i 0).val + 16) := by
    intro w hw
    show condA (Scalar.addi (Scalar.addi v1839 (Scf.iv 0#32 1#32 t.val)) 1#32) w _ = 1#1 ↔ _
    rw [h1, hw, en1 (i 0).val hi]
    exact condA_iff _ _ _ (by omega) hMe (by omega)
  have hB : ∀ w w' : BitVec 32, w = BitVec.ofNat 32 (M se) → w' = BitVec.ofNat 32 (M (se + 1)) → (k0_cond12 w w' = 1#1 ↔ M se < M (se + 1)) := by
    intro w w' hw hw'
    show condB w w' = 1#1 ↔ _
    rw [hw, hw']
    exact condB_iff _ _ hMe hMn
  have hchkA : ∀ w : BitVec 32, w = BitVec.ofNat 32 (M se) → k0_chk11 i v1839 v1841 v1847 v1853 v1859 v1865 v1871 t w := fun w hw =>
    fun h4 => inb37 _ rfl (by rw [hoN]; have := ((hA w hw).mp h4).1; omega)
  have hchkB : ∀ w w' : BitVec 32, w = BitVec.ofNat 32 (M se) → k0_chk12 i v1839 v1841 v1847 v1853 v1859 v1865 v1871 t w w' := fun w w' hw =>
    ⟨fun h4 h5 => inb37 _ rfl (by rw [hoP]; omega), fun h4 h5 => inb37 _ rfl (by rw [hoE]; have := ((hA w hw).mp h4).1; omega)⟩
  rw [tc1.eq]
  unfold LI
  iintro ⟨H2, H3, H9, Hx, H15, Hy, H10, H16, Hd, ⟨%W, HO⟩⟩
  iapply (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1839 v1841 v1847 v1853 v1859 v1865 v1871 hw3 t gx gy e0 fl W he ht6 acc dw _ _ _) $$ [H2 H3 H10 H16 Hd HO]
  · isplitl [H2]; iexact H2
    isplitl [H3]; iexact H3
    isplitl [H10]; iexact H10
    isplitl [H16]; iexact H16
    isplitl [Hd]; iexact Hd
    iexact HO
  iintro %v %hv ⟨H2, H3, H10, H16, Hd, HO⟩
  subst hv
  rw [← hse]
  unfold owns
  icases H9 with ⟨%f9, %h9, H9⟩
  icases Hx with ⟨%fx, %hx, Hx⟩
  icases H15 with ⟨%f15, %h15, H15⟩
  icases Hy with ⟨%yb, %fy, %hyb, Hy⟩
  icases H16 with ⟨%f16, %hf16, H16⟩
  unfold tc1.tail
  have hw : View.readAt (Elt F) arg9.view (Rect.unit (s := S3x7) (k0_off21 i v1839 v1841 v1847 v1853 v1859 v1865 v1871 t) S1x1.size (k0_off21_inb i v1839 v1841 v1847 v1853 v1859 v1865 v1871 hw3 t)).toLoadRect f9 (Shape.Idx.first (s := S1x1) (by decide)) = BitVec.ofNat 32 (M se) :=
    (ld37 h9 _ _ _ se rfl hoS0).trans hme
  have hcA := hchkA _ hw
  by_cases hca : se + 1 < 6 ∧ M se < 32 * (i 0).val + 16
  · have hc4 := (hA _ hw).mpr hca
    have hw' : View.readAt (Elt F) arg9.view (Rect.unit (s := S3x7) (k0_off22 i v1839 v1841 v1847 v1853 v1859 v1865 v1871 t) S1x1.size (k0_off22_inb i v1839 v1841 v1847 v1853 v1859 v1865 v1871 t _ hcA hc4)).toLoadRect f9 (Shape.Idx.first (s := S1x1) (by decide)) = BitVec.ofNat 32 (M (se + 1)) :=
      (ld37 h9 _ _ _ (se + 1) rfl hoN).trans hmn
    have hcB := hchkB _ (View.readAt (Elt F) arg9.view (Rect.unit (s := S3x7) (k0_off22 i v1839 v1841 v1847 v1853 v1859 v1865 v1871 t) S1x1.size (k0_off22_inb i v1839 v1841 v1847 v1853 v1859 v1865 v1871 t _ hcA hc4)).toLoadRect f9 (Shape.Idx.first (s := S1x1) (by decide))) hw
    by_cases hcb : M se < M (se + 1)
    · have hc5 := (hB _ _ hw hw').mpr hcb
      have hyy := hy hca.2
      sl_exec (disch := first | sl_exact hc4 | sl_exact hc5)
      rw [show closeOne M m x y v944 (32 * (i 0).val + 16) gx gy (⟨se, fl, acc, dw⟩ : St F) = ⟨se + 1, true, accT zeroT x (maskT m v944 (se + 1) y), updT dw se (finT acc (gx (mk S7 ![se])) (gy (mk S7 ![se])))⟩ from by
        unfold closeOne; rw [if_pos ⟨hca.1, hca.2, hcb⟩]]
      rw [wp_ret]; imodintro
      isplitl [H2]; iexact H2
      isplitl [H3]; iexact H3
      isplitl [H9]
      · iexists f9; isplitr; swap; iexact H9; ipureintro; exact h9
      isplitl [Hx]
      · iexists fx; isplitr; swap; iexact Hx; ipureintro; exact hx
      isplitl [H15]
      · iexists f15; isplitr; swap; iexact H15; ipureintro; exact h15
      isplitl [Hy]
      · iexists _, _; isplitr; swap; iexact Hy; ipureintro; rfl
      isplitl [H10]; iexact H10
      isplitl [H16]
      · iexists _; isplitr; swap; iexact H16; ipureintro; exact read_pieces _ _ _ _ S256x640.size (by sl_kernel_rfl) (List.forall_mem_cons.mpr ⟨fun j => acc_tile hf16 hx ((View.readCov_full _ _ _ _ _).trans (mask_eq m v944 (se + 1) y (add_n se 1) ((ldAll h15 _ (zero2) _).trans hyy) (ld37 h9 _ _ _ se rfl hoP) (ld37 h9 _ _ _ (se + 1) rfl hoE))) 5 (by decide) _ _ rfl rfl _ _ j, List.forall_mem_cons.mpr ⟨fun j => acc_tile hf16 hx ((View.readCov_full _ _ _ _ _).trans (mask_eq m v944 (se + 1) y (add_n se 1) ((ldAll h15 _ (zero2) _).trans hyy) (ld37 h9 _ _ _ se rfl hoP) (ld37 h9 _ _ _ (se + 1) rfl hoE))) 4 (by decide) _ _ rfl rfl _ _ j, List.forall_mem_cons.mpr ⟨fun j => acc_tile hf16 hx ((View.readCov_full _ _ _ _ _).trans (mask_eq m v944 (se + 1) y (add_n se 1) ((ldAll h15 _ (zero2) _).trans hyy) (ld37 h9 _ _ _ se rfl hoP) (ld37 h9 _ _ _ (se + 1) rfl hoE))) 3 (by decide) _ _ rfl rfl _ _ j, List.forall_mem_cons.mpr ⟨fun j => acc_tile hf16 hx ((View.readCov_full _ _ _ _ _).trans (mask_eq m v944 (se + 1) y (add_n se 1) ((ldAll h15 _ (zero2) _).trans hyy) (ld37 h9 _ _ _ se rfl hoP) (ld37 h9 _ _ _ (se + 1) rfl hoE))) 2 (by decide) _ _ rfl rfl _ _ j, List.forall_mem_cons.mpr ⟨fun j => acc_tile hf16 hx ((View.readCov_full _ _ _ _ _).trans (mask_eq m v944 (se + 1) y (add_n se 1) ((ldAll h15 _ (zero2) _).trans hyy) (ld37 h9 _ _ _ se rfl hoP) (ld37 h9 _ _ _ (se + 1) rfl hoE))) 1 (by decide) _ _ rfl rfl _ _ j, List.forall_mem_cons.mpr ⟨fun j => acc_tile hf16 hx ((View.readCov_full _ _ _ _ _).trans (mask_eq m v944 (se + 1) y (add_n se 1) ((ldAll h15 _ (zero2) _).trans hyy) (ld37 h9 _ _ _ se rfl hoP) (ld37 h9 _ _ _ (se + 1) rfl hoE))) 0 (by decide) _ _ rfl rfl _ _ j, fun _ h => absurd h List.not_mem_nil⟩⟩⟩⟩⟩⟩)
      isplitl [Hd]; iexact Hd
      iexact HO
    · have hc5 := mt (hB _ _ hw hw').mp hcb
      sl_exec (disch := first | sl_exact hc4 | sl_exact hc5)
      rw [show closeOne M m x y v944 (32 * (i 0).val + 16) gx gy (⟨se, fl, acc, dw⟩ : St F) = ⟨se + 1, true, zeroT, updT dw se (finT acc (gx (mk S7 ![se])) (gy (mk S7 ![se])))⟩ from by
        unfold closeOne; rw [if_neg (fun h => hcb h.2.2)]]
      rw [wp_ret]; imodintro
      isplitl [H2]; iexact H2
      isplitl [H3]; iexact H3
      isplitl [H9]
      · iexists f9; isplitr; swap; iexact H9; ipureintro; exact h9
      isplitl [Hx]
      · iexists fx; isplitr; swap; iexact Hx; ipureintro; exact hx
      isplitl [H15]
      · iexists f15; isplitr; swap; iexact H15; ipureintro; exact h15
      isplitl [Hy]
      · iexists _, _; isplitr; swap; iexact Hy; ipureintro; rfl
      isplitl [H10]; iexact H10
      isplitl [H16]
      · iexists _; isplitr; swap; iexact H16; ipureintro; exact hf16
      isplitl [Hd]; iexact Hd
      iexact HO
  · have hc4 := mt (hA _ hw).mp hca
    sl_exec (disch := sl_exact hc4)
    rw [show closeOne M m x y v944 (32 * (i 0).val + 16) gx gy (⟨se, fl, acc, dw⟩ : St F) = ⟨se + 1, true, zeroT, updT dw se (finT acc (gx (mk S7 ![se])) (gy (mk S7 ![se])))⟩ from by
      unfold closeOne; rw [if_neg (fun h => hca ⟨h.1, h.2.1⟩)]]
    rw [wp_ret]; imodintro
    isplitl [H2]; iexact H2
    isplitl [H3]; iexact H3
    isplitl [H9]
    · iexists f9; isplitr; swap; iexact H9; ipureintro; exact h9
    isplitl [Hx]
    · iexists fx; isplitr; swap; iexact Hx; ipureintro; exact hx
    isplitl [H15]
    · iexists f15; isplitr; swap; iexact H15; ipureintro; exact h15
    isplitl [Hy]
    · iexists _, _; isplitr; swap; iexact Hy; ipureintro; rfl
    isplitl [H10]; iexact H10
    isplitl [H16]
    · iexists _; isplitr; swap; iexact H16; ipureintro; exact hf16
    isplitl [Hd]; iexact Hd
    iexact HO

section
variable (i : grid0.Coords) (v1839 v1841 v1847 v1853 v1859 v1865 v1871 : Elt F .i32) (M : ℕ → ℕ) (m : Vec F S3x7 .i32) (hM : Meta M m) (e0 : ℕ) (he6 : e0 ≤ 6)
  (hws : v1839 = BitVec.ofNat 32 e0 ∧ v1841 = BitVec.ofNat 32 (M 0) ∧ v1847 = BitVec.ofNat 32 (M 1) ∧ v1853 = BitVec.ofNat 32 (M 2) ∧ v1859 = BitVec.ofNat 32 (M 3) ∧ v1865 = BitVec.ofNat 32 (M 4) ∧ v1871 = BitVec.ofNat 32 (M 5))
include hM he6 hws

/-- The loop's upper bound is the number of experts that end with the chunk. -/
theorem ub_eq : (k0_t3_loop i v1839 v1841 v1847 v1853 v1859 v1865 v1871).ub = BitVec.ofNat 32 (nFin M e0 (32 * (i 0).val + 16)) ∧ (k0_t4_loop i v1839 v1841 v1847 v1853 v1859 v1865 v1871) = ⟨BitVec.ofNat 32 (nFin M e0 (32 * (i 0).val + 16)), BitVec.ofNat 32 (nFin M e0 (32 * (i 0).val + 16)), 1#32⟩ := by
  have hi : (i 0).val < 25 := (i 0).isLt
  obtain ⟨h0, h1, h2, h3, h4, h5, h6⟩ := hws
  have hs := sumW_eq M e0 (32 * (i 0).val + 16) he6 (by omega) (fun k hk => hM.lt k (by omega))
  obtain ⟨u1, u2, u3, u4, u5, u6⟩ := ubW_n (nFin M e0 (32 * (i 0).val + 16)) (by have := nFin_le M e0 (32 * (i 0).val + 16); omega)
  have hub : (k0_t3_loop i v1839 v1841 v1847 v1853 v1859 v1865 v1871).ub = ubW (sumW v1839 (Scalar.addi (Scalar.addi (Scalar.muli (BitVec.ofNat 32 (i 0).val) 32#32) 0#32) 16#32) v1841 v1847 v1853 v1859 v1865 v1871) := rfl
  have hl2 : (k0_t4_loop i v1839 v1841 v1847 v1853 v1859 v1865 v1871) = ⟨ubW (sumW v1839 (Scalar.addi (Scalar.addi (Scalar.muli (BitVec.ofNat 32 (i 0).val) 32#32) 0#32) 16#32) v1841 v1847 v1853 v1859 v1865 v1871),
     Scalar.addi 0#32 (Scalar.subi (sumW v1839 (Scalar.addi (Scalar.addi (Scalar.muli (BitVec.ofNat 32 (i 0).val) 32#32) 0#32) 16#32) v1841 v1847 v1853 v1859 v1865 v1871) 0#32), 1#32⟩ := rfl
  rw [hub, hl2, en1 _ hi, h0, h1, h2, h3, h4, h5, h6, hs, u1, u6]
  exact ⟨rfl, rfl⟩

theorem trips_eq : (k0_t3_loop i v1839 v1841 v1847 v1853 v1859 v1865 v1871).trips = nFin M e0 (32 * (i 0).val + 16) := by
  obtain ⟨u1, u2, u3, u4, u5, u6⟩ := ubW_n (nFin M e0 (32 * (i 0).val + 16)) (by have := nFin_le M e0 (32 * (i 0).val + 16); omega)
  show Scf.trips 0#32 (k0_t3_loop i v1839 v1841 v1847 v1853 v1859 v1865 v1871).ub 1#32 = _
  rw [(ub_eq i v1839 v1841 v1847 v1853 v1859 v1865 v1871 M m hM e0 he6 hws).1, u2]

theorem trips2_eq : (k0_t4_loop i v1839 v1841 v1847 v1853 v1859 v1865 v1871).trips = 0 := by
  obtain ⟨u1, u2, u3, u4, u5, u6⟩ := ubW_n (nFin M e0 (32 * (i 0).val + 16)) (by have := nFin_le M e0 (32 * (i 0).val + 16); omega)
  rw [(ub_eq i v1839 v1841 v1847 v1853 v1859 v1865 v1871 M m hM e0 he6 hws).2]
  exact u4

/-- The loops' side conditions hold. -/
theorem chk_of : k0_chk10 i v1839 v1841 v1847 v1853 v1859 v1865 v1871 := by
  obtain ⟨u1, u2, u3, u4, u5, u6⟩ := ubW_n (nFin M e0 (32 * (i 0).val + 16)) (by have := nFin_le M e0 (32 * (i 0).val + 16); omega)
  have hub := ub_eq i v1839 v1841 v1847 v1853 v1859 v1865 v1871 M m hM e0 he6 hws
  have ht := trips_eq i v1839 v1841 v1847 v1853 v1859 v1865 v1871 M m hM e0 he6 hws
  have ht2 := trips2_eq i v1839 v1841 v1847 v1853 v1859 v1865 v1871 M m hM e0 he6 hws
  have hn := nFin_add M e0 (32 * (i 0).val + 16) he6
  have hv : ∀ t : Fin (k0_t3_loop i v1839 v1841 v1847 v1853 v1859 v1865 v1871).trips, (Scalar.addi v1839 (Scf.iv 0#32 1#32 t.val)).toNat = e0 + t.val ∧ e0 + t.val ≤ 5 := fun t => by
    have h := lt_of_lt_of_eq t.isLt ht
    rw [ivAdd e0 t.val v1839 hws.1, toNat_n _ (by omega)]
    omega
  refine ⟨?_, fun t => ?_, fun t => ?_, fun t => ?_, ?_, fun t => absurd (lt_of_lt_of_eq t.isLt ht2) (Nat.not_lt_zero _), fun t => absurd (lt_of_lt_of_eq t.isLt ht2) (Nat.not_lt_zero _), fun t => absurd (lt_of_lt_of_eq t.isLt ht2) (Nat.not_lt_zero _)⟩
  · show Scf.OK 0#32 (k0_t3_loop i v1839 v1841 v1847 v1853 v1859 v1865 v1871).ub 1#32
    rw [hub.1]; exact u3
  · exact inb7 _ (by show (Scalar.addi v1839 (Scf.iv 0#32 1#32 t.val)).toNat ≤ 6; have := hv t; omega)
  · exact inb8 _ (by show (Scalar.addi v1839 (Scf.iv 0#32 1#32 t.val)).toNat ≤ 5; have := hv t; omega) rfl rfl
  · exact inb37 _ rfl (by show (Scalar.addi v1839 (Scf.iv 0#32 1#32 t.val)).toNat ≤ 6; have := hv t; omega)
  · rw [hub.2]; exact u5

end

/-- The closing loop: every expert that ends with the chunk closed. -/
theorem loop (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (v944 : BitVec 32) (v1839 v1841 v1847 v1853 v1859 v1865 v1871 : Elt F .i32)  (hw3 : k0_chk10 i v1839 v1841 v1847 v1853 v1859 v1865 v1871)
   (M : ℕ → ℕ) (m : Vec F S3x7 .i32) (hM : Meta M m) (gx gy : Vec F S7 .f32) (e0 : ℕ) (he6 : e0 ≤ 6)
   (hws : v1839 = BitVec.ofNat 32 e0 ∧ v1841 = BitVec.ofNat 32 (M 0) ∧ v1847 = BitVec.ofNat 32 (M 1) ∧ v1853 = BitVec.ofNat 32 (M 2) ∧ v1859 = BitVec.ofNat 32 (M 3) ∧ v1865 = BitVec.ofNat 32 (M 4) ∧ v1871 = BitVec.ofNat 32 (M 5))
   (x : Vec F S256x1536 .bf16) (y ysv : Vec F S256x640 .bf16) (s : St F) (hse : s.e = e0) (hy : e0 < 6 → M e0 < 32 * (i 0).val + 16 → ysv = y)
   (R : Type) (kk : PUnit → Prog (TpuEff nD τ sig (Elt F) Λ₀ .tc) R) (Q : _ → sProp 𝕄) :
   LI c arg2 arg3 arg8 arg9 arg10 arg11 arg12 arg15 arg16 arg17 arg18 gx gy m x ysv e0 s
   ⊢ iprop((LI c arg2 arg3 arg8 arg9 arg10 arg11 arg12 arg15 arg16 arg17 arg18 gx gy m x ysv e0 ((closeOne M m x y v944 (32 * (i 0).val + 16) gx gy)^[nFin M e0 (32 * (i 0).val + 16)] s)
        -∗ wp frame (wpE (defs₀ (F := F)) Variants.none c none) Set.univ (kk ⟨⟩) Q)
      -∗ wp frame (wpE (defs₀ (F := F)) Variants.none c none) Set.univ
        (Scf.Loop.for (k0_t3_loop i v1839 v1841 v1847 v1853 v1859 v1865 v1871) (k0_t3_ok i v1839 v1841 v1847 v1853 v1859 v1865 v1871 hw3) ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v944 v1839 v1841 v1847 v1853 v1859 v1865 v1871 hw3) >>= kk) Q) := by
  have ht := trips_eq i v1839 v1841 v1847 v1853 v1859 v1865 v1871 M m hM e0 he6 hws
  have hn := nFin_add M e0 (32 * (i 0).val + 16) he6
  have hbody : ∀ (t : Fin (k0_t3_loop i v1839 v1841 v1847 v1853 v1859 v1865 v1871).trips) (acc : Unit),
      LI c arg2 arg3 arg8 arg9 arg10 arg11 arg12 arg15 arg16 arg17 arg18 gx gy m x ysv e0 ((closeOne M m x y v944 (32 * (i 0).val + 16) gx gy)^[t.val] s)
      ⊢ wp frame (wpE (defs₀ (F := F)) Variants.none c none) Set.univ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v944 v1839 v1841 v1847 v1853 v1859 v1865 v1871 hw3 t acc)
        (fun _ => LI c arg2 arg3 arg8 arg9 arg10 arg11 arg12 arg15 arg16 arg17 arg18 gx gy m x ysv e0 ((closeOne M m x y v944 (32 * (i 0).val + 16) gx gy)^[t.val + 1] s)) := by
    intro t acc
    have hlt' : t.val < nFin M e0 (32 * (i 0).val + 16) := lt_of_lt_of_eq t.isLt ht
    have hse' : (((closeOne M m x y v944 (32 * (i 0).val + 16) gx gy)^[t.val]) s).e = e0 + t.val := by rw [closeOne_iter_e, hse]
    rw [Function.iterate_succ_apply']
    exact trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v944 v1839 v1841 v1847 v1853 v1859 v1865 v1871 hw3 t M m hM gx gy e0 hws.1 x y ysv (((closeOne M m x y v944 (32 * (i 0).val + 16) gx gy)^[t.val]) s) hse' (by omega)
      (fun h => hy (by omega) (lt_of_le_of_lt (hM.mono' e0 (e0 + t.val) (by omega) (by omega)) (by rw [← hse']; exact h)))
  iintro H Hk
  have hl := Scf.wp_for_bind frame (wpE (defs₀ (F := F)) Variants.none c none) Set.univ (k0_t3_loop i v1839 v1841 v1847 v1853 v1859 v1865 v1871).lb (k0_t3_loop i v1839 v1841 v1847 v1853 v1859 v1865 v1871).ub (k0_t3_loop i v1839 v1841 v1847 v1853 v1859 v1865 v1871).st (k0_t3_ok i v1839 v1841 v1847 v1853 v1859 v1865 v1871 hw3) (⟨⟩ : Unit) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v944 v1839 v1841 v1847 v1853 v1859 v1865 v1871 hw3)
    (kk := kk) (Q := Q)
    (fun k _ => LI c arg2 arg3 arg8 arg9 arg10 arg11 arg12 arg15 arg16 arg17 arg18 gx gy m x ysv e0 ((closeOne M m x y v944 (32 * (i 0).val + 16) gx gy)^[k] s)) hbody
  iapply hl $$ [H]
  · iexact H
  · iintro %acc H
    rw [show Scf.trips (k0_t3_loop i v1839 v1841 v1847 v1853 v1859 v1865 v1871).lb (k0_t3_loop i v1839 v1841 v1847 v1853 v1859 v1865 v1871).ub (k0_t3_loop i v1839 v1841 v1847 v1853 v1859 v1865 v1871).st = nFin M e0 (32 * (i 0).val + 16) from ht]
    iapply Hk $$ H

/-- The remainder loop makes no trip. -/
theorem loop2 (c : Dev nD) (i : grid0.Coords) (v1839 v1841 v1847 v1853 v1859 v1865 v1871 : Elt F .i32)
   (M : ℕ → ℕ) (m : Vec F S3x7 .i32) (hM : Meta M m) (e0 : ℕ) (he6 : e0 ≤ 6)
   (hws : v1839 = BitVec.ofNat 32 e0 ∧ v1841 = BitVec.ofNat 32 (M 0) ∧ v1847 = BitVec.ofNat 32 (M 1) ∧ v1853 = BitVec.ofNat 32 (M 2) ∧ v1859 = BitVec.ofNat 32 (M 3) ∧ v1865 = BitVec.ofNat 32 (M 4) ∧ v1871 = BitVec.ofNat 32 (M 5))
   (ok : (k0_t4_loop i v1839 v1841 v1847 v1853 v1859 v1865 v1871).OK) (body : Fin (k0_t4_loop i v1839 v1841 v1847 v1853 v1859 v1865 v1871).trips → Unit → Prog (TpuEff nD τ sig (Elt F) Λ₀ .tc) Unit)
   (R : Type) (kk : PUnit → Prog (TpuEff nD τ sig (Elt F) Λ₀ .tc) R) (Q : _ → sProp 𝕄) :
   wp frame (wpE (defs₀ (F := F)) Variants.none c none) Set.univ (kk ⟨⟩) Q
   ⊢ wp frame (wpE (defs₀ (F := F)) Variants.none c none) Set.univ (Scf.Loop.for (k0_t4_loop i v1839 v1841 v1847 v1853 v1859 v1865 v1871) ok ⟨⟩ body >>= kk) Q := by
  have ht := trips2_eq i v1839 v1841 v1847 v1853 v1859 v1865 v1871 M m hM e0 he6 hws
  have hbody : ∀ (t : Fin (k0_t4_loop i v1839 v1841 v1847 v1853 v1859 v1865 v1871).trips) (acc : Unit), wp frame (wpE (defs₀ (F := F)) Variants.none c none) Set.univ (kk ⟨⟩) Q
      ⊢ wp frame (wpE (defs₀ (F := F)) Variants.none c none) Set.univ (body t acc) (fun _ => wp frame (wpE (defs₀ (F := F)) Variants.none c none) Set.univ (kk ⟨⟩) Q) :=
    fun t => absurd (lt_of_lt_of_eq t.isLt ht) (Nat.not_lt_zero _)
  have hl := Scf.wp_for_bind frame (wpE (defs₀ (F := F)) Variants.none c none) Set.univ (k0_t4_loop i v1839 v1841 v1847 v1853 v1859 v1865 v1871).lb (k0_t4_loop i v1839 v1841 v1847 v1853 v1859 v1865 v1871).ub (k0_t4_loop i v1839 v1841 v1847 v1853 v1859 v1865 v1871).st ok (⟨⟩ : Unit) body
    (kk := kk) (Q := Q) (fun _ _ => wp frame (wpE (defs₀ (F := F)) Variants.none c none) Set.univ (kk ⟨⟩) Q) hbody
  iintro H
  iapply hl $$ [H]
  · iexact H
  · iintro %acc H
    iexact H

end Cert.Kernel.Hand.T3
-- ==== Proof.Trip5.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import Idealize.ShloMosaic.Lib.Tactic.Stretches
public import proofs.«01_k».proof.Proof.Words
@[expose] public section

set_option maxRecDepth 16384

noncomputable section

namespace Cert.Kernel.Hand.T5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

cut_chain td := k0_t5_body at 9

/-- The closing of one expert up to the copy out: the tiles multiplied into the staging buffer, the accumulator cleared. -/
theorem fin (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (h16 : k0_cond16 i = 1#1) (v1946 v1948 v1954 v1960 v1966 v1972 v1978 : Elt F .i32) (hw3 : k0_chk17 i v1946 v1948 v1954 v1960 v1966 v1972 v1978) (t : Fin (k0_t5_loop i v1946 v1948 v1954 v1960 v1966 v1972 v1978).trips)
   (gx gy : Vec F S7 .f32) (e0 : ℕ) (fl : Bool) (W : Waits sig Unit) (he : v1946 = BitVec.ofNat 32 e0) (ht : e0 + t.val < 6)
   (acc : Vec F S1536x640 .f32) (dw : Vec F S6x1536x640 .f32) (R : Type) (κ : BitVec 32 → Prog (TpuEff nD τ sig (Elt F) Λ₀ .tc) R) (Q : _ → sProp 𝕄) :
   iprop(owns (c : Thread nD τ) arg2 fullShare gx ∗ owns (c : Thread nD τ) arg3 fullShare gy
     ∗ owns (c : Thread nD τ) arg10 fullShare (cuV (F := F) e0 fl)
     ∗ owns (c : Thread nD τ) arg16 fullShare acc ∗ DW c arg8 arg17 arg18 fl dw ∗ owes (c : Thread nD τ) 0 W)
   ⊢ iprop((∀ v : BitVec 32, ⌜v = BitVec.ofNat 32 (e0 + t.val)⌝ -∗ owns (c : Thread nD τ) arg2 fullShare gx ∗ owns (c : Thread nD τ) arg3 fullShare gy
     ∗ owns (c : Thread nD τ) arg10 fullShare (cuV (F := F) e0 true)
     ∗ owns (c : Thread nD τ) arg16 fullShare (zeroT (F := F)) ∗ DW c arg8 arg17 arg18 true (updT dw (e0 + t.val) (finT acc (gx (mk S7 ![e0 + t.val])) (gy (mk S7 ![e0 + t.val]))))
     ∗ (∃ W', owes (c : Thread nD τ) 0 W') -∗ wp frame (wpE (defs₀ (F := F)) Variants.none c none) Set.univ (κ v) Q)
    -∗ wp frame (wpE (defs₀ (F := F)) Variants.none c none) Set.univ (td1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 v1946 v1948 v1954 v1960 v1966 v1972 v1978 hw3 t κ) Q) := by
  cases fl
  · rw [DW_true, DW_false]; unfold owns
    iintro ⟨⟨%f2, %h2, H2⟩, ⟨%f3, %h3, H3⟩, ⟨%f10, %h10, H10⟩, ⟨%f16, %hf16, H16⟩, ⟨Hs, ⟨%f8, %h8, H8⟩, ⟨%v17, %f17, %h17, H17⟩⟩, HO⟩ Hk
    unfold td1
    have hc : ¬ (Scalar.cmpi .ne (Scalar.extui (Scalar.cmpi .sgt ((View.readAt (Elt F) arg10.view (Rect.unit (s := S2) ![1] S1.size inb_S2_S1_1).toLoadRect f10) (Shape.Idx.first (by decide))) 0#32)) (0#32 : BitVec 32) = 1#1) := by rw [cu1_of h10]; decide
    sl_exec (disch := sl_exact hc)
    have hw : Scalar.addi v1946 (Scf.iv 0#32 1#32 t) = BitVec.ofNat 32 (e0 + t.val) := ivAdd e0 t.val v1946 he
    have hn : (Scalar.addi v1946 (Scf.iv 0#32 1#32 t)).toNat = e0 + t.val := by rw [hw, BitVec.toNat_ofNat]; omega
    iapply Hk $$ %_ %hw
    isplitl [H2]
    · iexists f2; isplitr; swap; iexact H2; ipureintro; exact h2
    isplitl [H3]
    · iexists f3; isplitr; swap; iexact H3; ipureintro; exact h3
    isplitl [H10]
    · iexists _; isplitr; swap; iexact H10; ipureintro; exact cu1_set h10 _ _ rfl
    isplitl [H16]
    · iexists _; isplitr; swap; iexact H16; ipureintro
      exact read_pieces _ _ _ _ S128x640.size (by sl_kernel_rfl) (List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, fun _ h => absurd h List.not_mem_nil⟩⟩⟩⟩⟩⟩⟩⟩⟩⟩⟩⟩)
    isplitl [Hs]
    · iexists _, _; isplitr; swap; iexact Hs; ipureintro
      refine (read8 arg8 _ (e0 + t.val) hn rfl rfl _ _ _ _ _ dw h8).trans (congrArg (updT dw (e0 + t.val)) ?_)
      exact read_pieces _ _ _ _ S128x640.size (by sl_kernel_rfl) (List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, fun _ h => absurd h List.not_mem_nil⟩⟩⟩⟩⟩⟩⟩⟩⟩⟩⟩⟩)
    · iexists _; iexact HO
  · simp only [DW_true]; unfold owns
    iintro ⟨⟨%f2, %h2, H2⟩, ⟨%f3, %h3, H3⟩, ⟨%f10, %h10, H10⟩, ⟨%f16, %hf16, H16⟩, ⟨%f8, %f17, %h8, Hs⟩, HO⟩ Hk
    unfold td1
    have hc : (Scalar.cmpi .ne (Scalar.extui (Scalar.cmpi .sgt ((View.readAt (Elt F) arg10.view (Rect.unit (s := S2) ![1] S1.size inb_S2_S1_1).toLoadRect f10) (Shape.Idx.first (by decide))) 0#32)) (0#32 : BitVec 32) = 1#1) := by rw [cu1_of h10]; decide
    sl_exec (disch := sl_exact hc)
    have hw : Scalar.addi v1946 (Scf.iv 0#32 1#32 t) = BitVec.ofNat 32 (e0 + t.val) := ivAdd e0 t.val v1946 he
    have hn : (Scalar.addi v1946 (Scf.iv 0#32 1#32 t)).toNat = e0 + t.val := by rw [hw, BitVec.toNat_ofNat]; omega
    iapply Hk $$ %_ %hw
    isplitl [H2]
    · iexists f2; isplitr; swap; iexact H2; ipureintro; exact h2
    isplitl [H3]
    · iexists f3; isplitr; swap; iexact H3; ipureintro; exact h3
    isplitl [H10]
    · iexists _; isplitr; swap; iexact H10; ipureintro; exact cu1_set h10 _ _ rfl
    isplitl [H16]
    · iexists _; isplitr; swap; iexact H16; ipureintro
      exact read_pieces _ _ _ _ S128x640.size (by sl_kernel_rfl) (List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, List.forall_mem_cons.mpr ⟨fun x => zero_tile x _, fun _ h => absurd h List.not_mem_nil⟩⟩⟩⟩⟩⟩⟩⟩⟩⟩⟩⟩)
    isplitl [Hs]
    · iexists _, _; isplitr; swap; iexact Hs; ipureintro
      refine (read8 arg8 _ (e0 + t.val) hn rfl rfl _ _ _ _ _ dw h8).trans (congrArg (updT dw (e0 + t.val)) ?_)
      exact read_pieces _ _ _ _ S128x640.size (by sl_kernel_rfl) (List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, List.forall_mem_cons.mpr ⟨fun x => fin_tile hf16 (ld7 h2 _ _ _ (e0 + t.val) hn) (ld7 h3 _ _ _ (e0 + t.val) hn) _ _ x, fun _ h => absurd h List.not_mem_nil⟩⟩⟩⟩⟩⟩⟩⟩⟩⟩⟩⟩)
    · iexists _; iexact HO

/-- One trip of the closing loop: the expert closed and, where the next one has rows in the chunk, its rows accumulated. -/
theorem trip (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (h16 : k0_cond16 i = 1#1) (v1887 : BitVec 32) (v1946 v1948 v1954 v1960 v1966 v1972 v1978 : Elt F .i32)  (hw3 : k0_chk17 i v1946 v1948 v1954 v1960 v1966 v1972 v1978) (t : Fin (k0_t5_loop i v1946 v1948 v1954 v1960 v1966 v1972 v1978).trips)
   (M : ℕ → ℕ) (m : Vec F S3x7 .i32) (hM : Meta M m) (gx gy : Vec F S7 .f32) (e0 : ℕ) (he : v1946 = BitVec.ofNat 32 e0)
   (x : Vec F S256x1536 .bf16) (y ysv : Vec F S256x640 .bf16) (s : St F) (hse : s.e = e0 + t.val) (hs6 : s.e < 6) (hy : M s.e < 32 * (i 0).val + 32 → ysv = y) :
   LI c arg2 arg3 arg8 arg9 arg10 arg13 arg14 arg15 arg16 arg17 arg18 gx gy m x ysv e0 s
   ⊢ wp frame (wpE (defs₀ (F := F)) Variants.none c none) Set.univ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 v1887 v1946 v1948 v1954 v1960 v1966 v1972 v1978 hw3 t ())
      (fun _ => LI c arg2 arg3 arg8 arg9 arg10 arg13 arg14 arg15 arg16 arg17 arg18 gx gy m x ysv e0 (closeOne M m x y v1887 (32 * (i 0).val + 32) gx gy s)) := by
  have hi : (i 0).val < 25 := (i 0).isLt
  have hiv := ivAdd e0 t.val v1946 he
  obtain ⟨se, fl, acc, dw⟩ := s
  dsimp only at hse hs6 hy
  have h1 : Scalar.addi (Scalar.addi v1946 (Scf.iv 0#32 1#32 t.val)) 1#32 = BitVec.ofNat 32 (se + 1) := by
    rw [hiv, hse]; exact add_n _ 1
  have ht6 : e0 + t.val < 6 := by omega
  have hme := hM.word se (by omega)
  have hmn := hM.word (se + 1) (by omega)
  have hMe := hM.lt se (by omega)
  have hMn := hM.lt (se + 1) (by omega)
  have hoS0 : (k0_off36 i v1946 v1948 v1954 v1960 v1966 v1972 v1978 t) 1 = se := by
    show (Scalar.addi v1946 (Scf.iv 0#32 1#32 t.val)).toNat = se
    rw [hiv, toNat_n _ (by omega), hse]
  have hoN : (k0_off37 i v1946 v1948 v1954 v1960 v1966 v1972 v1978 t) 1 = se + 1 := by
    show (Scalar.addi (Scalar.addi v1946 (Scf.iv 0#32 1#32 t.val)) 1#32).toNat = se + 1
    rw [h1, toNat_n _ (by omega)]
  have hoE : (k0_off39 i v1946 v1948 v1954 v1960 v1966 v1972 v1978 t) 1 = se + 1 := hoN
  have hoP : (k0_off38 i v1946 v1948 v1954 v1960 v1966 v1972 v1978 t) 1 = se := by
    show (Scalar.maxsi (Scalar.subi (Scalar.addi (Scalar.addi v1946 (Scf.iv 0#32 1#32 t.val)) 1#32) 1#32) 0#32).toNat = se
    rw [h1, prevW _ (by omega)]; omega
  have hA : ∀ w : BitVec 32, w = BitVec.ofNat 32 (M se) → (k0_cond19 i v1946 v1948 v1954 v1960 v1966 v1972 v1978 t w = 1#1 ↔ se + 1 < 6 ∧ M se < 32 * (i 0).val + 32) := by
    intro w hw
    show condA (Scalar.addi (Scalar.addi v1946 (Scf.iv 0#32 1#32 t.val)) 1#32) w _ = 1#1 ↔ _
    rw [h1, hw, en2 (i 0).val hi]
    exact condA_iff _ _ _ (by omega) hMe (by omega)
  have hB : ∀ w w' : BitVec 32, w = BitVec.ofNat 32 (M se) → w' = BitVec.ofNat 32 (M (se + 1)) → (k0_cond20 w w' = 1#1 ↔ M se < M (se + 1)) := by
    intro w w' hw hw'
    show condB w w' = 1#1 ↔ _
    rw [hw, hw']
    exact condB_iff _ _ hMe hMn
  have hchkA : ∀ w : BitVec 32, w = BitVec.ofNat 32 (M se) → k0_chk18 i v1946 v1948 v1954 v1960 v1966 v1972 v1978 t w := fun w hw =>
    fun _ h4 => inb37 _ rfl (by rw [hoN]; have := ((hA w hw).mp h4).1; omega)
  have hchkB : ∀ w w' : BitVec 32, w = BitVec.ofNat 32 (M se) → k0_chk19 i v1946 v1948 v1954 v1960 v1966 v1972 v1978 t w w' := fun w w' hw =>
    ⟨fun _ h4 h5 => inb37 _ rfl (by rw [hoP]; omega), fun _ h4 h5 => inb37 _ rfl (by rw [hoE]; have := ((hA w hw).mp h4).1; omega)⟩
  rw [td1.eq]
  unfold LI
  iintro ⟨H2, H3, H9, Hx, H15, Hy, H10, H16, Hd, ⟨%W, HO⟩⟩
  iapply (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 v1946 v1948 v1954 v1960 v1966 v1972 v1978 hw3 t gx gy e0 fl W he ht6 acc dw _ _ _) $$ [H2 H3 H10 H16 Hd HO]
  · isplitl [H2]; iexact H2
    isplitl [H3]; iexact H3
    isplitl [H10]; iexact H10
    isplitl [H16]; iexact H16
    isplitl [Hd]; iexact Hd
    iexact HO
  iintro %v %hv ⟨H2, H3, H10, H16, Hd, HO⟩
  subst hv
  rw [← hse]
  unfold owns
  icases H9 with ⟨%f9, %h9, H9⟩
  icases Hx with ⟨%fx, %hx, Hx⟩
  icases H15 with ⟨%f15, %h15, H15⟩
  icases Hy with ⟨%yb, %fy, %hyb, Hy⟩
  icases H16 with ⟨%f16, %hf16, H16⟩
  unfold td1.tail
  have hw : View.readAt (Elt F) arg9.view (Rect.unit (s := S3x7) (k0_off36 i v1946 v1948 v1954 v1960 v1966 v1972 v1978 t) S1x1.size (k0_off36_inb i v1946 v1948 v1954 v1960 v1966 v1972 v1978 hw3 t h16)).toLoadRect f9 (Shape.Idx.first (s := S1x1) (by decide)) = BitVec.ofNat 32 (M se) :=
    (ld37 h9 _ _ _ se rfl hoS0).trans hme
  have hcA := hchkA _ hw
  by_cases hca : se + 1 < 6 ∧ M se < 32 * (i 0).val + 32
  · have hc4 := (hA _ hw).mpr hca
    have hw' : View.readAt (Elt F) arg9.view (Rect.unit (s := S3x7) (k0_off37 i v1946 v1948 v1954 v1960 v1966 v1972 v1978 t) S1x1.size (k0_off37_inb i v1946 v1948 v1954 v1960 v1966 v1972 v1978 t _ hcA h16 hc4)).toLoadRect f9 (Shape.Idx.first (s := S1x1) (by decide)) = BitVec.ofNat 32 (M (se + 1)) :=
      (ld37 h9 _ _ _ (se + 1) rfl hoN).trans hmn
    have hcB := hchkB _ (View.readAt (Elt F) arg9.view (Rect.unit (s := S3x7) (k0_off37 i v1946 v1948 v1954 v1960 v1966 v1972 v1978 t) S1x1.size (k0_off37_inb i v1946 v1948 v1954 v1960 v1966 v1972 v1978 t _ hcA h16 hc4)).toLoadRect f9 (Shape.Idx.first (s := S1x1) (by decide))) hw
    by_cases hcb : M se < M (se + 1)
    · have hc5 := (hB _ _ hw hw').mpr hcb
      have hyy := hy hca.2
      sl_exec (disch := first | sl_exact hc4 | sl_exact hc5)
      rw [show closeOne M m x y v1887 (32 * (i 0).val + 32) gx gy (⟨se, fl, acc, dw⟩ : St F) = ⟨se + 1, true, accT zeroT x (maskT m v1887 (se + 1) y), updT dw se (finT acc (gx (mk S7 ![se])) (gy (mk S7 ![se])))⟩ from by
        unfold closeOne; rw [if_pos ⟨hca.1, hca.2, hcb⟩]]
      rw [wp_ret]; imodintro
      isplitl [H2]; iexact H2
      isplitl [H3]; iexact H3
      isplitl [H9]
      · iexists f9; isplitr; swap; iexact H9; ipureintro; exact h9
      isplitl [Hx]
      · iexists fx; isplitr; swap; iexact Hx; ipureintro; exact hx
      isplitl [H15]
      · iexists f15; isplitr; swap; iexact H15; ipureintro; exact h15
      isplitl [Hy]
      · iexists _, _; isplitr; swap; iexact Hy; ipureintro; rfl
      isplitl [H10]; iexact H10
      isplitl [H16]
      · iexists _; isplitr; swap; iexact H16; ipureintro; exact read_pieces _ _ _ _ S256x640.size (by sl_kernel_rfl) (List.forall_mem_cons.mpr ⟨fun j => acc_tile hf16 hx ((View.readCov_full _ _ _ _ _).trans (mask_eq m v1887 (se + 1) y (add_n se 1) ((ldAll h15 _ (zero2) _).trans hyy) (ld37 h9 _ _ _ se rfl hoP) (ld37 h9 _ _ _ (se + 1) rfl hoE))) 5 (by decide) _ _ rfl rfl _ _ j, List.forall_mem_cons.mpr ⟨fun j => acc_tile hf16 hx ((View.readCov_full _ _ _ _ _).trans (mask_eq m v1887 (se + 1) y (add_n se 1) ((ldAll h15 _ (zero2) _).trans hyy) (ld37 h9 _ _ _ se rfl hoP) (ld37 h9 _ _ _ (se + 1) rfl hoE))) 4 (by decide) _ _ rfl rfl _ _ j, List.forall_mem_cons.mpr ⟨fun j => acc_tile hf16 hx ((View.readCov_full _ _ _ _ _).trans (mask_eq m v1887 (se + 1) y (add_n se 1) ((ldAll h15 _ (zero2) _).trans hyy) (ld37 h9 _ _ _ se rfl hoP) (ld37 h9 _ _ _ (se + 1) rfl hoE))) 3 (by decide) _ _ rfl rfl _ _ j, List.forall_mem_cons.mpr ⟨fun j => acc_tile hf16 hx ((View.readCov_full _ _ _ _ _).trans (mask_eq m v1887 (se + 1) y (add_n se 1) ((ldAll h15 _ (zero2) _).trans hyy) (ld37 h9 _ _ _ se rfl hoP) (ld37 h9 _ _ _ (se + 1) rfl hoE))) 2 (by decide) _ _ rfl rfl _ _ j, List.forall_mem_cons.mpr ⟨fun j => acc_tile hf16 hx ((View.readCov_full _ _ _ _ _).trans (mask_eq m v1887 (se + 1) y (add_n se 1) ((ldAll h15 _ (zero2) _).trans hyy) (ld37 h9 _ _ _ se rfl hoP) (ld37 h9 _ _ _ (se + 1) rfl hoE))) 1 (by decide) _ _ rfl rfl _ _ j, List.forall_mem_cons.mpr ⟨fun j => acc_tile hf16 hx ((View.readCov_full _ _ _ _ _).trans (mask_eq m v1887 (se + 1) y (add_n se 1) ((ldAll h15 _ (zero2) _).trans hyy) (ld37 h9 _ _ _ se rfl hoP) (ld37 h9 _ _ _ (se + 1) rfl hoE))) 0 (by decide) _ _ rfl rfl _ _ j, fun _ h => absurd h List.not_mem_nil⟩⟩⟩⟩⟩⟩)
      isplitl [Hd]; iexact Hd
      iexact HO
    · have hc5 := mt (hB _ _ hw hw').mp hcb
      sl_exec (disch := first | sl_exact hc4 | sl_exact hc5)
      rw [show closeOne M m x y v1887 (32 * (i 0).val + 32) gx gy (⟨se, fl, acc, dw⟩ : St F) = ⟨se + 1, true, zeroT, updT dw se (finT acc (gx (mk S7 ![se])) (gy (mk S7 ![se])))⟩ from by
        unfold closeOne; rw [if_neg (fun h => hcb h.2.2)]]
      rw [wp_ret]; imodintro
      isplitl [H2]; iexact H2
      isplitl [H3]; iexact H3
      isplitl [H9]
      · iexists f9; isplitr; swap; iexact H9; ipureintro; exact h9
      isplitl [Hx]
      · iexists fx; isplitr; swap; iexact Hx; ipureintro; exact hx
      isplitl [H15]
      · iexists f15; isplitr; swap; iexact H15; ipureintro; exact h15
      isplitl [Hy]
      · iexists _, _; isplitr; swap; iexact Hy; ipureintro; rfl
      isplitl [H10]; iexact H10
      isplitl [H16]
      · iexists _; isplitr; swap; iexact H16; ipureintro; exact hf16
      isplitl [Hd]; iexact Hd
      iexact HO
  · have hc4 := mt (hA _ hw).mp hca
    sl_exec (disch := sl_exact hc4)
    rw [show closeOne M m x y v1887 (32 * (i 0).val + 32) gx gy (⟨se, fl, acc, dw⟩ : St F) = ⟨se + 1, true, zeroT, updT dw se (finT acc (gx (mk S7 ![se])) (gy (mk S7 ![se])))⟩ from by
      unfold closeOne; rw [if_neg (fun h => hca ⟨h.1, h.2.1⟩)]]
    rw [wp_ret]; imodintro
    isplitl [H2]; iexact H2
    isplitl [H3]; iexact H3
    isplitl [H9]
    · iexists f9; isplitr; swap; iexact H9; ipureintro; exact h9
    isplitl [Hx]
    · iexists fx; isplitr; swap; iexact Hx; ipureintro; exact hx
    isplitl [H15]
    · iexists f15; isplitr; swap; iexact H15; ipureintro; exact h15
    isplitl [Hy]
    · iexists _, _; isplitr; swap; iexact Hy; ipureintro; rfl
    isplitl [H10]; iexact H10
    isplitl [H16]
    · iexists _; isplitr; swap; iexact H16; ipureintro; exact hf16
    isplitl [Hd]; iexact Hd
    iexact HO

section
variable (i : grid0.Coords) (v1946 v1948 v1954 v1960 v1966 v1972 v1978 : Elt F .i32) (M : ℕ → ℕ) (m : Vec F S3x7 .i32) (hM : Meta M m) (e0 : ℕ) (he6 : e0 ≤ 6)
  (hws : v1946 = BitVec.ofNat 32 e0 ∧ v1948 = BitVec.ofNat 32 (M 0) ∧ v1954 = BitVec.ofNat 32 (M 1) ∧ v1960 = BitVec.ofNat 32 (M 2) ∧ v1966 = BitVec.ofNat 32 (M 3) ∧ v1972 = BitVec.ofNat 32 (M 4) ∧ v1978 = BitVec.ofNat 32 (M 5))
include hM he6 hws

/-- The loop's upper bound is the number of experts that end with the chunk. -/
theorem ub_eq : (k0_t5_loop i v1946 v1948 v1954 v1960 v1966 v1972 v1978).ub = BitVec.ofNat 32 (nFin M e0 (32 * (i 0).val + 32)) ∧ (k0_t6_loop i v1946 v1948 v1954 v1960 v1966 v1972 v1978) = ⟨BitVec.ofNat 32 (nFin M e0 (32 * (i 0).val + 32)), BitVec.ofNat 32 (nFin M e0 (32 * (i 0).val + 32)), 1#32⟩ := by
  have hi : (i 0).val < 25 := (i 0).isLt
  obtain ⟨h0, h1, h2, h3, h4, h5, h6⟩ := hws
  have hs := sumW_eq M e0 (32 * (i 0).val + 32) he6 (by omega) (fun k hk => hM.lt k (by omega))
  obtain ⟨u1, u2, u3, u4, u5, u6⟩ := ubW_n (nFin M e0 (32 * (i 0).val + 32)) (by have := nFin_le M e0 (32 * (i 0).val + 32); omega)
  have hub : (k0_t5_loop i v1946 v1948 v1954 v1960 v1966 v1972 v1978).ub = ubW (sumW v1946 (Scalar.addi (Scalar.addi (Scalar.muli (BitVec.ofNat 32 (i 0).val) 32#32) 16#32) 16#32) v1948 v1954 v1960 v1966 v1972 v1978) := rfl
  have hl2 : (k0_t6_loop i v1946 v1948 v1954 v1960 v1966 v1972 v1978) = ⟨ubW (sumW v1946 (Scalar.addi (Scalar.addi (Scalar.muli (BitVec.ofNat 32 (i 0).val) 32#32) 16#32) 16#32) v1948 v1954 v1960 v1966 v1972 v1978),
     Scalar.addi 0#32 (Scalar.subi (sumW v1946 (Scalar.addi (Scalar.addi (Scalar.muli (BitVec.ofNat 32 (i 0).val) 32#32) 16#32) 16#32) v1948 v1954 v1960 v1966 v1972 v1978) 0#32), 1#32⟩ := rfl
  rw [hub, hl2, en2 _ hi, h0, h1, h2, h3, h4, h5, h6, hs, u1, u6]
  exact ⟨rfl, rfl⟩

theorem trips_eq : (k0_t5_loop i v1946 v1948 v1954 v1960 v1966 v1972 v1978).trips = nFin M e0 (32 * (i 0).val + 32) := by
  obtain ⟨u1, u2, u3, u4, u5, u6⟩ := ubW_n (nFin M e0 (32 * (i 0).val + 32)) (by have := nFin_le M e0 (32 * (i 0).val + 32); omega)
  show Scf.trips 0#32 (k0_t5_loop i v1946 v1948 v1954 v1960 v1966 v1972 v1978).ub 1#32 = _
  rw [(ub_eq i v1946 v1948 v1954 v1960 v1966 v1972 v1978 M m hM e0 he6 hws).1, u2]

theorem trips2_eq : (k0_t6_loop i v1946 v1948 v1954 v1960 v1966 v1972 v1978).trips = 0 := by
  obtain ⟨u1, u2, u3, u4, u5, u6⟩ := ubW_n (nFin M e0 (32 * (i 0).val + 32)) (by have := nFin_le M e0 (32 * (i 0).val + 32); omega)
  rw [(ub_eq i v1946 v1948 v1954 v1960 v1966 v1972 v1978 M m hM e0 he6 hws).2]
  exact u4

/-- The loops' side conditions hold. -/
theorem chk_of : k0_chk17 i v1946 v1948 v1954 v1960 v1966 v1972 v1978 := by
  obtain ⟨u1, u2, u3, u4, u5, u6⟩ := ubW_n (nFin M e0 (32 * (i 0).val + 32)) (by have := nFin_le M e0 (32 * (i 0).val + 32); omega)
  have hub := ub_eq i v1946 v1948 v1954 v1960 v1966 v1972 v1978 M m hM e0 he6 hws
  have ht := trips_eq i v1946 v1948 v1954 v1960 v1966 v1972 v1978 M m hM e0 he6 hws
  have ht2 := trips2_eq i v1946 v1948 v1954 v1960 v1966 v1972 v1978 M m hM e0 he6 hws
  have hn := nFin_add M e0 (32 * (i 0).val + 32) he6
  have hv : ∀ t : Fin (k0_t5_loop i v1946 v1948 v1954 v1960 v1966 v1972 v1978).trips, (Scalar.addi v1946 (Scf.iv 0#32 1#32 t.val)).toNat = e0 + t.val ∧ e0 + t.val ≤ 5 := fun t => by
    have h := lt_of_lt_of_eq t.isLt ht
    rw [ivAdd e0 t.val v1946 hws.1, toNat_n _ (by omega)]
    omega
  refine ⟨fun _ => ?_, fun t _ => ?_, fun t _ => ?_, fun t _ => ?_, fun _ => ?_, fun t => absurd (lt_of_lt_of_eq t.isLt ht2) (Nat.not_lt_zero _), fun t => absurd (lt_of_lt_of_eq t.isLt ht2) (Nat.not_lt_zero _), fun t => absurd (lt_of_lt_of_eq t.isLt ht2) (Nat.not_lt_zero _)⟩
  · show Scf.OK 0#32 (k0_t5_loop i v1946 v1948 v1954 v1960 v1966 v1972 v1978).ub 1#32
    rw [hub.1]; exact u3
  · exact inb7 _ (by show (Scalar.addi v1946 (Scf.iv 0#32 1#32 t.val)).toNat ≤ 6; have := hv t; omega)
  · exact inb8 _ (by show (Scalar.addi v1946 (Scf.iv 0#32 1#32 t.val)).toNat ≤ 5; have := hv t; omega) rfl rfl
  · exact inb37 _ rfl (by show (Scalar.addi v1946 (Scf.iv 0#32 1#32 t.val)).toNat ≤ 6; have := hv t; omega)
  · rw [hub.2]; exact u5

end

/-- The closing loop: every expert that ends with the chunk closed. -/
theorem loop (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (h16 : k0_cond16 i = 1#1) (v1887 : BitVec 32) (v1946 v1948 v1954 v1960 v1966 v1972 v1978 : Elt F .i32)  (hw3 : k0_chk17 i v1946 v1948 v1954 v1960 v1966 v1972 v1978)
   (M : ℕ → ℕ) (m : Vec F S3x7 .i32) (hM : Meta M m) (gx gy : Vec F S7 .f32) (e0 : ℕ) (he6 : e0 ≤ 6)
   (hws : v1946 = BitVec.ofNat 32 e0 ∧ v1948 = BitVec.ofNat 32 (M 0) ∧ v1954 = BitVec.ofNat 32 (M 1) ∧ v1960 = BitVec.ofNat 32 (M 2) ∧ v1966 = BitVec.ofNat 32 (M 3) ∧ v1972 = BitVec.ofNat 32 (M 4) ∧ v1978 = BitVec.ofNat 32 (M 5))
   (x : Vec F S256x1536 .bf16) (y ysv : Vec F S256x640 .bf16) (s : St F) (hse : s.e = e0) (hy : e0 < 6 → M e0 < 32 * (i 0).val + 32 → ysv = y)
   (R : Type) (kk : PUnit → Prog (TpuEff nD τ sig (Elt F) Λ₀ .tc) R) (Q : _ → sProp 𝕄) :
   LI c arg2 arg3 arg8 arg9 arg10 arg13 arg14 arg15 arg16 arg17 arg18 gx gy m x ysv e0 s
   ⊢ iprop((LI c arg2 arg3 arg8 arg9 arg10 arg13 arg14 arg15 arg16 arg17 arg18 gx gy m x ysv e0 ((closeOne M m x y v1887 (32 * (i 0).val + 32) gx gy)^[nFin M e0 (32 * (i 0).val + 32)] s)
        -∗ wp frame (wpE (defs₀ (F := F)) Variants.none c none) Set.univ (kk ⟨⟩) Q)
      -∗ wp frame (wpE (defs₀ (F := F)) Variants.none c none) Set.univ
        (Scf.Loop.for (k0_t5_loop i v1946 v1948 v1954 v1960 v1966 v1972 v1978) (k0_t5_ok i v1946 v1948 v1954 v1960 v1966 v1972 v1978 hw3 h16) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 v1887 v1946 v1948 v1954 v1960 v1966 v1972 v1978 hw3) >>= kk) Q) := by
  have ht := trips_eq i v1946 v1948 v1954 v1960 v1966 v1972 v1978 M m hM e0 he6 hws
  have hn := nFin_add M e0 (32 * (i 0).val + 32) he6
  have hbody : ∀ (t : Fin (k0_t5_loop i v1946 v1948 v1954 v1960 v1966 v1972 v1978).trips) (acc : Unit),
      LI c arg2 arg3 arg8 arg9 arg10 arg13 arg14 arg15 arg16 arg17 arg18 gx gy m x ysv e0 ((closeOne M m x y v1887 (32 * (i 0).val + 32) gx gy)^[t.val] s)
      ⊢ wp frame (wpE (defs₀ (F := F)) Variants.none c none) Set.univ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 v1887 v1946 v1948 v1954 v1960 v1966 v1972 v1978 hw3 t acc)
        (fun _ => LI c arg2 arg3 arg8 arg9 arg10 arg13 arg14 arg15 arg16 arg17 arg18 gx gy m x ysv e0 ((closeOne M m x y v1887 (32 * (i 0).val + 32) gx gy)^[t.val + 1] s)) := by
    intro t acc
    have hlt' : t.val < nFin M e0 (32 * (i 0).val + 32) := lt_of_lt_of_eq t.isLt ht
    have hse' : (((closeOne M m x y v1887 (32 * (i 0).val + 32) gx gy)^[t.val]) s).e = e0 + t.val := by rw [closeOne_iter_e, hse]
    rw [Function.iterate_succ_apply']
    exact trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 v1887 v1946 v1948 v1954 v1960 v1966 v1972 v1978 hw3 t M m hM gx gy e0 hws.1 x y ysv (((closeOne M m x y v1887 (32 * (i 0).val + 32) gx gy)^[t.val]) s) hse' (by omega)
      (fun h => hy (by omega) (lt_of_le_of_lt (hM.mono' e0 (e0 + t.val) (by omega) (by omega)) (by rw [← hse']; exact h)))
  iintro H Hk
  have hl := Scf.wp_for_bind frame (wpE (defs₀ (F := F)) Variants.none c none) Set.univ (k0_t5_loop i v1946 v1948 v1954 v1960 v1966 v1972 v1978).lb (k0_t5_loop i v1946 v1948 v1954 v1960 v1966 v1972 v1978).ub (k0_t5_loop i v1946 v1948 v1954 v1960 v1966 v1972 v1978).st (k0_t5_ok i v1946 v1948 v1954 v1960 v1966 v1972 v1978 hw3 h16) (⟨⟩ : Unit) (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 v1887 v1946 v1948 v1954 v1960 v1966 v1972 v1978 hw3)
    (kk := kk) (Q := Q)
    (fun k _ => LI c arg2 arg3 arg8 arg9 arg10 arg13 arg14 arg15 arg16 arg17 arg18 gx gy m x ysv e0 ((closeOne M m x y v1887 (32 * (i 0).val + 32) gx gy)^[k] s)) hbody
  iapply hl $$ [H]
  · iexact H
  · iintro %acc H
    rw [show Scf.trips (k0_t5_loop i v1946 v1948 v1954 v1960 v1966 v1972 v1978).lb (k0_t5_loop i v1946 v1948 v1954 v1960 v1966 v1972 v1978).ub (k0_t5_loop i v1946 v1948 v1954 v1960 v1966 v1972 v1978).st = nFin M e0 (32 * (i 0).val + 32) from ht]
    iapply Hk $$ H

/-- The remainder loop makes no trip. -/
theorem loop2 (c : Dev nD) (i : grid0.Coords) (h16 : k0_cond16 i = 1#1) (v1946 v1948 v1954 v1960 v1966 v1972 v1978 : Elt F .i32)
   (M : ℕ → ℕ) (m : Vec F S3x7 .i32) (hM : Meta M m) (e0 : ℕ) (he6 : e0 ≤ 6)
   (hws : v1946 = BitVec.ofNat 32 e0 ∧ v1948 = BitVec.ofNat 32 (M 0) ∧ v1954 = BitVec.ofNat 32 (M 1) ∧ v1960 = BitVec.ofNat 32 (M 2) ∧ v1966 = BitVec.ofNat 32 (M 3) ∧ v1972 = BitVec.ofNat 32 (M 4) ∧ v1978 = BitVec.ofNat 32 (M 5))
   (ok : (k0_t6_loop i v1946 v1948 v1954 v1960 v1966 v1972 v1978).OK) (body : Fin (k0_t6_loop i v1946 v1948 v1954 v1960 v1966 v1972 v1978).trips → Unit → Prog (TpuEff nD τ sig (Elt F) Λ₀ .tc) Unit)
   (R : Type) (kk : PUnit → Prog (TpuEff nD τ sig (Elt F) Λ₀ .tc) R) (Q : _ → sProp 𝕄) :
   wp frame (wpE (defs₀ (F := F)) Variants.none c none) Set.univ (kk ⟨⟩) Q
   ⊢ wp frame (wpE (defs₀ (F := F)) Variants.none c none) Set.univ (Scf.Loop.for (k0_t6_loop i v1946 v1948 v1954 v1960 v1966 v1972 v1978) ok ⟨⟩ body >>= kk) Q := by
  have ht := trips2_eq i v1946 v1948 v1954 v1960 v1966 v1972 v1978 M m hM e0 he6 hws
  have hbody : ∀ (t : Fin (k0_t6_loop i v1946 v1948 v1954 v1960 v1966 v1972 v1978).trips) (acc : Unit), wp frame (wpE (defs₀ (F := F)) Variants.none c none) Set.univ (kk ⟨⟩) Q
      ⊢ wp frame (wpE (defs₀ (F := F)) Variants.none c none) Set.univ (body t acc) (fun _ => wp frame (wpE (defs₀ (F := F)) Variants.none c none) Set.univ (kk ⟨⟩) Q) :=
    fun t => absurd (lt_of_lt_of_eq t.isLt ht) (Nat.not_lt_zero _)
  have hl := Scf.wp_for_bind frame (wpE (defs₀ (F := F)) Variants.none c none) Set.univ (k0_t6_loop i v1946 v1948 v1954 v1960 v1966 v1972 v1978).lb (k0_t6_loop i v1946 v1948 v1954 v1960 v1966 v1972 v1978).ub (k0_t6_loop i v1946 v1948 v1954 v1960 v1966 v1972 v1978).st ok (⟨⟩ : Unit) body
    (kk := kk) (Q := Q) (fun _ _ => wp frame (wpE (defs₀ (F := F)) Variants.none c none) Set.univ (kk ⟨⟩) Q) hbody
  iintro H
  iapply hl $$ [H]
  · iexact H
  · iintro %acc H
    iexact H

end Cert.Kernel.Hand.T5
-- ==== Proof.Close.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Str0
public import proofs.«01_k».proof.Proof.Trip1
public import proofs.«01_k».proof.Proof.Trip3
public import proofs.«01_k».proof.Proof.Trip5

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The end of a chunk: every expert that ends with it closed, the open expert's number moved on. -/
theorem closeA (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (gx gy : Vec F S7 .f32) (e : ℕ) (he : e ≤ 6)
   (x : Vec F S256x1536 .bf16) (y ysv : Vec F S256x640 .bf16) (s : St F) (hse : s.e = e) (hy : e < 6 → M e < 32 * (i 0).val → ysv = y)
   (v899 v901 : Elt F .i32) (hv0 : v899 = BitVec.ofNat 32 e) (hv1 : v901 = BitVec.ofNat 32 (M 0)) (R : Type) (κ : Prog (TpuEff nD τ sig (Elt F) Λ₀ .tc) R) (Q : _ → sProp 𝕄) :
   LI c arg2 arg3 arg8 arg9 arg10 arg13 arg14 arg15 arg16 arg17 arg18 gx gy m x ysv (e) (s)
   ⊢ iprop((LI c arg2 arg3 arg8 arg9 arg10 arg13 arg14 arg15 arg16 arg17 arg18 gx gy m x ysv (e + nFin M e (32 * (i 0).val)) ((closeOne M m x y (Scalar.addi (Scalar.muli (BitVec.ofNat 32 (i 0).val) 32#32) 4294967280#32) (32 * (i 0).val) gx gy)^[nFin M e (32 * (i 0).val)] s) -∗ wp frame (wpE (defs₀ (F := F)) Variants.none c none) Set.univ κ Q)
    -∗ wp frame (wpE (defs₀ (F := F)) Variants.none c none) Set.univ (hs3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (Scalar.addi (Scalar.muli (BitVec.ofNat 32 (i 0).val) 32#32) 4294967280#32) (Scalar.addi (Scalar.addi (Scalar.muli (BitVec.ofNat 32 (i 0).val) 32#32) 4294967280#32) 16#32) v899 v901 (Scalar.addi 0#32 (Scalar.extui (Scalar.andi (Scalar.cmpi .sle v899 0#32) (Scalar.cmpi .sle v901 (Scalar.addi (Scalar.addi (Scalar.muli (BitVec.ofNat 32 (i 0).val) 32#32) 4294967280#32) 16#32))))) (Scalar.cmpi .sle v899 1#32) κ) Q) := by
  have hi : (i 0).val < 25 := (i 0).isLt
  unfold LI owns
  iintro ⟨⟨%f2, %h2, H2⟩, ⟨%f3, %h3, H3⟩, ⟨%f9, %h9, H9⟩, ⟨%fx, %hx, Hx⟩, ⟨%f15, %h15, H15⟩, ⟨%yb, %fy, %hy', Hy⟩, ⟨%f10, %h10, H10⟩, ⟨%f16, %h16', H16⟩, Hd, HO⟩ Hk
  have hws : v899 = BitVec.ofNat 32 (e) ∧ v901 = BitVec.ofNat 32 (M 0) ∧ (View.readAt (Elt F) arg9.view (Rect.unit (s := S3x7) ![0, 1] S1x1.size inb_S3x7_S1x1_0_1).toLoadRect f9 (Shape.Idx.first (s := S1x1) (by decide))) = BitVec.ofNat 32 (M 1) ∧ (View.readAt (Elt F) arg9.view (Rect.unit (s := S3x7) ![0, 2] S1x1.size inb_S3x7_S1x1_0_2).toLoadRect f9 (Shape.Idx.first (s := S1x1) (by decide))) = BitVec.ofNat 32 (M 2) ∧ (View.readAt (Elt F) arg9.view (Rect.unit (s := S3x7) ![0, 3] S1x1.size inb_S3x7_S1x1_0_3).toLoadRect f9 (Shape.Idx.first (s := S1x1) (by decide))) = BitVec.ofNat 32 (M 3) ∧ (View.readAt (Elt F) arg9.view (Rect.unit (s := S3x7) ![0, 4] S1x1.size inb_S3x7_S1x1_0_4).toLoadRect f9 (Shape.Idx.first (s := S1x1) (by decide))) = BitVec.ofNat 32 (M 4) ∧ (View.readAt (Elt F) arg9.view (Rect.unit (s := S3x7) ![0, 5] S1x1.size inb_S3x7_S1x1_0_5).toLoadRect f9 (Shape.Idx.first (s := S1x1) (by decide))) = BitVec.ofNat 32 (M 5) := ⟨hv0, hv1, (ld37 h9 _ (inb_S3x7_S1x1_0_1) (Shape.Idx.first (s := S1x1) (by decide)) 1 rfl rfl).trans (hM.word 1 (by omega)), (ld37 h9 _ (inb_S3x7_S1x1_0_2) (Shape.Idx.first (s := S1x1) (by decide)) 2 rfl rfl).trans (hM.word 2 (by omega)), (ld37 h9 _ (inb_S3x7_S1x1_0_3) (Shape.Idx.first (s := S1x1) (by decide)) 3 rfl rfl).trans (hM.word 3 (by omega)), (ld37 h9 _ (inb_S3x7_S1x1_0_4) (Shape.Idx.first (s := S1x1) (by decide)) 4 rfl rfl).trans (hM.word 4 (by omega)), (ld37 h9 _ (inb_S3x7_S1x1_0_5) (Shape.Idx.first (s := S1x1) (by decide)) 5 rfl rfl).trans (hM.word 5 (by omega))⟩
  have hc3 : k0_chk3 i v899 v901 (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) := T1.chk_of i v899 v901 (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) M m hM e he hws
  unfold hs3
  sl_exec
  iapply (T1.loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (Scalar.addi (Scalar.muli (BitVec.ofNat 32 (i 0).val) 32#32) 4294967280#32) (Scalar.addi (Scalar.addi (Scalar.muli (BitVec.ofNat 32 (i 0).val) 32#32) 4294967280#32) 16#32) v899 v901 (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) (Scalar.addi 0#32 (Scalar.extui (Scalar.andi (Scalar.cmpi .sle v899 0#32) (Scalar.cmpi .sle v901 (Scalar.addi (Scalar.addi (Scalar.muli (BitVec.ofNat 32 (i 0).val) 32#32) 4294967280#32) 16#32))))) (Scalar.cmpi .sle v899 1#32) hc3 M m hM gx gy e he hws x y ysv s hse hy) $$ [H2 H3 H9 Hx H15 Hy H10 H16 Hd HO]
  · unfold LI owns
    isplitl [H2]
    · iexists _; isplitr; swap; iexact H2; ipureintro; exact h2
    isplitl [H3]
    · iexists _; isplitr; swap; iexact H3; ipureintro; exact h3
    isplitl [H9]
    · iexists _; isplitr; swap; iexact H9; ipureintro; exact h9
    isplitl [Hx]
    · iexists _; isplitr; swap; iexact Hx; ipureintro; exact hx
    isplitl [H15]
    · iexists _; isplitr; swap; iexact H15; ipureintro; exact h15
    isplitl [Hy]
    · iexists _, _; isplitr; swap; iexact Hy; ipureintro; rfl
    isplitl [H10]
    · iexists _; isplitr; swap; iexact H10; ipureintro; exact h10
    isplitl [H16]
    · iexists _; isplitr; swap; iexact H16; ipureintro; exact h16'
    isplitl [Hd]; iexact Hd
    iexact HO
  unfold LI owns
  iintro ⟨⟨%g2, %h2, H2⟩, ⟨%g3, %h3, H3⟩, ⟨%g9, %h9, H9⟩, ⟨%gx, %hx, Hx⟩, ⟨%g15, %h15, H15⟩, ⟨%yb, %gy, %hy', Hy⟩, ⟨%g10, %h10, H10⟩, ⟨%g16, %h16', H16⟩, Hd, HO⟩
  iapply (T1.loop2 c i v899 v901 (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) M m hM e he hws)
  sl_exec
  iapply Hk
  isplitl [H2]
  · iexists _; isplitr; swap; iexact H2; ipureintro; exact h2
  isplitl [H3]
  · iexists _; isplitr; swap; iexact H3; ipureintro; exact h3
  isplitl [H9]
  · iexists _; isplitr; swap; iexact H9; ipureintro; exact h9
  isplitl [Hx]
  · iexists _; isplitr; swap; iexact Hx; ipureintro; exact hx
  isplitl [H15]
  · iexists _; isplitr; swap; iexact H15; ipureintro; exact h15
  isplitl [Hy]
  · iexists _, _; isplitr; swap; iexact Hy; ipureintro; rfl
  isplitl [H10]
  · iexists _; isplitr; swap; iexact H10; ipureintro; exact cu0_set h10 _ _ (funext fun _ => (by obtain ⟨q0, q1, q2, q3, q4, q5, q6⟩ := hws; exact (show Scalar.addi v899 (sumW v899 (Scalar.addi (Scalar.addi (Scalar.muli (BitVec.ofNat 32 (i 0).val) 32#32) 4294967280#32) 16#32) v901 (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide)))) = _ from by rw [en0 _ hi, q0, q1, q2, q3, q4, q5, q6, sumW_eq M e (32 * (i 0).val) he (by omega) (fun k hk => hM.lt k (by omega))]; exact add_n _ _)))
  isplitl [H16]
  · iexists _; isplitr; swap; iexact H16; ipureintro; exact h16'
  isplitl [Hd]; iexact Hd
  iexact HO

/-- The end of a chunk: every expert that ends with it closed, the open expert's number moved on. -/
theorem closeB (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (gx gy : Vec F S7 .f32) (e : ℕ) (he : e ≤ 6)
   (x : Vec F S256x1536 .bf16) (y ysv : Vec F S256x640 .bf16) (s : St F) (hse : s.e = e) (hy : e < 6 → M e < 32 * (i 0).val + 16 → ysv = y)
   (v899 v901 v907 v913 : Elt F .i32) (hv0 : v899 = BitVec.ofNat 32 e) (hv1 : v901 = BitVec.ofNat 32 (M 0)) (hv2 : v907 = BitVec.ofNat 32 (M 1)) (hv3 : v913 = BitVec.ofNat 32 (M 2)) (R : Type) (κ : Prog (TpuEff nD τ sig (Elt F) Λ₀ .tc) R) (Q : _ → sProp 𝕄) :
   LI c arg2 arg3 arg8 arg9 arg10 arg11 arg12 arg15 arg16 arg17 arg18 gx gy m x ysv (e) (s)
   ⊢ iprop((LI c arg2 arg3 arg8 arg9 arg10 arg11 arg12 arg15 arg16 arg17 arg18 gx gy m x ysv (e + nFin M e (32 * (i 0).val + 16)) ((closeOne M m x y (Scalar.addi (Scalar.muli (BitVec.ofNat 32 (i 0).val) 32#32) 0#32) (32 * (i 0).val + 16) gx gy)^[nFin M e (32 * (i 0).val + 16)] s) -∗ wp frame (wpE (defs₀ (F := F)) Variants.none c none) Set.univ κ Q)
    -∗ wp frame (wpE (defs₀ (F := F)) Variants.none c none) Set.univ (hr2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (Scalar.addi (Scalar.muli (BitVec.ofNat 32 (i 0).val) 32#32) 0#32) (Scalar.addi (Scalar.addi (Scalar.muli (BitVec.ofNat 32 (i 0).val) 32#32) 0#32) 16#32) v899 v901 v907 (Scalar.addi (Scalar.addi 0#32 (Scalar.extui (Scalar.andi (Scalar.cmpi .sle v899 0#32) (Scalar.cmpi .sle v901 (Scalar.addi (Scalar.addi (Scalar.muli (BitVec.ofNat 32 (i 0).val) 32#32) 0#32) 16#32))))) (Scalar.extui (Scalar.andi (Scalar.cmpi .sle v899 1#32) (Scalar.cmpi .sle v907 (Scalar.addi (Scalar.addi (Scalar.muli (BitVec.ofNat 32 (i 0).val) 32#32) 0#32) 16#32))))) v913 (Scalar.andi (Scalar.cmpi .sle v899 2#32) (Scalar.cmpi .sle v913 (Scalar.addi (Scalar.addi (Scalar.muli (BitVec.ofNat 32 (i 0).val) 32#32) 0#32) 16#32))) κ) Q) := by
  have hi : (i 0).val < 25 := (i 0).isLt
  unfold LI owns
  iintro ⟨⟨%f2, %h2, H2⟩, ⟨%f3, %h3, H3⟩, ⟨%f9, %h9, H9⟩, ⟨%fx, %hx, Hx⟩, ⟨%f15, %h15, H15⟩, ⟨%yb, %fy, %hy', Hy⟩, ⟨%f10, %h10, H10⟩, ⟨%f16, %h16', H16⟩, Hd, HO⟩ Hk
  have hws : v899 = BitVec.ofNat 32 (e) ∧ v901 = BitVec.ofNat 32 (M 0) ∧ v907 = BitVec.ofNat 32 (M 1) ∧ v913 = BitVec.ofNat 32 (M 2) ∧ (View.readAt (Elt F) arg9.view (Rect.unit (s := S3x7) ![0, 3] S1x1.size inb_S3x7_S1x1_0_3).toLoadRect f9 (Shape.Idx.first (s := S1x1) (by decide))) = BitVec.ofNat 32 (M 3) ∧ (View.readAt (Elt F) arg9.view (Rect.unit (s := S3x7) ![0, 4] S1x1.size inb_S3x7_S1x1_0_4).toLoadRect f9 (Shape.Idx.first (s := S1x1) (by decide))) = BitVec.ofNat 32 (M 4) ∧ (View.readAt (Elt F) arg9.view (Rect.unit (s := S3x7) ![0, 5] S1x1.size inb_S3x7_S1x1_0_5).toLoadRect f9 (Shape.Idx.first (s := S1x1) (by decide))) = BitVec.ofNat 32 (M 5) := ⟨hv0, hv1, hv2, hv3, (ld37 h9 _ (inb_S3x7_S1x1_0_3) (Shape.Idx.first (s := S1x1) (by decide)) 3 rfl rfl).trans (hM.word 3 (by omega)), (ld37 h9 _ (inb_S3x7_S1x1_0_4) (Shape.Idx.first (s := S1x1) (by decide)) 4 rfl rfl).trans (hM.word 4 (by omega)), (ld37 h9 _ (inb_S3x7_S1x1_0_5) (Shape.Idx.first (s := S1x1) (by decide)) 5 rfl rfl).trans (hM.word 5 (by omega))⟩
  have hc3 : k0_chk10 i v899 v901 v907 v913 (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) := T3.chk_of i v899 v901 v907 v913 (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) M m hM e he hws
  unfold hr2
  sl_exec
  iapply (T3.loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (Scalar.addi (Scalar.muli (BitVec.ofNat 32 (i 0).val) 32#32) 0#32) v899 v901 v907 v913 (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) hc3 M m hM gx gy e he hws x y ysv s hse hy) $$ [H2 H3 H9 Hx H15 Hy H10 H16 Hd HO]
  · unfold LI owns
    isplitl [H2]
    · iexists _; isplitr; swap; iexact H2; ipureintro; exact h2
    isplitl [H3]
    · iexists _; isplitr; swap; iexact H3; ipureintro; exact h3
    isplitl [H9]
    · iexists _; isplitr; swap; iexact H9; ipureintro; exact h9
    isplitl [Hx]
    · iexists _; isplitr; swap; iexact Hx; ipureintro; exact hx
    isplitl [H15]
    · iexists _; isplitr; swap; iexact H15; ipureintro; exact h15
    isplitl [Hy]
    · iexists _, _; isplitr; swap; iexact Hy; ipureintro; rfl
    isplitl [H10]
    · iexists _; isplitr; swap; iexact H10; ipureintro; exact h10
    isplitl [H16]
    · iexists _; isplitr; swap; iexact H16; ipureintro; exact h16'
    isplitl [Hd]; iexact Hd
    iexact HO
  unfold LI owns
  iintro ⟨⟨%g2, %h2, H2⟩, ⟨%g3, %h3, H3⟩, ⟨%g9, %h9, H9⟩, ⟨%gx, %hx, Hx⟩, ⟨%g15, %h15, H15⟩, ⟨%yb, %gy, %hy', Hy⟩, ⟨%g10, %h10, H10⟩, ⟨%g16, %h16', H16⟩, Hd, HO⟩
  iapply (T3.loop2 c i v899 v901 v907 v913 (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) M m hM e he hws)
  sl_exec
  iapply Hk
  isplitl [H2]
  · iexists _; isplitr; swap; iexact H2; ipureintro; exact h2
  isplitl [H3]
  · iexists _; isplitr; swap; iexact H3; ipureintro; exact h3
  isplitl [H9]
  · iexists _; isplitr; swap; iexact H9; ipureintro; exact h9
  isplitl [Hx]
  · iexists _; isplitr; swap; iexact Hx; ipureintro; exact hx
  isplitl [H15]
  · iexists _; isplitr; swap; iexact H15; ipureintro; exact h15
  isplitl [Hy]
  · iexists _, _; isplitr; swap; iexact Hy; ipureintro; rfl
  isplitl [H10]
  · iexists _; isplitr; swap; iexact H10; ipureintro; exact cu0_set h10 _ _ (funext fun _ => (by obtain ⟨q0, q1, q2, q3, q4, q5, q6⟩ := hws; exact (show Scalar.addi v899 (sumW v899 (Scalar.addi (Scalar.addi (Scalar.muli (BitVec.ofNat 32 (i 0).val) 32#32) 0#32) 16#32) v901 v907 v913 (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide)))) = _ from by rw [en1 _ hi, q0, q1, q2, q3, q4, q5, q6, sumW_eq M e (32 * (i 0).val + 16) he (by omega) (fun k hk => hM.lt k (by omega))]; exact add_n _ _)))
  isplitl [H16]
  · iexists _; isplitr; swap; iexact H16; ipureintro; exact h16'
  isplitl [Hd]; iexact Hd
  iexact HO

end Cert.Kernel.Hand
-- ==== Proof.Mask.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Str0

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The chunk's rows masked when the open expert ends inside it, the rows kept for the experts after: half 0. -/
theorem maskA (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (e : ℕ) (he : e ≤ 6) (fl : Bool)
   (y ysv : Vec F S256x640 .bf16) (R : Type) (κ : Prog (TpuEff nD τ sig (Elt F) Λ₀ .tc) R) (Q : _ → sProp 𝕄) :
   iprop(owns (c : Thread nD τ) arg9 fullShare m ∗ owns (c : Thread nD τ) arg10 fullShare (cuV (F := F) e fl)
     ∗ owns (c : Thread nD τ) arg14 fullShare y ∗ owns (c : Thread nD τ) arg15 fullShare ysv)
   ⊢ iprop((∀ y15 : Vec F S256x640 .bf16, ⌜e < 6 → M e < 32 * (i 0).val → y15 = y⌝ -∗ owns (c : Thread nD τ) arg9 fullShare m ∗ owns (c : Thread nD τ) arg10 fullShare (cuV (F := F) e fl)
     ∗ owns (c : Thread nD τ) arg14 fullShare (primT M m (Scalar.addi (Scalar.muli (BitVec.ofNat 32 (i 0).val) 32#32) 4294967280#32) (32 * (i 0).val) e y) ∗ owns (c : Thread nD τ) arg15 fullShare y15 -∗ wp frame (wpE (defs₀ (F := F)) Variants.none c none) Set.univ κ Q)
    -∗ wp frame (wpE (defs₀ (F := F)) Variants.none c none) Set.univ (ha2 i arg9 arg10 arg14 harg14 arg15 harg15  κ) Q) := by
  have hi : (i 0).val < 25 := (i 0).isLt
  have hme := hM.word e (by omega)
  have hMe := hM.lt e (by omega)
  unfold owns
  iintro ⟨⟨%f9, %h9, H9⟩, ⟨%f10, %h10, H10⟩, ⟨%f14, %h14, H14⟩, ⟨%f15, %h15, H15⟩⟩ Hk
  have w5 : View.readAt (Elt F) arg10.view (Rect.unit (s := S2) ![0] S1.size inb_S2_S1_0).toLoadRect f10 (Shape.Idx.first (s := S1) (by decide)) = BitVec.ofNat 32 e := cu0_of h10 _ _
  have o1 : ∀ w : BitVec 32, w = BitVec.ofNat 32 e → k0_off1 w 1 = e := fun w hw => by
    show w.toNat = e
    rw [hw, toNat_n _ (by omega)]
  have o2 : ∀ w : BitVec 32, w = BitVec.ofNat 32 e → k0_off2 w 1 = e - 1 := fun w hw => by
    show (Scalar.maxsi (Scalar.subi w 1#32) 0#32).toNat = e - 1
    rw [hw, prevW _ (by omega)]
  have o3 : ∀ w : BitVec 32, w = BitVec.ofNat 32 e → k0_off3 w 1 = e := fun w hw => by
    show w.toNat = e
    rw [hw, toNat_n _ (by omega)]
  have c1 : ∀ w : BitVec 32, w = BitVec.ofNat 32 e → k0_chk1 w := fun w hw => inb37 _ rfl (by rw [o1 w hw]; omega)
  have c2 : ∀ w w' : BitVec 32, w = BitVec.ofNat 32 e → k0_chk2 i w w' := fun w w' hw =>
    ⟨fun _ => inb37 _ rfl (by rw [o2 w hw]; omega), fun _ => inb37 _ rfl (by rw [o3 w hw]; omega)⟩
  have hA : ∀ w w' : BitVec 32, w = BitVec.ofNat 32 e → w' = BitVec.ofNat 32 (M e) → (k0_cond2 i w w' = 1#1 ↔ e < 6 ∧ M e < 32 * (i 0).val) := by
    intro w w' hw hw'
    show condA w w' (Scalar.addi (Scalar.addi (Scalar.muli (BitVec.ofNat 32 (i 0).val) 32#32) 4294967280#32) 16#32) = 1#1 ↔ _
    rw [hw, hw', en0 (i 0).val hi]
    exact condA_iff _ _ _ (by omega) hMe (by omega)
  have hc1 := c1 _ w5
  have w9 : View.readAt (Elt F) arg9.view (Rect.unit (s := S3x7) (k0_off1 (View.readAt (Elt F) arg10.view (Rect.unit (s := S2) ![0] S1.size inb_S2_S1_0).toLoadRect f10 (Shape.Idx.first (s := S1) (by decide)))) S1x1.size (k0_off1_inb _ hc1)).toLoadRect f9 (Shape.Idx.first (s := S1x1) (by decide)) = BitVec.ofNat 32 (M e) :=
    (ld37 h9 _ _ _ e rfl (o1 _ w5)).trans hme
  have hc2 := c2 _ (View.readAt (Elt F) arg9.view (Rect.unit (s := S3x7) (k0_off1 (View.readAt (Elt F) arg10.view (Rect.unit (s := S2) ![0] S1.size inb_S2_S1_0).toLoadRect f10 (Shape.Idx.first (s := S1) (by decide)))) S1x1.size (k0_off1_inb _ hc1)).toLoadRect f9 (Shape.Idx.first (s := S1x1) (by decide))) w5
  have hAA := hA _ _ w5 w9
  unfold ha2
  by_cases hc : e < 6 ∧ M e < 32 * (i 0).val
  · have hcc := hAA.mpr hc
    sl_exec (disch := first | sl_exact hcc | sl_exact hc2 | sl_exact hc1)
    iapply Hk $$ %y %(fun _ _ => rfl)
    isplitl [H9]
    · iexists _; isplitr; swap; iexact H9; ipureintro; exact h9
    isplitl [H10]
    · iexists _; isplitr; swap; iexact H10; ipureintro; exact h10
    isplitl [H14]
    · iexists _; isplitr; swap; iexact H14; ipureintro
      unfold primT
      rw [if_pos hc]
      exact read_pieces _ _ _ _ S256x640.size (by sl_kernel_rfl) (List.forall_mem_cons.mpr ⟨fun j => (congrFun (mask_eq m _ e y w5 ((ldAll h14 _ (zero2) _)) (ld37 h9 _ _ _ (e - 1) rfl (o2 _ w5)) (ld37 h9 _ _ _ e rfl (o3 _ w5))) j).trans (congrArg (maskT m _ e y) (zero_idx (s := S256x640) ![0, 0] zero2 inb_S256x640_S256x640_0_0 j).symm), fun _ h => absurd h List.not_mem_nil⟩)
    · iexists _; isplitr; swap; iexact H15; ipureintro
      exact read_pieces _ _ _ _ S256x640.size (by sl_kernel_rfl) (List.forall_mem_cons.mpr ⟨fun j => (congrFun ((shapeCast_self _ _).trans (ldAll h14 _ (zero2) _)) j).trans (congrArg y (zero_idx (s := S256x640) ![0, 0] zero2 inb_S256x640_S256x640_0_0 j).symm), fun _ h => absurd h List.not_mem_nil⟩)
  · have hcc : ¬ _ := fun h => hc (hAA.mp h)
    sl_exec (disch := first | sl_exact hcc | sl_exact hc2 | sl_exact hc1)
    iapply Hk $$ %ysv %(fun h1 h2 => absurd ⟨h1, h2⟩ hc)
    unfold primT
    rw [if_neg hc]
    isplitl [H9]
    · iexists _; isplitr; swap; iexact H9; ipureintro; exact h9
    isplitl [H10]
    · iexists _; isplitr; swap; iexact H10; ipureintro; exact h10
    isplitl [H14]
    · iexists _; isplitr; swap; iexact H14; ipureintro; exact h14
    · iexists _; isplitr; swap; iexact H15; ipureintro; exact h15

/-- The chunk's rows masked when the open expert ends inside it, the rows kept for the experts after: half 1. -/
theorem maskB (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (e : ℕ) (he : e ≤ 6) (fl : Bool)
   (y ysv : Vec F S256x640 .bf16) (R : Type) (κ : Prog (TpuEff nD τ sig (Elt F) Λ₀ .tc) R) (Q : _ → sProp 𝕄) :
   iprop(owns (c : Thread nD τ) arg9 fullShare m ∗ owns (c : Thread nD τ) arg10 fullShare (cuV (F := F) e fl)
     ∗ owns (c : Thread nD τ) arg12 fullShare y ∗ owns (c : Thread nD τ) arg15 fullShare ysv)
   ⊢ iprop((∀ y15 : Vec F S256x640 .bf16, ⌜e < 6 → M e < 32 * (i 0).val + 16 → y15 = y⌝ -∗ owns (c : Thread nD τ) arg9 fullShare m ∗ owns (c : Thread nD τ) arg10 fullShare (cuV (F := F) e fl)
     ∗ owns (c : Thread nD τ) arg12 fullShare (primT M m (Scalar.addi (Scalar.muli (BitVec.ofNat 32 (i 0).val) 32#32) 0#32) (32 * (i 0).val + 16) e y) ∗ owns (c : Thread nD τ) arg15 fullShare y15 -∗ wp frame (wpE (defs₀ (F := F)) Variants.none c none) Set.univ κ Q)
    -∗ wp frame (wpE (defs₀ (F := F)) Variants.none c none) Set.univ (hb1 i arg9 arg10 arg12 harg12 arg15 harg15 (BitVec.ofNat 32 (i 0).val) κ) Q) := by
  have hi : (i 0).val < 25 := (i 0).isLt
  have hme := hM.word e (by omega)
  have hMe := hM.lt e (by omega)
  unfold owns
  iintro ⟨⟨%f9, %h9, H9⟩, ⟨%f10, %h10, H10⟩, ⟨%f14, %h14, H14⟩, ⟨%f15, %h15, H15⟩⟩ Hk
  have w5 : View.readAt (Elt F) arg10.view (Rect.unit (s := S2) ![0] S1.size inb_S2_S1_0).toLoadRect f10 (Shape.Idx.first (s := S1) (by decide)) = BitVec.ofNat 32 e := cu0_of h10 _ _
  have o1 : ∀ w : BitVec 32, w = BitVec.ofNat 32 e → k0_off16 w 1 = e := fun w hw => by
    show w.toNat = e
    rw [hw, toNat_n _ (by omega)]
  have o2 : ∀ w : BitVec 32, w = BitVec.ofNat 32 e → k0_off17 w 1 = e - 1 := fun w hw => by
    show (Scalar.maxsi (Scalar.subi w 1#32) 0#32).toNat = e - 1
    rw [hw, prevW _ (by omega)]
  have o3 : ∀ w : BitVec 32, w = BitVec.ofNat 32 e → k0_off18 w 1 = e := fun w hw => by
    show w.toNat = e
    rw [hw, toNat_n _ (by omega)]
  have c1 : ∀ w : BitVec 32, w = BitVec.ofNat 32 e → k0_chk8 w := fun w hw => inb37 _ rfl (by rw [o1 w hw]; omega)
  have c2 : ∀ w w' : BitVec 32, w = BitVec.ofNat 32 e → k0_chk9 i w w' := fun w w' hw =>
    ⟨fun _ => inb37 _ rfl (by rw [o2 w hw]; omega), fun _ => inb37 _ rfl (by rw [o3 w hw]; omega)⟩
  have hA : ∀ w w' : BitVec 32, w = BitVec.ofNat 32 e → w' = BitVec.ofNat 32 (M e) → (k0_cond9 i w w' = 1#1 ↔ e < 6 ∧ M e < 32 * (i 0).val + 16) := by
    intro w w' hw hw'
    show condA w w' (Scalar.addi (Scalar.addi (Scalar.muli (BitVec.ofNat 32 (i 0).val) 32#32) 0#32) 16#32) = 1#1 ↔ _
    rw [hw, hw', en1 (i 0).val hi]
    exact condA_iff _ _ _ (by omega) hMe (by omega)
  have hc1 := c1 _ w5
  have w9 : View.readAt (Elt F) arg9.view (Rect.unit (s := S3x7) (k0_off16 (View.readAt (Elt F) arg10.view (Rect.unit (s := S2) ![0] S1.size inb_S2_S1_0).toLoadRect f10 (Shape.Idx.first (s := S1) (by decide)))) S1x1.size (k0_off16_inb _ hc1)).toLoadRect f9 (Shape.Idx.first (s := S1x1) (by decide)) = BitVec.ofNat 32 (M e) :=
    (ld37 h9 _ _ _ e rfl (o1 _ w5)).trans hme
  have hc2 := c2 _ (View.readAt (Elt F) arg9.view (Rect.unit (s := S3x7) (k0_off16 (View.readAt (Elt F) arg10.view (Rect.unit (s := S2) ![0] S1.size inb_S2_S1_0).toLoadRect f10 (Shape.Idx.first (s := S1) (by decide)))) S1x1.size (k0_off16_inb _ hc1)).toLoadRect f9 (Shape.Idx.first (s := S1x1) (by decide))) w5
  have hAA := hA _ _ w5 w9
  unfold hb1
  by_cases hc : e < 6 ∧ M e < 32 * (i 0).val + 16
  · have hcc := hAA.mpr hc
    sl_exec (disch := first | sl_exact hcc | sl_exact hc2 | sl_exact hc1)
    iapply Hk $$ %y %(fun _ _ => rfl)
    isplitl [H9]
    · iexists _; isplitr; swap; iexact H9; ipureintro; exact h9
    isplitl [H10]
    · iexists _; isplitr; swap; iexact H10; ipureintro; exact h10
    isplitl [H14]
    · iexists _; isplitr; swap; iexact H14; ipureintro
      unfold primT
      rw [if_pos hc]
      exact read_pieces _ _ _ _ S256x640.size (by sl_kernel_rfl) (List.forall_mem_cons.mpr ⟨fun j => (congrFun (mask_eq m _ e y w5 ((ldAll h14 _ (zero2) _)) (ld37 h9 _ _ _ (e - 1) rfl (o2 _ w5)) (ld37 h9 _ _ _ e rfl (o3 _ w5))) j).trans (congrArg (maskT m _ e y) (zero_idx (s := S256x640) ![0, 0] zero2 inb_S256x640_S256x640_0_0 j).symm), fun _ h => absurd h List.not_mem_nil⟩)
    · iexists _; isplitr; swap; iexact H15; ipureintro
      exact read_pieces _ _ _ _ S256x640.size (by sl_kernel_rfl) (List.forall_mem_cons.mpr ⟨fun j => (congrFun ((shapeCast_self _ _).trans (ldAll h14 _ (zero2) _)) j).trans (congrArg y (zero_idx (s := S256x640) ![0, 0] zero2 inb_S256x640_S256x640_0_0 j).symm), fun _ h => absurd h List.not_mem_nil⟩)
  · have hcc : ¬ _ := fun h => hc (hAA.mp h)
    sl_exec (disch := first | sl_exact hcc | sl_exact hc2 | sl_exact hc1)
    iapply Hk $$ %ysv %(fun h1 h2 => absurd ⟨h1, h2⟩ hc)
    unfold primT
    rw [if_neg hc]
    isplitl [H9]
    · iexists _; isplitr; swap; iexact H9; ipureintro; exact h9
    isplitl [H10]
    · iexists _; isplitr; swap; iexact H10; ipureintro; exact h10
    isplitl [H14]
    · iexists _; isplitr; swap; iexact H14; ipureintro; exact h14
    · iexists _; isplitr; swap; iexact H15; ipureintro; exact h15

/-- The chunk's rows masked when the open expert ends inside it, the rows kept for the experts after: the last chunk. -/
theorem maskL (c : Dev nD) (i : grid0.Coords) (h16 : k0_cond16 i = 1#1) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (e : ℕ) (he : e ≤ 6) (fl : Bool)
   (y ysv : Vec F S256x640 .bf16) (R : Type) (κ : Prog (TpuEff nD τ sig (Elt F) Λ₀ .tc) R) (Q : _ → sProp 𝕄) :
   iprop(owns (c : Thread nD τ) arg9 fullShare m ∗ owns (c : Thread nD τ) arg10 fullShare (cuV (F := F) e fl)
     ∗ owns (c : Thread nD τ) arg14 fullShare y ∗ owns (c : Thread nD τ) arg15 fullShare ysv)
   ⊢ iprop((∀ y15 : Vec F S256x640 .bf16, ⌜e < 6 → M e < 32 * (i 0).val + 32 → y15 = y⌝ -∗ owns (c : Thread nD τ) arg9 fullShare m ∗ owns (c : Thread nD τ) arg10 fullShare (cuV (F := F) e fl)
     ∗ owns (c : Thread nD τ) arg14 fullShare (primT M m (Scalar.addi (Scalar.muli (BitVec.ofNat 32 (i 0).val) 32#32) 16#32) (32 * (i 0).val + 32) e y) ∗ owns (c : Thread nD τ) arg15 fullShare y15 -∗ wp frame (wpE (defs₀ (F := F)) Variants.none c none) Set.univ κ Q)
    -∗ wp frame (wpE (defs₀ (F := F)) Variants.none c none) Set.univ (hl1 i arg9 arg10 arg14 harg14 arg15 harg15 (BitVec.ofNat 32 (i 0).val) h16 κ) Q) := by
  have hi : (i 0).val < 25 := (i 0).isLt
  have hme := hM.word e (by omega)
  have hMe := hM.lt e (by omega)
  unfold owns
  iintro ⟨⟨%f9, %h9, H9⟩, ⟨%f10, %h10, H10⟩, ⟨%f14, %h14, H14⟩, ⟨%f15, %h15, H15⟩⟩ Hk
  have w5 : View.readAt (Elt F) arg10.view (Rect.unit (s := S2) ![0] S1.size inb_S2_S1_0).toLoadRect f10 (Shape.Idx.first (s := S1) (by decide)) = BitVec.ofNat 32 e := cu0_of h10 _ _
  have o1 : ∀ w : BitVec 32, w = BitVec.ofNat 32 e → k0_off31 w 1 = e := fun w hw => by
    show w.toNat = e
    rw [hw, toNat_n _ (by omega)]
  have o2 : ∀ w : BitVec 32, w = BitVec.ofNat 32 e → k0_off32 w 1 = e - 1 := fun w hw => by
    show (Scalar.maxsi (Scalar.subi w 1#32) 0#32).toNat = e - 1
    rw [hw, prevW _ (by omega)]
  have o3 : ∀ w : BitVec 32, w = BitVec.ofNat 32 e → k0_off33 w 1 = e := fun w hw => by
    show w.toNat = e
    rw [hw, toNat_n _ (by omega)]
  have c1 : ∀ w : BitVec 32, w = BitVec.ofNat 32 e → k0_chk15 i w := fun w hw => fun _ => inb37 _ rfl (by rw [o1 w hw]; omega)
  have c2 : ∀ w w' : BitVec 32, w = BitVec.ofNat 32 e → k0_chk16 i w w' := fun w w' hw =>
    ⟨fun _ => fun _ => inb37 _ rfl (by rw [o2 w hw]; omega), fun _ => fun _ => inb37 _ rfl (by rw [o3 w hw]; omega)⟩
  have hA : ∀ w w' : BitVec 32, w = BitVec.ofNat 32 e → w' = BitVec.ofNat 32 (M e) → (k0_cond17 i w w' = 1#1 ↔ e < 6 ∧ M e < 32 * (i 0).val + 32) := by
    intro w w' hw hw'
    show condA w w' (Scalar.addi (Scalar.addi (Scalar.muli (BitVec.ofNat 32 (i 0).val) 32#32) 16#32) 16#32) = 1#1 ↔ _
    rw [hw, hw', en2 (i 0).val hi]
    exact condA_iff _ _ _ (by omega) hMe (by omega)
  have hc1 := c1 _ w5
  have w9 : View.readAt (Elt F) arg9.view (Rect.unit (s := S3x7) (k0_off31 (View.readAt (Elt F) arg10.view (Rect.unit (s := S2) ![0] S1.size inb_S2_S1_0).toLoadRect f10 (Shape.Idx.first (s := S1) (by decide)))) S1x1.size (k0_off31_inb i _ hc1 h16)).toLoadRect f9 (Shape.Idx.first (s := S1x1) (by decide)) = BitVec.ofNat 32 (M e) :=
    (ld37 h9 _ _ _ e rfl (o1 _ w5)).trans hme
  have hc2 := c2 _ (View.readAt (Elt F) arg9.view (Rect.unit (s := S3x7) (k0_off31 (View.readAt (Elt F) arg10.view (Rect.unit (s := S2) ![0] S1.size inb_S2_S1_0).toLoadRect f10 (Shape.Idx.first (s := S1) (by decide)))) S1x1.size (k0_off31_inb i _ hc1 h16)).toLoadRect f9 (Shape.Idx.first (s := S1x1) (by decide))) w5
  have hAA := hA _ _ w5 w9
  unfold hl1
  by_cases hc : e < 6 ∧ M e < 32 * (i 0).val + 32
  · have hcc := hAA.mpr hc
    sl_exec (disch := first | sl_exact hcc | sl_exact hc2 | sl_exact hc1)
    iapply Hk $$ %y %(fun _ _ => rfl)
    isplitl [H9]
    · iexists _; isplitr; swap; iexact H9; ipureintro; exact h9
    isplitl [H10]
    · iexists _; isplitr; swap; iexact H10; ipureintro; exact h10
    isplitl [H14]
    · iexists _; isplitr; swap; iexact H14; ipureintro
      unfold primT
      rw [if_pos hc]
      exact read_pieces _ _ _ _ S256x640.size (by sl_kernel_rfl) (List.forall_mem_cons.mpr ⟨fun j => (congrFun (mask_eq m _ e y w5 ((ldAll h14 _ (zero2) _)) (ld37 h9 _ _ _ (e - 1) rfl (o2 _ w5)) (ld37 h9 _ _ _ e rfl (o3 _ w5))) j).trans (congrArg (maskT m _ e y) (zero_idx (s := S256x640) ![0, 0] zero2 inb_S256x640_S256x640_0_0 j).symm), fun _ h => absurd h List.not_mem_nil⟩)
    · iexists _; isplitr; swap; iexact H15; ipureintro
      exact read_pieces _ _ _ _ S256x640.size (by sl_kernel_rfl) (List.forall_mem_cons.mpr ⟨fun j => (congrFun ((shapeCast_self _ _).trans (ldAll h14 _ (zero2) _)) j).trans (congrArg y (zero_idx (s := S256x640) ![0, 0] zero2 inb_S256x640_S256x640_0_0 j).symm), fun _ h => absurd h List.not_mem_nil⟩)
  · have hcc : ¬ _ := fun h => hc (hAA.mp h)
    sl_exec (disch := first | sl_exact hcc | sl_exact hc2 | sl_exact hc1)
    iapply Hk $$ %ysv %(fun h1 h2 => absurd ⟨h1, h2⟩ hc)
    unfold primT
    rw [if_neg hc]
    isplitl [H9]
    · iexists _; isplitr; swap; iexact H9; ipureintro; exact h9
    isplitl [H10]
    · iexists _; isplitr; swap; iexact H10; ipureintro; exact h10
    isplitl [H14]
    · iexists _; isplitr; swap; iexact H14; ipureintro; exact h14
    · iexists _; isplitr; swap; iexact H15; ipureintro; exact h15

end Cert.Kernel.Hand
-- ==== Proof.ProdA.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Str0

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Half 0 of a step: the chunk accumulated tile by tile, and the next chunk's rows dequantised. -/
theorem prodA (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (e : ℕ) (fl : Bool)
   (xv : Vec F S512x1536 .bf16) (xs : Vec F S32x1536 .f32) (yv : Vec F S512x640 .bf16) (ys : Vec F S32x640 .f32)
   (x xo : Vec F S256x1536 .bf16) (y yo : Vec F S256x640 .bf16) (acc : Vec F S1536x640 .f32)
   (R : Type) (κ : BitVec 32 → BitVec 32 → BitVec 32 → Elt F .i32 → Elt F .i32 → BitVec 32 → BitVec 1 → Prog (TpuEff nD τ sig (Elt F) Λ₀ .tc) R) (Q : _ → sProp 𝕄) :
   iprop(owns (c : Thread nD τ) arg4 fullShare xv ∗ owns (c : Thread nD τ) arg5 fullShare xs ∗ owns (c : Thread nD τ) arg6 fullShare yv ∗ owns (c : Thread nD τ) arg7 fullShare ys ∗ owns (c : Thread nD τ) arg9 fullShare m ∗ owns (c : Thread nD τ) arg10 fullShare (cuV (F := F) e fl) ∗ owns (c : Thread nD τ) arg13 fullShare x ∗ owns (c : Thread nD τ) arg14 fullShare y ∗ owns (c : Thread nD τ) arg11 fullShare xo ∗ owns (c : Thread nD τ) arg12 fullShare yo ∗ owns (c : Thread nD τ) arg16 fullShare acc)
   ⊢ iprop((∀ (v898 : BitVec 32) (v899 : Elt F .i32) (v901 : Elt F .i32) (v905 : BitVec 32) (v906 : BitVec 1), ⌜v898 = Scalar.addi (Scalar.addi (Scalar.muli (BitVec.ofNat 32 (i 0).val) 32#32) 4294967280#32) 16#32 ∧ v899 = BitVec.ofNat 32 e ∧ v901 = BitVec.ofNat 32 (M 0) ∧ v905 = Scalar.addi 0#32 (Scalar.extui (Scalar.andi (Scalar.cmpi .sle v899 0#32) (Scalar.cmpi .sle v901 v898))) ∧ v906 = Scalar.cmpi .sle v899 1#32⌝ -∗ owns (c : Thread nD τ) arg4 fullShare xv ∗ owns (c : Thread nD τ) arg5 fullShare xs ∗ owns (c : Thread nD τ) arg6 fullShare yv ∗ owns (c : Thread nD τ) arg7 fullShare ys ∗ owns (c : Thread nD τ) arg9 fullShare m ∗ owns (c : Thread nD τ) arg10 fullShare (cuV (F := F) e fl) ∗ owns (c : Thread nD τ) arg13 fullShare x ∗ owns (c : Thread nD τ) arg14 fullShare y ∗ owns (c : Thread nD τ) arg11 fullShare (deqX 0 xv xs) ∗ owns (c : Thread nD τ) arg12 fullShare (deqY 0 yv ys) ∗ owns (c : Thread nD τ) arg16 fullShare (accT acc x y)
      -∗ wp frame (wpE (defs₀ (F := F)) Variants.none c none) Set.univ (κ (BitVec.ofNat 32 (i 0).val) (Scalar.addi (Scalar.muli (BitVec.ofNat 32 (i 0).val) 32#32) 4294967280#32) v898 v899 v901 v905 v906) Q)
    -∗ wp frame (wpE (defs₀ (F := F)) Variants.none c none) Set.univ (ha2.tail i arg6 arg7 arg13 arg14 arg16) (fun r => wp frame (wpE (defs₀ (F := F)) Variants.none c none) Set.univ (hs2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 r.2.1 r.2.2.1 r.2.2.2.1 r.2.2.2.2 (κ r.1 r.2.1)) Q)) := by
  unfold owns
  iintro ⟨⟨%f4, %h4, H4⟩, ⟨%f5, %h5, H5⟩, ⟨%f6, %h6, H6⟩, ⟨%f7, %h7, H7⟩, ⟨%f9, %h9, H9⟩, ⟨%f10, %h10, H10⟩, ⟨%f13, %h13, H13⟩, ⟨%f14, %h14, H14⟩, ⟨%f11, %h11, H11⟩, ⟨%f12, %h12, H12⟩, ⟨%f16, %h16, H16⟩⟩ Hk
  unfold ha2.tail
  sl_exec
  iapply Hk $$ %_ %_ %_ %_ %_ %⟨rfl, cu0_of h10 _ _, (ld37 h9 _ _ _ 0 rfl rfl).trans (hM.word 0 (by omega)), rfl, rfl⟩
  isplitl [H4]
  · iexists _; isplitr; swap; iexact H4; ipureintro
    exact h4
  isplitl [H5]
  · iexists _; isplitr; swap; iexact H5; ipureintro
    exact h5
  isplitl [H6]
  · iexists _; isplitr; swap; iexact H6; ipureintro
    exact h6
  isplitl [H7]
  · iexists _; isplitr; swap; iexact H7; ipureintro
    exact h7
  isplitl [H9]
  · iexists _; isplitr; swap; iexact H9; ipureintro
    exact h9
  isplitl [H10]
  · iexists _; isplitr; swap; iexact H10; ipureintro
    exact h10
  isplitl [H13]
  · iexists _; isplitr; swap; iexact H13; ipureintro
    exact h13
  isplitl [H14]
  · iexists _; isplitr; swap; iexact H14; ipureintro
    exact h14
  isplitl [H11]
  · iexists _; isplitr; swap; iexact H11; ipureintro
    exact read_pieces _ _ _ _ S64x256.size (by sl_kernel_rfl) (List.forall_mem_cons.mpr ⟨fun j => emitX_tile h4 h5 0 12 1280 _ _ _ _ _ _ (by decide) (by decide) (by decide) rfl rfl rfl rfl rfl rfl _ _ _ _ _ inb_S256x1536_S64x256_192_1280 j, List.forall_mem_cons.mpr ⟨fun j => emitX_tile h4 h5 0 8 1280 _ _ _ _ _ _ (by decide) (by decide) (by decide) rfl rfl rfl rfl rfl rfl _ _ _ _ _ inb_S256x1536_S64x256_128_1280 j, List.forall_mem_cons.mpr ⟨fun j => emitX_tile h4 h5 0 4 1280 _ _ _ _ _ _ (by decide) (by decide) (by decide) rfl rfl rfl rfl rfl rfl _ _ _ _ _ inb_S256x1536_S64x256_64_1280 j, List.forall_mem_cons.mpr ⟨fun j => emitX_tile h4 h5 0 0 1280 _ _ _ _ _ _ (by decide) (by decide) (by decide) rfl rfl rfl rfl rfl rfl _ _ _ _ _ inb_S256x1536_S64x256_0_1280 j, List.forall_mem_cons.mpr ⟨fun j => emitX_tile h4 h5 0 12 1024 _ _ _ _ _ _ (by decide) (by decide) (by decide) rfl rfl rfl rfl rfl rfl _ _ _ _ _ inb_S256x1536_S64x256_192_1024 j, List.forall_mem_cons.mpr ⟨fun j => emitX_tile h4 h5 0 8 1024 _ _ _ _ _ _ (by decide) (by decide) (by decide) rfl rfl rfl rfl rfl rfl _ _ _ _ _ inb_S256x1536_S64x256_128_1024 j, List.forall_mem_cons.mpr ⟨fun j => emitX_tile h4 h5 0 4 1024 _ _ _ _ _ _ (by decide) (by decide) (by decide) rfl rfl rfl rfl rfl rfl _ _ _ _ _ inb_S256x1536_S64x256_64_1024 j, List.forall_mem_cons.mpr ⟨fun j => emitX_tile h4 h5 0 0 1024 _ _ _ _ _ _ (by decide) (by decide) (by decide) rfl rfl rfl rfl rfl rfl _ _ _ _ _ inb_S256x1536_S64x256_0_1024 j, List.forall_mem_cons.mpr ⟨fun j => emitX_tile h4 h5 0 12 768 _ _ _ _ _ _ (by decide) (by decide) (by decide) rfl rfl rfl rfl rfl rfl _ _ _ _ _ inb_S256x1536_S64x256_192_768 j, List.forall_mem_cons.mpr ⟨fun j => emitX_tile h4 h5 0 8 768 _ _ _ _ _ _ (by decide) (by decide) (by decide) rfl rfl rfl rfl rfl rfl _ _ _ _ _ inb_S256x1536_S64x256_128_768 j, List.forall_mem_cons.mpr ⟨fun j => emitX_tile h4 h5 0 4 768 _ _ _ _ _ _ (by decide) (by decide) (by decide) rfl rfl rfl rfl rfl rfl _ _ _ _ _ inb_S256x1536_S64x256_64_768 j, List.forall_mem_cons.mpr ⟨fun j => emitX_tile h4 h5 0 0 768 _ _ _ _ _ _ (by decide) (by decide) (by decide) rfl rfl rfl rfl rfl rfl _ _ _ _ _ inb_S256x1536_S64x256_0_768 j, List.forall_mem_cons.mpr ⟨fun j => emitX_tile h4 h5 0 12 512 _ _ _ _ _ _ (by decide) (by decide) (by decide) rfl rfl rfl rfl rfl rfl _ _ _ _ _ inb_S256x1536_S64x256_192_512 j, List.forall_mem_cons.mpr ⟨fun j => emitX_tile h4 h5 0 8 512 _ _ _ _ _ _ (by decide) (by decide) (by decide) rfl rfl rfl rfl rfl rfl _ _ _ _ _ inb_S256x1536_S64x256_128_512 j, List.forall_mem_cons.mpr ⟨fun j => emitX_tile h4 h5 0 4 512 _ _ _ _ _ _ (by decide) (by decide) (by decide) rfl rfl rfl rfl rfl rfl _ _ _ _ _ inb_S256x1536_S64x256_64_512 j, List.forall_mem_cons.mpr ⟨fun j => emitX_tile h4 h5 0 0 512 _ _ _ _ _ _ (by decide) (by decide) (by decide) rfl rfl rfl rfl rfl rfl _ _ _ _ _ inb_S256x1536_S64x256_0_512 j, List.forall_mem_cons.mpr ⟨fun j => emitX_tile h4 h5 0 12 256 _ _ _ _ _ _ (by decide) (by decide) (by decide) rfl rfl rfl rfl rfl rfl _ _ _ _ _ inb_S256x1536_S64x256_192_256 j, List.forall_mem_cons.mpr ⟨fun j => emitX_tile h4 h5 0 8 256 _ _ _ _ _ _ (by decide) (by decide) (by decide) rfl rfl rfl rfl rfl rfl _ _ _ _ _ inb_S256x1536_S64x256_128_256 j, List.forall_mem_cons.mpr ⟨fun j => emitX_tile h4 h5 0 4 256 _ _ _ _ _ _ (by decide) (by decide) (by decide) rfl rfl rfl rfl rfl rfl _ _ _ _ _ inb_S256x1536_S64x256_64_256 j, List.forall_mem_cons.mpr ⟨fun j => emitX_tile h4 h5 0 0 256 _ _ _ _ _ _ (by decide) (by decide) (by decide) rfl rfl rfl rfl rfl rfl _ _ _ _ _ inb_S256x1536_S64x256_0_256 j, List.forall_mem_cons.mpr ⟨fun j => emitX_tile h4 h5 0 12 0 _ _ _ _ _ _ (by decide) (by decide) (by decide) rfl rfl rfl rfl rfl rfl _ _ _ _ _ inb_S256x1536_S64x256_192_0 j, List.forall_mem_cons.mpr ⟨fun j => emitX_tile h4 h5 0 8 0 _ _ _ _ _ _ (by decide) (by decide) (by decide) rfl rfl rfl rfl rfl rfl _ _ _ _ _ inb_S256x1536_S64x256_128_0 j, List.forall_mem_cons.mpr ⟨fun j => emitX_tile h4 h5 0 4 0 _ _ _ _ _ _ (by decide) (by decide) (by decide) rfl rfl rfl rfl rfl rfl _ _ _ _ _ inb_S256x1536_S64x256_64_0 j, List.forall_mem_cons.mpr ⟨fun j => emitX_tile h4 h5 0 0 0 _ _ _ _ _ _ (by decide) (by decide) (by decide) rfl rfl rfl rfl rfl rfl _ _ _ _ _ inb_S256x1536_S64x256_0_0 j, fun _ h => absurd h List.not_mem_nil⟩⟩⟩⟩⟩⟩⟩⟩⟩⟩⟩⟩⟩⟩⟩⟩⟩⟩⟩⟩⟩⟩⟩⟩)
  isplitl [H12]
  · iexists _; isplitr; swap; iexact H12; ipureintro
    exact read_pieces _ _ _ _ S64x128.size (by sl_kernel_rfl) (List.forall_mem_cons.mpr ⟨fun j => emitY_tile h6 h7 0 12 512 _ _ _ _ _ _ (by decide) (by decide) (by decide) rfl rfl rfl rfl rfl rfl _ _ _ _ _ inb_S256x640_S64x128_192_512 j, List.forall_mem_cons.mpr ⟨fun j => emitY_tile h6 h7 0 8 512 _ _ _ _ _ _ (by decide) (by decide) (by decide) rfl rfl rfl rfl rfl rfl _ _ _ _ _ inb_S256x640_S64x128_128_512 j, List.forall_mem_cons.mpr ⟨fun j => emitY_tile h6 h7 0 4 512 _ _ _ _ _ _ (by decide) (by decide) (by decide) rfl rfl rfl rfl rfl rfl _ _ _ _ _ inb_S256x640_S64x128_64_512 j, List.forall_mem_cons.mpr ⟨fun j => emitY_tile h6 h7 0 0 512 _ _ _ _ _ _ (by decide) (by decide) (by decide) rfl rfl rfl rfl rfl rfl _ _ _ _ _ inb_S256x640_S64x128_0_512 j, List.forall_mem_cons.mpr ⟨fun j => emitY_tile h6 h7 0 12 384 _ _ _ _ _ _ (by decide) (by decide) (by decide) rfl rfl rfl rfl rfl rfl _ _ _ _ _ inb_S256x640_S64x128_192_384 j, List.forall_mem_cons.mpr ⟨fun j => emitY_tile h6 h7 0 8 384 _ _ _ _ _ _ (by decide) (by decide) (by decide) rfl rfl rfl rfl rfl rfl _ _ _ _ _ inb_S256x640_S64x128_128_384 j, List.forall_mem_cons.mpr ⟨fun j => emitY_tile h6 h7 0 4 384 _ _ _ _ _ _ (by decide) (by decide) (by decide) rfl rfl rfl rfl rfl rfl _ _ _ _ _ inb_S256x640_S64x128_64_384 j, List.forall_mem_cons.mpr ⟨fun j => emitY_tile h6 h7 0 0 384 _ _ _ _ _ _ (by decide) (by decide) (by decide) rfl rfl rfl rfl rfl rfl _ _ _ _ _ inb_S256x640_S64x128_0_384 j, List.forall_mem_cons.mpr ⟨fun j => emitY_tile h6 h7 0 12 256 _ _ _ _ _ _ (by decide) (by decide) (by decide) rfl rfl rfl rfl rfl rfl _ _ _ _ _ inb_S256x640_S64x128_192_256 j, List.forall_mem_cons.mpr ⟨fun j => emitY_tile h6 h7 0 8 256 _ _ _ _ _ _ (by decide) (by decide) (by decide) rfl rfl rfl rfl rfl rfl _ _ _ _ _ inb_S256x640_S64x128_128_256 j, List.forall_mem_cons.mpr ⟨fun j => emitY_tile h6 h7 0 4 256 _ _ _ _ _ _ (by decide) (by decide) (by decide) rfl rfl rfl rfl rfl rfl _ _ _ _ _ inb_S256x640_S64x128_64_256 j, List.forall_mem_cons.mpr ⟨fun j => emitY_tile h6 h7 0 0 256 _ _ _ _ _ _ (by decide) (by decide) (by decide) rfl rfl rfl rfl rfl rfl _ _ _ _ _ inb_S256x640_S64x128_0_256 j, List.forall_mem_cons.mpr ⟨fun j => emitY_tile h6 h7 0 12 128 _ _ _ _ _ _ (by decide) (by decide) (by decide) rfl rfl rfl rfl rfl rfl _ _ _ _ _ inb_S256x640_S64x128_192_128 j, List.forall_mem_cons.mpr ⟨fun j => emitY_tile h6 h7 0 8 128 _ _ _ _ _ _ (by decide) (by decide) (by decide) rfl rfl rfl rfl rfl rfl _ _ _ _ _ inb_S256x640_S64x128_128_128 j, List.forall_mem_cons.mpr ⟨fun j => emitY_tile h6 h7 0 4 128 _ _ _ _ _ _ (by decide) (by decide) (by decide) rfl rfl rfl rfl rfl rfl _ _ _ _ _ inb_S256x640_S64x128_64_128 j, List.forall_mem_cons.mpr ⟨fun j => emitY_tile h6 h7 0 0 128 _ _ _ _ _ _ (by decide) (by decide) (by decide) rfl rfl rfl rfl rfl rfl _ _ _ _ _ inb_S256x640_S64x128_0_128 j, List.forall_mem_cons.mpr ⟨fun j => emitY_tile h6 h7 0 12 0 _ _ _ _ _ _ (by decide) (by decide) (by decide) rfl rfl rfl rfl rfl rfl _ _ _ _ _ inb_S256x640_S64x128_192_0 j, List.forall_mem_cons.mpr ⟨fun j => emitY_tile h6 h7 0 8 0 _ _ _ _ _ _ (by decide) (by decide) (by decide) rfl rfl rfl rfl rfl rfl _ _ _ _ _ inb_S256x640_S64x128_128_0 j, List.forall_mem_cons.mpr ⟨fun j => emitY_tile h6 h7 0 4 0 _ _ _ _ _ _ (by decide) (by decide) (by decide) rfl rfl rfl rfl rfl rfl _ _ _ _ _ inb_S256x640_S64x128_64_0 j, List.forall_mem_cons.mpr ⟨fun j => emitY_tile h6 h7 0 0 0 _ _ _ _ _ _ (by decide) (by decide) (by decide) rfl rfl rfl rfl rfl rfl _ _ _ _ _ inb_S256x640_S64x128_0_0 j, fun _ h => absurd h List.not_mem_nil⟩⟩⟩⟩⟩⟩⟩⟩⟩⟩⟩⟩⟩⟩⟩⟩⟩⟩⟩⟩)
  · iexists _; isplitr; swap; iexact H16; ipureintro
    exact read_pieces _ _ _ _ S256x640.size (by sl_kernel_rfl) (List.forall_mem_cons.mpr ⟨fun j => acc_tile h16 h13 (ldAll h14 _ zero2 _) 5 (by decide) _ _ rfl rfl _ _ j, List.forall_mem_cons.mpr ⟨fun j => acc_tile h16 h13 (ldAll h14 _ zero2 _) 4 (by decide) _ _ rfl rfl _ _ j, List.forall_mem_cons.mpr ⟨fun j => acc_tile h16 h13 (ldAll h14 _ zero2 _) 3 (by decide) _ _ rfl rfl _ _ j, List.forall_mem_cons.mpr ⟨fun j => acc_tile h16 h13 (ldAll h14 _ zero2 _) 2 (by decide) _ _ rfl rfl _ _ j, List.forall_mem_cons.mpr ⟨fun j => acc_tile h16 h13 (ldAll h14 _ zero2 _) 1 (by decide) _ _ rfl rfl _ _ j, List.forall_mem_cons.mpr ⟨fun j => acc_tile h16 h13 (ldAll h14 _ zero2 _) 0 (by decide) _ _ rfl rfl _ _ j, fun _ h => absurd h List.not_mem_nil⟩⟩⟩⟩⟩⟩)

end Cert.Kernel.Hand
-- ==== Proof.ProdB.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Str0

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Half 1 of a step: the chunk accumulated tile by tile, and the next chunk's rows dequantised. -/
theorem prodB (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (e : ℕ) (fl : Bool)
   (xv : Vec F S512x1536 .bf16) (xs : Vec F S32x1536 .f32) (yv : Vec F S512x640 .bf16) (ys : Vec F S32x640 .f32)
   (x xo : Vec F S256x1536 .bf16) (y yo : Vec F S256x640 .bf16) (acc : Vec F S1536x640 .f32)
   (R : Type) (κ : BitVec 32 → BitVec 32 → Elt F .i32 → Elt F .i32 → Elt F .i32 → BitVec 32 → Prog (TpuEff nD τ sig (Elt F) Λ₀ .tc) R) (Q : _ → sProp 𝕄) :
   iprop(owns (c : Thread nD τ) arg4 fullShare xv ∗ owns (c : Thread nD τ) arg5 fullShare xs ∗ owns (c : Thread nD τ) arg6 fullShare yv ∗ owns (c : Thread nD τ) arg7 fullShare ys ∗ owns (c : Thread nD τ) arg9 fullShare m ∗ owns (c : Thread nD τ) arg10 fullShare (cuV (F := F) e fl) ∗ owns (c : Thread nD τ) arg11 fullShare x ∗ owns (c : Thread nD τ) arg12 fullShare y ∗ owns (c : Thread nD τ) arg13 fullShare xo ∗ owns (c : Thread nD τ) arg14 fullShare yo ∗ owns (c : Thread nD τ) arg16 fullShare acc)
   ⊢ iprop((∀ (v898 : BitVec 32) (v899 : Elt F .i32) (v901 : Elt F .i32) (v907 : Elt F .i32) (v905 : BitVec 32), ⌜v898 = Scalar.addi (Scalar.addi (Scalar.muli (BitVec.ofNat 32 (i 0).val) 32#32) 0#32) 16#32 ∧ v899 = BitVec.ofNat 32 e ∧ v901 = BitVec.ofNat 32 (M 0) ∧ v907 = BitVec.ofNat 32 (M 1) ∧ v905 = Scalar.addi (Scalar.addi 0#32 (Scalar.extui (Scalar.andi (Scalar.cmpi .sle v899 0#32) (Scalar.cmpi .sle v901 v898)))) (Scalar.extui (Scalar.andi (Scalar.cmpi .sle v899 1#32) (Scalar.cmpi .sle v907 v898)))⌝ -∗ owns (c : Thread nD τ) arg4 fullShare xv ∗ owns (c : Thread nD τ) arg5 fullShare xs ∗ owns (c : Thread nD τ) arg6 fullShare yv ∗ owns (c : Thread nD τ) arg7 fullShare ys ∗ owns (c : Thread nD τ) arg9 fullShare m ∗ owns (c : Thread nD τ) arg10 fullShare (cuV (F := F) e fl) ∗ owns (c : Thread nD τ) arg11 fullShare x ∗ owns (c : Thread nD τ) arg12 fullShare y ∗ owns (c : Thread nD τ) arg13 fullShare (deqX 1 xv xs) ∗ owns (c : Thread nD τ) arg14 fullShare (deqY 1 yv ys) ∗ owns (c : Thread nD τ) arg16 fullShare (accT acc x y)
      -∗ wp frame (wpE (defs₀ (F := F)) Variants.none c none) Set.univ (κ (Scalar.addi (Scalar.muli (BitVec.ofNat 32 (i 0).val) 32#32) 0#32) v898 v899 v901 v907 v905) Q)
    -∗ wp frame (wpE (defs₀ (F := F)) Variants.none c none) Set.univ (hb1.tail arg6 arg7 arg11 arg12 arg16 (BitVec.ofNat 32 (i 0).val)) (fun r => wp frame (wpE (defs₀ (F := F)) Variants.none c none) Set.univ (hs5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 r.1 r.2.1 r.2.2.1 r.2.2.2.1 r.2.2.2.2.1 r.2.2.2.2.2 (κ r.1)) Q)) := by
  unfold owns
  iintro ⟨⟨%f4, %h4, H4⟩, ⟨%f5, %h5, H5⟩, ⟨%f6, %h6, H6⟩, ⟨%f7, %h7, H7⟩, ⟨%f9, %h9, H9⟩, ⟨%f10, %h10, H10⟩, ⟨%f11, %h11, H11⟩, ⟨%f12, %h12, H12⟩, ⟨%f13, %h13, H13⟩, ⟨%f14, %h14, H14⟩, ⟨%f16, %h16, H16⟩⟩ Hk
  unfold hb1.tail
  sl_exec
  iapply Hk $$ %_ %_ %_ %_ %_ %⟨rfl, cu0_of h10 _ _, (ld37 h9 _ _ _ 0 rfl rfl).trans (hM.word 0 (by omega)), (ld37 h9 _ _ _ 1 rfl rfl).trans (hM.word 1 (by omega)), rfl⟩
  isplitl [H4]
  · iexists _; isplitr; swap; iexact H4; ipureintro
    exact h4
  isplitl [H5]
  · iexists _; isplitr; swap; iexact H5; ipureintro
    exact h5
  isplitl [H6]
  · iexists _; isplitr; swap; iexact H6; ipureintro
    exact h6
  isplitl [H7]
  · iexists _; isplitr; swap; iexact H7; ipureintro
    exact h7
  isplitl [H9]
  · iexists _; isplitr; swap; iexact H9; ipureintro
    exact h9
  isplitl [H10]
  · iexists _; isplitr; swap; iexact H10; ipureintro
    exact h10
  isplitl [H11]
  · iexists _; isplitr; swap; iexact H11; ipureintro
    exact h11
  isplitl [H12]
  · iexists _; isplitr; swap; iexact H12; ipureintro
    exact h12
  isplitl [H13]
  · iexists _; isplitr; swap; iexact H13; ipureintro
    exact read_pieces _ _ _ _ S64x256.size (by sl_kernel_rfl) (List.forall_mem_cons.mpr ⟨fun j => emitX_tile h4 h5 1 12 1280 _ _ _ _ _ _ (by decide) (by decide) (by decide) rfl rfl rfl rfl rfl rfl _ _ _ _ _ inb_S256x1536_S64x256_192_1280 j, List.forall_mem_cons.mpr ⟨fun j => emitX_tile h4 h5 1 8 1280 _ _ _ _ _ _ (by decide) (by decide) (by decide) rfl rfl rfl rfl rfl rfl _ _ _ _ _ inb_S256x1536_S64x256_128_1280 j, List.forall_mem_cons.mpr ⟨fun j => emitX_tile h4 h5 1 4 1280 _ _ _ _ _ _ (by decide) (by decide) (by decide) rfl rfl rfl rfl rfl rfl _ _ _ _ _ inb_S256x1536_S64x256_64_1280 j, List.forall_mem_cons.mpr ⟨fun j => emitX_tile h4 h5 1 0 1280 _ _ _ _ _ _ (by decide) (by decide) (by decide) rfl rfl rfl rfl rfl rfl _ _ _ _ _ inb_S256x1536_S64x256_0_1280 j, List.forall_mem_cons.mpr ⟨fun j => emitX_tile h4 h5 1 12 1024 _ _ _ _ _ _ (by decide) (by decide) (by decide) rfl rfl rfl rfl rfl rfl _ _ _ _ _ inb_S256x1536_S64x256_192_1024 j, List.forall_mem_cons.mpr ⟨fun j => emitX_tile h4 h5 1 8 1024 _ _ _ _ _ _ (by decide) (by decide) (by decide) rfl rfl rfl rfl rfl rfl _ _ _ _ _ inb_S256x1536_S64x256_128_1024 j, List.forall_mem_cons.mpr ⟨fun j => emitX_tile h4 h5 1 4 1024 _ _ _ _ _ _ (by decide) (by decide) (by decide) rfl rfl rfl rfl rfl rfl _ _ _ _ _ inb_S256x1536_S64x256_64_1024 j, List.forall_mem_cons.mpr ⟨fun j => emitX_tile h4 h5 1 0 1024 _ _ _ _ _ _ (by decide) (by decide) (by decide) rfl rfl rfl rfl rfl rfl _ _ _ _ _ inb_S256x1536_S64x256_0_1024 j, List.forall_mem_cons.mpr ⟨fun j => emitX_tile h4 h5 1 12 768 _ _ _ _ _ _ (by decide) (by decide) (by decide) rfl rfl rfl rfl rfl rfl _ _ _ _ _ inb_S256x1536_S64x256_192_768 j, List.forall_mem_cons.mpr ⟨fun j => emitX_tile h4 h5 1 8 768 _ _ _ _ _ _ (by decide) (by decide) (by decide) rfl rfl rfl rfl rfl rfl _ _ _ _ _ inb_S256x1536_S64x256_128_768 j, List.forall_mem_cons.mpr ⟨fun j => emitX_tile h4 h5 1 4 768 _ _ _ _ _ _ (by decide) (by decide) (by decide) rfl rfl rfl rfl rfl rfl _ _ _ _ _ inb_S256x1536_S64x256_64_768 j, List.forall_mem_cons.mpr ⟨fun j => emitX_tile h4 h5 1 0 768 _ _ _ _ _ _ (by decide) (by decide) (by decide) rfl rfl rfl rfl rfl rfl _ _ _ _ _ inb_S256x1536_S64x256_0_768 j, List.forall_mem_cons.mpr ⟨fun j => emitX_tile h4 h5 1 12 512 _ _ _ _ _ _ (by decide) (by decide) (by decide) rfl rfl rfl rfl rfl rfl _ _ _ _ _ inb_S256x1536_S64x256_192_512 j, List.forall_mem_cons.mpr ⟨fun j => emitX_tile h4 h5 1 8 512 _ _ _ _ _ _ (by decide) (by decide) (by decide) rfl rfl rfl rfl rfl rfl _ _ _ _ _ inb_S256x1536_S64x256_128_512 j, List.forall_mem_cons.mpr ⟨fun j => emitX_tile h4 h5 1 4 512 _ _ _ _ _ _ (by decide) (by decide) (by decide) rfl rfl rfl rfl rfl rfl _ _ _ _ _ inb_S256x1536_S64x256_64_512 j, List.forall_mem_cons.mpr ⟨fun j => emitX_tile h4 h5 1 0 512 _ _ _ _ _ _ (by decide) (by decide) (by decide) rfl rfl rfl rfl rfl rfl _ _ _ _ _ inb_S256x1536_S64x256_0_512 j, List.forall_mem_cons.mpr ⟨fun j => emitX_tile h4 h5 1 12 256 _ _ _ _ _ _ (by decide) (by decide) (by decide) rfl rfl rfl rfl rfl rfl _ _ _ _ _ inb_S256x1536_S64x256_192_256 j, List.forall_mem_cons.mpr ⟨fun j => emitX_tile h4 h5 1 8 256 _ _ _ _ _ _ (by decide) (by decide) (by decide) rfl rfl rfl rfl rfl rfl _ _ _ _ _ inb_S256x1536_S64x256_128_256 j, List.forall_mem_cons.mpr ⟨fun j => emitX_tile h4 h5 1 4 256 _ _ _ _ _ _ (by decide) (by decide) (by decide) rfl rfl rfl rfl rfl rfl _ _ _ _ _ inb_S256x1536_S64x256_64_256 j, List.forall_mem_cons.mpr ⟨fun j => emitX_tile h4 h5 1 0 256 _ _ _ _ _ _ (by decide) (by decide) (by decide) rfl rfl rfl rfl rfl rfl _ _ _ _ _ inb_S256x1536_S64x256_0_256 j, List.forall_mem_cons.mpr ⟨fun j => emitX_tile h4 h5 1 12 0 _ _ _ _ _ _ (by decide) (by decide) (by decide) rfl rfl rfl rfl rfl rfl _ _ _ _ _ inb_S256x1536_S64x256_192_0 j, List.forall_mem_cons.mpr ⟨fun j => emitX_tile h4 h5 1 8 0 _ _ _ _ _ _ (by decide) (by decide) (by decide) rfl rfl rfl rfl rfl rfl _ _ _ _ _ inb_S256x1536_S64x256_128_0 j, List.forall_mem_cons.mpr ⟨fun j => emitX_tile h4 h5 1 4 0 _ _ _ _ _ _ (by decide) (by decide) (by decide) rfl rfl rfl rfl rfl rfl _ _ _ _ _ inb_S256x1536_S64x256_64_0 j, List.forall_mem_cons.mpr ⟨fun j => emitX_tile h4 h5 1 0 0 _ _ _ _ _ _ (by decide) (by decide) (by decide) rfl rfl rfl rfl rfl rfl _ _ _ _ _ inb_S256x1536_S64x256_0_0 j, fun _ h => absurd h List.not_mem_nil⟩⟩⟩⟩⟩⟩⟩⟩⟩⟩⟩⟩⟩⟩⟩⟩⟩⟩⟩⟩⟩⟩⟩⟩)
  isplitl [H14]
  · iexists _; isplitr; swap; iexact H14; ipureintro
    exact read_pieces _ _ _ _ S64x128.size (by sl_kernel_rfl) (List.forall_mem_cons.mpr ⟨fun j => emitY_tile h6 h7 1 12 512 _ _ _ _ _ _ (by decide) (by decide) (by decide) rfl rfl rfl rfl rfl rfl _ _ _ _ _ inb_S256x640_S64x128_192_512 j, List.forall_mem_cons.mpr ⟨fun j => emitY_tile h6 h7 1 8 512 _ _ _ _ _ _ (by decide) (by decide) (by decide) rfl rfl rfl rfl rfl rfl _ _ _ _ _ inb_S256x640_S64x128_128_512 j, List.forall_mem_cons.mpr ⟨fun j => emitY_tile h6 h7 1 4 512 _ _ _ _ _ _ (by decide) (by decide) (by decide) rfl rfl rfl rfl rfl rfl _ _ _ _ _ inb_S256x640_S64x128_64_512 j, List.forall_mem_cons.mpr ⟨fun j => emitY_tile h6 h7 1 0 512 _ _ _ _ _ _ (by decide) (by decide) (by decide) rfl rfl rfl rfl rfl rfl _ _ _ _ _ inb_S256x640_S64x128_0_512 j, List.forall_mem_cons.mpr ⟨fun j => emitY_tile h6 h7 1 12 384 _ _ _ _ _ _ (by decide) (by decide) (by decide) rfl rfl rfl rfl rfl rfl _ _ _ _ _ inb_S256x640_S64x128_192_384 j, List.forall_mem_cons.mpr ⟨fun j => emitY_tile h6 h7 1 8 384 _ _ _ _ _ _ (by decide) (by decide) (by decide) rfl rfl rfl rfl rfl rfl _ _ _ _ _ inb_S256x640_S64x128_128_384 j, List.forall_mem_cons.mpr ⟨fun j => emitY_tile h6 h7 1 4 384 _ _ _ _ _ _ (by decide) (by decide) (by decide) rfl rfl rfl rfl rfl rfl _ _ _ _ _ inb_S256x640_S64x128_64_384 j, List.forall_mem_cons.mpr ⟨fun j => emitY_tile h6 h7 1 0 384 _ _ _ _ _ _ (by decide) (by decide) (by decide) rfl rfl rfl rfl rfl rfl _ _ _ _ _ inb_S256x640_S64x128_0_384 j, List.forall_mem_cons.mpr ⟨fun j => emitY_tile h6 h7 1 12 256 _ _ _ _ _ _ (by decide) (by decide) (by decide) rfl rfl rfl rfl rfl rfl _ _ _ _ _ inb_S256x640_S64x128_192_256 j, List.forall_mem_cons.mpr ⟨fun j => emitY_tile h6 h7 1 8 256 _ _ _ _ _ _ (by decide) (by decide) (by decide) rfl rfl rfl rfl rfl rfl _ _ _ _ _ inb_S256x640_S64x128_128_256 j, List.forall_mem_cons.mpr ⟨fun j => emitY_tile h6 h7 1 4 256 _ _ _ _ _ _ (by decide) (by decide) (by decide) rfl rfl rfl rfl rfl rfl _ _ _ _ _ inb_S256x640_S64x128_64_256 j, List.forall_mem_cons.mpr ⟨fun j => emitY_tile h6 h7 1 0 256 _ _ _ _ _ _ (by decide) (by decide) (by decide) rfl rfl rfl rfl rfl rfl _ _ _ _ _ inb_S256x640_S64x128_0_256 j, List.forall_mem_cons.mpr ⟨fun j => emitY_tile h6 h7 1 12 128 _ _ _ _ _ _ (by decide) (by decide) (by decide) rfl rfl rfl rfl rfl rfl _ _ _ _ _ inb_S256x640_S64x128_192_128 j, List.forall_mem_cons.mpr ⟨fun j => emitY_tile h6 h7 1 8 128 _ _ _ _ _ _ (by decide) (by decide) (by decide) rfl rfl rfl rfl rfl rfl _ _ _ _ _ inb_S256x640_S64x128_128_128 j, List.forall_mem_cons.mpr ⟨fun j => emitY_tile h6 h7 1 4 128 _ _ _ _ _ _ (by decide) (by decide) (by decide) rfl rfl rfl rfl rfl rfl _ _ _ _ _ inb_S256x640_S64x128_64_128 j, List.forall_mem_cons.mpr ⟨fun j => emitY_tile h6 h7 1 0 128 _ _ _ _ _ _ (by decide) (by decide) (by decide) rfl rfl rfl rfl rfl rfl _ _ _ _ _ inb_S256x640_S64x128_0_128 j, List.forall_mem_cons.mpr ⟨fun j => emitY_tile h6 h7 1 12 0 _ _ _ _ _ _ (by decide) (by decide) (by decide) rfl rfl rfl rfl rfl rfl _ _ _ _ _ inb_S256x640_S64x128_192_0 j, List.forall_mem_cons.mpr ⟨fun j => emitY_tile h6 h7 1 8 0 _ _ _ _ _ _ (by decide) (by decide) (by decide) rfl rfl rfl rfl rfl rfl _ _ _ _ _ inb_S256x640_S64x128_128_0 j, List.forall_mem_cons.mpr ⟨fun j => emitY_tile h6 h7 1 4 0 _ _ _ _ _ _ (by decide) (by decide) (by decide) rfl rfl rfl rfl rfl rfl _ _ _ _ _ inb_S256x640_S64x128_64_0 j, List.forall_mem_cons.mpr ⟨fun j => emitY_tile h6 h7 1 0 0 _ _ _ _ _ _ (by decide) (by decide) (by decide) rfl rfl rfl rfl rfl rfl _ _ _ _ _ inb_S256x640_S64x128_0_0 j, fun _ h => absurd h List.not_mem_nil⟩⟩⟩⟩⟩⟩⟩⟩⟩⟩⟩⟩⟩⟩⟩⟩⟩⟩⟩⟩)
  · iexists _; isplitr; swap; iexact H16; ipureintro
    exact read_pieces _ _ _ _ S256x640.size (by sl_kernel_rfl) (List.forall_mem_cons.mpr ⟨fun j => acc_tile h16 h11 (ldAll h12 _ zero2 _) 5 (by decide) _ _ rfl rfl _ _ j, List.forall_mem_cons.mpr ⟨fun j => acc_tile h16 h11 (ldAll h12 _ zero2 _) 4 (by decide) _ _ rfl rfl _ _ j, List.forall_mem_cons.mpr ⟨fun j => acc_tile h16 h11 (ldAll h12 _ zero2 _) 3 (by decide) _ _ rfl rfl _ _ j, List.forall_mem_cons.mpr ⟨fun j => acc_tile h16 h11 (ldAll h12 _ zero2 _) 2 (by decide) _ _ rfl rfl _ _ j, List.forall_mem_cons.mpr ⟨fun j => acc_tile h16 h11 (ldAll h12 _ zero2 _) 1 (by decide) _ _ rfl rfl _ _ j, List.forall_mem_cons.mpr ⟨fun j => acc_tile h16 h11 (ldAll h12 _ zero2 _) 0 (by decide) _ _ rfl rfl _ _ j, fun _ h => absurd h List.not_mem_nil⟩⟩⟩⟩⟩⟩)

end Cert.Kernel.Hand
-- ==== Proof.Root.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Close
public import proofs.«01_k».proof.Proof.Mask
public import proofs.«01_k».proof.Proof.ProdA
public import proofs.«01_k».proof.Proof.ProdB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A step's first chunk: the second half of the rows before it. -/
def step1 (M : ℕ → ℕ) (m : Vec F S3x7 .i32) (gx gy : Vec F S7 .f32) (x : Vec F S256x1536 .bf16) (y : Vec F S256x640 .bf16) (n : ℕ) (s : St F) : St F :=
  chunk M m gx gy x y (Scalar.addi (Scalar.muli (BitVec.ofNat 32 n) 32#32) 4294967280#32) (32 * n) s

/-- A step's second chunk: the first half of its own rows. -/
def step2 (M : ℕ → ℕ) (m : Vec F S3x7 .i32) (gx gy : Vec F S7 .f32) (x : Vec F S256x1536 .bf16) (y : Vec F S256x640 .bf16)
    (xv : Vec F S512x1536 .bf16) (xs : Vec F S32x1536 .f32) (yv : Vec F S512x640 .bf16) (ys : Vec F S32x640 .f32) (n : ℕ) (s : St F) : St F :=
  chunk M m gx gy (deqX 0 xv xs) (deqY 0 yv ys) (Scalar.addi (Scalar.muli (BitVec.ofNat 32 n) 32#32) 0#32) (32 * n + 16) (step1 M m gx gy x y n s)

theorem chunk_e (M : ℕ → ℕ) (m : Vec F S3x7 .i32) (gx gy : Vec F S7 .f32) (x : Vec F S256x1536 .bf16) (y : Vec F S256x640 .bf16) (base : BitVec 32) (en : ℕ) (s : St F) :
    (chunk M m gx gy x y base en s).e = s.e + nFin M s.e en := by unfold chunk; rw [closeOne_iter_e]

/-- One more entry of the table, read before the second chunk's end is counted. -/
theorem hs5tail (c : Dev nD) (arg9 : Memref sig .tc .smem S3x7 .i32) (M : ℕ → ℕ) (m : Vec F S3x7 .i32) (hM : Meta M m) (a0 v944 w1838 w1839 w1841 w1847 w1851 : BitVec 32) (Q : _ → sProp 𝕄) :
    owns (c : Thread nD τ) arg9 fullShare m ⊢ iprop((∀ (v : Elt F .i32) (v' : BitVec 1), ⌜v = BitVec.ofNat 32 (M 2) ∧ v' = Scalar.andi (Scalar.cmpi .sle w1839 2#32) (Scalar.cmpi .sle v w1838)⌝ -∗ owns (c : Thread nD τ) arg9 fullShare m -∗ Q ⟨a0, v944, w1838, w1839, w1841, w1847, w1851, v, v'⟩)
      -∗ wp frame (wpE (defs₀ (F := F)) Variants.none c none) Set.univ (hs5.tail (F := F) arg9 a0 v944 w1838 w1839 w1841 w1847 w1851) Q) := by
  unfold owns
  iintro ⟨%f9, %h9, H9⟩ Hk
  unfold hs5.tail
  sl_exec
  rw [wp_ret]
  imodintro
  iapply Hk $$ %(hs5tail.sl.r c arg9 f9) %(hs5tail.sl.v1855 c arg9 w1838 w1839 f9) %(⟨(ld37 h9 _ (inb_S3x7_S1x1_0_2) (Shape.Idx.first (s := S1x1) (by decide)) 2 rfl rfl).trans (hM.word 2 (by omega)), rfl⟩)
  iexists _; isplitr; swap; iexact H9; ipureintro; exact h9

/-- One step, its first and last parts given: two chunks between them. -/
theorem rootS (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (gx gy : Vec F S7 .f32)
   (x : Vec F S256x1536 .bf16) (y : Vec F S256x640 .bf16) (xv : Vec F S512x1536 .bf16) (xs : Vec F S32x1536 .f32) (yv : Vec F S512x640 .bf16) (ys : Vec F S32x640 .f32)
   (s : St F) (he : s.e ≤ 6) (P Pr Post : sProp 𝕄)
   (hinit : ∀ (R : Type) (κ : Prog (TpuEff nD τ sig (Elt F) Λ₀ .tc) R) (Q : R → sProp 𝕄), P ⊢ iprop((Pr ∗ owns (c : Thread nD τ) arg9 fullShare m ∗ owns (c : Thread nD τ) arg10 fullShare (cuV (F := F) s.e s.fl) ∗ owns (c : Thread nD τ) arg13 fullShare x ∗ owns (c : Thread nD τ) arg14 fullShare y ∗ owns (c : Thread nD τ) arg16 fullShare s.acc -∗ wp frame (wpE (defs₀ (F := F)) Variants.none c none) Set.univ κ Q) -∗ wp frame (wpE (defs₀ (F := F)) Variants.none c none) Set.univ (ha1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 κ) Q))
   (hlast : ∀ (Q : _ → sProp 𝕄), iprop(owns (c : Thread nD τ) arg2 fullShare gx ∗ owns (c : Thread nD τ) arg3 fullShare gy ∗ owns (c : Thread nD τ) arg9 fullShare m ∗ owns (c : Thread nD τ) arg13 fullShare (deqX 1 xv xs) ∗ (∃ v, owns (c : Thread nD τ) arg15 fullShare v) ∗ owns (c : Thread nD τ) arg14 fullShare (deqY 1 yv ys) ∗ owns (c : Thread nD τ) arg10 fullShare (cuV (F := F) (step2 M m gx gy x y xv xs yv ys (i 0).val s).e (step2 M m gx gy x y xv xs yv ys (i 0).val s).fl) ∗ owns (c : Thread nD τ) arg16 fullShare (step2 M m gx gy x y xv xs yv ys (i 0).val s).acc ∗ DW c arg8 arg17 arg18 (step2 M m gx gy x y xv xs yv ys (i 0).val s).fl (step2 M m gx gy x y xv xs yv ys (i 0).val s).dw ∗ (∃ W, owes (c : Thread nD τ) 0 W)) ⊢ iprop((Post -∗ Q ⟨⟩) -∗ wp frame (wpE (defs₀ (F := F)) Variants.none c none) Set.univ (hr2.tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (BitVec.ofNat 32 (i 0).val)) Q))
   (Q : _ → sProp 𝕄) :
   iprop(P ∗ owns (c : Thread nD τ) arg2 fullShare gx ∗ owns (c : Thread nD τ) arg3 fullShare gy ∗ owns (c : Thread nD τ) arg4 fullShare xv ∗ owns (c : Thread nD τ) arg5 fullShare xs ∗ owns (c : Thread nD τ) arg6 fullShare yv ∗ owns (c : Thread nD τ) arg7 fullShare ys ∗ (∃ v, owns (c : Thread nD τ) arg11 fullShare v) ∗ (∃ v, owns (c : Thread nD τ) arg12 fullShare v) ∗ (∃ v, owns (c : Thread nD τ) arg15 fullShare v)
     ∗ DW c arg8 arg17 arg18 s.fl s.dw ∗ (∃ W, owes (c : Thread nD τ) 0 W))
   ⊢ iprop((Pr ∗ Post ∗ owns (c : Thread nD τ) arg4 fullShare xv ∗ owns (c : Thread nD τ) arg5 fullShare xs ∗ owns (c : Thread nD τ) arg6 fullShare yv ∗ owns (c : Thread nD τ) arg7 fullShare ys ∗ (∃ v, owns (c : Thread nD τ) arg11 fullShare v) ∗ (∃ v, owns (c : Thread nD τ) arg12 fullShare v) -∗ Q ⟨⟩)
    -∗ wp frame (wpE (defs₀ (F := F)) Variants.none c none) Set.univ (cc0_quant_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) Q) := by
  have hi : (i 0).val < 25 := (i 0).isLt
  have he1 : s.e + nFin M s.e (32 * (i 0).val) ≤ 6 := nFin_add M _ _ he
  have hE1 : (step1 M m gx gy x y (i 0).val s).e = s.e + nFin M s.e (32 * (i 0).val) := chunk_e ..
  have he2 : (step1 M m gx gy x y (i 0).val s).e ≤ 6 := by rw [hE1]; exact he1
  have hE2 : (step2 M m gx gy x y xv xs yv ys (i 0).val s).e = (step1 M m gx gy x y (i 0).val s).e + nFin M (step1 M m gx gy x y (i 0).val s).e (32 * (i 0).val + 16) := chunk_e ..
  iintro ⟨HP, H2, H3, H4, H5, H6, H7, ⟨%xo, H11⟩, ⟨%yo, H12⟩, ⟨%ysv, H15⟩, Hd, HO⟩ Hk
  rw [cc0_quant_dw_eq_skeleton, hr1.eq]
  unfold hr1
  rw [wp_bind, k0_part96_eq_skeleton, hs1.eq]
  unfold hs1
  rw [wp_bind, k0_part43_eq_skeleton, ha1.eq]
  iapply (hinit _ _ _) $$ HP
  iintro ⟨HPr, H9, H10, Hx, Hy, H16⟩
  iapply (maskA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM s.e he s.fl y ysv _ _ _) $$ [H9 H10 Hy H15]
  · isplitl [H9]; iexact H9
    isplitl [H10]; iexact H10
    isplitl [Hy]; iexact Hy
    iexact H15
  iintro %y15 %hy15 ⟨H9, H10, Hy, H15⟩
  iapply (prodA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM s.e s.fl xv xs yv ys x xo _ yo s.acc _ (fun a0 v4 => fun v898 v899 v901 v905 v906 => hs3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v4 v898 v899 v901 v905 v906 (hs4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 a0 (fun v944 v962 v965 v968 v971 v972 => hs5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v944 v962 v965 v968 v971 v972 (fun w1838 w1839 w1841 w1847 w1851 => hs5.tail arg9 a0 v944 w1838 w1839 w1841 w1847 w1851)))) _) $$ [H4 H5 H6 H7 H9 H10 Hx Hy H11 H12 H16]
  · isplitl [H4]; iexact H4
    isplitl [H5]; iexact H5
    isplitl [H6]; iexact H6
    isplitl [H7]; iexact H7
    isplitl [H9]; iexact H9
    isplitl [H10]; iexact H10
    isplitl [Hx]; iexact Hx
    isplitl [Hy]; iexact Hy
    isplitl [H11]; iexact H11
    isplitl [H12]; iexact H12
    iexact H16
  iintro %v898 %v899 %v901 %v905 %v906 %hv ⟨H4, H5, H6, H7, H9, H10, Hx, Hy, H11, H12, H16⟩
  obtain ⟨q1, q2, q3, q4, q5⟩ := hv
  subst q1 q4 q5
  iapply (closeA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM gx gy s.e he x y y15 { s with acc := accT s.acc x (primT M m (Scalar.addi (Scalar.muli (BitVec.ofNat 32 (i 0).val) 32#32) 4294967280#32) (32 * (i 0).val) s.e y) } rfl hy15 v899 v901 q2 q3 _ _ _) $$ [H2 H3 H9 Hx H15 Hy H10 H16 Hd HO]
  · unfold LI
    isplitl [H2]; iexact H2
    isplitl [H3]; iexact H3
    isplitl [H9]; iexact H9
    isplitl [Hx]; iexact Hx
    isplitl [H15]; iexact H15
    isplitl [Hy]; iexists _; iexact Hy
    isplitl [H10]; iexact H10
    isplitl [H16]; iexact H16
    isplitl [Hd]; iexact Hd
    iexact HO
  unfold LI
  iintro ⟨H2, H3, H9, Hx, H15, ⟨%yb, Hy⟩, H10, H16, Hd, HO⟩
  unfold hs4
  rw [wp_bind, k0_part70_eq_skeleton, hb1.eq]
  iapply (maskB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM (step1 M m gx gy x y (i 0).val s).e he2 (step1 M m gx gy x y (i 0).val s).fl (deqY 0 yv ys) y15 _ _ _) $$ [H9 H10 H12 H15]
  · isplitl [H9]; iexact H9
    isplitl [H10]; rw [hE1]; iexact H10
    isplitl [H12]; iexact H12
    iexact H15
  iintro %z15 %hz15 ⟨H9, H10, H12, H15⟩
  iapply (prodB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM (step1 M m gx gy x y (i 0).val s).e (step1 M m gx gy x y (i 0).val s).fl xv xs yv ys (deqX 0 xv xs) x _ yb (step1 M m gx gy x y (i 0).val s).acc _ (fun v944 w1838 w1839 w1841 w1847 w1851 => hs5.tail arg9 (BitVec.ofNat 32 (i 0).val) v944 w1838 w1839 w1841 w1847 w1851) _) $$ [H4 H5 H6 H7 H9 H10 Hx Hy H11 H12 H16]
  · isplitl [H4]; iexact H4
    isplitl [H5]; iexact H5
    isplitl [H6]; iexact H6
    isplitl [H7]; iexact H7
    isplitl [H9]; iexact H9
    isplitl [H10]; iexact H10
    isplitl [H11]; iexact H11
    isplitl [H12]; iexact H12
    isplitl [Hx]; iexact Hx
    isplitl [Hy]; iexact Hy
    iexact H16
  iintro %w898 %w899 %w901 %w907 %w905 %hw ⟨H4, H5, H6, H7, H9, H10, H11, H12, Hx, Hy, H16⟩
  obtain ⟨r1, r2, r3, r4, r5⟩ := hw
  subst r1 r5
  iapply (hs5tail c arg9 M m hM _ _ _ _ _ _ _ _) $$ H9
  iintro %w913 %w906 %hw9 H9
  obtain ⟨hw913, hw906⟩ := hw9
  subst hw906
  iapply (closeB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM gx gy (step1 M m gx gy x y (i 0).val s).e he2 (deqX 0 xv xs) (deqY 0 yv ys) z15 { (step1 M m gx gy x y (i 0).val s) with acc := accT (step1 M m gx gy x y (i 0).val s).acc (deqX 0 xv xs) (primT M m (Scalar.addi (Scalar.muli (BitVec.ofNat 32 (i 0).val) 32#32) 0#32) (32 * (i 0).val + 16) (step1 M m gx gy x y (i 0).val s).e (deqY 0 yv ys)) } rfl hz15 w899 w901 w907 w913 r2 r3 r4 hw913 _ _ _) $$ [H2 H3 H9 H11 H15 H12 H10 H16 Hd HO]
  · unfold LI
    isplitl [H2]; iexact H2
    isplitl [H3]; iexact H3
    isplitl [H9]; iexact H9
    isplitl [H11]; iexact H11
    isplitl [H15]; iexact H15
    isplitl [H12]; iexists _; iexact H12
    isplitl [H10]; iexact H10
    isplitl [H16]; iexact H16
    isplitl [Hd]; iexact Hd
    iexact HO
  unfold LI
  iintro ⟨H2, H3, H9, H11, H15, ⟨%yb2, H12⟩, H10, H16, Hd, HO⟩
  iapply (hlast _) $$ [H2 H3 H9 Hx H15 Hy H10 H16 Hd HO]
  · isplitl [H2]; iexact H2
    isplitl [H3]; iexact H3
    isplitl [H9]; iexact H9
    isplitl [Hx]; iexact Hx
    isplitl [H15]; iexists _; iexact H15
    isplitl [Hy]; iexact Hy
    isplitl [H10]; rw [hE2]; iexact H10
    isplitl [H16]; iexact H16
    isplitl [Hd]; iexact Hd
    iexact HO
  iintro HPost
  iapply Hk
  isplitl [HPr]; iexact HPr
  isplitl [HPost]; iexact HPost
  isplitl [H4]; iexact H4
  isplitl [H5]; iexact H5
  isplitl [H6]; iexact H6
  isplitl [H7]; iexact H7
  isplitl [H11]; iexists _; iexact H11
  iexists _; iexact H12

end Cert.Kernel.Hand
-- ==== Proof.Init.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Str0

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table of block ends, paddings and offsets, row by row, of the six group sizes `g`. -/
def entW (g : ℕ → BitVec 32) : ℕ → ℕ → BitVec 32
  | 0, 6 => 1073741824#32
  | 0, 0 => Scalar.addi 0#32 (Scalar.shrui (Scalar.addi (g 0) 15#32) 4#32)
  | 0, k + 1 => Scalar.addi (entW g 0 k) (Scalar.shrui (Scalar.addi (g (k + 1)) 15#32) 4#32)
  | 1, 6 => entW g 1 5
  | 1, 0 => Scalar.subi (Scalar.muli 0#32 16#32) 0#32
  | 1, k + 1 => Scalar.subi (Scalar.muli (entW g 0 k) 16#32) (entW g 2 k)
  | 2, 6 => 0#32
  | 2, 0 => Scalar.addi 0#32 (g 0)
  | 2, k + 1 => Scalar.addi (entW g 2 k) (g (k + 1))
  | _, _ => 0#32

/-- The table as a block. -/
def tabW (g : ℕ → BitVec 32) : Vec F S3x7 .i32 := fun j => entW g (j 0).val (j 1).val

theorem tab_at (g : ℕ → BitVec 32) (r k : ℕ) (hr : r < 3) (hk : k < 7) (inb) (j) :
    tabW (F := F) g ((Rect.unit (s := S3x7) ![r, k] S1x1.size inb).emb j) = entW g r k := by
  have hj0 : (j 0).val = 0 := by have := (j 0).isLt; change _ < 1 at this; omega
  have hj1 : (j 1).val = 0 := by have := (j 1).isLt; change _ < 1 at this; omega
  show entW g (r + 1 * (j 0).val) (k + 1 * (j 1).val) = _
  rw [hj0, hj1, Nat.mul_zero, Nat.add_zero, Nat.add_zero]

/-- Six words as a table. -/
def wOf (a0 a1 a2 a3 a4 a5 : BitVec 32) : ℕ → BitVec 32 | 0 => a0 | 1 => a1 | 2 => a2 | 3 => a3 | 4 => a4 | _ => a5

theorem te_0_0 (a0 a1 a2 a3 a4 a5 : BitVec 32) (inb) (j) : tabW (F := F) (wOf a0 a1 a2 a3 a4 a5) ((Rect.unit (s := S3x7) ![0, 0] S1x1.size inb).emb j) = (Scalar.addi 0#32 (Scalar.shrui (Scalar.addi a0 15#32) 4#32)) :=
  (tab_at _ 0 0 (by omega) (by omega) inb j).trans rfl

theorem te_0_1 (a0 a1 a2 a3 a4 a5 : BitVec 32) (inb) (j) : tabW (F := F) (wOf a0 a1 a2 a3 a4 a5) ((Rect.unit (s := S3x7) ![0, 1] S1x1.size inb).emb j) = (Scalar.addi (Scalar.addi 0#32 (Scalar.shrui (Scalar.addi a0 15#32) 4#32)) (Scalar.shrui (Scalar.addi a1 15#32) 4#32)) :=
  (tab_at _ 0 1 (by omega) (by omega) inb j).trans rfl

theorem te_0_2 (a0 a1 a2 a3 a4 a5 : BitVec 32) (inb) (j) : tabW (F := F) (wOf a0 a1 a2 a3 a4 a5) ((Rect.unit (s := S3x7) ![0, 2] S1x1.size inb).emb j) = (Scalar.addi (Scalar.addi (Scalar.addi 0#32 (Scalar.shrui (Scalar.addi a0 15#32) 4#32)) (Scalar.shrui (Scalar.addi a1 15#32) 4#32)) (Scalar.shrui (Scalar.addi a2 15#32) 4#32)) :=
  (tab_at _ 0 2 (by omega) (by omega) inb j).trans rfl

theorem te_0_3 (a0 a1 a2 a3 a4 a5 : BitVec 32) (inb) (j) : tabW (F := F) (wOf a0 a1 a2 a3 a4 a5) ((Rect.unit (s := S3x7) ![0, 3] S1x1.size inb).emb j) = (Scalar.addi (Scalar.addi (Scalar.addi (Scalar.addi 0#32 (Scalar.shrui (Scalar.addi a0 15#32) 4#32)) (Scalar.shrui (Scalar.addi a1 15#32) 4#32)) (Scalar.shrui (Scalar.addi a2 15#32) 4#32)) (Scalar.shrui (Scalar.addi a3 15#32) 4#32)) :=
  (tab_at _ 0 3 (by omega) (by omega) inb j).trans rfl

theorem te_0_4 (a0 a1 a2 a3 a4 a5 : BitVec 32) (inb) (j) : tabW (F := F) (wOf a0 a1 a2 a3 a4 a5) ((Rect.unit (s := S3x7) ![0, 4] S1x1.size inb).emb j) = (Scalar.addi (Scalar.addi (Scalar.addi (Scalar.addi (Scalar.addi 0#32 (Scalar.shrui (Scalar.addi a0 15#32) 4#32)) (Scalar.shrui (Scalar.addi a1 15#32) 4#32)) (Scalar.shrui (Scalar.addi a2 15#32) 4#32)) (Scalar.shrui (Scalar.addi a3 15#32) 4#32)) (Scalar.shrui (Scalar.addi a4 15#32) 4#32)) :=
  (tab_at _ 0 4 (by omega) (by omega) inb j).trans rfl

theorem te_0_5 (a0 a1 a2 a3 a4 a5 : BitVec 32) (inb) (j) : tabW (F := F) (wOf a0 a1 a2 a3 a4 a5) ((Rect.unit (s := S3x7) ![0, 5] S1x1.size inb).emb j) = (Scalar.addi (Scalar.addi (Scalar.addi (Scalar.addi (Scalar.addi (Scalar.addi 0#32 (Scalar.shrui (Scalar.addi a0 15#32) 4#32)) (Scalar.shrui (Scalar.addi a1 15#32) 4#32)) (Scalar.shrui (Scalar.addi a2 15#32) 4#32)) (Scalar.shrui (Scalar.addi a3 15#32) 4#32)) (Scalar.shrui (Scalar.addi a4 15#32) 4#32)) (Scalar.shrui (Scalar.addi a5 15#32) 4#32)) :=
  (tab_at _ 0 5 (by omega) (by omega) inb j).trans rfl

theorem te_0_6 (a0 a1 a2 a3 a4 a5 : BitVec 32) (inb) (j) : tabW (F := F) (wOf a0 a1 a2 a3 a4 a5) ((Rect.unit (s := S3x7) ![0, 6] S1x1.size inb).emb j) = 1073741824#32 :=
  (tab_at _ 0 6 (by omega) (by omega) inb j).trans rfl

theorem te_1_0 (a0 a1 a2 a3 a4 a5 : BitVec 32) (inb) (j) : tabW (F := F) (wOf a0 a1 a2 a3 a4 a5) ((Rect.unit (s := S3x7) ![1, 0] S1x1.size inb).emb j) = (Scalar.subi (Scalar.muli 0#32 16#32) 0#32) :=
  (tab_at _ 1 0 (by omega) (by omega) inb j).trans rfl

theorem te_1_1 (a0 a1 a2 a3 a4 a5 : BitVec 32) (inb) (j) : tabW (F := F) (wOf a0 a1 a2 a3 a4 a5) ((Rect.unit (s := S3x7) ![1, 1] S1x1.size inb).emb j) = (Scalar.subi (Scalar.muli (Scalar.addi 0#32 (Scalar.shrui (Scalar.addi a0 15#32) 4#32)) 16#32) (Scalar.addi 0#32 a0)) :=
  (tab_at _ 1 1 (by omega) (by omega) inb j).trans rfl

theorem te_1_2 (a0 a1 a2 a3 a4 a5 : BitVec 32) (inb) (j) : tabW (F := F) (wOf a0 a1 a2 a3 a4 a5) ((Rect.unit (s := S3x7) ![1, 2] S1x1.size inb).emb j) = (Scalar.subi (Scalar.muli (Scalar.addi (Scalar.addi 0#32 (Scalar.shrui (Scalar.addi a0 15#32) 4#32)) (Scalar.shrui (Scalar.addi a1 15#32) 4#32)) 16#32) (Scalar.addi (Scalar.addi 0#32 a0) a1)) :=
  (tab_at _ 1 2 (by omega) (by omega) inb j).trans rfl

theorem te_1_3 (a0 a1 a2 a3 a4 a5 : BitVec 32) (inb) (j) : tabW (F := F) (wOf a0 a1 a2 a3 a4 a5) ((Rect.unit (s := S3x7) ![1, 3] S1x1.size inb).emb j) = (Scalar.subi (Scalar.muli (Scalar.addi (Scalar.addi (Scalar.addi 0#32 (Scalar.shrui (Scalar.addi a0 15#32) 4#32)) (Scalar.shrui (Scalar.addi a1 15#32) 4#32)) (Scalar.shrui (Scalar.addi a2 15#32) 4#32)) 16#32) (Scalar.addi (Scalar.addi (Scalar.addi 0#32 a0) a1) a2)) :=
  (tab_at _ 1 3 (by omega) (by omega) inb j).trans rfl

theorem te_1_4 (a0 a1 a2 a3 a4 a5 : BitVec 32) (inb) (j) : tabW (F := F) (wOf a0 a1 a2 a3 a4 a5) ((Rect.unit (s := S3x7) ![1, 4] S1x1.size inb).emb j) = (Scalar.subi (Scalar.muli (Scalar.addi (Scalar.addi (Scalar.addi (Scalar.addi 0#32 (Scalar.shrui (Scalar.addi a0 15#32) 4#32)) (Scalar.shrui (Scalar.addi a1 15#32) 4#32)) (Scalar.shrui (Scalar.addi a2 15#32) 4#32)) (Scalar.shrui (Scalar.addi a3 15#32) 4#32)) 16#32) (Scalar.addi (Scalar.addi (Scalar.addi (Scalar.addi 0#32 a0) a1) a2) a3)) :=
  (tab_at _ 1 4 (by omega) (by omega) inb j).trans rfl

theorem te_1_5 (a0 a1 a2 a3 a4 a5 : BitVec 32) (inb) (j) : tabW (F := F) (wOf a0 a1 a2 a3 a4 a5) ((Rect.unit (s := S3x7) ![1, 5] S1x1.size inb).emb j) = (Scalar.subi (Scalar.muli (Scalar.addi (Scalar.addi (Scalar.addi (Scalar.addi (Scalar.addi 0#32 (Scalar.shrui (Scalar.addi a0 15#32) 4#32)) (Scalar.shrui (Scalar.addi a1 15#32) 4#32)) (Scalar.shrui (Scalar.addi a2 15#32) 4#32)) (Scalar.shrui (Scalar.addi a3 15#32) 4#32)) (Scalar.shrui (Scalar.addi a4 15#32) 4#32)) 16#32) (Scalar.addi (Scalar.addi (Scalar.addi (Scalar.addi (Scalar.addi 0#32 a0) a1) a2) a3) a4)) :=
  (tab_at _ 1 5 (by omega) (by omega) inb j).trans rfl

theorem te_1_6 (a0 a1 a2 a3 a4 a5 : BitVec 32) (inb) (j) : tabW (F := F) (wOf a0 a1 a2 a3 a4 a5) ((Rect.unit (s := S3x7) ![1, 6] S1x1.size inb).emb j) = (Scalar.subi (Scalar.muli (Scalar.addi (Scalar.addi (Scalar.addi (Scalar.addi (Scalar.addi 0#32 (Scalar.shrui (Scalar.addi a0 15#32) 4#32)) (Scalar.shrui (Scalar.addi a1 15#32) 4#32)) (Scalar.shrui (Scalar.addi a2 15#32) 4#32)) (Scalar.shrui (Scalar.addi a3 15#32) 4#32)) (Scalar.shrui (Scalar.addi a4 15#32) 4#32)) 16#32) (Scalar.addi (Scalar.addi (Scalar.addi (Scalar.addi (Scalar.addi 0#32 a0) a1) a2) a3) a4)) :=
  (tab_at _ 1 6 (by omega) (by omega) inb j).trans rfl

theorem te_2_0 (a0 a1 a2 a3 a4 a5 : BitVec 32) (inb) (j) : tabW (F := F) (wOf a0 a1 a2 a3 a4 a5) ((Rect.unit (s := S3x7) ![2, 0] S1x1.size inb).emb j) = (Scalar.addi 0#32 a0) :=
  (tab_at _ 2 0 (by omega) (by omega) inb j).trans rfl

theorem te_2_1 (a0 a1 a2 a3 a4 a5 : BitVec 32) (inb) (j) : tabW (F := F) (wOf a0 a1 a2 a3 a4 a5) ((Rect.unit (s := S3x7) ![2, 1] S1x1.size inb).emb j) = (Scalar.addi (Scalar.addi 0#32 a0) a1) :=
  (tab_at _ 2 1 (by omega) (by omega) inb j).trans rfl

theorem te_2_2 (a0 a1 a2 a3 a4 a5 : BitVec 32) (inb) (j) : tabW (F := F) (wOf a0 a1 a2 a3 a4 a5) ((Rect.unit (s := S3x7) ![2, 2] S1x1.size inb).emb j) = (Scalar.addi (Scalar.addi (Scalar.addi 0#32 a0) a1) a2) :=
  (tab_at _ 2 2 (by omega) (by omega) inb j).trans rfl

theorem te_2_3 (a0 a1 a2 a3 a4 a5 : BitVec 32) (inb) (j) : tabW (F := F) (wOf a0 a1 a2 a3 a4 a5) ((Rect.unit (s := S3x7) ![2, 3] S1x1.size inb).emb j) = (Scalar.addi (Scalar.addi (Scalar.addi (Scalar.addi 0#32 a0) a1) a2) a3) :=
  (tab_at _ 2 3 (by omega) (by omega) inb j).trans rfl

theorem te_2_4 (a0 a1 a2 a3 a4 a5 : BitVec 32) (inb) (j) : tabW (F := F) (wOf a0 a1 a2 a3 a4 a5) ((Rect.unit (s := S3x7) ![2, 4] S1x1.size inb).emb j) = (Scalar.addi (Scalar.addi (Scalar.addi (Scalar.addi (Scalar.addi 0#32 a0) a1) a2) a3) a4) :=
  (tab_at _ 2 4 (by omega) (by omega) inb j).trans rfl

theorem te_2_5 (a0 a1 a2 a3 a4 a5 : BitVec 32) (inb) (j) : tabW (F := F) (wOf a0 a1 a2 a3 a4 a5) ((Rect.unit (s := S3x7) ![2, 5] S1x1.size inb).emb j) = (Scalar.addi (Scalar.addi (Scalar.addi (Scalar.addi (Scalar.addi (Scalar.addi 0#32 a0) a1) a2) a3) a4) a5) :=
  (tab_at _ 2 5 (by omega) (by omega) inb j).trans rfl

theorem te_2_6 (a0 a1 a2 a3 a4 a5 : BitVec 32) (inb) (j) : tabW (F := F) (wOf a0 a1 a2 a3 a4 a5) ((Rect.unit (s := S3x7) ![2, 6] S1x1.size inb).emb j) = 0#32 :=
  (tab_at _ 2 6 (by omega) (by omega) inb j).trans rfl

/-- The block ends: the sizes in blocks of sixteen, summed. -/
def mOf (g : ℕ → ℕ) (k : ℕ) : ℕ := if k < 6 then ∑ j ∈ Finset.range (k + 1), (g j + 15) / 16 else 1073741824

theorem blk_word (a g : ℕ) (ha : a ≤ 100000) (hg : g ≤ 12288) :
    Scalar.addi (BitVec.ofNat 32 a) (Scalar.shrui (Scalar.addi (BitVec.ofNat 32 g) 15#32) 4#32) = BitVec.ofNat 32 (a + (g + 15) / 16) := by
  have h1 : Scalar.addi (BitVec.ofNat 32 g) 15#32 = BitVec.ofNat 32 (g + 15) := by
    show BitVec.ofNat 32 g + BitVec.ofNat 32 15 = _
    rw [← BitVec.ofNat_add]
  rw [h1]
  show BitVec.ofNat 32 a + Scalar.shrui (BitVec.ofNat 32 (g + 15)) 4#32 = _
  have h2 : Scalar.shrui (BitVec.ofNat 32 (g + 15)) 4#32 = BitVec.ofNat 32 ((g + 15) / 16) := by
    apply BitVec.eq_of_toNat_eq
    show ((BitVec.ofNat 32 (g + 15)) >>> (4 : ℕ)).toNat = _
    rw [BitVec.toNat_ushiftRight, BitVec.toNat_ofNat, BitVec.toNat_ofNat, Nat.shiftRight_eq_div_pow]
    rw [Nat.mod_eq_of_lt (by omega), Nat.mod_eq_of_lt (by omega)]
  rw [h2, ← BitVec.ofNat_add]

/-- Six sizes, none above 12288 rows, all together at most 12288. -/
structure Sizes (g : ℕ → ℕ) : Prop where
  sum : ∑ j ∈ Finset.range 6, g j ≤ 12288

theorem Sizes.le {g : ℕ → ℕ} (h : Sizes g) (k : ℕ) (hk : k < 6) : g k ≤ 12288 :=
  (Finset.single_le_sum (fun _ _ => Nat.zero_le _) (Finset.mem_range.mpr hk)).trans h.sum

theorem blocks_le (g : ℕ → ℕ) : ∀ n, 16 * ∑ j ∈ Finset.range n, (g j + 15) / 16 ≤ ∑ j ∈ Finset.range n, g j + 15 * n
  | 0 => by simp
  | n + 1 => by
    have := blocks_le g n
    rw [Finset.sum_range_succ, Finset.sum_range_succ]
    omega

theorem mOf_word (g : ℕ → ℕ) (h : Sizes g) (w : ℕ → BitVec 32) (hw : ∀ k, k < 6 → w k = BitVec.ofNat 32 (g k)) :
    ∀ k, k < 6 → entW w 0 k = BitVec.ofNat 32 (∑ j ∈ Finset.range (k + 1), (g j + 15) / 16)
  | 0, _ => by
    show Scalar.addi (BitVec.ofNat 32 0) (Scalar.shrui (Scalar.addi (w 0) 15#32) 4#32) = _
    rw [hw 0 (by omega), blk_word 0 (g 0) (by omega) (h.le 0 (by omega))]
    simp
  | k + 1, hk => by
    have hent : entW w 0 (k + 1) = Scalar.addi (entW w 0 k) (Scalar.shrui (Scalar.addi (w (k + 1)) 15#32) 4#32) := by
      match k, hk with
      | 0, _ => rfl
      | 1, _ => rfl
      | 2, _ => rfl
      | 3, _ => rfl
      | 4, _ => rfl
    have hb := blocks_le g (k + 1)
    have hs : ∑ j ∈ Finset.range (k + 1), g j ≤ 12288 := (Finset.sum_le_sum_of_subset (Finset.range_subset_range.mpr (by omega))).trans h.sum
    rw [hent, mOf_word g h w hw k (by omega), hw (k + 1) hk, blk_word _ _ (by omega) (h.le _ hk), Finset.sum_range_succ _ (k + 1)]

/-- The table depends on the six sizes alone. -/
theorem tabW_congr (a b : ℕ → BitVec 32) (h : ∀ k, k < 6 → a k = b k) : tabW (F := F) a = tabW b := by
  have h0 := h 0 (by omega)
  have h1 := h 1 (by omega)
  have h2 := h 2 (by omega)
  have h3 := h 3 (by omega)
  have h4 := h 4 (by omega)
  have h5 := h 5 (by omega)
  have hw : ∀ k, k < 6 → entW a 0 k = entW b 0 k ∧ entW a 2 k = entW b 2 k ∧ entW a 1 k = entW b 1 k := by
    intro k hk
    match k, hk with
    | 0, _ => simp only [entW, h0, and_self]
    | 1, _ => simp only [entW, h0, h1, and_self]
    | 2, _ => simp only [entW, h0, h1, h2, and_self]
    | 3, _ => simp only [entW, h0, h1, h2, h3, and_self]
    | 4, _ => simp only [entW, h0, h1, h2, h3, h4, and_self]
    | 5, _ => simp only [entW, h0, h1, h2, h3, h4, h5, and_self]
  funext j
  show entW a (j 0).val (j 1).val = entW b (j 0).val (j 1).val
  have hj0 : (j 0).val < 3 := (j 0).isLt
  have hj1 : (j 1).val < 7 := (j 1).isLt
  generalize (j 0).val = r at hj0
  generalize (j 1).val = k at hj1
  by_cases hk : k < 6
  · match r, hj0 with
    | 0, _ => exact (hw k hk).1
    | 1, _ => exact (hw k hk).2.2
    | 2, _ => exact (hw k hk).2.1
  · obtain rfl : k = 6 := by omega
    match r, hj0 with
    | 0, _ => rfl
    | 1, _ => exact (hw 5 (by omega)).2.2
    | 2, _ => rfl

/-- What the first step writes into the table are the block ends. -/
theorem meta_of (g : ℕ → ℕ) (h : Sizes g) (w : ℕ → BitVec 32) (hw : ∀ k, k < 6 → w k = BitVec.ofNat 32 (g k)) :
    Meta (F := F) (mOf g) (tabW w) where
  word k hk := by
    show entW w (0 % 3) (k % 7) = _
    rw [Nat.mod_eq_of_lt hk]
    unfold mOf
    by_cases h6 : k < 6
    · rw [if_pos h6]; exact mOf_word g h w hw k h6
    · rw [if_neg h6, show k = 6 by omega]; rfl
  mono k hk := by
    unfold mOf
    rw [if_pos (by omega), if_pos (by omega), Finset.sum_range_succ _ (k + 1)]
    omega
  last := by
    have := blocks_le g 6
    have := h.sum
    unfold mOf
    rw [if_pos (by omega)]
    show ∑ j ∈ Finset.range 6, (g j + 15) / 16 ≤ 800
    omega
  seven := rfl

/-- Both counters at zero. -/
theorem cuV00 (y) : cuV (F := F) 0 false y = 0#32 := by
  unfold cuV
  split <;> rfl

/-- A load of one group size. -/
theorem ld6 {v : View sig .tc .smem S6 .i32} {f : v.ty.Contents (Elt F)} {x : Vec F S6 .i32} (h : View.read (Elt F) v f = x)
    (k : ℕ) (hk : k < 6) (inb) (j) : View.readAt (Elt F) v (Rect.unit (s := S6) ![k] S1.size inb).toLoadRect f j = x (mk S6 ![k]) := by
  rw [readAt_of h]
  congr 1
  funext a
  have ha : a = 0 := Subsingleton.elim _ _
  subst ha
  apply Fin.ext
  have hj : (j 0).val = 0 := by have := (j 0).isLt; change _ < 1 at this; omega
  change k + 1 * (j 0).val = k % 6
  rw [Nat.mod_eq_of_lt hk]; omega

/-- A step other than the first leaves everything in place. -/
theorem initN (c : Dev nD) (i : grid0.Coords) (hi : (i 0).val ≠ 0) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (R : Type) (κ : Prog (TpuEff nD τ sig (Elt F) Λ₀ .tc) R) (Q : R → sProp 𝕄) :
    wp frame (wpE (defs₀ (F := F)) Variants.none c none) Set.univ κ Q ⊢ wp frame (wpE (defs₀ (F := F)) Variants.none c none) Set.univ (ha1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 κ) Q := by
  have hcc : ¬ Scalar.cmpi .ne (Scalar.extui (Scalar.cmpi .eq (BitVec.ofNat 32 (i 0).val) 0#32) : BitVec 32) 0#32 = 1#1 := by
    revert hi; generalize h : (i 0).val = n; have hn : n < 25 := h ▸ (i 0).isLt; clear h; revert n; decide
  iintro H
  unfold ha1
  sl_exec (disch := exact hcc)
  iexact H

set_option maxHeartbeats 1000000 in
/-- The first step fills the table and empties counters, accumulator and carried rows. -/
theorem init0 (c : Dev nD) (i : grid0.Coords) (hi : (i 0).val = 0) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (gv : Vec F S6 .i32)
    (m0 cu0 x0 y0 a0) (R : Type) (κ : Prog (TpuEff nD τ sig (Elt F) Λ₀ .tc) R) (Q : R → sProp 𝕄) :
    iprop(owns (c : Thread nD τ) arg1 fullShare gv ∗ owns (c : Thread nD τ) arg9 fullShare m0 ∗ owns (c : Thread nD τ) arg10 fullShare cu0 ∗ owns (c : Thread nD τ) arg13 fullShare x0 ∗ owns (c : Thread nD τ) arg14 fullShare y0 ∗ owns (c : Thread nD τ) arg16 fullShare a0)
    ⊢ iprop((owns (c : Thread nD τ) arg1 fullShare gv ∗ owns (c : Thread nD τ) arg9 fullShare (tabW (F := F) fun k => gv (mk S6 ![k])) ∗ owns (c : Thread nD τ) arg10 fullShare (cuV (F := F) 0 false) ∗ owns (c : Thread nD τ) arg13 fullShare (k0_pay14 (F := F)) ∗ owns (c : Thread nD τ) arg14 fullShare (k0_pay215 (F := F)) ∗ owns (c : Thread nD τ) arg16 fullShare (zeroT (F := F)) -∗ wp frame (wpE (defs₀ (F := F)) Variants.none c none) Set.univ κ Q)
      -∗ wp frame (wpE (defs₀ (F := F)) Variants.none c none) Set.univ (ha1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 κ) Q) := by
  have e0 : (BitVec.ofNat 32 (i 0).val) = 0#32 := by rw [hi]
  unfold owns
  iintro ⟨⟨%f1, %h1, H1⟩, ⟨%f9, %h9, H9⟩, ⟨%f10, %h10, H10⟩, ⟨%fx, %hx, Hx⟩, ⟨%fy, %hy, Hy⟩, ⟨%f16, %h16, H16⟩⟩ Hk
  unfold ha1
  dsimp only
  have hcc : Scalar.cmpi .ne (Scalar.extui (Scalar.cmpi .eq (BitVec.ofNat 32 (i 0).val) 0#32) : BitVec 32) 0#32 = 1#1 := by rw [e0]; decide
  sl_exec (disch := exact hcc)
  have hq : ∀ (k : ℕ) (hk : k < 6) (inb) (j), View.readAt (Elt F) arg1.view (Rect.unit (s := S6) ![k] S1.size inb).toLoadRect f1 j = gv (mk S6 ![k]) := fun k hk inb j => ld6 h1 k hk inb j
  have htab : tabW (F := F) (wOf (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide)))) = tabW (F := F) (fun k => gv (mk S6 ![k])) := by
    rw [hq 0 (by omega), hq 1 (by omega), hq 2 (by omega), hq 3 (by omega), hq 4 (by omega), hq 5 (by omega)]
    exact tabW_congr _ _ fun k hk => match k, hk with | 0, _ => rfl | 1, _ => rfl | 2, _ => rfl | 3, _ => rfl | 4, _ => rfl | 5, _ => rfl
  iapply Hk
  isplitl [H1]
  · iexists _; isplitr; swap; iexact H1; ipureintro; exact h1
  isplitl [H9]
  · iexists _; isplitr; swap; iexact H9; ipureintro; exact (read_pieces _ _ (tabW (F := F) (wOf (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))))) _ S1x1.size (by sl_kernel_rfl) (List.forall_mem_cons.mpr ⟨fun j => (te_2_6 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_2_6 j).symm, List.forall_mem_cons.mpr ⟨fun j => (te_1_6 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_1_6 j).symm, List.forall_mem_cons.mpr ⟨fun j => (te_0_6 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_0_6 j).symm, List.forall_mem_cons.mpr ⟨fun j => (te_2_5 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_2_5 j).symm, List.forall_mem_cons.mpr ⟨fun j => (te_1_5 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_1_5 j).symm, List.forall_mem_cons.mpr ⟨fun j => (te_0_5 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_0_5 j).symm, List.forall_mem_cons.mpr ⟨fun j => (te_2_4 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_2_4 j).symm, List.forall_mem_cons.mpr ⟨fun j => (te_1_4 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_1_4 j).symm, List.forall_mem_cons.mpr ⟨fun j => (te_0_4 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_0_4 j).symm, List.forall_mem_cons.mpr ⟨fun j => (te_2_3 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_2_3 j).symm, List.forall_mem_cons.mpr ⟨fun j => (te_1_3 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_1_3 j).symm, List.forall_mem_cons.mpr ⟨fun j => (te_0_3 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_0_3 j).symm, List.forall_mem_cons.mpr ⟨fun j => (te_2_2 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_2_2 j).symm, List.forall_mem_cons.mpr ⟨fun j => (te_1_2 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_1_2 j).symm, List.forall_mem_cons.mpr ⟨fun j => (te_0_2 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_0_2 j).symm, List.forall_mem_cons.mpr ⟨fun j => (te_2_1 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_2_1 j).symm, List.forall_mem_cons.mpr ⟨fun j => (te_1_1 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_1_1 j).symm, List.forall_mem_cons.mpr ⟨fun j => (te_0_1 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_0_1 j).symm, List.forall_mem_cons.mpr ⟨fun j => (te_2_0 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_2_0 j).symm, List.forall_mem_cons.mpr ⟨fun j => (te_1_0 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_1_0 j).symm, List.forall_mem_cons.mpr ⟨fun j => (te_0_0 (F := F) (View.readAt (Elt F) arg1.view (Rect.unit (s := S6) ![0] S1.size inb_S6_S1_0).toLoadRect f1 (Shape.Idx.first (s := S1) (by decide))) (View.readAt (Elt F) arg1.view (Rect.unit (s := S6) ![1] S1.size inb_S6_S1_1).toLoadRect f1 (Shape.Idx.first (s := S1) (by decide))) (View.readAt (Elt F) arg1.view (Rect.unit (s := S6) ![2] S1.size inb_S6_S1_2).toLoadRect f1 (Shape.Idx.first (s := S1) (by decide))) (View.readAt (Elt F) arg1.view (Rect.unit (s := S6) ![3] S1.size inb_S6_S1_3).toLoadRect f1 (Shape.Idx.first (s := S1) (by decide))) (View.readAt (Elt F) arg1.view (Rect.unit (s := S6) ![4] S1.size inb_S6_S1_4).toLoadRect f1 (Shape.Idx.first (s := S1) (by decide))) (View.readAt (Elt F) arg1.view (Rect.unit (s := S6) ![5] S1.size inb_S6_S1_5).toLoadRect f1 (Shape.Idx.first (s := S1) (by decide))) inb_S3x7_S1x1_0_0 j).symm, fun _ h => absurd h List.not_mem_nil⟩⟩⟩⟩⟩⟩⟩⟩⟩⟩⟩⟩⟩⟩⟩⟩⟩⟩⟩⟩⟩)).trans htab
  isplitl [H10]
  · iexists _; isplitr; swap; iexact H10; ipureintro; exact read_pieces _ _ _ _ S1.size (by sl_kernel_rfl) (List.forall_mem_cons.mpr ⟨fun j => (cuV00 _).symm, List.forall_mem_cons.mpr ⟨fun j => (cuV00 _).symm, fun _ h => absurd h List.not_mem_nil⟩⟩)
  isplitl [Hx]
  · iexists _; isplitr; swap; iexact Hx; ipureintro; exact read_pieces _ _ _ _ S256x1536.size (by sl_kernel_rfl) (List.forall_mem_cons.mpr ⟨fun j => rfl, fun _ h => absurd h List.not_mem_nil⟩)
  isplitl [Hy]
  · iexists _; isplitr; swap; iexact Hy; ipureintro; exact read_pieces _ _ _ _ S256x640.size (by sl_kernel_rfl) (List.forall_mem_cons.mpr ⟨fun j => rfl, fun _ h => absurd h List.not_mem_nil⟩)
  iexists _; isplitr; swap; iexact H16; ipureintro; exact read_pieces _ _ _ _ S1536x640.size (by sl_kernel_rfl) (List.forall_mem_cons.mpr ⟨fun j => rfl, fun _ h => absurd h List.not_mem_nil⟩)

end Cert.Kernel.Hand
-- ==== Proof.Last.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Close
public import proofs.«01_k».proof.Proof.Mask

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The experts closed by a chunk's end set the flag and move the expert's number on. -/
theorem iter_fl (M : ℕ → ℕ) (m : Vec F S3x7 .i32) (x : Vec F S256x1536 .bf16) (y : Vec F S256x640 .bf16) (base : BitVec 32) (en : ℕ) (gx gy : Vec F S7 .f32) (s : St F)
    (h : s.e ≠ 0 → s.fl = true) : ∀ n, (((closeOne M m x y base en gx gy)^[n]) s).e ≠ 0 → (((closeOne M m x y base en gx gy)^[n]) s).fl = true := by
  intro n
  cases n with
  | zero => exact h
  | succ n => intro _; rw [Function.iterate_succ_apply']; rfl

set_option maxHeartbeats 1000000 in
/-- The last step's end: the last chunk accumulated, the remaining experts closed, the last copy out awaited. -/
theorem lastS (c : Dev nD) (i : grid0.Coords) (h16 : k0_cond16 i = 1#1) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (gx gy : Vec F S7 .f32) (e : ℕ) (he : e ≤ 6)
   (x : Vec F S256x1536 .bf16) (y ysv : Vec F S256x640 .bf16) (s : St F) (hse : s.e = e) (hfl : s.e ≠ 0 → s.fl = true) (hend : e + nFin M e (32 * (i 0).val + 32) = 6) (Q : _ → sProp 𝕄) :
   iprop((owns (c : Thread nD τ) arg2 fullShare gx ∗ owns (c : Thread nD τ) arg3 fullShare gy ∗ owns (c : Thread nD τ) arg9 fullShare m ∗ owns (c : Thread nD τ) arg13 fullShare x ∗ (∃ v, owns (c : Thread nD τ) arg15 fullShare v) ∗ owns (c : Thread nD τ) arg14 fullShare y
     ∗ owns (c : Thread nD τ) arg10 fullShare (cuV (F := F) e s.fl) ∗ owns (c : Thread nD τ) arg16 fullShare s.acc ∗ DW c arg8 arg17 arg18 s.fl s.dw ∗ (∃ W, owes (c : Thread nD τ) 0 W)))
   ⊢ iprop((owns (c : Thread nD τ) arg2 fullShare gx ∗ owns (c : Thread nD τ) arg3 fullShare gy ∗ owns (c : Thread nD τ) arg9 fullShare m ∗ owns (c : Thread nD τ) arg13 fullShare x ∗ (∃ v, owns (c : Thread nD τ) arg15 fullShare v) ∗ (∃ v, owns (c : Thread nD τ) arg14 fullShare v)
     ∗ owns (c : Thread nD τ) arg10 fullShare (cuV (F := F) (e + nFin M e (32 * (i 0).val + 32)) (chunk M m gx gy x y (Scalar.addi (Scalar.muli (BitVec.ofNat 32 (i 0).val) 32#32) 16#32) (32 * (i 0).val + 32) s).fl) ∗ owns (c : Thread nD τ) arg16 fullShare (chunk M m gx gy x y (Scalar.addi (Scalar.muli (BitVec.ofNat 32 (i 0).val) 32#32) 16#32) (32 * (i 0).val + 32) s).acc
     ∗ semVal ((c : Thread nD τ), .dma arg18.sem) 0 ∗ owns (c : Thread nD τ) arg8 fullShare (chunk M m gx gy x y (Scalar.addi (Scalar.muli (BitVec.ofNat 32 (i 0).val) 32#32) 16#32) (32 * (i 0).val + 32) s).dw ∗ (∃ v, owns (c : Thread nD τ) arg17 fullShare v) ∗ (∃ W, owes (c : Thread nD τ) 0 W) -∗ Q ⟨⟩)
    -∗ wp frame (wpE (defs₀ (F := F)) Variants.none c none) Set.univ (hr2.tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (BitVec.ofNat 32 (i 0).val)) Q) := by
  have hi : (i 0).val < 25 := (i 0).isLt
  have hfl2 : (chunk M m gx gy x y (Scalar.addi (Scalar.muli (BitVec.ofNat 32 (i 0).val) 32#32) 16#32) (32 * (i 0).val + 32) s).fl = true := by unfold chunk; exact iter_fl M m x y (Scalar.addi (Scalar.muli (BitVec.ofNat 32 (i 0).val) 32#32) 16#32) (32 * (i 0).val + 32) gx gy { s with acc := accT s.acc x (primT M m (Scalar.addi (Scalar.muli (BitVec.ofNat 32 (i 0).val) 32#32) 16#32) (32 * (i 0).val + 32) s.e y) } hfl (nFin M s.e (32 * (i 0).val + 32)) (by rw [closeOne_iter_e]; show s.e + _ ≠ 0; rw [hse]; omega)
  iintro ⟨H2, H3, H9, Hx, ⟨%ysv, H15⟩, Hy, H10, H16, Hd, HO⟩ Hk
  unfold hr2.tail
  dsimp only
  rw [dif_pos h16, wp_bind, k0_part40_eq_skeleton, hl1.eq]
  iapply (maskL c i h16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM e he s.fl y ysv _ _ _) $$ [H9 H10 Hy H15]
  · isplitl [H9]; iexact H9
    isplitl [H10]; iexact H10
    isplitl [Hy]; iexact Hy
    iexact H15
  iintro %y15 %hy15 ⟨H9, H10, Hy, H15⟩
  unfold owns
  icases H2 with ⟨%f2, %h2, H2⟩
  icases H3 with ⟨%f3, %h3, H3⟩
  icases H9 with ⟨%f9, %h9, H9⟩
  icases Hx with ⟨%fx, %hx, Hx⟩
  icases H15 with ⟨%f15, %h15, H15⟩
  icases Hy with ⟨%fy, %hy', Hy⟩
  icases H10 with ⟨%f10, %h10, H10⟩
  icases H16 with ⟨%f16, %h16', H16⟩
  have hws : (View.readAt (Elt F) arg10.view (Rect.unit (s := S2) ![0] S1.size inb_S2_S1_0).toLoadRect f10 (Shape.Idx.first (s := S1) (by decide))) = BitVec.ofNat 32 (e) ∧ (View.readAt (Elt F) arg9.view (Rect.unit (s := S3x7) ![0, 0] S1x1.size inb_S3x7_S1x1_0_0).toLoadRect f9 (Shape.Idx.first (s := S1x1) (by decide))) = BitVec.ofNat 32 (M 0) ∧ (View.readAt (Elt F) arg9.view (Rect.unit (s := S3x7) ![0, 1] S1x1.size inb_S3x7_S1x1_0_1).toLoadRect f9 (Shape.Idx.first (s := S1x1) (by decide))) = BitVec.ofNat 32 (M 1) ∧ (View.readAt (Elt F) arg9.view (Rect.unit (s := S3x7) ![0, 2] S1x1.size inb_S3x7_S1x1_0_2).toLoadRect f9 (Shape.Idx.first (s := S1x1) (by decide))) = BitVec.ofNat 32 (M 2) ∧ (View.readAt (Elt F) arg9.view (Rect.unit (s := S3x7) ![0, 3] S1x1.size inb_S3x7_S1x1_0_3).toLoadRect f9 (Shape.Idx.first (s := S1x1) (by decide))) = BitVec.ofNat 32 (M 3) ∧ (View.readAt (Elt F) arg9.view (Rect.unit (s := S3x7) ![0, 4] S1x1.size inb_S3x7_S1x1_0_4).toLoadRect f9 (Shape.Idx.first (s := S1x1) (by decide))) = BitVec.ofNat 32 (M 4) ∧ (View.readAt (Elt F) arg9.view (Rect.unit (s := S3x7) ![0, 5] S1x1.size inb_S3x7_S1x1_0_5).toLoadRect f9 (Shape.Idx.first (s := S1x1) (by decide))) = BitVec.ofNat 32 (M 5) := ⟨cu0_of h10 _ _, (ld37 h9 _ (inb_S3x7_S1x1_0_0) (Shape.Idx.first (s := S1x1) (by decide)) 0 rfl rfl).trans (hM.word 0 (by omega)), (ld37 h9 _ (inb_S3x7_S1x1_0_1) (Shape.Idx.first (s := S1x1) (by decide)) 1 rfl rfl).trans (hM.word 1 (by omega)), (ld37 h9 _ (inb_S3x7_S1x1_0_2) (Shape.Idx.first (s := S1x1) (by decide)) 2 rfl rfl).trans (hM.word 2 (by omega)), (ld37 h9 _ (inb_S3x7_S1x1_0_3) (Shape.Idx.first (s := S1x1) (by decide)) 3 rfl rfl).trans (hM.word 3 (by omega)), (ld37 h9 _ (inb_S3x7_S1x1_0_4) (Shape.Idx.first (s := S1x1) (by decide)) 4 rfl rfl).trans (hM.word 4 (by omega)), (ld37 h9 _ (inb_S3x7_S1x1_0_5) (Shape.Idx.first (s := S1x1) (by decide)) 5 rfl rfl).trans (hM.word 5 (by omega))⟩
  have hc3 : k0_chk17 i (View.readAt (Elt F) arg10.view (Rect.unit (s := S2) ![0] S1.size inb_S2_S1_0).toLoadRect f10 (Shape.Idx.first (s := S1) (by decide))) (View.readAt (Elt F) arg9.view (Rect.unit (s := S3x7) ![0, 0] S1x1.size inb_S3x7_S1x1_0_0).toLoadRect f9 (Shape.Idx.first (s := S1x1) (by decide))) (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) := T5.chk_of i (View.readAt (Elt F) arg10.view (Rect.unit (s := S2) ![0] S1.size inb_S2_S1_0).toLoadRect f10 (Shape.Idx.first (s := S1) (by decide))) (View.readAt (Elt F) arg9.view (Rect.unit (s := S3x7) ![0, 0] S1x1.size inb_S3x7_S1x1_0_0).toLoadRect f9 (Shape.Idx.first (s := S1x1) (by decide))) (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) M m hM e he hws
  unfold hl1.tail
  sl_exec
  iapply (T5.loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h16 (Scalar.addi (Scalar.muli (BitVec.ofNat 32 (i 0).val) 32#32) 16#32) (View.readAt (Elt F) arg10.view (Rect.unit (s := S2) ![0] S1.size inb_S2_S1_0).toLoadRect f10 (Shape.Idx.first (s := S1) (by decide))) (View.readAt (Elt F) arg9.view (Rect.unit (s := S3x7) ![0, 0] S1x1.size inb_S3x7_S1x1_0_0).toLoadRect f9 (Shape.Idx.first (s := S1x1) (by decide))) (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) hc3 M m hM gx gy e he hws x y y15 { s with acc := accT s.acc x (primT M m (Scalar.addi (Scalar.muli (BitVec.ofNat 32 (i 0).val) 32#32) 16#32) (32 * (i 0).val + 32) e y) } hse hy15) $$ [H2 H3 H9 Hx H15 Hy H10 H16 Hd HO]
  · unfold LI owns
    isplitl [H2]
    · iexists _; isplitr; swap; iexact H2; ipureintro; exact h2
    isplitl [H3]
    · iexists _; isplitr; swap; iexact H3; ipureintro; exact h3
    isplitl [H9]
    · iexists _; isplitr; swap; iexact H9; ipureintro; exact h9
    isplitl [Hx]
    · iexists _; isplitr; swap; iexact Hx; ipureintro; exact hx
    isplitl [H15]
    · iexists _; isplitr; swap; iexact H15; ipureintro; exact h15
    isplitl [Hy]
    · iexists _, _; isplitr; swap; iexact Hy; ipureintro; rfl
    isplitl [H10]
    · iexists _; isplitr; swap; iexact H10; ipureintro; exact h10
    isplitl [H16]
    · iexists _; isplitr; swap; iexact H16; ipureintro; exact read_pieces _ _ _ _ S256x640.size (by sl_kernel_rfl) (List.forall_mem_cons.mpr ⟨fun j => acc_tile h16' hx (ldAll hy' _ zero2 _) 5 (by decide) _ _ rfl rfl _ _ j, List.forall_mem_cons.mpr ⟨fun j => acc_tile h16' hx (ldAll hy' _ zero2 _) 4 (by decide) _ _ rfl rfl _ _ j, List.forall_mem_cons.mpr ⟨fun j => acc_tile h16' hx (ldAll hy' _ zero2 _) 3 (by decide) _ _ rfl rfl _ _ j, List.forall_mem_cons.mpr ⟨fun j => acc_tile h16' hx (ldAll hy' _ zero2 _) 2 (by decide) _ _ rfl rfl _ _ j, List.forall_mem_cons.mpr ⟨fun j => acc_tile h16' hx (ldAll hy' _ zero2 _) 1 (by decide) _ _ rfl rfl _ _ j, List.forall_mem_cons.mpr ⟨fun j => acc_tile h16' hx (ldAll hy' _ zero2 _) 0 (by decide) _ _ rfl rfl _ _ j, fun _ h => absurd h List.not_mem_nil⟩⟩⟩⟩⟩⟩)
    isplitl [Hd]; iexact Hd
    iexact HO
  rw [show (closeOne M m x y (Scalar.addi (Scalar.muli (BitVec.ofNat 32 (i 0).val) 32#32) 16#32) (32 * (i 0).val + 32) gx gy)^[nFin M e (32 * (i 0).val + 32)] { s with acc := accT s.acc x (primT M m (Scalar.addi (Scalar.muli (BitVec.ofNat 32 (i 0).val) 32#32) 16#32) (32 * (i 0).val + 32) e y) } = chunk M m gx gy x y (Scalar.addi (Scalar.muli (BitVec.ofNat 32 (i 0).val) 32#32) 16#32) (32 * (i 0).val + 32) s from by rw [← hse]; rfl]
  unfold LI
  rw [hfl2, DW_true]
  unfold owns
  iintro ⟨⟨%g2, %h2, H2⟩, ⟨%g3, %h3, H3⟩, ⟨%g9, %h9, H9⟩, ⟨%gx, %hx, Hx⟩, ⟨%g15, %h15, H15⟩, ⟨%yb, %gy, %hy', Hy⟩, ⟨%g10, %h10, H10⟩, ⟨%g16, %h16', H16⟩, ⟨%f8, %f17, %h8, Hs⟩, ⟨%W, HO⟩⟩
  iapply (T5.loop2 c i h16 (View.readAt (Elt F) arg10.view (Rect.unit (s := S2) ![0] S1.size inb_S2_S1_0).toLoadRect f10 (Shape.Idx.first (s := S1) (by decide))) (View.readAt (Elt F) arg9.view (Rect.unit (s := S3x7) ![0, 0] S1x1.size inb_S3x7_S1x1_0_0).toLoadRect f9 (Shape.Idx.first (s := S1x1) (by decide))) (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide))) M m hM e he hws)
  sl_exec
  rw [wp_ret]
  imodintro
  iapply Hk
  isplitl [H2]
  · iexists _; isplitr; swap; iexact H2; ipureintro; exact h2
  isplitl [H3]
  · iexists _; isplitr; swap; iexact H3; ipureintro; exact h3
  isplitl [H9]
  · iexists _; isplitr; swap; iexact H9; ipureintro; exact h9
  isplitl [Hx]
  · iexists _; isplitr; swap; iexact Hx; ipureintro; exact hx
  isplitl [H15]
  · iexists _, _; isplitr; swap; iexact H15; ipureintro; exact h15
  isplitl [Hy]
  · iexists _, _; isplitr; swap; iexact Hy; ipureintro; rfl
  isplitl [H10]
  · iexists _; isplitr; swap; iexact H10; ipureintro; exact cu0_set h10 _ _ (funext fun _ => (by obtain ⟨q0, q1, q2, q3, q4, q5, q6⟩ := hws; exact (show Scalar.addi (View.readAt (Elt F) arg10.view (Rect.unit (s := S2) ![0] S1.size inb_S2_S1_0).toLoadRect f10 (Shape.Idx.first (s := S1) (by decide))) (sumW (View.readAt (Elt F) arg10.view (Rect.unit (s := S2) ![0] S1.size inb_S2_S1_0).toLoadRect f10 (Shape.Idx.first (s := S1) (by decide))) (Scalar.addi (Scalar.addi (Scalar.muli (BitVec.ofNat 32 (i 0).val) 32#32) 16#32) 16#32) (View.readAt (Elt F) arg9.view (Rect.unit (s := S3x7) ![0, 0] S1x1.size inb_S3x7_S1x1_0_0).toLoadRect f9 (Shape.Idx.first (s := S1x1) (by decide))) (View.readAt (Elt F) arg9.view (Rect.unit (s := S3x7) ![0, 1] S1x1.size inb_S3x7_S1x1_0_1).toLoadRect f9 (Shape.Idx.first (s := S1x1) (by decide))) (View.readAt (Elt F) arg9.view (Rect.unit (s := S3x7) ![0, 2] S1x1.size inb_S3x7_S1x1_0_2).toLoadRect f9 (Shape.Idx.first (s := S1x1) (by decide))) (View.readAt (Elt F) arg9.view (Rect.unit (s := S3x7) ![0, 3] S1x1.size inb_S3x7_S1x1_0_3).toLoadRect f9 (Shape.Idx.first (s := S1x1) (by decide))) (View.readAt (Elt F) arg9.view (Rect.unit (s := S3x7) ![0, 4] S1x1.size inb_S3x7_S1x1_0_4).toLoadRect f9 (Shape.Idx.first (s := S1x1) (by decide))) (View.readAt (Elt F) arg9.view (Rect.unit (s := S3x7) ![0, 5] S1x1.size inb_S3x7_S1x1_0_5).toLoadRect f9 (Shape.Idx.first (s := S1x1) (by decide)))) = _ from by rw [en2 _ hi, q0, q1, q2, q3, q4, q5, q6, sumW_eq M e (32 * (i 0).val + 32) he (by omega) (fun k hk => hM.lt k (by omega))]; exact add_n _ _)))
  isplitl [H16]
  · iexists _; isplitr; swap; iexact H16; ipureintro; exact h16'
  isplitl [Hs]; iexact Hs
  isplitl [Hs_dst]
  · iexists _; isplitr; swap; iexact Hs_dst; ipureintro; exact h8
  isplitl [Hs_src]
  · iexists _, _; isplitr; swap; iexact Hs_src; ipureintro; rfl
  iexists _; iexact HO

/-- A step before the last ends there. -/
theorem notLast (c : Dev nD) (i : grid0.Coords) (h16 : ¬ k0_cond16 i = 1#1) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (Q : _ → sProp 𝕄) :
    Q ⟨⟩ ⊢ wp frame (wpE (defs₀ (F := F)) Variants.none c none) Set.univ (hr2.tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (BitVec.ofNat 32 (i 0).val)) Q := by
  iintro H
  unfold hr2.tail
  dsimp only
  rw [dif_neg h16]
  sl_exec
  rw [wp_ret]
  imodintro
  iexact H

end Cert.Kernel.Hand
-- ==== Proof.Step.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Root
public import proofs.«01_k».proof.Proof.Init
public import proofs.«01_k».proof.Proof.Last

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the kernel's own buffers hold between two steps: the table, the counters, the rows carried over, the accumulator. -/
def SC (c : Dev nD) (arg8 : Memref sig .tc .hbm S6x1536x640 .f32) (arg9 : Memref sig .tc .smem S3x7 .i32) (arg10 : Memref sig .tc .smem S2 .i32) (arg11 : Memref sig .tc .vmem S256x1536 .bf16) (arg12 : Memref sig .tc .vmem S256x640 .bf16) (arg13 : Memref sig .tc .vmem S256x1536 .bf16) (arg14 arg15 : Memref sig .tc .vmem S256x640 .bf16) (arg16 arg17 : Memref sig .tc .vmem S1536x640 .f32) (arg18 : DmaSems sig S_) (m : Vec F S3x7 .i32) (x : Vec F S256x1536 .bf16) (y : Vec F S256x640 .bf16) (s : St F) : sProp 𝕄 :=
  iprop(owns (c : Thread nD τ) arg9 fullShare m ∗ owns (c : Thread nD τ) arg10 fullShare (cuV (F := F) s.e s.fl) ∗ (∃ v, owns (c : Thread nD τ) arg11 fullShare v) ∗ (∃ v, owns (c : Thread nD τ) arg12 fullShare v) ∗ owns (c : Thread nD τ) arg13 fullShare x ∗ owns (c : Thread nD τ) arg14 fullShare y ∗ (∃ v, owns (c : Thread nD τ) arg15 fullShare v) ∗ owns (c : Thread nD τ) arg16 fullShare s.acc ∗ DW c arg8 arg17 arg18 s.fl s.dw)

/-- The kernel's own buffers before the first step and after the last: at anything, no copy out under way. -/
def SI (c : Dev nD) (arg8 : Memref sig .tc .hbm S6x1536x640 .f32) (arg9 : Memref sig .tc .smem S3x7 .i32) (arg10 : Memref sig .tc .smem S2 .i32) (arg11 : Memref sig .tc .vmem S256x1536 .bf16) (arg12 : Memref sig .tc .vmem S256x640 .bf16) (arg13 : Memref sig .tc .vmem S256x1536 .bf16) (arg14 arg15 : Memref sig .tc .vmem S256x640 .bf16) (arg16 arg17 : Memref sig .tc .vmem S1536x640 .f32) (arg18 : DmaSems sig S_) (dw : Vec F S6x1536x640 .f32) : sProp 𝕄 :=
  iprop((∃ v, owns (c : Thread nD τ) arg9 fullShare v) ∗ (∃ v, owns (c : Thread nD τ) arg10 fullShare v) ∗ (∃ v, owns (c : Thread nD τ) arg11 fullShare v) ∗ (∃ v, owns (c : Thread nD τ) arg12 fullShare v) ∗ (∃ v, owns (c : Thread nD τ) arg13 fullShare v) ∗ (∃ v, owns (c : Thread nD τ) arg14 fullShare v) ∗ (∃ v, owns (c : Thread nD τ) arg15 fullShare v) ∗ (∃ v, owns (c : Thread nD τ) arg16 fullShare v) ∗ DW c arg8 arg17 arg18 false dw)

/-- The state before the first step. -/
def stZ (dw : Vec F S6x1536x640 .f32) : St F := ⟨0, false, zeroT, dw⟩

/-- The last step's state at its end. -/
def fin3 (M : ℕ → ℕ) (m : Vec F S3x7 .i32) (gx gy : Vec F S7 .f32) (x : Vec F S256x1536 .bf16) (y : Vec F S256x640 .bf16)
    (xv : Vec F S512x1536 .bf16) (xs : Vec F S32x1536 .f32) (yv : Vec F S512x640 .bf16) (ys : Vec F S32x640 .f32) (n : ℕ) (s : St F) : St F :=
  chunk M m gx gy (deqX 1 xv xs) (deqY 1 yv ys) (Scalar.addi (Scalar.muli (BitVec.ofNat 32 n) 32#32) 16#32) (32 * n + 32) (step2 M m gx gy x y xv xs yv ys n s)

theorem cond16 (i : grid0.Coords) : k0_cond16 i = 1#1 ↔ (i 0).val = 24 := by
  have h := (i 0).isLt
  change (i 0).val < 25 at h
  unfold k0_cond16
  dsimp only
  generalize (i 0).val = n at h
  revert n
  decide

theorem step2_e (M : ℕ → ℕ) (m : Vec F S3x7 .i32) (gx gy : Vec F S7 .f32) (x : Vec F S256x1536 .bf16) (y : Vec F S256x640 .bf16) (xv xs yv ys) (n : ℕ) (s : St F) (he : s.e ≤ 6) :
    (step2 M m gx gy x y xv xs yv ys n s).e ≤ 6 := by
  unfold step2 step1
  rw [chunk_e]
  exact nFin_add M _ _ (by rw [chunk_e]; exact nFin_add M _ _ he)

theorem chunk_fl (M : ℕ → ℕ) (m : Vec F S3x7 .i32) (gx gy : Vec F S7 .f32) (x : Vec F S256x1536 .bf16) (y : Vec F S256x640 .bf16) (base : BitVec 32) (en : ℕ) (s : St F)
    (h : s.e ≠ 0 → s.fl = true) : (chunk M m gx gy x y base en s).e ≠ 0 → (chunk M m gx gy x y base en s).fl = true := by
  unfold chunk
  exact iter_fl M m x y base en gx gy { s with acc := accT s.acc x (primT M m base en s.e y) } h _

theorem step2_fl (M : ℕ → ℕ) (m : Vec F S3x7 .i32) (gx gy : Vec F S7 .f32) (x : Vec F S256x1536 .bf16) (y : Vec F S256x640 .bf16) (xv xs yv ys) (n : ℕ) (s : St F)
    (h : s.e ≠ 0 → s.fl = true) : (step2 M m gx gy x y xv xs yv ys n s).e ≠ 0 → (step2 M m gx gy x y xv xs yv ys n s).fl = true := by
  unfold step2 step1
  exact chunk_fl _ _ _ _ _ _ _ _ _ (chunk_fl _ _ _ _ _ _ _ _ _ h)

/-- By the rows' end every expert is closed. -/
theorem nFin_all (M : ℕ → ℕ) (m : Vec F S3x7 .i32) (hM : Meta M m) (e en : ℕ) (he : e ≤ 6) (hen : 800 ≤ en) : e + nFin M e en = 6 := by
  have h5 := hM.last
  have h0 := hM.mono' 0 5 (by omega) (by omega)
  have h1 := hM.mono' 1 5 (by omega) (by omega)
  have h2 := hM.mono' 2 5 (by omega) (by omega)
  have h3 := hM.mono' 3 5 (by omega) (by omega)
  have h4 := hM.mono' 4 5 (by omega) (by omega)
  rw [nFin_eq]
  split_ifs <;> omega

/-- The first step. -/
theorem first (c : Dev nD) (i : grid0.Coords) (hi : (i 0).val = 0) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (dw0 : Vec F S6x1536x640 .f32) (gv : Vec F S6 .i32) (gx gy : Vec F S7 .f32) (xv : Vec F S512x1536 .bf16) (xs : Vec F S32x1536 .f32) (yv : Vec F S512x640 .bf16) (ys : Vec F S32x640 .f32) (hM : Meta M (tabW (F := F) fun k => gv (mk S6 ![k]))) (Q : _ → sProp 𝕄) :
   iprop((owns (c : Thread nD τ) arg1 fullShare gv ∗ owns (c : Thread nD τ) arg2 fullShare gx ∗ owns (c : Thread nD τ) arg3 fullShare gy ∗ owns (c : Thread nD τ) arg4 fullShare xv ∗ owns (c : Thread nD τ) arg5 fullShare xs ∗ owns (c : Thread nD τ) arg6 fullShare yv ∗ owns (c : Thread nD τ) arg7 fullShare ys) ∗ SI c arg8 arg9 arg10 arg11 arg12 arg13 arg14 arg15 arg16 arg17 arg18 dw0 ∗ (∃ W, owes (c : Thread nD τ) 0 W))
   ⊢ iprop(((owns (c : Thread nD τ) arg1 fullShare gv ∗ owns (c : Thread nD τ) arg2 fullShare gx ∗ owns (c : Thread nD τ) arg3 fullShare gy ∗ owns (c : Thread nD τ) arg4 fullShare xv ∗ owns (c : Thread nD τ) arg5 fullShare xs ∗ owns (c : Thread nD τ) arg6 fullShare yv ∗ owns (c : Thread nD τ) arg7 fullShare ys) ∗ SC c arg8 arg9 arg10 arg11 arg12 arg13 arg14 arg15 arg16 arg17 arg18 (tabW (F := F) fun k => gv (mk S6 ![k])) (deqX 1 xv xs) (deqY 1 yv ys) (step2 M (tabW (F := F) fun k => gv (mk S6 ![k])) gx gy k0_pay14 k0_pay215 xv xs yv ys (i 0).val (stZ dw0)) ∗ (∃ W, owes (c : Thread nD τ) 0 W) -∗ Q ⟨⟩)
    -∗ wp frame (wpE (defs₀ (F := F)) Variants.none c none) Set.univ (cc0_quant_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) Q) := by
  have h16 : ¬ k0_cond16 i = 1#1 := by rw [cond16]; omega
  iintro ⟨⟨H1, H2, H3, H4, H5, H6, H7⟩, HS, HO⟩ Hk
  unfold SI
  icases HS with ⟨⟨%v9, H9⟩, ⟨%v10, H10⟩, H11, H12, ⟨%v13, H13⟩, ⟨%v14, H14⟩, H15, ⟨%v16, H16⟩, Hd⟩
  iapply (rootS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M (tabW (F := F) fun k => gv (mk S6 ![k])) hM gx gy (k0_pay14 (F := F)) (k0_pay215 (F := F)) xv xs yv ys (stZ dw0) (Nat.zero_le _) iprop(owns (c : Thread nD τ) arg1 fullShare gv ∗ owns (c : Thread nD τ) arg9 fullShare v9 ∗ owns (c : Thread nD τ) arg10 fullShare v10 ∗ owns (c : Thread nD τ) arg13 fullShare v13 ∗ owns (c : Thread nD τ) arg14 fullShare v14 ∗ owns (c : Thread nD τ) arg16 fullShare v16) (owns (c : Thread nD τ) arg1 fullShare gv) iprop(owns (c : Thread nD τ) arg2 fullShare gx ∗ owns (c : Thread nD τ) arg3 fullShare gy ∗ owns (c : Thread nD τ) arg9 fullShare (tabW (F := F) fun k => gv (mk S6 ![k])) ∗ owns (c : Thread nD τ) arg13 fullShare (deqX 1 xv xs) ∗ (∃ v, owns (c : Thread nD τ) arg15 fullShare v) ∗ owns (c : Thread nD τ) arg14 fullShare (deqY 1 yv ys) ∗ owns (c : Thread nD τ) arg10 fullShare (cuV (F := F) (step2 M (tabW (F := F) fun k => gv (mk S6 ![k])) gx gy (k0_pay14 (F := F)) (k0_pay215 (F := F)) xv xs yv ys (i 0).val (stZ dw0)).e (step2 M (tabW (F := F) fun k => gv (mk S6 ![k])) gx gy (k0_pay14 (F := F)) (k0_pay215 (F := F)) xv xs yv ys (i 0).val (stZ dw0)).fl) ∗ owns (c : Thread nD τ) arg16 fullShare (step2 M (tabW (F := F) fun k => gv (mk S6 ![k])) gx gy (k0_pay14 (F := F)) (k0_pay215 (F := F)) xv xs yv ys (i 0).val (stZ dw0)).acc ∗ DW c arg8 arg17 arg18 (step2 M (tabW (F := F) fun k => gv (mk S6 ![k])) gx gy (k0_pay14 (F := F)) (k0_pay215 (F := F)) xv xs yv ys (i 0).val (stZ dw0)).fl (step2 M (tabW (F := F) fun k => gv (mk S6 ![k])) gx gy (k0_pay14 (F := F)) (k0_pay215 (F := F)) xv xs yv ys (i 0).val (stZ dw0)).dw ∗ (∃ W, owes (c : Thread nD τ) 0 W)) (by
    intro R κ Q
    iintro ⟨H1, H9, H10, H13, H14, H16⟩ Hk
    iapply (init0 c i hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 gv v9 v10 v13 v14 v16 R κ Q) $$ [H1 H9 H10 H13 H14 H16]
    · isplitl [H1]; iexact H1
      isplitl [H9]; iexact H9
      isplitl [H10]; iexact H10
      isplitl [H13]; iexact H13
      isplitl [H14]; iexact H14
      iexact H16
    iintro ⟨H1, H9, H10, H13, H14, H16⟩
    iapply Hk
    isplitl [H1]; iexact H1
    isplitl [H9]; iexact H9
    isplitl [H10]; iexact H10
    isplitl [H13]; iexact H13
    isplitl [H14]; iexact H14
    iexact H16) (by
    intro Q
    iintro H Hk
    iapply (notLast c i h16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 Q)
    iapply Hk
    iexact H) _) $$ [H1 H2 H3 H4 H5 H6 H7 H9 H10 H11 H12 H13 H14 H15 H16 Hd HO]
  · isplitl [H1 H9 H10 H13 H14 H16]
    · isplitl [H1]; iexact H1
      isplitl [H9]; iexact H9
      isplitl [H10]; iexact H10
      isplitl [H13]; iexact H13
      isplitl [H14]; iexact H14
      iexact H16
    isplitl [H2]; iexact H2
    isplitl [H3]; iexact H3
    isplitl [H4]; iexact H4
    isplitl [H5]; iexact H5
    isplitl [H6]; iexact H6
    isplitl [H7]; iexact H7
    isplitl [H11]; iexact H11
    isplitl [H12]; iexact H12
    isplitl [H15]; iexact H15
    isplitl [Hd]; iexact Hd
    iexact HO
  iintro ⟨H1, ⟨H2, H3, H9, H13, H15, H14, H10, H16, Hd, HO⟩, H4, H5, H6, H7, H11, H12⟩
  iapply Hk
  isplitl [H1 H2 H3 H4 H5 H6 H7]
  · isplitl [H1]; iexact H1
    isplitl [H2]; iexact H2
    isplitl [H3]; iexact H3
    isplitl [H4]; iexact H4
    isplitl [H5]; iexact H5
    isplitl [H6]; iexact H6
    iexact H7
  isplitl [H9 H10 H11 H12 H13 H14 H15 H16 Hd]
  · unfold SC
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    iexact Hd
  iexact HO

/-- A step between the first and the last. -/
theorem mid (c : Dev nD) (i : grid0.Coords) (hi : (i 0).val ≠ 0) (hn : (i 0).val ≠ 24) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (x : Vec F S256x1536 .bf16) (y : Vec F S256x640 .bf16) (s : St F) (he : s.e ≤ 6) (hfl : s.e ≠ 0 → s.fl = true) (gv : Vec F S6 .i32) (gx gy : Vec F S7 .f32) (xv : Vec F S512x1536 .bf16) (xs : Vec F S32x1536 .f32) (yv : Vec F S512x640 .bf16) (ys : Vec F S32x640 .f32) (Q : _ → sProp 𝕄) :
   iprop((owns (c : Thread nD τ) arg1 fullShare gv ∗ owns (c : Thread nD τ) arg2 fullShare gx ∗ owns (c : Thread nD τ) arg3 fullShare gy ∗ owns (c : Thread nD τ) arg4 fullShare xv ∗ owns (c : Thread nD τ) arg5 fullShare xs ∗ owns (c : Thread nD τ) arg6 fullShare yv ∗ owns (c : Thread nD τ) arg7 fullShare ys) ∗ SC c arg8 arg9 arg10 arg11 arg12 arg13 arg14 arg15 arg16 arg17 arg18 m x y s ∗ (∃ W, owes (c : Thread nD τ) 0 W))
   ⊢ iprop(((owns (c : Thread nD τ) arg1 fullShare gv ∗ owns (c : Thread nD τ) arg2 fullShare gx ∗ owns (c : Thread nD τ) arg3 fullShare gy ∗ owns (c : Thread nD τ) arg4 fullShare xv ∗ owns (c : Thread nD τ) arg5 fullShare xs ∗ owns (c : Thread nD τ) arg6 fullShare yv ∗ owns (c : Thread nD τ) arg7 fullShare ys) ∗ SC c arg8 arg9 arg10 arg11 arg12 arg13 arg14 arg15 arg16 arg17 arg18 m (deqX 1 xv xs) (deqY 1 yv ys) (step2 M m gx gy x y xv xs yv ys (i 0).val s) ∗ (∃ W, owes (c : Thread nD τ) 0 W) -∗ Q ⟨⟩)
    -∗ wp frame (wpE (defs₀ (F := F)) Variants.none c none) Set.univ (cc0_quant_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) Q) := by
  have h16 : ¬ k0_cond16 i = 1#1 := by rw [cond16]; exact hn
  iintro ⟨⟨H1, H2, H3, H4, H5, H6, H7⟩, HS, HO⟩ Hk
  unfold SC
  icases HS with ⟨H9, H10, H11, H12, H13, H14, H15, H16, Hd⟩
  iapply (rootS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM gx gy x y xv xs yv ys s he iprop(owns (c : Thread nD τ) arg1 fullShare gv ∗ owns (c : Thread nD τ) arg9 fullShare m ∗ owns (c : Thread nD τ) arg10 fullShare (cuV (F := F) s.e s.fl) ∗ owns (c : Thread nD τ) arg13 fullShare x ∗ owns (c : Thread nD τ) arg14 fullShare y ∗ owns (c : Thread nD τ) arg16 fullShare s.acc) (owns (c : Thread nD τ) arg1 fullShare gv) iprop(owns (c : Thread nD τ) arg2 fullShare gx ∗ owns (c : Thread nD τ) arg3 fullShare gy ∗ owns (c : Thread nD τ) arg9 fullShare m ∗ owns (c : Thread nD τ) arg13 fullShare (deqX 1 xv xs) ∗ (∃ v, owns (c : Thread nD τ) arg15 fullShare v) ∗ owns (c : Thread nD τ) arg14 fullShare (deqY 1 yv ys) ∗ owns (c : Thread nD τ) arg10 fullShare (cuV (F := F) (step2 M m gx gy x y xv xs yv ys (i 0).val s).e (step2 M m gx gy x y xv xs yv ys (i 0).val s).fl) ∗ owns (c : Thread nD τ) arg16 fullShare (step2 M m gx gy x y xv xs yv ys (i 0).val s).acc ∗ DW c arg8 arg17 arg18 (step2 M m gx gy x y xv xs yv ys (i 0).val s).fl (step2 M m gx gy x y xv xs yv ys (i 0).val s).dw ∗ (∃ W, owes (c : Thread nD τ) 0 W)) (by
    intro R κ Q
    iintro ⟨H1, H9, H10, H13, H14, H16⟩ Hk
    iapply (initN c i hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 R κ Q)
    iapply Hk
    isplitl [H1]; iexact H1
    isplitl [H9]; iexact H9
    isplitl [H10]; iexact H10
    isplitl [H13]; iexact H13
    isplitl [H14]; iexact H14
    iexact H16) (by
    intro Q
    iintro H Hk
    iapply (notLast c i h16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 Q)
    iapply Hk
    iexact H) _) $$ [H1 H2 H3 H4 H5 H6 H7 H9 H10 H11 H12 H13 H14 H15 H16 Hd HO]
  · isplitl [H1 H9 H10 H13 H14 H16]
    · isplitl [H1]; iexact H1
      isplitl [H9]; iexact H9
      isplitl [H10]; iexact H10
      isplitl [H13]; iexact H13
      isplitl [H14]; iexact H14
      iexact H16
    isplitl [H2]; iexact H2
    isplitl [H3]; iexact H3
    isplitl [H4]; iexact H4
    isplitl [H5]; iexact H5
    isplitl [H6]; iexact H6
    isplitl [H7]; iexact H7
    isplitl [H11]; iexact H11
    isplitl [H12]; iexact H12
    isplitl [H15]; iexact H15
    isplitl [Hd]; iexact Hd
    iexact HO
  iintro ⟨H1, ⟨H2, H3, H9, H13, H15, H14, H10, H16, Hd, HO⟩, H4, H5, H6, H7, H11, H12⟩
  iapply Hk
  isplitl [H1 H2 H3 H4 H5 H6 H7]
  · isplitl [H1]; iexact H1
    isplitl [H2]; iexact H2
    isplitl [H3]; iexact H3
    isplitl [H4]; iexact H4
    isplitl [H5]; iexact H5
    isplitl [H6]; iexact H6
    iexact H7
  isplitl [H9 H10 H11 H12 H13 H14 H15 H16 Hd]
  ·
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    iexact Hd
  iexact HO

/-- The last step. -/
theorem last (c : Dev nD) (i : grid0.Coords) (hn : (i 0).val = 24) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S512x1536 .bf16) (harg4 : arg4.IsWhole) (arg5 : Memref sig .tc .vmem S32x1536 .f32) (harg5 : arg5.IsWhole) (arg6 : Memref sig .tc .vmem S512x640 .bf16) (harg6 : arg6.IsWhole) (arg7 : Memref sig .tc .vmem S32x640 .f32) (harg7 : arg7.IsWhole) (arg8 : Memref sig .tc .hbm S6x1536x640 .f32) (harg8 : arg8.IsWhole) (arg9 : Memref sig .tc .smem S3x7 .i32) (harg9 : arg9.IsWhole) (arg10 : Memref sig .tc .smem S2 .i32) (harg10 : arg10.IsWhole) (arg11 : Memref sig .tc .vmem S256x1536 .bf16) (harg11 : arg11.IsWhole) (arg12 : Memref sig .tc .vmem S256x640 .bf16) (harg12 : arg12.IsWhole) (arg13 : Memref sig .tc .vmem S256x1536 .bf16) (harg13 : arg13.IsWhole) (arg14 : Memref sig .tc .vmem S256x640 .bf16) (harg14 : arg14.IsWhole) (arg15 : Memref sig .tc .vmem S256x640 .bf16) (harg15 : arg15.IsWhole) (arg16 : Memref sig .tc .vmem S1536x640 .f32) (harg16 : arg16.IsWhole) (arg17 : Memref sig .tc .vmem S1536x640 .f32) (harg17 : arg17.IsWhole) (arg18 : DmaSems sig S_) (M : ℕ → ℕ) (m : Vec F S3x7 .i32) (hM : Meta M m) (x : Vec F S256x1536 .bf16) (y : Vec F S256x640 .bf16) (s : St F) (he : s.e ≤ 6) (hfl : s.e ≠ 0 → s.fl = true) (gv : Vec F S6 .i32) (gx gy : Vec F S7 .f32) (xv : Vec F S512x1536 .bf16) (xs : Vec F S32x1536 .f32) (yv : Vec F S512x640 .bf16) (ys : Vec F S32x640 .f32) (Q : _ → sProp 𝕄) :
   iprop((owns (c : Thread nD τ) arg1 fullShare gv ∗ owns (c : Thread nD τ) arg2 fullShare gx ∗ owns (c : Thread nD τ) arg3 fullShare gy ∗ owns (c : Thread nD τ) arg4 fullShare xv ∗ owns (c : Thread nD τ) arg5 fullShare xs ∗ owns (c : Thread nD τ) arg6 fullShare yv ∗ owns (c : Thread nD τ) arg7 fullShare ys) ∗ SC c arg8 arg9 arg10 arg11 arg12 arg13 arg14 arg15 arg16 arg17 arg18 m x y s ∗ (∃ W, owes (c : Thread nD τ) 0 W))
   ⊢ iprop(((owns (c : Thread nD τ) arg1 fullShare gv ∗ owns (c : Thread nD τ) arg2 fullShare gx ∗ owns (c : Thread nD τ) arg3 fullShare gy ∗ owns (c : Thread nD τ) arg4 fullShare xv ∗ owns (c : Thread nD τ) arg5 fullShare xs ∗ owns (c : Thread nD τ) arg6 fullShare yv ∗ owns (c : Thread nD τ) arg7 fullShare ys) ∗ SI c arg8 arg9 arg10 arg11 arg12 arg13 arg14 arg15 arg16 arg17 arg18 (fin3 M m gx gy x y xv xs yv ys (i 0).val s).dw ∗ (∃ W, owes (c : Thread nD τ) 0 W) -∗ Q ⟨⟩)
    -∗ wp frame (wpE (defs₀ (F := F)) Variants.none c none) Set.univ (cc0_quant_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) Q) := by
  have h16 : k0_cond16 i = 1#1 := (cond16 i).mpr hn
  have hi : (i 0).val ≠ 0 := by omega
  have hE : (step2 M m gx gy x y xv xs yv ys (i 0).val s).e ≤ 6 := step2_e _ _ _ _ _ _ _ _ _ _ _ _ he
  have hF := step2_fl M m gx gy x y xv xs yv ys (i 0).val s hfl
  have hend : (step2 M m gx gy x y xv xs yv ys (i 0).val s).e + nFin M (step2 M m gx gy x y xv xs yv ys (i 0).val s).e (32 * (i 0).val + 32) = 6 := nFin_all M m hM _ _ hE (by omega)
  iintro ⟨⟨H1, H2, H3, H4, H5, H6, H7⟩, HS, HO⟩ Hk
  unfold SC
  icases HS with ⟨H9, H10, H11, H12, H13, H14, H15, H16, Hd⟩
  iapply (rootS c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM gx gy x y xv xs yv ys s he iprop(owns (c : Thread nD τ) arg1 fullShare gv ∗ owns (c : Thread nD τ) arg9 fullShare m ∗ owns (c : Thread nD τ) arg10 fullShare (cuV (F := F) s.e s.fl) ∗ owns (c : Thread nD τ) arg13 fullShare x ∗ owns (c : Thread nD τ) arg14 fullShare y ∗ owns (c : Thread nD τ) arg16 fullShare s.acc) (owns (c : Thread nD τ) arg1 fullShare gv) iprop(owns (c : Thread nD τ) arg2 fullShare gx ∗ owns (c : Thread nD τ) arg3 fullShare gy ∗ owns (c : Thread nD τ) arg9 fullShare m ∗ owns (c : Thread nD τ) arg13 fullShare (deqX 1 xv xs) ∗ (∃ v, owns (c : Thread nD τ) arg15 fullShare v) ∗ (∃ v, owns (c : Thread nD τ) arg14 fullShare v) ∗ (∃ v, owns (c : Thread nD τ) arg10 fullShare v) ∗ (∃ v, owns (c : Thread nD τ) arg16 fullShare v) ∗ DW c arg8 arg17 arg18 false (fin3 M m gx gy x y xv xs yv ys (i 0).val s).dw ∗ (∃ W, owes (c : Thread nD τ) 0 W)) (by
    intro R κ Q
    iintro ⟨H1, H9, H10, H13, H14, H16⟩ Hk
    iapply (initN c i hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 R κ Q)
    iapply Hk
    isplitl [H1]; iexact H1
    isplitl [H9]; iexact H9
    isplitl [H10]; iexact H10
    isplitl [H13]; iexact H13
    isplitl [H14]; iexact H14
    iexact H16) (by
    intro Q
    iintro H Hk
    iapply (lastS c i h16 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 M m hM gx gy (step2 M m gx gy x y xv xs yv ys (i 0).val s).e hE (deqX 1 xv xs) (deqY 1 yv ys) (fun _ => Scalar.ofBits .bf16 0#16) (step2 M m gx gy x y xv xs yv ys (i 0).val s) rfl hF hend Q) $$ H
    iintro ⟨H2, H3, H9, H13, H15, H14, H10, H16, Hs, H8, H17, HO⟩
    iapply Hk
    isplitl [H2]; iexact H2
    isplitl [H3]; iexact H3
    isplitl [H9]; iexact H9
    isplitl [H13]; iexact H13
    isplitl [H15]; iexact H15
    isplitl [H14]; iexact H14
    isplitl [H10]; iexists _; iexact H10
    isplitl [H16]; iexists _; iexact H16
    isplitl [Hs H8 H17]
    · rw [DW_false]
      isplitl [Hs]; iexact Hs
      isplitl [H8]; iexact H8
      iexact H17
    iexact HO) _) $$ [H1 H2 H3 H4 H5 H6 H7 H9 H10 H11 H12 H13 H14 H15 H16 Hd HO]
  · isplitl [H1 H9 H10 H13 H14 H16]
    · isplitl [H1]; iexact H1
      isplitl [H9]; iexact H9
      isplitl [H10]; iexact H10
      isplitl [H13]; iexact H13
      isplitl [H14]; iexact H14
      iexact H16
    isplitl [H2]; iexact H2
    isplitl [H3]; iexact H3
    isplitl [H4]; iexact H4
    isplitl [H5]; iexact H5
    isplitl [H6]; iexact H6
    isplitl [H7]; iexact H7
    isplitl [H11]; iexact H11
    isplitl [H12]; iexact H12
    isplitl [H15]; iexact H15
    isplitl [Hd]; iexact Hd
    iexact HO
  iintro ⟨H1, ⟨H2, H3, H9, H13, H15, H14, H10, H16, Hd, HO⟩, H4, H5, H6, H7, H11, H12⟩
  iapply Hk
  isplitl [H1 H2 H3 H4 H5 H6 H7]
  · isplitl [H1]; iexact H1
    isplitl [H2]; iexact H2
    isplitl [H3]; iexact H3
    isplitl [H4]; iexact H4
    isplitl [H5]; iexact H5
    isplitl [H6]; iexact H6
    iexact H7
  isplitl [H9 H10 H11 H12 H13 H14 H15 H16 Hd]
  · unfold SI
    isplitl [H9]; iexists _; iexact H9
    isplitl [H10]; iexact H10
    isplitl [H11]; iexact H11
    isplitl [H12]; iexact H12
    isplitl [H13]; iexists _; iexact H13
    isplitl [H14]; iexact H14
    isplitl [H15]; iexact H15
    isplitl [H16]; iexact H16
    iexact Hd
  iexact HO

end Cert.Kernel.Hand
-- ==== Proof.Flow.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.Tactic.Stretches
public import Idealize.ShloMosaic.Lib.WordCmp
public import proofs.«01_k».proof.Proof.Step
public import proofs.«01_k».proof.Proof.Gen.Kernel.Frame
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffer the body writes itself: the result, by copies of its own. -/
def R0 : Finset (Ref sig .tc) := {main_v0}
/-- No buffer is read by the body's own copies. -/
def H0 : Finset (Ref sig .tc) := ∅
theorem H0_sub : H0 ⊆ Pipeline.restRefs sig spec0 := Finset.empty_subset _
theorem R0_sub : R0 ⊆ Pipeline.restRefs sig spec0 \ H0 := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The one cell of the kernel's own copies. -/
abbrev osem0 : Fin 1 → SemLoc sig := fun j => (![SemLoc.dma cc0_scratch9.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch9.sem) 0 := by
  rw [Pipeline.ownSems0_eq_of_list c osem0 [0] (by decide) (by decide)]; rfl

/-- The blocks' index at step `n`. -/
def tt (n : ℕ) : Fin cfg0.N := ⟨n % 25, N_0 ▸ Nat.mod_lt _ (by decide)⟩

/-- The group sizes. -/
def gvA (c : Dev nD) : Vec F S6 .i32 := V m c main_arg0
/-- The rows' global scales of the first operand. -/
def gxA (c : Dev nD) : Vec F S7 .f32 := V m c main_arg1
/-- The rows' global scales of the second operand. -/
def gyA (c : Dev nD) : Vec F S7 .f32 := V m c main_arg2
/-- Step `n`'s 512 rows of the first operand. -/
def bxA (c : Dev nD) (n : ℕ) : Vec F S512x1536 .bf16 := iblk m c 3 (tt n)
/-- Their block scales. -/
def sxA (c : Dev nD) (n : ℕ) : Vec F S32x1536 .f32 := iblk m c 4 (tt n)
/-- Step `n`'s 512 rows of the second operand. -/
def byA (c : Dev nD) (n : ℕ) : Vec F S512x640 .bf16 := iblk m c 5 (tt n)
/-- Their block scales. -/
def syA (c : Dev nD) (n : ℕ) : Vec F S32x640 .f32 := iblk m c 6 (tt n)
/-- The group sizes as numbers. -/
def gN (c : Dev nD) (k : ℕ) : ℕ := (gvA m c (mk S6 ![k])).toNat
/-- The table of the groups' rows. -/
def tab (c : Dev nD) : Vec F S3x7 .i32 := tabW (F := F) fun k => gvA m c (mk S6 ![k])

/-- The rows of the first operand carried into step `n`. -/
def xN (c : Dev nD) : ℕ → Vec F S256x1536 .bf16
  | 0 => k0_pay14 (F := F)
  | n + 1 => deqX 1 (bxA m c n) (sxA m c n)
/-- The rows of the second operand carried into step `n`. -/
def yN (c : Dev nD) : ℕ → Vec F S256x640 .bf16
  | 0 => k0_pay215 (F := F)
  | n + 1 => deqY 1 (byA m c n) (syA m c n)
/-- The state before step `n`. -/
def stN (c : Dev nD) : ℕ → St F
  | 0 => stZ (V m c main_v0)
  | n + 1 => step2 (mOf (gN m c)) (tab m c) (gxA m c) (gyA m c) (xN m c n) (yN m c n) (bxA m c n) (sxA m c n) (byA m c n) (syA m c n) n (stN c n)
/-- The result. -/
def dwN (c : Dev nD) : Vec F S6x1536x640 .f32 :=
  (fin3 (mOf (gN m c)) (tab m c) (gxA m c) (gyA m c) (xN m c 24) (yN m c 24) (bxA m c 24) (sxA m c 24) (byA m c 24) (syA m c 24) 24 (stN m c 24)).dw

theorem stN_e (c : Dev nD) : ∀ n, (stN m c n).e ≤ 6
  | 0 => Nat.zero_le _
  | n + 1 => step2_e _ _ _ _ _ _ _ _ _ _ _ _ (stN_e c n)
theorem stN_fl (c : Dev nD) : ∀ n, (stN m c n).e ≠ 0 → (stN m c n).fl = true
  | 0 => fun h => absurd rfl h
  | n + 1 => step2_fl _ _ _ _ _ _ _ _ _ _ _ _ (stN_fl c n)

theorem meta_tab (c : Dev nD) (h : Sizes (gN m c)) : Meta (mOf (gN m c)) (tab m c) :=
  meta_of (gN m c) h _ fun k _ => (BitVec.ofNat_toNat 32 _).symm ▸ (by simp [gN])

theorem iblk0 (c : Dev nD) (t : Fin cfg0.N) : iblk m c 0 t = gvA m c := by
  funext j
  unfold iblk
  rw [View.read_apply]
  show V m c main_arg0 _ = V m c main_arg0 _
  congr 1
  funext a
  apply Fin.ext
  match a with
  | ⟨0, _⟩ => show 0 * 6 + 1 * (j 0).val = (j 0).val; omega
theorem iblk1 (c : Dev nD) (t : Fin cfg0.N) : iblk m c 1 t = gxA m c := by
  funext j
  unfold iblk
  rw [View.read_apply]
  show V m c main_arg1 _ = V m c main_arg1 _
  congr 1
  funext a
  apply Fin.ext
  match a with
  | ⟨0, _⟩ => show 0 * 7 + 1 * (j 0).val = (j 0).val; omega
theorem iblk2 (c : Dev nD) (t : Fin cfg0.N) : iblk m c 2 t = gyA m c := by
  funext j
  unfold iblk
  rw [View.read_apply]
  show V m c main_arg2 _ = V m c main_arg2 _
  congr 1
  funext a
  apply Fin.ext
  match a with
  | ⟨0, _⟩ => show 0 * 7 + 1 * (j 0).val = (j 0).val; omega

theorem tt_val (t : Fin cfg0.N) : tt t.val = t := Fin.ext (Nat.mod_eq_of_lt (N_0 ▸ t.isLt))
theorem iblk3 (c : Dev nD) (t : Fin cfg0.N) : iblk m c 3 t = bxA m c t.val := by unfold bxA; rw [tt_val]
theorem iblk4 (c : Dev nD) (t : Fin cfg0.N) : iblk m c 4 t = sxA m c t.val := by unfold sxA; rw [tt_val]
theorem iblk5 (c : Dev nD) (t : Fin cfg0.N) : iblk m c 5 t = byA m c t.val := by unfold byA; rw [tt_val]
theorem iblk6 (c : Dev nD) (t : Fin cfg0.N) : iblk m c 6 t = syA m c t.val := by unfold syA; rw [tt_val]

/-- The kernel's own buffers, all at anything, the result at `dw`. -/
abbrev SIw (c : Dev nD) (dw : Vec F S6x1536x640 .f32) : sProp 𝕄 := SI c (Memref.whole main_v0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 dw

/-- What the kernel's own buffers hold before step `n`. -/
def own (c : Dev nD) (n : ℕ) : sProp 𝕄 :=
  if n = 0 then SIw c (V m c main_v0) else if n = 25 then SIw c (dwN m c)
  else SC c (Memref.whole main_v0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 (tab m c) (xN m c n) (yN m c n) (stN m c n)

/-- The proof data of the one pipeline: each window left as it is, the kernel's own buffers as `own` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := iprop(own m c t.val ∗ (∃ r, prngReg c r))
  q _ := fullShare
  owed _ := 0

theorem A_eq (c : Dev nD) (w : Fin cfg0.W) : (dats m 0 c).A w = V m c (Pipeline.arrRef spec0 w) := by
  dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; try rfl) t d).trans
    (by unfold Dat.fetched Dat.blockOf iblk; rw [A_eq]; try rfl)
theorem after0_0 (c : Dev nD) (t : Fin cfg0.N) : (dats m 0 c).after 0 t = iblk m c 0 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; try rfl) t d).trans
    (by unfold Dat.fetched Dat.blockOf iblk; rw [A_eq]; try rfl)
theorem after0_6 (c : Dev nD) (t : Fin cfg0.N) : (dats m 0 c).after 6 t = iblk m c 6 t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t))

theorem coords_val (t : Fin cfg0.N) : ((grid0.coords t) 0).val = t.val :=
  (by decide +kernel : ∀ t : Fin grid0.N, ((grid0.coords t) 0).val = t.val) t

/-- Each step's body: the windows read, the kernel's own buffers moved one step on. -/
theorem step (hpre : ∀ c, Sizes (gN m c)) (c : Dev nD) (t : Fin cfg0.N) (Q : _ → sProp 𝕄) :
    iprop((owns (c : Thread nD τ) (win0_0.stage (cfg0.slots t 0)) fullShare (gvA m c) ∗ owns (c : Thread nD τ) (win0_1.stage (cfg0.slots t 1)) fullShare (gxA m c) ∗ owns (c : Thread nD τ) (win0_2.stage (cfg0.slots t 2)) fullShare (gyA m c) ∗ owns (c : Thread nD τ) (win0_3.stage (cfg0.slots t 3)) fullShare (bxA m c t.val) ∗ owns (c : Thread nD τ) (win0_4.stage (cfg0.slots t 4)) fullShare (sxA m c t.val) ∗ owns (c : Thread nD τ) (win0_5.stage (cfg0.slots t 5)) fullShare (byA m c t.val) ∗ owns (c : Thread nD τ) (win0_6.stage (cfg0.slots t 6)) fullShare (syA m c t.val)) ∗ own m c t.val ∗ (∃ W, owes (c : Thread nD τ) 0 W))
    ⊢ iprop(((owns (c : Thread nD τ) (win0_0.stage (cfg0.slots t 0)) fullShare (gvA m c) ∗ owns (c : Thread nD τ) (win0_1.stage (cfg0.slots t 1)) fullShare (gxA m c) ∗ owns (c : Thread nD τ) (win0_2.stage (cfg0.slots t 2)) fullShare (gyA m c) ∗ owns (c : Thread nD τ) (win0_3.stage (cfg0.slots t 3)) fullShare (bxA m c t.val) ∗ owns (c : Thread nD τ) (win0_4.stage (cfg0.slots t 4)) fullShare (sxA m c t.val) ∗ owns (c : Thread nD τ) (win0_5.stage (cfg0.slots t 5)) fullShare (byA m c t.val) ∗ owns (c : Thread nD τ) (win0_6.stage (cfg0.slots t 6)) fullShare (syA m c t.val)) ∗ own m c (t.val + 1) ∗ (∃ W, owes (c : Thread nD τ) 0 W) -∗ Q ⟨⟩)
      -∗ wp frame (wpE (defs₀ (F := F)) Variants.none c none) Set.univ (bodyAt0 t) Q) := by
  have hv := coords_val t
  have ht : t.val < 25 := N_0 ▸ t.isLt
  have hM := meta_tab m c (hpre c)
  unfold bodyAt0
  by_cases h0 : t.val = 0
  · have hi : ((grid0.coords t) 0).val = 0 := hv.trans h0
    have key := first c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (mOf (gN m c)) (V m c main_v0) (gvA m c) (gxA m c) (gyA m c) (bxA m c t.val) (sxA m c t.val) (byA m c t.val) (syA m c t.val) hM Q
    have e1 : own m c t.val = SIw c (V m c main_v0) := if_pos h0
    have e2 : own m c (t.val + 1) = SC c (Memref.whole main_v0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 (tab m c) (xN m c (t.val + 1)) (yN m c (t.val + 1)) (stN m c (t.val + 1)) :=
      (if_neg (by omega)).trans (if_neg (by omega))
    rw [e1, e2]
    rw [hv, h0] at key
    rw [h0]
    exact key
  by_cases h1 : t.val = 24
  · have hi : ((grid0.coords t) 0).val = 24 := hv.trans h1
    have key := last c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (mOf (gN m c)) (tab m c) hM (xN m c t.val) (yN m c t.val) (stN m c t.val) (stN_e m c _) (stN_fl m c _) (gxA m c |> fun _ => gvA m c) (gxA m c) (gyA m c) (bxA m c t.val) (sxA m c t.val) (byA m c t.val) (syA m c t.val) Q
    have e1 : own m c t.val = SC c (Memref.whole main_v0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 (tab m c) (xN m c t.val) (yN m c t.val) (stN m c t.val) :=
      (if_neg h0).trans (if_neg (by omega))
    have e2 : own m c (t.val + 1) = SIw c (dwN m c) := (if_neg (by omega)).trans (if_pos (by omega))
    rw [e1, e2]
    rw [hv, h1] at key
    rw [h1]
    exact key
  · have key := mid c (grid0.coords t) (hv ▸ h0) (hv ▸ h1) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (mOf (gN m c)) (tab m c) hM (xN m c t.val) (yN m c t.val) (stN m c t.val) (stN_e m c _) (stN_fl m c _) (gvA m c) (gxA m c) (gyA m c) (bxA m c t.val) (sxA m c t.val) (byA m c t.val) (syA m c t.val) Q
    have e1 : own m c t.val = SC c (Memref.whole main_v0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 (tab m c) (xN m c t.val) (yN m c t.val) (stN m c t.val) :=
      (if_neg h0).trans (if_neg (by omega))
    have e2 : own m c (t.val + 1) = SC c (Memref.whole main_v0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 (tab m c) (xN m c (t.val + 1)) (yN m c (t.val + 1)) (stN m c (t.val + 1)) :=
      (if_neg (by omega)).trans (if_neg (by omega))
    rw [e1, e2]
    rw [hv] at key
    exact key

theorem sound_body (hpre : ∀ c, Sizes (gN m c)) (c : Dev nD) (t : Fin cfg0.N) :
    bodyPre m c t ⊢ wp frame (wpE (defs₀ (F := F)) Variants.none c none) Set.univ (bodyAt0 t) (fun _ => bodyPost m c t) := by
  unfold bodyPre bodyPost
  unfold Dat.owesAt Pipeline.owesWithin
  rw [show (dats m 0 c).owed t.castSucc = 0 from rfl, show (dats m 0 c).owed t.succ = 0 from rfl]
  rw [show (dats m 0 c).Φ t.castSucc = iprop(own m c t.val ∗ (∃ r, prngReg c r)) from rfl]
  rw [show (dats m 0 c).Φ t.succ = iprop(own m c (t.val + 1) ∗ (∃ r, prngReg c r)) from rfl]
  simp only [before0_0, after0_0, before0_1, after0_1, before0_2, after0_2, before0_3, after0_3, before0_4, after0_4, before0_5, after0_5, before0_6, after0_6, iblk0, iblk1, iblk2, iblk3, iblk4, iblk5, iblk6]
  iintro ⟨⟨HS, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (step m hpre c t _) $$ [HS HW H0 H1 H2 H3 H4 H5 H6]
  · isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [HS]; iexact HS
    iexists _; iexact HW
  iintro ⟨⟨H0, H1, H2, H3, H4, H5, H6⟩, HS, ⟨%W', HW'⟩⟩
  isplitl [HS Hg]
  · isplitl [HS]; iexact HS
    iexact Hg
  isplitl [HW']
  · iexists W'; isplitr; · ipureintro; exact fun _ _ => Or.inl trivial
    iexact HW'
  isplitl [H0]; iexact H0
  isplitl [H1]; iexact H1
  isplitl [H2]; iexact H2
  isplitl [H3]; iexact H3
  isplitl [H4]; iexact H4
  isplitl [H5]; iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (hpre : ∀ c, Sizes (gN m c)) (c : Dev nD) : BodyObligation (dats (F := F) m 0 c) (defs₀ (F := F)) Variants.none () Set.univ := fun t => by
  rw [bigSep_W0, bigSep_W0, defs₀_row]
  exact triple_restated (sound_body m hpre c t) rfl .rfl fun _ => .rfl

/-- The buffers as the program leaves them: the result at `dwN`. -/
def gA (c : Dev nD) (b : Ref sig .tc) : Buf (Elt F) ((c : Thread nD τ).loc b) :=
  Function.update (V m c) main_v0 (dwN m c) b

theorem Phi_eq (G : (c : Dev nD) → (b : Ref sig .tc) → Buf (Elt F) ((c : Thread nD τ).loc b)) (c : Dev nD) :
    (Pipeline.ΦDRG osem0 spec0 H0 R0 (V m) G c : sProp 𝕄)
      = iprop(((∃ f : Buf (Elt F) ((c : Thread nD τ).loc cc0_scratch2), owns (c : Thread nD τ) (Memref.whole cc0_scratch2) fullShare f) ∗ (∃ f : Buf (Elt F) ((c : Thread nD τ).loc cc0_scratch3), owns (c : Thread nD τ) (Memref.whole cc0_scratch3) fullShare f) ∗ (∃ f : Buf (Elt F) ((c : Thread nD τ).loc cc0_scratch4), owns (c : Thread nD τ) (Memref.whole cc0_scratch4) fullShare f) ∗ (∃ f : Buf (Elt F) ((c : Thread nD τ).loc cc0_scratch5), owns (c : Thread nD τ) (Memref.whole cc0_scratch5) fullShare f) ∗ (∃ f : Buf (Elt F) ((c : Thread nD τ).loc cc0_scratch6), owns (c : Thread nD τ) (Memref.whole cc0_scratch6) fullShare f) ∗ (∃ f : Buf (Elt F) ((c : Thread nD τ).loc cc0_scratch7), owns (c : Thread nD τ) (Memref.whole cc0_scratch7) fullShare f) ∗ (∃ f : Buf (Elt F) ((c : Thread nD τ).loc cc0_scratch8), owns (c : Thread nD τ) (Memref.whole cc0_scratch8) fullShare f) ∗ (∃ f : Buf (Elt F) ((c : Thread nD τ).loc cc0_scratch0), owns (c : Thread nD τ) (Memref.whole cc0_scratch0) fullShare f) ∗ (∃ f : Buf (Elt F) ((c : Thread nD τ).loc cc0_scratch1), owns (c : Thread nD τ) (Memref.whole cc0_scratch1) fullShare f))
         ∗ (∃ r, prngReg c r) ∗ semVal ((c : Thread nD τ), SemLoc.dma cc0_scratch9.sem) 0 ∗ emp ∗ owns (c : Thread nD τ) (Memref.whole main_v0) fullShare (G c main_v0)) := by
  rw [Pipeline.ΦDRG_eq, scopedRest0_eq, ownSems00_eq]
  unfold R0 H0
  rw [Pipeline.routed_singleton, BI.bigSep_empty]
  simp only [owns_whole]; try rfl

theorem hin (c : Dev nD) : Pipeline.ΦDRG osem0 spec0 H0 R0 (V m) (V m) c ⊢ (dats m 0 c).Φ 0 := by
  rw [show (dats m 0 c).Φ 0 = iprop(SIw c (V m c main_v0) ∗ (∃ r, prngReg c r)) from rfl, Phi_eq]
  unfold SIw SI
  rw [DW_false]
  iintro ⟨⟨H2, H3, H4, H5, H6, H7, H8, H0, H1⟩, Hg, Hs, -, Hd⟩
  isplitr [Hg]
  · isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [Hs]; iexact Hs
    isplitl [Hd]; iexact Hd
    iexact H8
  iexact Hg

theorem hout (c : Dev nD) : (dats m 0 c).Φ (Fin.last cfg0.N) ⊢ Pipeline.ΦDRG osem0 spec0 H0 R0 (V m) (gA m) c := by
  rw [show (dats m 0 c).Φ (Fin.last cfg0.N) = iprop(own m c 25 ∗ (∃ r, prngReg c r)) from rfl, Phi_eq]
  rw [show own m c 25 = SIw c (dwN m c) from rfl, show gA m c main_v0 = dwN m c from Function.update_self ..]
  unfold SIw SI
  rw [DW_false]
  iintro ⟨⟨H0, H1, H2, H3, H4, H5, H6, H7, Hs, Hd, H8⟩, Hg⟩
  isplitl [H0 H1 H2 H3 H4 H5 H6 H7 H8]
  · isplitl [H2]; iexact H2
    isplitl [H3]; iexact H3
    isplitl [H4]; iexact H4
    isplitl [H5]; iexact H5
    isplitl [H6]; iexact H6
    isplitl [H7]; iexact H7
    isplitl [H8]; iexact H8
    isplitl [H0]; iexact H0
    iexact H1
  isplitl [Hg]; iexact Hg
  isplitl [Hs]; iexact Hs
  isplitr [Hd]
  · iempintro
  iexact Hd

/-! ## The run -/

set_option backward.isDefEq.respectTransparency.types false in
theorem run_main (hpre : ∀ c, Sizes (gN m c)) : θ_run defs (onTc (τ := τ) (main (F := F))) (s₀ m ρ) (fun r => Pipeline.FramePostRG cfgs (dats m) 0 R0 (V m) (gA m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hpre c).loose) (hshare := fun c => (dats m 0 c).share_full fun _ => rfl)
    (howed := fun _ _ => rfl) (V := V m) (hmain := hmain m Variants.none) (hA := A_eq m) (G := gA m)
    (hin := hin m) (hout := hout m)

/-- Every run ends with the result at `dwN`, the arguments as they were and every counter at zero. -/
theorem run (hpre : ∀ c, Sizes (gN m c)) : θ_run defs (onTc (τ := τ) (main (F := F))) ⟨m, fun _ => 0, ρ⟩ (fun r => (∀ c : Dev nD,
      r.2.mem ((c.tc : Thread nD τ).loc main_v0) = dwN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.written c (b := main_v0) (by decide)).trans (Function.update_self ..),
      ((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).1 4).trans (((dats m 0 c).arrAt_in 4 rfl _).trans ((A_eq m c 4).trans (V_main_arg4 m c))),
      ((h.1.1 c).1 5).trans (((dats m 0 c).arrAt_in 5 rfl _).trans ((A_eq m c 5).trans (V_main_arg5 m c))),
      ((h.1.1 c).1 6).trans (((dats m 0 c).arrAt_in 6 rfl _).trans ((A_eq m c 6).trans (V_main_arg6 m c)))⟩, h.2⟩) (run_main m ρ hpre)

end Cert.Kernel.Hand
-- ==== Proof.Size.lean ====
/- The precondition read: the group sizes, as numbers, add up to at most 12288. -/
module

public import proofs.«01_k».proof.Defs
public import proofs.«01_k».proof.Proof.Gen.Pre_sizes_fit

@[expose] public section

noncomputable section

namespace Cert.Hand

open Idealize.ShloMosaic

variable {F : FTy → Type} [FloatOps F]

theorem and_one (a b : BitVec 1) (h : IntOp.andi a b = 1#1) : a = 1#1 ∧ b = 1#1 := by
  revert a b; decide

theorem sle_of (a b : BitVec 32) (h : IntOp.cmpi .sle a b = 1#1) : a.toInt ≤ b.toInt := by
  unfold IntOp.cmpi at h
  have : a.sle b = true := by
    cases hb : a.sle b
    · simp [hb] at h
    · rfl
  simpa [BitVec.sle] using this

theorem sge_of (a b : BitVec 32) (h : IntOp.cmpi .sge a b = 1#1) : b.toInt ≤ a.toInt := by
  unfold IntOp.cmpi at h
  have : b.sle a = true := by
    cases hb : b.sle a
    · simp [hb] at h
    · rfl
  simpa [BitVec.sle] using this

/-- One running total more. -/
theorem total_step (o g : BitVec 32) (n : ℕ) (ho : o.toNat = n) (hn : n ≤ 12288)
    (h0 : IntOp.cmpi .sge g 0#32 = 1#1) (h1 : IntOp.cmpi .sle g 12288#32 = 1#1) (h2 : IntOp.cmpi .sle (IntOp.addi o g) 12288#32 = 1#1) :
    (IntOp.addi o g).toNat = n + g.toNat ∧ n + g.toNat ≤ 12288 := by
  have a0 := sge_of _ _ h0
  have a1 := sle_of _ _ h1
  have a2 := sle_of _ _ h2
  unfold IntOp.addi at *
  have e : (12288#32).toInt = 12288 := by decide
  have z : (0#32).toInt = 0 := by decide
  have b : (o + g).toNat = (o.toNat + g.toNat) % 2 ^ 32 := BitVec.toNat_add ..
  rw [z] at a0
  rw [e] at a1 a2
  rw [BitVec.toInt_eq_toNat_cond] at a0 a1 a2
  have := g.isLt
  split_ifs at * <;> omega

/-- The precondition on the six sizes as words. -/
def fits (g : ℕ → BitVec 32) : BitVec 1 :=
  let c (p : BitVec 1) (o g : BitVec 32) : BitVec 1 :=
    IntOp.andi (IntOp.andi (IntOp.andi p (IntOp.cmpi .sge g 0#32)) (IntOp.cmpi .sle g 12288#32)) (IntOp.cmpi .sle o 12288#32)
  let o0 := IntOp.addi 0#32 (g 0)
  let o1 := IntOp.addi o0 (g 1)
  let o2 := IntOp.addi o1 (g 2)
  let o3 := IntOp.addi o2 (g 3)
  let o4 := IntOp.addi o3 (g 4)
  let o5 := IntOp.addi o4 (g 5)
  c (c (c (c (c (c 1#1 o0 (g 0)) o1 (g 1)) o2 (g 2)) o3 (g 3)) o4 (g 4)) o5 (g 5)

theorem fits_sum (g : ℕ → BitVec 32) (h : fits g = 1#1) : ∑ j ∈ Finset.range 6, (g j).toNat ≤ 12288 := by
  unfold fits at h
  dsimp only at h
  obtain ⟨h, c5⟩ := and_one _ _ h
  obtain ⟨h, b5⟩ := and_one _ _ h
  obtain ⟨h, a5⟩ := and_one _ _ h
  obtain ⟨h, c4⟩ := and_one _ _ h
  obtain ⟨h, b4⟩ := and_one _ _ h
  obtain ⟨h, a4⟩ := and_one _ _ h
  obtain ⟨h, c3⟩ := and_one _ _ h
  obtain ⟨h, b3⟩ := and_one _ _ h
  obtain ⟨h, a3⟩ := and_one _ _ h
  obtain ⟨h, c2⟩ := and_one _ _ h
  obtain ⟨h, b2⟩ := and_one _ _ h
  obtain ⟨h, a2⟩ := and_one _ _ h
  obtain ⟨h, c1⟩ := and_one _ _ h
  obtain ⟨h, b1⟩ := and_one _ _ h
  obtain ⟨h, a1⟩ := and_one _ _ h
  obtain ⟨h, c0⟩ := and_one _ _ h
  obtain ⟨h, b0⟩ := and_one _ _ h
  obtain ⟨-, a0⟩ := and_one _ _ h
  obtain ⟨e0, l0⟩ := total_step _ _ 0 rfl (by omega) a0 b0 c0
  obtain ⟨e1, l1⟩ := total_step _ _ _ e0 l0 a1 b1 c1
  obtain ⟨e2, l2⟩ := total_step _ _ _ e1 l1 a2 b2 c2
  obtain ⟨e3, l3⟩ := total_step _ _ _ e2 l2 a3 b3 c3
  obtain ⟨e4, l4⟩ := total_step _ _ _ e3 l3 a4 b4 c4
  obtain ⟨e5, l5⟩ := total_step _ _ _ e4 l4 a5 b5 c5
  simp only [Finset.sum_range_succ, Finset.sum_range_zero]
  exact l5

/-- The precondition bounds the sizes' sum. -/
theorem sizes_sum (a0 : Vec F Cert.Pre_sizes_fit.S6 .i32) (a1 a2 a3 a4 a5 a6)
    (h : Cert.Pre_sizes_fit.fn (F := F) a0 a1 a2 a3 a4 a5 a6 = fun _ => 1#1) (g : ℕ → BitVec 32)
    (hg : ∀ (k : ℕ) (i : Cert.Pre_sizes_fit.S6.Idx), (i 0).val = k → a0 i = g k) :
    ∑ j ∈ Finset.range 6, (g j).toNat ≤ 12288 := by
  refine fits_sum g ?_
  have k := congrFun h (fun a => a.elim0)
  unfold fits
  refine Eq.trans ?_ k
  unfold Cert.Pre_sizes_fit.fn Cert.Pre_sizes_fit.fn_part1 Cert.Pre_sizes_fit.fn_part2 Cert.Pre_sizes_fit.fn_part3
  dsimp only [andi, addi, cmpi, constantI, shapeCast, extractStridedSlice]
  rw [hg 0 _ rfl, hg 1 _ rfl, hg 2 _ rfl, hg 3 _ rfl, hg 4 _ rfl, hg 5 _ rfl]

end Cert.Hand
-- ==== Proof.Eqv.lean ====
module

public import proofs.«01_k».proof.Proof.Gen.Kernel
public import proofs.«01_k».proof.Proof.Gen.KernelIdeal
public import Idealize.ShloMosaic.Lib.Tactic

@[expose] public section

set_option maxRecDepth 100000

noncomputable section

namespace Cert.Hand

open Idealize.ShloMosaic Idealize.ShloMosaic.TcCoe Idealize.ShloMosaic.Tactic
open Idealize.SL Idealize.SL.Sem

variable {F : FTy → Type} [FloatOps F]

theorem sig_eq : Cert.KernelIdeal.sig = Cert.Kernel.sig := by sl_kernel_rfl

theorem run_eq (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop) :
   @θ_run _ _ _ _ _ (Cert.KernelIdeal.defs (F := F)) (onTc (τ := Cert.KernelIdeal.τ) (Cert.KernelIdeal.main (F := F))) ⟨m, fun _ => 0, ρ⟩ Q
    = θ_run (Cert.Kernel.defs (F := F)) (onTc (τ := Cert.Kernel.τ) (Cert.Kernel.main (F := F))) ⟨m, fun _ => 0, ρ⟩ Q := by
  sl_kernel_rfl

end Cert.Hand
-- ==== Proof.Val1.lean ====
module

public import proofs.«01_k».proof.Proof.Step

@[expose] public section

set_option maxRecDepth 16384

noncomputable section

namespace Cert.Kernel.Hand

open Cert.Kernel Cert.Kernel.Gen
open Idealize.ShloMosaic Idealize.ShloMosaic.TcCoe

variable {F : FTy → Type} [FloatOps F]

/-- What holds between two chunks when the rows up to block `en` are done. `T k` is expert `k`'s sum over those rows, `D k` its
    final result: the experts that end by `en` are written, the next one's sum is in the accumulator. -/
structure Inv (M : ℕ → ℕ) (T D : ℕ → Vec F S1536x640 .f32) (en : ℕ) (s : St F) : Prop where
  le : s.e ≤ 6
  done : ∀ k, k < s.e → M k ≤ en
  open_ : s.e < 6 → en < M s.e
  dw : ∀ k, k < s.e → ∀ i : S6x1536x640.Idx, (i 0).val = k → s.dw i = D k (mk S1536x640 ![(i 1).val, (i 2).val])
  acc : s.e < 6 → s.acc = T s.e

theorem mono6 {M : ℕ → ℕ} {m : Vec F S3x7 .i32} (hM : Meta M m) (a b : ℕ) (hb : b < 6) (h : a ≤ b) : M a ≤ M b := by
  induction b with
  | zero => rw [Nat.le_zero.mp h]
  | succ b ih =>
    rcases Nat.lt_or_ge a (b + 1) with h' | h'
    · exact (ih (by omega) (by omega)).trans (hM.mono b (by omega))
    · rw [Nat.le_antisymm h h']

/-- The experts that end by `en` come first: below the count every one ends by it, the next one does not. -/
theorem nFin_in {M : ℕ → ℕ} {m : Vec F S3x7 .i32} (hM : Meta M m) (e en n : ℕ) (he : e ≤ 6) (h : n < nFin M e en) : M (e + n) ≤ en ∧ e + n < 6 := by
  have m0 := hM.mono 0 (by omega)
  have m1 := hM.mono 1 (by omega)
  have m2 := hM.mono 2 (by omega)
  have m3 := hM.mono 3 (by omega)
  have m4 := hM.mono 4 (by omega)
  simp only [Nat.reduceAdd] at m0 m1 m2 m3 m4
  have ha := nFin_add M e en he
  have hl : e + n < 6 := by omega
  refine ⟨?_, hl⟩
  by_contra hc
  rw [nFin_eq] at h
  generalize hk : e + n = k at hc hl
  have : k = 0 ∨ k = 1 ∨ k = 2 ∨ k = 3 ∨ k = 4 ∨ k = 5 := by omega
  rcases this with rfl | rfl | rfl | rfl | rfl | rfl <;> (split_ifs at h <;> omega)

theorem nFin_out {M : ℕ → ℕ} {m : Vec F S3x7 .i32} (hM : Meta M m) (e en : ℕ) (he : e ≤ 6) (h : e + nFin M e en < 6) : en < M (e + nFin M e en) := by
  have m0 := hM.mono 0 (by omega)
  have m1 := hM.mono 1 (by omega)
  have m2 := hM.mono 2 (by omega)
  have m3 := hM.mono 3 (by omega)
  have m4 := hM.mono 4 (by omega)
  simp only [Nat.reduceAdd] at m0 m1 m2 m3 m4
  by_contra hc
  generalize hn : nFin M e en = n at h hc
  rw [nFin_eq] at hn
  generalize hk : e + n = k at hc h
  have : k = 0 ∨ k = 1 ∨ k = 2 ∨ k = 3 ∨ k = 4 ∨ k = 5 := by omega
  rcases this with rfl | rfl | rfl | rfl | rfl | rfl <;> (split_ifs at hn <;> omega)

/-- One chunk keeps the invariant, given what the chunk's products add: `T'` is `T` with the chunk's rows. -/
theorem chunk_inv {M : ℕ → ℕ} {m : Vec F S3x7 .i32} (hM : Meta M m) (gx gy : Vec F S7 .f32) (x : Vec F S256x1536 .bf16) (y : Vec F S256x640 .bf16)
    (base : BitVec 32) (en0 en : ℕ) (s : St F) (T T' D : ℕ → Vec F S1536x640 .f32) (hle : en0 ≤ en) (hs : s.e ≤ 6)
    (hdone : ∀ k, k < s.e → M k ≤ en)
    (hdw : ∀ k, k < s.e → ∀ i : S6x1536x640.Idx, (i 0).val = k → s.dw i = D k (mk S1536x640 ![(i 1).val, (i 2).val]))
    (hacc : s.e < 6 → s.acc = T s.e)
    (hP : s.e < 6 → accT (T s.e) x (primT M m base en s.e y) = T' s.e)
    (hN : ∀ e, s.e ≤ e → e + 1 < 6 → M e ≤ en → (if M e < en ∧ M e < M (e + 1) then accT zeroT x (maskT m base (e + 1) y) else zeroT) = T' (e + 1))
    (hD : ∀ e, s.e ≤ e → e < 6 → M e ≤ en → finT (T' e) (gx (mk S7 ![e])) (gy (mk S7 ![e])) = D e) :
    Inv M T' D en (chunk M m gx gy x y base en s) := by
  have key : ∀ n, n ≤ nFin M s.e en → ∀ u : St F, u = (closeOne M m x y base en gx gy)^[n] { s with acc := accT s.acc x (primT M m base en s.e y) } →
      u.e = s.e + n ∧ (∀ k, k < u.e → M k ≤ en) ∧ (∀ k, k < u.e → ∀ i : S6x1536x640.Idx, (i 0).val = k → u.dw i = D k (mk S1536x640 ![(i 1).val, (i 2).val])) ∧ (u.e < 6 → u.acc = T' u.e) := by
    intro n
    induction n with
    | zero =>
      intro _ u hu
      subst hu
      refine ⟨rfl, hdone, hdw, fun h => ?_⟩
      show accT s.acc x (primT M m base en s.e y) = T' s.e
      rw [hacc h, hP h]
    | succ n ih =>
      intro hn u hu
      rw [Function.iterate_succ_apply'] at hu
      obtain ⟨i1, i2, i3, i4⟩ := ih (by omega) _ rfl
      generalize (closeOne M m x y base en gx gy)^[n] { s with acc := accT s.acc x (primT M m base en s.e y) } = w at hu i1 i2 i3 i4
      obtain ⟨c1, c2⟩ := nFin_in hM s.e en n hs (by omega)
      rw [← i1] at c1 c2
      subst hu
      refine ⟨by show w.e + 1 = _; omega, fun k hk => ?_, fun k hk i hi => ?_, fun h => ?_⟩
      · rcases Nat.lt_or_ge k w.e with h | h
        · exact i2 k h
        · rw [show k = w.e by change k < w.e + 1 at hk; omega]; exact c1
      · show updT w.dw w.e (finT w.acc (gx (mk S7 ![w.e])) (gy (mk S7 ![w.e]))) i = _
        unfold updT
        rcases Nat.lt_or_ge k w.e with h | h
        · rw [if_neg (by omega)]; exact i3 k h i hi
        · have : k = w.e := by change k < w.e + 1 at hk; omega
          rw [if_pos (by omega), i4 c2, hD w.e (by omega) c2 c1, this]
      · change w.e + 1 < 6 at h
        show (if w.e + 1 < 6 ∧ M w.e < en ∧ M w.e < M (w.e + 1) then accT zeroT x (maskT m base (w.e + 1) y) else zeroT) = T' (w.e + 1)
        rw [← hN w.e (by omega) h c1]
        simp only [h, true_and]
  obtain ⟨k1, k2, k3, k4⟩ := key _ (le_refl _) _ rfl
  refine ⟨?_, k2, fun h => ?_, k3, k4⟩
  · rw [chunk_e]; exact nFin_add M s.e en hs
  · rw [chunk_e] at h ⊢; exact nFin_out hM s.e en hs h

end Cert.Kernel.Hand
-- ==== Proof.Val2.lean ====
module

public import proofs.«01_k».proof.Proof.Val1
public import Idealize.ShloMosaic.Lib.Pointwise

@[expose] public section

set_option maxRecDepth 16384

noncomputable section

namespace Cert.Kernel.Hand

open Cert.Kernel Cert.Kernel.Gen
open Idealize.ShloMosaic Idealize.ShloMosaic.TcCoe

theorem mk_self2 {a b : ℕ} (h) (i : (⟨2, ![a, b]⟩ : Shape).Idx) : mk ⟨2, ![a, b]⟩ ![(i 0).val, (i 1).val] h = i := by
  funext k
  match k with
  | ⟨0, _⟩ => exact Fin.ext (Nat.mod_eq_of_lt (i 0).isLt)
  | ⟨1, _⟩ => exact Fin.ext (Nat.mod_eq_of_lt (i 1).isLt)

theorem pay218_at (a : Vec Ideal S256x640 .f32) (x : Vec Ideal S256x256 .bf16) (y : Vec Ideal S256x640 .bf16) (j : S256x640.Idx) :
    k0_pay218 a x y j = a j + ∑ k : Fin 256, x (mk S256x256 ![k.val, (j 0).val]) * y (mk S256x640 ![k.val, (j 1).val]) := by
  unfold k0_pay218
  dsimp only
  rw [shapeCast_self]
  show a j + Ideal.matmul dot_S256x256_S256x640_S256x640_0_0_1_1_n_n x y (constant (F := Ideal) S256x640 .f32 0x00000000#32) j = _
  rw [Ideal.matmul_apply₁_of dot_S256x256_S256x640_S256x640_0_0_1_1_n_n (a := 0) rfl (K := 256) rfl x y _ j
    (fun k => mk S256x256 ![k.val, (j 0).val]) (fun k => mk S256x640 ![k.val, (j 1).val])]
  · have h0 : (constant S256x640 .f32 0x00000000#32 : FVec Ideal S256x640 .f32) j = 0 := by pointwise
    rw [h0, zero_add]
  · intro k
    funext b
    match b with
    | ⟨0, _⟩ => exact Fin.ext (Nat.mod_eq_of_lt k.isLt).symm
    | ⟨1, _⟩ => exact Fin.ext (Nat.mod_eq_of_lt (j 0).isLt).symm
  · intro k
    funext b
    match b with
    | ⟨0, _⟩ => exact Fin.ext (Nat.mod_eq_of_lt k.isLt).symm
    | ⟨1, _⟩ => exact Fin.ext (Nat.mod_eq_of_lt (j 1).isLt).symm

/-- The accumulator after a chunk, at an index. -/
theorem accT_at (a : Vec Ideal S1536x640 .f32) (x : Vec Ideal S256x1536 .bf16) (y : Vec Ideal S256x640 .bf16) (i : S1536x640.Idx) :
    accT a x y i = a i + ∑ k : Fin 256, x (mk S256x1536 ![k.val, (i 0).val]) * y (mk S256x640 ![k.val, (i 1).val]) := by
  have h0 := (i 0).isLt
  have h1 := (i 1).isLt
  change _ < 1536 at h0
  change _ < 640 at h1
  unfold accT
  rw [pay218_at]
  have e0 : ((mk S256x640 ![(i 0).val % 256, (i 1).val]) 0).val = (i 0).val % 256 := Nat.mod_eq_of_lt (Nat.mod_lt _ (by decide))
  have e1 : ((mk S256x640 ![(i 0).val % 256, (i 1).val]) 1).val = (i 1).val := Nat.mod_eq_of_lt h1
  rw [e0, e1, show 256 * ((i 0).val / 256) + (i 0).val % 256 = (i 0).val by omega]
  congr 1
  · exact congrArg a (mk_self2 _ i)
  · refine Finset.sum_congr rfl fun k _ => ?_
    congr 1
    have f0 : ((mk S256x256 ![k.val, (i 0).val % 256]) 0).val = k.val := Nat.mod_eq_of_lt k.isLt
    have f1 : ((mk S256x256 ![k.val, (i 0).val % 256]) 1).val = (i 0).val % 256 := Nat.mod_eq_of_lt (Nat.mod_lt _ (by decide))
    rw [f0, f1, show 256 * ((i 0).val / 256) + (i 0).val % 256 = (i 0).val by omega]

theorem zeroT_at (i : S1536x640.Idx) : (zeroT (F := Ideal)) i = 0 := by
  unfold zeroT
  pointwise

/-- The block an expert starts at. -/
def lo (M : ℕ → ℕ) (e : ℕ) : ℕ := if e = 0 then 0 else M (e - 1)

theorem maskT_at {M : ℕ → ℕ} {m : Vec Ideal S3x7 .i32} (hM : Meta M m) (b e : ℕ) (hb : b ≤ 800) (he : e < 6) (y : Vec Ideal S256x640 .bf16) (i : S256x640.Idx) :
    maskT m (BitVec.ofNat 32 b) e y i = if lo M e ≤ b + (i 0).val / 16 ∧ b + (i 0).val / 16 < M e then y i else 0 := by
  have hlt : ∀ k, k < 6 → M k < 2 ^ 30 := fun k hk => by
    have := mono6 hM k 5 (by omega) (by omega)
    have := hM.last
    omega
  have hi := (i 0).isLt
  change _ < 256 at hi
  unfold maskT k0_pay15
  dsimp only
  rw [shapeCast_self, hM.word e (by omega), hM.word (e - 1) (by omega)]
  have hsel : Scalar.select (Scalar.cmpi .sgt (BitVec.ofNat 32 e) 0#32) (BitVec.ofNat 32 (M (e - 1))) 0#32 = BitVec.ofNat 32 (lo M e) := by
    unfold lo
    rw [show (0#32 : BitVec 32) = BitVec.ofNat 32 0 from rfl, sgt_n _ _ (by omega) (by omega)]
    rcases Nat.eq_zero_or_pos e with h | h
    · subst h; rfl
    · rw [if_neg (by omega), decide_eq_true h]; rfl
  rw [hsel]
  have hlo : lo M e < 2 ^ 30 := by
    unfold lo
    split
    · decide
    · exact hlt _ (by omega)
  have hrow : addi (broadcast S256x640 (BitVec.ofNat 32 b)) (shrui (iota .tc S256x640 32 [0] iota_S256x640_d0_w32) (broadcast S256x640 4#32)) i = BitVec.ofNat 32 (b + (i 0).val / 16) := by
    show IntOp.addi (BitVec.ofNat 32 b) (IntOp.shrui .vector (BitVec.ofNat 32 (0 * 256 + (i 0).val)) 4#32) = _
    have hs : ∀ r : Fin 256, IntOp.shrui .vector (BitVec.ofNat 32 (0 * 256 + r.val)) 4#32 = BitVec.ofNat 32 (r.val / 16) := by decide +kernel
    rw [hs ⟨(i 0).val, hi⟩]
    exact add_n _ _
  have hc : andi (cmpi .sge (addi (broadcast S256x640 (BitVec.ofNat 32 b)) (shrui (iota .tc S256x640 32 [0] iota_S256x640_d0_w32) (broadcast S256x640 4#32))) (broadcast S256x640 (BitVec.ofNat 32 (lo M e))))
      (cmpi .slt (addi (broadcast S256x640 (BitVec.ofNat 32 b)) (shrui (iota .tc S256x640 32 [0] iota_S256x640_d0_w32) (broadcast S256x640 4#32))) (broadcast S256x640 (BitVec.ofNat 32 (M e)))) i
      = BitVec.ofBool (decide (lo M e ≤ b + (i 0).val / 16) && decide (b + (i 0).val / 16 < M e)) := by
    show IntOp.andi (IntOp.cmpi .sge (addi _ _ i) (BitVec.ofNat 32 (lo M e))) (IntOp.cmpi .slt (addi _ _ i) (BitVec.ofNat 32 (M e))) = _
    have := hlt e he
    rw [hrow, WordCmp.cmpi_sge_ofNat (w := 32) (by omega) (by omega), WordCmp.cmpi_slt_ofNat (w := 32) (by omega) (by omega)]
    exact and_bool _ _
  show Scalar.select (andi _ _ i) (y i : EReal) (Ideal.ofBits .f32 0x00000000#32) = _
  rw [hc, Ideal.ofBits_zero_f32]
  unfold Scalar.select
  by_cases h1 : lo M e ≤ b + (i 0).val / 16 <;> by_cases h2 : b + (i 0).val / 16 < M e <;> simp [h1, h2]

end Cert.Kernel.Hand
-- ==== Proof.Val3.lean ====
module

public import proofs.«01_k».proof.Proof.Val2

@[expose] public section

set_option maxRecDepth 16384

noncomputable section

namespace Cert.Kernel.Hand

open Cert.Kernel Cert.Kernel.Gen
open Idealize.ShloMosaic Idealize.ShloMosaic.TcCoe

/-- Row `r`'s part of expert `e`'s sum, at row `c` and column `f` of the result. -/
def term (M : ℕ → ℕ) (L Y : ℕ → ℕ → EReal) (e r c f : ℕ) : EReal := L r c * (if lo M e ≤ r / 16 ∧ r / 16 < M e then Y r f else 0)

/-- Expert `e`'s sum over the first `R` rows. -/
def accE (M : ℕ → ℕ) (L Y : ℕ → ℕ → EReal) (R e : ℕ) : Vec Ideal S1536x640 .f32 := fun i => ∑ r ∈ Finset.range R, term M L Y e r (i 0).val (i 1).val

theorem accE_add (M : ℕ → ℕ) (L Y : ℕ → ℕ → EReal) (R e : ℕ) (i : S1536x640.Idx) :
    accE M L Y (R + 256) e i = accE M L Y R e i + ∑ k : Fin 256, term M L Y e (R + k.val) (i 0).val (i 1).val := by
  unfold accE
  rw [Finset.sum_range_add, Finset.sum_range (n := 256)]

/-- Rows past an expert's end add nothing. -/
theorem accE_end (M : ℕ → ℕ) (L Y : ℕ → ℕ → EReal) (e en : ℕ) (hen : en ≤ 800) (h : M e ≤ en) : accE M L Y (16 * en) e = accE M L Y 12800 e := by
  funext i
  unfold accE
  rw [show 12800 = 16 * en + (12800 - 16 * en) by omega, Finset.sum_range_add]
  have : ∑ x ∈ Finset.range (12800 - 16 * en), term M L Y e (16 * en + x) (i 0).val (i 1).val = 0 := by
    refine Finset.sum_eq_zero fun x _ => ?_
    unfold term
    rw [if_neg (by omega), mul_zero]
  rw [this, add_zero]

/-- Rows before an expert's start add nothing. -/
theorem accE_start (M : ℕ → ℕ) (L Y : ℕ → ℕ → EReal) (e b : ℕ) (h : b ≤ lo M e) (i : S1536x640.Idx) : accE M L Y (16 * b) e i = 0 := by
  unfold accE
  refine Finset.sum_eq_zero fun x hx => ?_
  have := Finset.mem_range.mp hx
  unfold term
  rw [if_neg (by omega), mul_zero]

/-- The experts' results. -/
def resE (M : ℕ → ℕ) (L Y : ℕ → ℕ → EReal) (gx gy : Vec Ideal S7 .f32) (e : ℕ) : Vec Ideal S1536x640 .f32 :=
  finT (accE M L Y 12800 e) (gx (mk S7 ![e])) (gy (mk S7 ![e]))

section
variable {M : ℕ → ℕ} {m : Vec Ideal S3x7 .i32} (hM : Meta M m) (gx gy : Vec Ideal S7 .f32) (L Y : ℕ → ℕ → EReal)
include hM

/-- A chunk of rows keeps the invariant. -/
theorem chunk_rows (x : Vec Ideal S256x1536 .bf16) (y : Vec Ideal S256x640 .bf16) (b : ℕ) (hb : b + 16 ≤ 800) (s : St Ideal)
    (hx : ∀ j : S256x1536.Idx, x j = L (16 * b + (j 0).val) (j 1).val) (hy : ∀ j : S256x640.Idx, y j = Y (16 * b + (j 0).val) (j 1).val)
    (h : Inv M (accE M L Y (16 * b)) (resE M L Y gx gy) b s) :
    Inv M (accE M L Y (16 * (b + 16))) (resE M L Y gx gy) (b + 16) (chunk M m gx gy x y (BitVec.ofNat 32 b) (b + 16) s) := by
  have prod : ∀ (e : ℕ) (i : S1536x640.Idx) (z : Vec Ideal S256x640 .bf16)
      (hz : ∀ j : S256x640.Idx, z j = if lo M e ≤ b + (j 0).val / 16 ∧ b + (j 0).val / 16 < M e then y j else 0),
      ∑ k : Fin 256, x (mk S256x1536 ![k.val, (i 0).val]) * z (mk S256x640 ![k.val, (i 1).val]) = ∑ k : Fin 256, term M L Y e (16 * b + k.val) (i 0).val (i 1).val := by
    intro e i z hz
    refine Finset.sum_congr rfl fun k _ => ?_
    have h0 := (i 0).isLt
    have h1 := (i 1).isLt
    have a0 : ((mk S256x1536 ![k.val, (i 0).val]) 0).val = k.val := Nat.mod_eq_of_lt k.isLt
    have a1 : ((mk S256x1536 ![k.val, (i 0).val]) 1).val = (i 0).val := Nat.mod_eq_of_lt h0
    have b0 : ((mk S256x640 ![k.val, (i 1).val]) 0).val = k.val := Nat.mod_eq_of_lt k.isLt
    have b1 : ((mk S256x640 ![k.val, (i 1).val]) 1).val = (i 1).val := Nat.mod_eq_of_lt h1
    rw [hz, hx, hy, a0, a1, b0, b1]
    unfold term
    rw [show (16 * b + k.val) / 16 = b + k.val / 16 by omega]
  refine chunk_inv hM gx gy x y _ b (b + 16) s (accE M L Y (16 * b)) _ _ (by omega) h.le (fun k hk => (h.done k hk).trans (by omega)) h.dw h.acc ?_ ?_ ?_
  · intro he
    have ho := h.open_ he
    have hlo : lo M s.e ≤ b := by
      unfold lo
      split
      · omega
      · exact h.done _ (by omega)
    funext i
    rw [accT_at, show 16 * (b + 16) = 16 * b + 256 by omega, accE_add]
    congr 1
    refine prod s.e i _ fun j => ?_
    have hj := (j 0).isLt
    change _ < 256 at hj
    unfold primT
    split
    · rw [maskT_at hM b s.e (by omega) he]
    · rw [if_pos]
      omega
  · intro e he h6 hen
    have ho := h.open_ (by omega)
    have hme := mono6 hM s.e e (by omega) he
    have hlo : lo M (e + 1) = M e := by unfold lo; rw [if_neg (by omega)]; rfl
    funext i
    have hs := accE_start M L Y (e + 1) b (by omega) i
    rw [show 16 * (b + 16) = 16 * b + 256 by omega, accE_add, hs, zero_add]
    split
    · rw [accT_at, zeroT_at, zero_add]
      exact prod (e + 1) i _ fun j => maskT_at hM b (e + 1) (by omega) h6 y j
    · rw [zeroT_at]
      refine (Finset.sum_eq_zero fun k _ => ?_).symm
      unfold term
      have := k.isLt
      rw [if_neg (by omega), mul_zero]
  · intro e _ _ hen
    unfold resE
    rw [accE_end M L Y e (b + 16) hb hen]

/-- The chunk of zeros before the first rows keeps the invariant. -/
theorem chunk_zero (x : Vec Ideal S256x1536 .bf16) (y : Vec Ideal S256x640 .bf16) (base : BitVec 32) (dw : Vec Ideal S6x1536x640 .f32) (hx : ∀ j, x j = 0) :
    Inv M (accE M L Y (16 * 0)) (resE M L Y gx gy) 0 (chunk M m gx gy x y base 0 (stZ dw)) := by
  have z : ∀ e, accE M L Y (16 * 0) e = zeroT := fun e => by
    funext i
    rw [zeroT_at]
    exact accE_start M L Y e 0 (Nat.zero_le _) i
  have p : ∀ w, accT zeroT x w = zeroT := fun w => by
    funext i
    rw [accT_at, zeroT_at, zero_add]
    exact Finset.sum_eq_zero fun k _ => by rw [hx, zero_mul]
  refine chunk_inv hM gx gy x y base 0 0 (stZ dw) (accE M L Y (16 * 0)) _ _ (le_refl _) (Nat.zero_le _) (fun k hk => absurd hk (Nat.not_lt_zero k)) (fun k hk => absurd hk (Nat.not_lt_zero k)) ?_ ?_ ?_ ?_
  · intro _; exact (z _).symm
  · intro _; rw [z, p]
  · intro e _ _ _
    rw [z, p, ite_self]
  · intro e _ _ hen
    unfold resE
    rw [accE_end M L Y e 0 (by omega) hen]

end

end Cert.Kernel.Hand
-- ==== Proof.Val4.lean ====
module

public import proofs.«01_k».proof.Proof.Val3
public import proofs.«01_k».proof.Proof.Flow

@[expose] public section

set_option maxRecDepth 16384

noncomputable section

namespace Cert.Kernel.Hand

open Cert.Kernel Cert.Kernel.Gen
open Idealize.ShloMosaic Idealize.ShloMosaic.TcCoe

variable (m : (ℓ : Loc nD τ sig) → Buf (Elt Ideal) ℓ)

/-- The four arrays of values and block scales. -/
abbrev vX (c : Dev nD) : Vec Ideal S12800x1536 .bf16 := V m c main_arg3
abbrev wX (c : Dev nD) : Vec Ideal S800x1536 .f32 := V m c main_arg4
abbrev vY (c : Dev nD) : Vec Ideal S12800x640 .bf16 := V m c main_arg5
abbrev wY (c : Dev nD) : Vec Ideal S800x640 .f32 := V m c main_arg6

/-- The first operand's dequantised entry at row `r`, column `k`. -/
def xE (c : Dev nD) (r k : ℕ) : EReal := (vX m c (mk S12800x1536 ![r, k]) : EReal) * (wX m c (mk S800x1536 ![r / 16, k]) : EReal)
/-- The second operand's. -/
def yE (c : Dev nD) (r k : ℕ) : EReal := (vY m c (mk S12800x640 ![r, k]) : EReal) * (wY m c (mk S800x640 ![r / 16, k]) : EReal)

theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

theorem bxA_at (c : Dev nD) (n : ℕ) (hn : n < 25) (j : S512x1536.Idx) : bxA m c n j = vX m c (mk S12800x1536 ![512 * n + (j 0).val, (j 1).val]) := by
  have h0 := (j 0).isLt
  have h1 := (j 1).isLt
  change _ < 512 at h0
  change _ < 1536 at h1
  unfold bxA iblk
  rw [View.read_apply]
  show V m c main_arg3 _ = V m c main_arg3 _
  congr 1
  funext a
  apply Fin.ext
  match a with
  | ⟨0, _⟩ =>
    show win0_3.index (tt n) 0 * 512 + 1 * (j 0).val = (512 * n + (j 0).val) % 12800
    rw [idx3]
    show n % 25 * 512 + 1 * (j 0).val = _
    omega
  | ⟨1, _⟩ =>
    show win0_3.index (tt n) 1 * 1536 + 1 * (j 1).val = (j 1).val % 1536
    rw [idx3]
    show 0 * 1536 + 1 * (j 1).val = _
    omega

theorem sxA_at (c : Dev nD) (n : ℕ) (hn : n < 25) (j : S32x1536.Idx) : sxA m c n j = wX m c (mk S800x1536 ![32 * n + (j 0).val, (j 1).val]) := by
  have h0 := (j 0).isLt
  have h1 := (j 1).isLt
  change _ < 32 at h0
  change _ < 1536 at h1
  unfold sxA iblk
  rw [View.read_apply]
  show V m c main_arg4 _ = V m c main_arg4 _
  congr 1
  funext a
  apply Fin.ext
  match a with
  | ⟨0, _⟩ =>
    show win0_4.index (tt n) 0 * 32 + 1 * (j 0).val = (32 * n + (j 0).val) % 800
    rw [idx4]
    show n % 25 * 32 + 1 * (j 0).val = _
    omega
  | ⟨1, _⟩ =>
    show win0_4.index (tt n) 1 * 1536 + 1 * (j 1).val = (j 1).val % 1536
    rw [idx4]
    show 0 * 1536 + 1 * (j 1).val = _
    omega

theorem byA_at (c : Dev nD) (n : ℕ) (hn : n < 25) (j : S512x640.Idx) : byA m c n j = vY m c (mk S12800x640 ![512 * n + (j 0).val, (j 1).val]) := by
  have h0 := (j 0).isLt
  have h1 := (j 1).isLt
  change _ < 512 at h0
  change _ < 640 at h1
  unfold byA iblk
  rw [View.read_apply]
  show V m c main_arg5 _ = V m c main_arg5 _
  congr 1
  funext a
  apply Fin.ext
  match a with
  | ⟨0, _⟩ =>
    show win0_5.index (tt n) 0 * 512 + 1 * (j 0).val = (512 * n + (j 0).val) % 12800
    rw [idx5]
    show n % 25 * 512 + 1 * (j 0).val = _
    omega
  | ⟨1, _⟩ =>
    show win0_5.index (tt n) 1 * 640 + 1 * (j 1).val = (j 1).val % 640
    rw [idx5]
    show 0 * 640 + 1 * (j 1).val = _
    omega

theorem syA_at (c : Dev nD) (n : ℕ) (hn : n < 25) (j : S32x640.Idx) : syA m c n j = wY m c (mk S800x640 ![32 * n + (j 0).val, (j 1).val]) := by
  have h0 := (j 0).isLt
  have h1 := (j 1).isLt
  change _ < 32 at h0
  change _ < 640 at h1
  unfold syA iblk
  rw [View.read_apply]
  show V m c main_arg6 _ = V m c main_arg6 _
  congr 1
  funext a
  apply Fin.ext
  match a with
  | ⟨0, _⟩ =>
    show win0_6.index (tt n) 0 * 32 + 1 * (j 0).val = (32 * n + (j 0).val) % 800
    rw [idx6]
    show n % 25 * 32 + 1 * (j 0).val = _
    omega
  | ⟨1, _⟩ =>
    show win0_6.index (tt n) 1 * 640 + 1 * (j 1).val = (j 1).val % 640
    rw [idx6]
    show 0 * 640 + 1 * (j 1).val = _
    omega

theorem mk_val0 {a b : ℕ} (h) (p q : ℕ) (hp : p < a) : ((mk ⟨2, ![a, b]⟩ ![p, q] h) 0).val = p := Nat.mod_eq_of_lt hp
theorem mk_val1 {a b : ℕ} (h) (p q : ℕ) (hq : q < b) : ((mk ⟨2, ![a, b]⟩ ![p, q] h) 1).val = q := Nat.mod_eq_of_lt hq

/-- A half step's dequantised rows of the first operand are the array's. -/
theorem deqX_at (c : Dev nD) (n h : ℕ) (hn : n < 25) (hh : h < 2) (j : S256x1536.Idx) :
    deqX h (bxA m c n) (sxA m c n) j = xE m c (16 * (32 * n + 16 * h) + (j 0).val) (j 1).val := by
  have h0 := (j 0).isLt
  have h1 := (j 1).isLt
  change _ < 256 at h0
  change _ < 1536 at h1
  unfold deqX xE
  rw [bxA_at m c n hn, sxA_at m c n hn, mk_val0 _ _ _ (by omega), mk_val1 _ _ _ h1, mk_val0 _ _ _ (by omega), mk_val1 _ _ _ h1,
    show 512 * n + (256 * h + (j 0).val) = 16 * (32 * n + 16 * h) + (j 0).val by omega,
    show 32 * n + (16 * h + (j 0).val / 16) = (16 * (32 * n + 16 * h) + (j 0).val) / 16 by omega]
  rfl

/-- And of the second. -/
theorem deqY_at (c : Dev nD) (n h : ℕ) (hn : n < 25) (hh : h < 2) (j : S256x640.Idx) :
    deqY h (byA m c n) (syA m c n) j = yE m c (16 * (32 * n + 16 * h) + (j 0).val) (j 1).val := by
  have h0 := (j 0).isLt
  have h1 := (j 1).isLt
  change _ < 256 at h0
  change _ < 640 at h1
  unfold deqY yE
  rw [byA_at m c n hn, syA_at m c n hn, mk_val0 _ _ _ (by omega), mk_val1 _ _ _ h1, mk_val0 _ _ _ (by omega), mk_val1 _ _ _ h1,
    show 512 * n + (256 * h + (j 0).val) = 16 * (32 * n + 16 * h) + (j 0).val by omega,
    show 32 * n + (16 * h + (j 0).val / 16) = (16 * (32 * n + 16 * h) + (j 0).val) / 16 by omega]
  rfl

theorem xZ_at (j) : (k0_pay14 (F := Ideal)) j = 0 := by
  unfold k0_pay14
  rw [shapeCast_self]
  pointwise

theorem base0 : ∀ n : Fin 25, Scalar.addi (Scalar.muli (BitVec.ofNat 32 n.val) 32#32) 0#32 = BitVec.ofNat 32 (32 * n.val) := by decide +kernel
theorem base1 : ∀ n : Fin 24, Scalar.addi (Scalar.muli (BitVec.ofNat 32 (n.val + 1)) 32#32) 4294967280#32 = BitVec.ofNat 32 (32 * n.val + 16) := by decide +kernel
theorem base2 : Scalar.addi (Scalar.muli (BitVec.ofNat 32 24) 32#32) 16#32 = BitVec.ofNat 32 784 := by decide +kernel

variable (c : Dev nD) (hs : Sizes (gN m c))
include hs

/-- What the state holds when the rows up to block `b` are done. -/
abbrev InvA (b : ℕ) (s : St Ideal) : Prop :=
  Inv (mOf (gN m c)) (accE (mOf (gN m c)) (xE m c) (yE m c) (16 * b)) (resE (mOf (gN m c)) (xE m c) (yE m c) (gxA m c) (gyA m c)) b s

theorem stN_inv (n : ℕ) (hn : n < 25) : InvA m c (32 * n) (step1 (mOf (gN m c)) (tab m c) (gxA m c) (gyA m c) (xN m c n) (yN m c n) n (stN m c n)) := by
  induction n with
  | zero => exact chunk_zero (meta_tab m c hs) _ _ _ _ _ _ _ _ xZ_at
  | succ n ih =>
    have k := ih (by omega)
    have k2 : InvA m c (32 * n + 16) (stN m c (n + 1)) := by
      show InvA m c (32 * n + 16) (step2 _ _ _ _ _ _ _ _ _ _ _ _)
      unfold step2
      rw [base0 ⟨n, by omega⟩]
      exact chunk_rows (meta_tab m c hs) _ _ _ _ _ _ (32 * n) (by omega) _ (fun j => deqX_at m c n 0 (by omega) (by omega) j) (fun j => deqY_at m c n 0 (by omega) (by omega) j) k
    unfold step1
    rw [base1 ⟨n, by omega⟩]
    exact chunk_rows (meta_tab m c hs) _ _ _ _ _ _ (32 * n + 16) (by omega) _ (fun j => deqX_at m c n 1 (by omega) (by omega) j) (fun j => deqY_at m c n 1 (by omega) (by omega) j) k2

/-- The kernel's result: every expert's sum over its own rows, times its two global scales. -/
theorem dwN_at (i : S6x1536x640.Idx) :
    dwN m c i = resE (mOf (gN m c)) (xE m c) (yE m c) (gxA m c) (gyA m c) (i 0).val (mk S1536x640 ![(i 1).val, (i 2).val]) := by
  have k := stN_inv m c hs 24 (by omega)
  have k2 : InvA m c 784 (step2 (mOf (gN m c)) (tab m c) (gxA m c) (gyA m c) (xN m c 24) (yN m c 24) (bxA m c 24) (sxA m c 24) (byA m c 24) (syA m c 24) 24 (stN m c 24)) := by
    unfold step2
    rw [base0 ⟨24, by omega⟩]
    exact chunk_rows (meta_tab m c hs) _ _ _ _ _ _ (32 * 24) (by omega) _ (fun j => deqX_at m c 24 0 (by omega) (by omega) j) (fun j => deqY_at m c 24 0 (by omega) (by omega) j) k
  have k3 : InvA m c 800 (fin3 (mOf (gN m c)) (tab m c) (gxA m c) (gyA m c) (xN m c 24) (yN m c 24) (bxA m c 24) (sxA m c 24) (byA m c 24) (syA m c 24) 24 (stN m c 24)) := by
    unfold fin3
    rw [base2]
    exact chunk_rows (meta_tab m c hs) _ _ _ _ _ _ 784 (by omega) _ (fun j => deqX_at m c 24 1 (by omega) (by omega) j) (fun j => deqY_at m c 24 1 (by omega) (by omega) j) k2
  have he : 6 ≤ (fin3 (mOf (gN m c)) (tab m c) (gxA m c) (gyA m c) (xN m c 24) (yN m c 24) (bxA m c 24) (sxA m c 24) (byA m c 24) (syA m c 24) 24 (stN m c 24)).e := by
    by_contra h
    have hm := meta_tab m c hs
    have := mono6 hm (fin3 (mOf (gN m c)) (tab m c) (gxA m c) (gyA m c) (xN m c 24) (yN m c 24) (bxA m c 24) (sxA m c 24) (byA m c 24) (syA m c 24) 24 (stN m c 24)).e 5 (by omega) (by omega)
    have := k3.open_ (by omega)
    have := hm.last
    omega
  have hi := (i 0).isLt
  change _ < 6 at hi
  exact k3.dw _ (by omega) i rfl

end Cert.Kernel.Hand
-- ==== Proof.Val5.lean ====
module

public import proofs.«01_k».proof.Proof.Val4
public import proofs.«01_k».proof.Proof.Gen.ReferenceIdeal.Run

@[expose] public section

set_option maxRecDepth 16384

noncomputable section

namespace Cert.Hand

open Cert.ReferenceIdeal Cert.ReferenceIdeal.Gen Cert.ReferenceIdeal.Value
open Idealize.ShloMosaic Idealize.ShloMosaic.TcCoe
open Cert.Kernel.Hand (mk)

/-- The reference's dequantised first operand. -/
theorem v5_at (V0 : Valuation τ sig (Elt Ideal)) (x : FVec Ideal S12800x1536 .bf16) (w : FVec Ideal S800x1536 .f32)
    (hx : V0 (Proc.devRef .tc main_arg3) = x) (hw : V0 (Proc.devRef .tc main_arg4) = w) (r : Fin 12800) (k : Fin 1536) :
    (res_main_v5 V0 : FVec Ideal S12800x1536 .bf16) (ix2 r k) = (x (mk S12800x1536 ![r.val, k.val]) : EReal) * (w (mk S800x1536 ![r.val / 16, k.val]) : EReal) := by
  unfold res_main_v5
  pointwise
  rw [hx, hw]
  congr 2 <;> (funext a; match a with | ⟨0, _⟩ => (apply Fin.ext; first | exact (Nat.mod_eq_of_lt r.isLt).symm | exact (Nat.mod_eq_of_lt (show r.val / 16 < 800 by have := r.isLt; omega)).symm) | ⟨1, _⟩ => exact Fin.ext (Nat.mod_eq_of_lt k.isLt).symm)

/-- And its second. -/
theorem v11_at (V0 : Valuation τ sig (Elt Ideal)) (x : FVec Ideal S12800x640 .bf16) (w : FVec Ideal S800x640 .f32)
    (hx : V0 (Proc.devRef .tc main_arg5) = x) (hw : V0 (Proc.devRef .tc main_arg6) = w) (r : Fin 12800) (k : Fin 640) :
    (res_main_v11 V0 : FVec Ideal S12800x640 .bf16) (ix2 r k) = (x (mk S12800x640 ![r.val, k.val]) : EReal) * (w (mk S800x640 ![r.val / 16, k.val]) : EReal) := by
  unfold res_main_v11
  pointwise
  rw [hx, hw]
  congr 2 <;> (funext a; match a with | ⟨0, _⟩ => (apply Fin.ext; first | exact (Nat.mod_eq_of_lt r.isLt).symm | exact (Nat.mod_eq_of_lt (show r.val / 16 < 800 by have := r.isLt; omega)).symm) | ⟨1, _⟩ => exact Fin.ext (Nat.mod_eq_of_lt k.isLt).symm)

theorem cat6 {α : Type} (u0 u1 u2 u3 u4 u5 : S1x1536x640.Idx → α) (h) (e : Fin 6) (k : Fin 1536) (f : Fin 640) :
    concatenate S6x1536x640 0 [⟨S1x1536x640, u0⟩, ⟨S1x1536x640, u1⟩, ⟨S1x1536x640, u2⟩, ⟨S1x1536x640, u3⟩, ⟨S1x1536x640, u4⟩, ⟨S1x1536x640, u5⟩] h (ix3 e k f)
      = (match e with | 0 => u0 | 1 => u1 | 2 => u2 | 3 => u3 | 4 => u4 | 5 => u5) (ix3 0 k f) := by
  match e with
  | 0 => pointwise
  | 1 => pointwise
  | 2 => pointwise
  | 3 => pointwise
  | 4 => pointwise
  | 5 => pointwise

theorem and_ofBool (a b : Bool) : IntOp.andi (BitVec.ofBool a) (BitVec.ofBool b) = BitVec.ofBool (a && b) := by cases a <;> cases b <;> rfl

/-- One expert's result in the reference, its first and last row given. -/
theorem piece (A : FVec Ideal S12800x1536 .bf16) (B : FVec Ideal S12800x640 .bf16) (lw hw : IVec S_ 32) (a b : ℕ) (ha : a ≤ 800) (hb : b ≤ 800) (hl : lw = fun _ => BitVec.ofNat 32 (16 * a)) (hh : hw = fun _ => BitVec.ofNat 32 (16 * b))
    (sc : FVec Ideal S_ .f32) (k : Fin 1536) (f : Fin 640) :
    broadcastInDim S1x1536x640 ![1, 2] bcast_S1536x640_S1x1536x640_1_2 (mulf (Host.dotGeneral dot_S12800x1536_S12800x640_S1536x640_0_0_1_1_n_n none A (select (andi (cmpi .sge (iotaInDim S12800x640 32 0) (broadcastInDim S12800x640 ![] bcast_S_S12800x640 lw)) (cmpi .slt (iotaInDim S12800x640 32 0) (broadcastInDim S12800x640 ![] bcast_S_S12800x640 hw))) B (broadcastInDim S12800x640 ![] bcast_S_S12800x640 (constant S_ .bf16 0x0000#16)))) (broadcastInDim S1536x640 ![] bcast_S_S1536x640 sc)) (ix3 0 k f)
      = (∑ r : Fin 12800, (A (ix2 r k) : EReal) * (if a ≤ r.val / 16 ∧ r.val / 16 < b then (B (ix2 r f) : EReal) else 0)) * (sc ix0 : EReal) := by
  subst hl hh
  pointwise
  congr 1
  refine Finset.sum_congr rfl fun r _ => ?_
  have hr := r.isLt
  rw [WordCmp.cmpi_sge_ofNat (w := 32) (by omega) (by omega), WordCmp.cmpi_slt_ofNat (w := 32) (by omega) (by omega), and_ofBool]
  unfold Scalar.select
  by_cases h1 : 16 * a ≤ r.val <;> by_cases h2 : r.val < 16 * b
  · rw [if_pos (show a ≤ r.val / 16 ∧ r.val / 16 < b by omega)]; simp [h1, h2]
  · rw [if_neg (show ¬ (a ≤ r.val / 16 ∧ r.val / 16 < b) by omega)]; simp [h1, h2]
  · rw [if_neg (show ¬ (a ≤ r.val / 16 ∧ r.val / 16 < b) by omega)]; simp [h1, h2]
  · rw [if_neg (show ¬ (a ≤ r.val / 16 ∧ r.val / 16 < b) by omega)]; simp [h1, h2]

/-- `floor_divide` by 16 of a size plus 15, as the reference spells it. -/
def fdW (g : BitVec 32) : BitVec 32 :=
  let w := IntOp.addi g 15#32
  let sg (x : BitVec 32) : BitVec 32 := if x = 0 then 0 else if x.msb then -1 else 1
  Scalar.select (IntOp.andi (IntOp.cmpi .ne (sg w) (sg 16#32)) (IntOp.cmpi .ne (IntOp.remsi .host w 16#32) 0#32))
    (IntOp.subi (IntOp.divsi .host w 16#32) 1#32) (IntOp.divsi .host w 16#32)

theorem fdW_fin : ∀ g : Fin 12289, fdW (BitVec.ofNat 32 g.val) = BitVec.ofNat 32 ((g.val + 15) / 16) := by decide +kernel

/-- One expert's last row, from the last row of the expert before it. -/
theorem hi_step (lw x : IVec S_ 32) (a g : ℕ) (hl : lw = fun _ => BitVec.ofNat 32 (16 * a)) (hx : x = fun _ => BitVec.ofNat 32 g) (hg : g ≤ 12288) :
    addi lw (muli (constantI S_ 32 16#32) (select (andi (cmpi .ne (signi (addi x (constantI S_ 32 15#32))) (signi (id (constantI S_ 32 16#32)))) (cmpi .ne (Host.remsi (addi x (constantI S_ 32 15#32)) (id (constantI S_ 32 16#32))) (constantI S_ 32 0#32))) (subi (Host.divsi (addi x (constantI S_ 32 15#32)) (id (constantI S_ 32 16#32))) (constantI S_ 32 1#32)) (Host.divsi (addi x (constantI S_ 32 15#32)) (id (constantI S_ 32 16#32)))))
      = fun _ => BitVec.ofNat 32 (16 * (a + (g + 15) / 16)) := by
  have e : fdW (BitVec.ofNat 32 g) = BitVec.ofNat 32 ((g + 15) / 16) := fdW_fin ⟨g, by omega⟩
  subst hl hx
  funext i
  have k : IntOp.addi (BitVec.ofNat 32 (16 * a)) (IntOp.muli 16#32 (fdW (BitVec.ofNat 32 g))) = BitVec.ofNat 32 (16 * (a + (g + 15) / 16)) := by
    rw [e]
    unfold IntOp.addi IntOp.muli
    apply BitVec.eq_of_toNat_eq
    simp only [BitVec.toNat_add, BitVec.toNat_mul, BitVec.toNat_ofNat]
    omega
  rw [← k]
  unfold fdW
  rfl

theorem sl6 (G : IVec S6 32) (e : Fin 6) (h : S6.Slices ![e.val] S1) (h') : shapeCast S_ (extractStridedSlice S1 ![e.val] G h) h' = fun _ => G (mk S6 ![e.val]) := by
  funext j
  pointwise
  exact congrArg G (by funext a; match a with | ⟨0, _⟩ => exact Fin.ext (Nat.mod_eq_of_lt e.isLt).symm)

theorem sl7 (G : FVec Ideal S7 .f32) (e : Fin 7) (h : S7.Slices ![e.val] S1) (h') (j) : shapeCast S_ (extractStridedSlice S1 ![e.val] G h) h' j = G (mk S7 ![e.val]) := by
  pointwise
  exact congrArg G (by funext a; match a with | ⟨0, _⟩ => exact Fin.ext (Nat.mod_eq_of_lt e.isLt).symm)

end Cert.Hand
-- ==== Proof.Val6.lean ====
module

public import proofs.«01_k».proof.Proof.Val5

@[expose] public section

set_option maxRecDepth 16384

noncomputable section

namespace Cert.Hand

open Cert.ReferenceIdeal Cert.ReferenceIdeal.Gen Cert.ReferenceIdeal.Value
open Idealize.ShloMosaic Idealize.ShloMosaic.TcCoe
open Cert.Kernel.Hand

variable (m : (ℓ : Loc nD τ sig) → Buf (Elt Ideal) ℓ)

theorem ixmk (i : S6x1536x640.Idx) : i = ix3 (i 0) (i 1) (i 2) := by
  funext a
  match a with
  | ⟨0, _⟩ => rfl
  | ⟨1, _⟩ => rfl
  | ⟨2, _⟩ => rfl

/-- Where expert `k` starts is where the one before it ends. -/
theorem lo_succ (M : ℕ → ℕ) (k : ℕ) : lo M (k + 1) = M k := by unfold lo; rw [if_neg (by omega)]; rfl

theorem mOf_succ (g : ℕ → ℕ) (k : ℕ) (hk : k + 1 < 6) : mOf g (k + 1) = mOf g k + (g (k + 1) + 15) / 16 := by
  unfold mOf
  rw [if_pos hk, if_pos (by omega), Finset.sum_range_succ]

theorem mOf_zero (g : ℕ → ℕ) : mOf g 0 = 0 + (g 0 + 15) / 16 := by
  unfold mOf
  rw [if_pos (by omega), Finset.sum_range_one, zero_add]

/-- The kernel's result at an index, in the reference's form. -/
theorem resE_at (M : ℕ → ℕ) (gx gy : Vec Ideal Cert.Kernel.S7 .f32) (A : FVec Ideal S12800x1536 .bf16) (B : FVec Ideal S12800x640 .bf16) (L Y : ℕ → ℕ → EReal) (e : ℕ) (k : Fin 1536) (f : Fin 640)
    (hA : ∀ (r : Fin 12800), (A (ix2 r k) : EReal) = L r.val k.val) (hB : ∀ (r : Fin 12800), (B (ix2 r f) : EReal) = Y r.val f.val) (sc : FVec Ideal S_ .f32)
    (hsc : (sc ix0 : EReal) = (gx (mk Cert.Kernel.S7 ![e]) : EReal) * (gy (mk Cert.Kernel.S7 ![e]) : EReal)) :
    (∑ r : Fin 12800, (A (ix2 r k) : EReal) * (if lo M e ≤ r.val / 16 ∧ r.val / 16 < M e then (B (ix2 r f) : EReal) else 0)) * (sc ix0 : EReal)
      = resE M L Y gx gy e (mk Cert.Kernel.S1536x640 ![k.val, f.val]) := by
  unfold resE finT
  show _ = accE M L Y 12800 e (mk Cert.Kernel.S1536x640 ![k.val, f.val]) * ((gx (mk Cert.Kernel.S7 ![e]) : EReal) * (gy (mk Cert.Kernel.S7 ![e]) : EReal))
  rw [hsc]
  refine congrArg (fun z : EReal => z * ((gx (mk Cert.Kernel.S7 ![e]) : EReal) * (gy (mk Cert.Kernel.S7 ![e]) : EReal))) ?_
  refine Eq.trans ?_ (Finset.sum_range (n := 12800) fun r => term M L Y e r ((mk Cert.Kernel.S1536x640 ![k.val, f.val]) 0).val ((mk Cert.Kernel.S1536x640 ![k.val, f.val]) 1).val).symm
  refine Finset.sum_congr rfl fun r _ => ?_
  unfold term
  rw [hA, hB, mk_val0 _ _ _ k.isLt, mk_val1 _ _ _ f.isLt]

/-- The reference's result is the kernel's, from the same arguments. -/
theorem value (mk' : (ℓ : Loc Cert.Kernel.nD Cert.Kernel.τ Cert.Kernel.sig) → Buf (Elt Ideal) ℓ) (c : Dev Cert.Kernel.nD) (hs : Sizes (gN mk' c)) (V0 : Valuation τ sig (Elt Ideal))
    (h0 : V0 (Proc.devRef .tc main_arg0) = gvA mk' c) (h1 : V0 (Proc.devRef .tc main_arg1) = gxA mk' c) (h2 : V0 (Proc.devRef .tc main_arg2) = gyA mk' c)
    (h3 : V0 (Proc.devRef .tc main_arg3) = vX mk' c) (h4 : V0 (Proc.devRef .tc main_arg4) = wX mk' c) (h5 : V0 (Proc.devRef .tc main_arg5) = vY mk' c) (h6 : V0 (Proc.devRef .tc main_arg6) = wY mk' c) :
    res_main_v139 V0 = dwN mk' c := by
  have hM := meta_tab mk' c hs
  have hle : ∀ k, k < 6 → mOf (gN mk' c) k ≤ 800 := fun k hk => (mono6 hM k 5 (by omega) (by omega)).trans hM.last
  have hg : ∀ k, k < 6 → gN mk' c k ≤ 12288 := fun k hk => hs.le k hk
  have word : ∀ k, gvA mk' c (mk Cert.Kernel.S6 ![k]) = BitVec.ofNat 32 (gN mk' c k) := fun k => by unfold gN; exact (BitVec.ofNat_toNat 32 _ |>.trans (by simp)).symm
  have w0 : res_main_v18 V0 = fun _ => BitVec.ofNat 32 (16 * mOf (gN mk' c) 0) := by
    rw [mOf_zero]
    exact hi_step _ _ 0 _ rfl ((sl6 _ 0 _ _).trans (by rw [h0]; exact funext fun _ => word 0)) (hg 0 (by omega))
  have w1 : res_main_v38 V0 = fun _ => BitVec.ofNat 32 (16 * mOf (gN mk' c) 1) := by
    rw [mOf_succ _ 0 (by omega)]
    exact hi_step _ _ _ _ w0 ((sl6 _ 1 _ _).trans (by rw [h0]; exact funext fun _ => word 1)) (hg 1 (by omega))
  have w2 : res_main_v58 V0 = fun _ => BitVec.ofNat 32 (16 * mOf (gN mk' c) 2) := by
    rw [mOf_succ _ 1 (by omega)]
    exact hi_step _ _ _ _ w1 ((sl6 _ 2 _ _).trans (by rw [h0]; exact funext fun _ => word 2)) (hg 2 (by omega))
  have w3 : res_main_v78 V0 = fun _ => BitVec.ofNat 32 (16 * mOf (gN mk' c) 3) := by
    rw [mOf_succ _ 2 (by omega)]
    exact hi_step _ _ _ _ w2 ((sl6 _ 3 _ _).trans (by rw [h0]; exact funext fun _ => word 3)) (hg 3 (by omega))
  have w4 : res_main_v98 V0 = fun _ => BitVec.ofNat 32 (16 * mOf (gN mk' c) 4) := by
    rw [mOf_succ _ 3 (by omega)]
    exact hi_step _ _ _ _ w3 ((sl6 _ 4 _ _).trans (by rw [h0]; exact funext fun _ => word 4)) (hg 4 (by omega))
  funext i
  rw [dwN_at mk' c hs i]
  obtain ⟨e, k, f, rfl⟩ : ∃ (e : Fin 6) (k : Fin 1536) (f : Fin 640), i = ix3 e k f := ⟨i 0, i 1, i 2, ixmk i⟩
  have hA : ∀ r : Fin 12800, ((res_main_v5 V0 : FVec Ideal S12800x1536 .bf16) (ix2 r k) : EReal) = xE mk' c r.val k.val := fun r => v5_at V0 _ _ h3 h4 r k
  have hB : ∀ r : Fin 12800, ((res_main_v11 V0 : FVec Ideal S12800x640 .bf16) (ix2 r f) : EReal) = yE mk' c r.val f.val := fun r => v11_at V0 _ _ h5 h6 r f
  have hsc : ∀ (e : Fin 7) (p q : FVec Ideal S_ .f32), p = (fun _ => gxA mk' c (mk Cert.Kernel.S7 ![e.val])) → q = (fun _ => gyA mk' c (mk Cert.Kernel.S7 ![e.val])) →
      (mulf p q ix0 : EReal) = (gxA mk' c (mk Cert.Kernel.S7 ![e.val]) : EReal) * (gyA mk' c (mk Cert.Kernel.S7 ![e.val]) : EReal) := fun e p q hp hq => by subst hp hq; rfl
  have sx : ∀ (e : Fin 7) (h h'), shapeCast S_ (extractStridedSlice S1 ![e.val] (V0 (Proc.devRef .tc main_arg1) : FVec Ideal S7 .f32) h) h' = fun _ => gxA mk' c (mk Cert.Kernel.S7 ![e.val]) := fun e h h' => by
    rw [h1]; exact funext fun j => sl7 _ e h h' j
  have sy : ∀ (e : Fin 7) (h h'), shapeCast S_ (extractStridedSlice S1 ![e.val] (V0 (Proc.devRef .tc main_arg2) : FVec Ideal S7 .f32) h) h' = fun _ => gyA mk' c (mk Cert.Kernel.S7 ![e.val]) := fun e h h' => by
    rw [h2]; exact funext fun j => sl7 _ e h h' j
  refine (cat6 _ _ _ _ _ _ _ e k f).trans ?_
  match e with
  | 0 =>
    exact (piece _ _ _ _ 0 (mOf (gN mk' c) 0) (by omega) (hle 0 (by omega)) rfl w0 _ k f).trans
      (resE_at (mOf (gN mk' c)) (gxA mk' c) (gyA mk' c) _ _ _ _ 0 k f hA hB _ (hsc 0 _ _ (sx 0 _ _) (sy 0 _ _)))
  | 1 =>
    exact (piece _ _ _ _ (mOf (gN mk' c) 0) (mOf (gN mk' c) 1) (hle 0 (by omega)) (hle 1 (by omega)) w0 w1 _ k f).trans
      (resE_at (mOf (gN mk' c)) (gxA mk' c) (gyA mk' c) _ _ _ _ 1 k f hA hB _ (hsc 1 _ _ (sx 1 _ _) (sy 1 _ _)))
  | 2 =>
    exact (piece _ _ _ _ (mOf (gN mk' c) 1) (mOf (gN mk' c) 2) (hle 1 (by omega)) (hle 2 (by omega)) w1 w2 _ k f).trans
      (resE_at (mOf (gN mk' c)) (gxA mk' c) (gyA mk' c) _ _ _ _ 2 k f hA hB _ (hsc 2 _ _ (sx 2 _ _) (sy 2 _ _)))
  | 3 =>
    exact (piece _ _ _ _ (mOf (gN mk' c) 2) (mOf (gN mk' c) 3) (hle 2 (by omega)) (hle 3 (by omega)) w2 w3 _ k f).trans
      (resE_at (mOf (gN mk' c)) (gxA mk' c) (gyA mk' c) _ _ _ _ 3 k f hA hB _ (hsc 3 _ _ (sx 3 _ _) (sy 3 _ _)))
  | 4 =>
    exact (piece _ _ _ _ (mOf (gN mk' c) 3) (mOf (gN mk' c) 4) (hle 3 (by omega)) (hle 4 (by omega)) w3 w4 _ k f).trans
      (resE_at (mOf (gN mk' c)) (gxA mk' c) (gyA mk' c) _ _ _ _ 4 k f hA hB _ (hsc 4 _ _ (sx 4 _ _) (sy 4 _ _)))
  | 5 =>
    refine (piece _ _ _ _ (mOf (gN mk' c) 4) (mOf (gN mk' c) 5) (hle 4 (by omega)) (hle 5 (by omega)) w4 ?_ _ k f).trans
      (resE_at (mOf (gN mk' c)) (gxA mk' c) (gyA mk' c) _ _ _ _ 5 k f hA hB _ (hsc 5 _ _ (sx 5 _ _) (sy 5 _ _)))
    rw [mOf_succ _ 4 (by omega)]
    exact hi_step _ _ _ _ w4 ((sl6 _ 5 _ _).trans (by rw [h0]; exact funext fun _ => word 5)) (hg 5 (by omega))

end Cert.Hand
-- ==== Proof.ScA.lean ====
module

public import proofs.«01_k».proof.Proof.Gen.ScalesIdeal.Value
public import Idealize.ShloMosaic.Lib.Pipeline.ReadBack
public import Idealize.ShloMosaic.Lib.Pointwise

@[expose] public section

set_option maxRecDepth 16384

noncomputable section

namespace Cert.ScalesIdeal.Hand

open Cert.ScalesIdeal Cert.ScalesIdeal.Gen
open Idealize.ShloMosaic Idealize.ShloMosaic.TcCoe

variable {F : FTy → Type} [FloatOps F]

/-- The one index of a one-entry vector. -/
def i1 : S1.Idx := fun a => match a with | ⟨0, _⟩ => ⟨0, Nat.one_pos⟩

/-- One block's scale: its maximum, nudged off the ties, over six times the global scale, clamped to what e4m3 holds. -/
def scale1 (a g : F .f32) : F .fp8e4m3 :=
  truncf .fp8e4m3 (minimumf (broadcast S1 (FloatOps.ofBits .f32 0x43E00000#32)) (maximumf (broadcast S1 (FloatOps.ofBits .f32 0x00000000#32))
    (divf (mulf (fun _ => a) (broadcast S1 (FloatOps.ofBits .f32 0x3F800800#32))) (mulf (broadcast S1 (FloatOps.ofBits .f32 0x40C00000#32)) (fun _ => g))))) bitsLt_fp8e4m3_f32 i1

/-- The global scale of row block `b`: the entry after the last expert whose end does not pass `b`. -/
def sel (T : ℕ → BitVec 32) (G : ℕ → F .f32) (b : BitVec 32) : F .f32 :=
  Scalar.select (IntOp.cmpi .sge b (T 5)) (G 6) (Scalar.select (IntOp.cmpi .sge b (T 4)) (G 5) (Scalar.select (IntOp.cmpi .sge b (T 3)) (G 4) (Scalar.select (IntOp.cmpi .sge b (T 2)) (G 3) (Scalar.select (IntOp.cmpi .sge b (T 1)) (G 2) (Scalar.select (IntOp.cmpi .sge b (T 0)) (G 1) (G 0))))))

/-- Entry `k` of the table's first row, where the kernel keeps the experts' ends in row blocks. -/
def tb (x : Vec F S3x7 .i32) (k : ℕ) : BitVec 32 := x (fun a => match a with | ⟨0, _⟩ => ⟨0, Nat.succ_pos _⟩ | ⟨1, _⟩ => ⟨k % 7, Nat.mod_lt _ (Nat.succ_pos 6)⟩)
/-- Global scale `k`. -/
def gv (x : Vec F S7 .f32) (k : ℕ) : F .f32 := x (fun a => match a with | ⟨0, _⟩ => ⟨k % 7, Nat.mod_lt _ (Nat.succ_pos 6)⟩)

/-- The size of expert `k`. -/
def sz (x : Vec F S6 .i32) (k : ℕ) : BitVec 32 := x (fun a => match a with | ⟨0, _⟩ => ⟨k % 6, Nat.mod_lt _ (Nat.succ_pos 5)⟩)
/-- Where expert `k` ends, in row blocks: each expert takes its size over 16, rounded up. -/
def en (x : Vec F S6 .i32) : ℕ → BitVec 32
  | 0 => Scalar.addi 0#32 (Scalar.shrui (Scalar.addi (sz x 0) 15#32) 4#32)
  | k + 1 => Scalar.addi (en x k) (Scalar.shrui (Scalar.addi (sz x (k + 1)) 15#32) 4#32)

/-- A scalar read of the sizes. -/
theorem ld_sz (x : Vec F S6 .i32) (k : ℕ) (h) (j) : View.ld (Val := Elt F) (e' := .i32) x (Rect.unit (s := S6) ![k] ![1] h) j = sz x k := by
  have hk : k < 6 := by have h1 : k + 1 ≤ 6 := h 0; omega
  refine congrArg x (funext fun a => Fin.ext ?_)
  match a with
  | ⟨0, _⟩ => have : (j 0).val < 1 := (j 0).isLt; show k + 1 * (j 0).val = k % 6; rw [Nat.mod_eq_of_lt hk]; omega
/-- A scalar read of the table. -/
theorem ld_tb (x : Vec F S3x7 .i32) (k : ℕ) (h) (j) : View.ld (Val := Elt F) (e' := .i32) x (Rect.unit (s := S3x7) ![0, k] ![1, 1] h) j = tb x k := by
  have hk : k < 7 := by have h1 : k + 1 ≤ 7 := h 1; omega
  refine congrArg x (funext fun a => Fin.ext ?_)
  match a with
  | ⟨0, _⟩ => have : (j 0).val < 1 := (j 0).isLt; show 0 + 1 * (j 0).val = 0; omega
  | ⟨1, _⟩ => have : (j 1).val < 1 := (j 1).isLt; show k + 1 * (j 1).val = k % 7; rw [Nat.mod_eq_of_lt hk]; omega
/-- A scalar read of the global scales. -/
theorem ld_gv (x : Vec F S7 .f32) (k : ℕ) (h) (j) : View.ld (Val := Elt F) (e' := .f32) x (Rect.unit (s := S7) ![k] ![1] h) j = gv x k := by
  have hk : k < 7 := by have h1 : k + 1 ≤ 7 := h 0; omega
  refine congrArg x (funext fun a => Fin.ext ?_)
  match a with
  | ⟨0, _⟩ => have : (j 0).val < 1 := (j 0).isLt; show k + 1 * (j 0).val = k % 7; rw [Nat.mod_eq_of_lt hk]; omega

/-- The number of a row of a step's lower half. -/
theorem word_lo (i : grid0.Coords) (x : S16x128.Idx) : k0_pay1 i x = BitVec.ofNat 32 (32 * (i 0).val + (0 + 1 * (x 0).val)) := by
  have : k0_pay1 i x = BitVec.ofNat 32 (i 0).val * BitVec.ofNat 32 32 + BitVec.ofNat 32 0 + BitVec.ofNat 32 (x 0).val := by
    unfold k0_pay1; pointwise; rfl
  rw [this, ← BitVec.ofNat_mul, ← BitVec.ofNat_add, ← BitVec.ofNat_add]
  congr 1; omega
/-- The number of a row of a step's upper half. -/
theorem word_hi (n : ℕ) (x : S16x128.Idx) : k0_pay34 (BitVec.ofNat 32 n) x = BitVec.ofNat 32 (32 * n + (16 + 1 * (x 0).val)) := by
  have : k0_pay34 (BitVec.ofNat 32 n) x = BitVec.ofNat 32 n * BitVec.ofNat 32 32 + BitVec.ofNat 32 16 + BitVec.ofNat 32 (x 0).val := by
    unfold k0_pay34; pointwise; rfl
  rw [this, ← BitVec.ofNat_mul, ← BitVec.ofNat_add, ← BitVec.ofNat_add]
  congr 1; omega

/-- A step's block of scales: each entry's scale with its row block's global scale. -/
def blk {m : ℕ} (i : grid0.Coords) (T : ℕ → BitVec 32) (g : Vec F S7 .f32) (a : Vec F (⟨2, ![32, m]⟩ : Shape) .f32) : Vec F (⟨2, ![32, m]⟩ : Shape) .fp8e4m3 := fun y =>
  scale1 (a y) (sel T (gv g) (BitVec.ofNat 32 (32 * (i 0).val + (y 0).val)))

/-- A stored piece of the lower half. -/
theorem lo {m : ℕ} (i : grid0.Coords) (T : ℕ → BitVec 32) (g : Vec F S7 .f32) (a : Vec F (⟨2, ![32, m]⟩ : Shape) .f32) (p : ℕ) (h) (x : S16x128.Idx) (P : F .fp8e4m3)
    (hP : P = scale1 (View.ld (Val := Elt F) (e' := .f32) a (Rect.unit (s := ⟨2, ![32, m]⟩) ![0, p] ![16, 128] h) x) (sel T (gv g) (k0_pay1 i x))) :
    P = blk i T g a ((Rect.unit (s := ⟨2, ![32, m]⟩) ![0, p] ![16, 128] h).emb x) := by
  rw [hP, word_lo]; rfl
/-- A stored piece of the upper half. -/
theorem hi {m : ℕ} (i : grid0.Coords) (T : ℕ → BitVec 32) (g : Vec F S7 .f32) (a : Vec F (⟨2, ![32, m]⟩ : Shape) .f32) (p : ℕ) (h) (x : S16x128.Idx) (P : F .fp8e4m3)
    (hP : P = scale1 (View.ld (Val := Elt F) (e' := .f32) a (Rect.unit (s := ⟨2, ![32, m]⟩) ![16, p] ![16, 128] h) x) (sel T (gv g) (k0_pay34 (BitVec.ofNat 32 (i 0).val) x))) :
    P = blk i T g a ((Rect.unit (s := ⟨2, ![32, m]⟩) ![16, p] ![16, 128] h).emb x) := by
  rw [hP, word_hi]; rfl

set_option maxHeartbeats 4000000 in
/-- A later step's block of the scales, from the table as it was left. -/
theorem out_B5 (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S32x1536 .f32) (harg4 : arg4.IsWhole) (arg5 : Memref sig .tc .vmem S32x640 .f32) (harg5 : arg5.IsWhole) (arg6 : Memref sig .tc .vmem S32x1536 .fp8e4m3) (harg6 : arg6.IsWhole) (arg7 : Memref sig .tc .vmem S32x640 .fp8e4m3) (harg7 : arg7.IsWhole) (arg8 : Memref sig .tc .smem S3x7 .i32) (harg8 : arg8.IsWhole) (hc0 : ¬cond0_0 i)
    (x0 : Vec F S6 .i32) (x1 : Vec F S7 .f32) (x2 : Vec F S7 .f32) (x3 : Vec F S32x1536 .f32) (x4 : Vec F S32x640 .f32) (xs0 : Vec F S3x7 .i32) :
    out0_B_5 c i arg1 harg1 arg2 harg2 arg3 harg3 arg4 harg4 arg5 harg5 arg6 harg6 arg7 harg7 arg8 harg8 hc0 x0 x1 x2 x3 x4 xs0 = blk i (tb xs0) x1 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0)]
  funext y
  refine View.canon_apply_of_pieces (blk i (tb xs0) x1 x3) _ (View.PiecesOf.mem ?_) y (cover0_B_5 c i arg1 harg1 arg2 harg2 arg3 harg3 arg4 harg4 arg5 harg5 arg6 harg6 arg7 harg7 arg8 harg8 hc0 x0 x1 x2 x3 x4 xs0 y)
  unfold kernelRun0_B
  dsimp only
  sl_unfold_words
  simp only [View.readAt_eq_ld, harg2.read_unread, harg3.read_unread, harg4.read_unread, harg5.read_unread, harg8.read_unread]
  rw [ld_tb xs0 0, ld_tb xs0 1, ld_tb xs0 2, ld_tb xs0 3, ld_tb xs0 4, ld_tb xs0 5, ld_gv x1 0, ld_gv x1 1, ld_gv x1 2, ld_gv x1 3, ld_gv x1 4, ld_gv x1 5, ld_gv x1 6]
  exact ⟨fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, trivial⟩

set_option maxHeartbeats 4000000 in
/-- A later step's block of the scales, from the table as it was left. -/
theorem out_B6 (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S32x1536 .f32) (harg4 : arg4.IsWhole) (arg5 : Memref sig .tc .vmem S32x640 .f32) (harg5 : arg5.IsWhole) (arg6 : Memref sig .tc .vmem S32x1536 .fp8e4m3) (harg6 : arg6.IsWhole) (arg7 : Memref sig .tc .vmem S32x640 .fp8e4m3) (harg7 : arg7.IsWhole) (arg8 : Memref sig .tc .smem S3x7 .i32) (harg8 : arg8.IsWhole) (hc0 : ¬cond0_0 i)
    (x0 : Vec F S6 .i32) (x1 : Vec F S7 .f32) (x2 : Vec F S7 .f32) (x3 : Vec F S32x1536 .f32) (x4 : Vec F S32x640 .f32) (xs0 : Vec F S3x7 .i32) :
    out0_B_6 c i arg1 harg1 arg2 harg2 arg3 harg3 arg4 harg4 arg5 harg5 arg6 harg6 arg7 harg7 arg8 harg8 hc0 x0 x1 x2 x3 x4 xs0 = blk i (tb xs0) x2 x4 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xs0)]
  funext y
  refine View.canon_apply_of_pieces (blk i (tb xs0) x2 x4) _ (View.PiecesOf.mem ?_) y (cover0_B_6 c i arg1 harg1 arg2 harg2 arg3 harg3 arg4 harg4 arg5 harg5 arg6 harg6 arg7 harg7 arg8 harg8 hc0 x0 x1 x2 x3 x4 xs0 y)
  unfold kernelRun0_B
  dsimp only
  sl_unfold_words
  simp only [View.readAt_eq_ld, harg2.read_unread, harg3.read_unread, harg4.read_unread, harg5.read_unread, harg8.read_unread]
  rw [ld_tb xs0 0, ld_tb xs0 1, ld_tb xs0 2, ld_tb xs0 3, ld_tb xs0 4, ld_tb xs0 5, ld_gv x2 0, ld_gv x2 1, ld_gv x2 2, ld_gv x2 3, ld_gv x2 4, ld_gv x2 5, ld_gv x2 6]
  exact ⟨fun x => hi i _ _ _ _ _ x _ rfl, fun x => hi i _ _ _ _ _ x _ rfl, fun x => hi i _ _ _ _ _ x _ rfl, fun x => hi i _ _ _ _ _ x _ rfl, fun x => hi i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, trivial⟩

end Cert.ScalesIdeal.Hand
-- ==== Proof.ScB.lean ====
module

public import proofs.«01_k».proof.Proof.Gen.ScalesIdeal.Value
public import Idealize.ShloMosaic.Lib.Pipeline.ReadBack
public import Idealize.ShloMosaic.Lib.Pointwise
public import proofs.«01_k».proof.Proof.ScA

@[expose] public section

set_option maxRecDepth 16384

noncomputable section

namespace Cert.ScalesIdeal.Hand

open Cert.ScalesIdeal Cert.ScalesIdeal.Gen
open Idealize.ShloMosaic Idealize.ShloMosaic.TcCoe

variable {F : FTy → Type} [FloatOps F]

set_option maxHeartbeats 4000000 in
/-- The first step's block of the scales, from the table it has just written. -/
theorem out_A5 (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S32x1536 .f32) (harg4 : arg4.IsWhole) (arg5 : Memref sig .tc .vmem S32x640 .f32) (harg5 : arg5.IsWhole) (arg6 : Memref sig .tc .vmem S32x1536 .fp8e4m3) (harg6 : arg6.IsWhole) (arg7 : Memref sig .tc .vmem S32x640 .fp8e4m3) (harg7 : arg7.IsWhole) (arg8 : Memref sig .tc .smem S3x7 .i32) (harg8 : arg8.IsWhole) (hc0 : cond0_0 i)
    (x0 : Vec F S6 .i32) (x1 : Vec F S7 .f32) (x2 : Vec F S7 .f32) (x3 : Vec F S32x1536 .f32) (x4 : Vec F S32x640 .f32) :
    out0_A_5 c i arg1 harg1 arg2 harg2 arg3 harg3 arg4 harg4 arg5 harg5 arg6 harg6 arg7 harg7 arg8 harg8 hc0 x0 x1 x2 x3 x4 = blk i (en x0) x1 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  funext y
  refine View.canon_apply_of_pieces (blk i (en x0) x1 x3) _ (View.PiecesOf.mem ?_) y (cover0_A_5 c i arg1 harg1 arg2 harg2 arg3 harg3 arg4 harg4 arg5 harg5 arg6 harg6 arg7 harg7 arg8 harg8 hc0 x0 x1 x2 x3 x4 y)
  unfold kernelRun0_A
  dsimp only
  sl_unfold_words
  simp only [View.readAt_eq_ld, harg1.read_unread, harg2.read_unread, harg3.read_unread, harg4.read_unread, harg5.read_unread]
  rw [ld_sz x0 0, ld_sz x0 1, ld_sz x0 2, ld_sz x0 3, ld_sz x0 4, ld_sz x0 5, ld_gv x1 0, ld_gv x1 1, ld_gv x1 2, ld_gv x1 3, ld_gv x1 4, ld_gv x1 5, ld_gv x1 6]
  exact ⟨fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => hi i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, trivial⟩

set_option maxHeartbeats 4000000 in
/-- The first step's block of the scales, from the table it has just written. -/
theorem out_A6 (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S32x1536 .f32) (harg4 : arg4.IsWhole) (arg5 : Memref sig .tc .vmem S32x640 .f32) (harg5 : arg5.IsWhole) (arg6 : Memref sig .tc .vmem S32x1536 .fp8e4m3) (harg6 : arg6.IsWhole) (arg7 : Memref sig .tc .vmem S32x640 .fp8e4m3) (harg7 : arg7.IsWhole) (arg8 : Memref sig .tc .smem S3x7 .i32) (harg8 : arg8.IsWhole) (hc0 : cond0_0 i)
    (x0 : Vec F S6 .i32) (x1 : Vec F S7 .f32) (x2 : Vec F S7 .f32) (x3 : Vec F S32x1536 .f32) (x4 : Vec F S32x640 .f32) :
    out0_A_6 c i arg1 harg1 arg2 harg2 arg3 harg3 arg4 harg4 arg5 harg5 arg6 harg6 arg7 harg7 arg8 harg8 hc0 x0 x1 x2 x3 x4 = blk i (en x0) x2 x4 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  funext y
  refine View.canon_apply_of_pieces (blk i (en x0) x2 x4) _ (View.PiecesOf.mem ?_) y (cover0_A_6 c i arg1 harg1 arg2 harg2 arg3 harg3 arg4 harg4 arg5 harg5 arg6 harg6 arg7 harg7 arg8 harg8 hc0 x0 x1 x2 x3 x4 y)
  unfold kernelRun0_A
  dsimp only
  sl_unfold_words
  simp only [View.readAt_eq_ld, harg1.read_unread, harg2.read_unread, harg3.read_unread, harg4.read_unread, harg5.read_unread]
  rw [ld_sz x0 0, ld_sz x0 1, ld_sz x0 2, ld_sz x0 3, ld_sz x0 4, ld_sz x0 5, ld_gv x2 0, ld_gv x2 1, ld_gv x2 2, ld_gv x2 3, ld_gv x2 4, ld_gv x2 5, ld_gv x2 6]
  exact ⟨fun x => hi i _ _ _ _ _ x _ rfl, fun x => hi i _ _ _ _ _ x _ rfl, fun x => hi i _ _ _ _ _ x _ rfl, fun x => hi i _ _ _ _ _ x _ rfl, fun x => hi i _ _ _ _ _ x _ rfl, fun x => lo i _ _ _ _ _ x _ rfl, fun x => lo i _ _ _ _ _ x _ rfl, fun x => lo i _ _ _ _ _ x _ rfl, fun x => lo i _ _ _ _ _ x _ rfl, fun x => lo i _ _ _ _ _ x _ rfl, trivial⟩

end Cert.ScalesIdeal.Hand
-- ==== Proof.ScC.lean ====
module

public import proofs.«01_k».proof.Proof.Gen.ScalesIdeal.Value
public import Idealize.ShloMosaic.Lib.Pipeline.ReadBack
public import Idealize.ShloMosaic.Lib.Pointwise
public import proofs.«01_k».proof.Proof.ScA

@[expose] public section

set_option maxRecDepth 16384

noncomputable section

namespace Cert.ScalesIdeal.Hand

open Cert.ScalesIdeal Cert.ScalesIdeal.Gen
open Idealize.ShloMosaic Idealize.ShloMosaic.TcCoe

variable {F : FTy → Type} [FloatOps F]

/-- The sizes' running sum through expert `k`. -/
def rs (x : Vec F S6 .i32) : ℕ → BitVec 32
  | 0 => Scalar.addi 0#32 (sz x 0)
  | k + 1 => Scalar.addi (rs x k) (sz x (k + 1))
/-- The padding before expert `k`. -/
def dl (x : Vec F S6 .i32) : ℕ → BitVec 32
  | 0 => 0#32
  | k + 1 => Scalar.subi (Scalar.muli (en x k) 16#32) (rs x k)
/-- The table: the ends in row blocks, the padding, the ends in rows, each with one entry past the last expert. -/
def tabl (x : Vec F S6 .i32) : ℕ → ℕ → BitVec 32
  | 0, 6 => 1073741824#32
  | 0, k => en x k
  | 1, 6 => dl x 5
  | 1, k => dl x k
  | _, 6 => 0#32
  | _, k => rs x k
/-- The table as the kernel's array. -/
def tabv (x : Vec F S6 .i32) : Vec F S3x7 .i32 := fun y => tabl x (y 0).val (y 1).val

/-- A stored entry of the table. -/
theorem tpc (x : Vec F S6 .i32) (r k : ℕ) (h) (j : (Rect.unit (s := S3x7) ![r, k] ![1, 1] h).shape.Idx) (P : BitVec 32) (hP : P = tabl x r k) :
    P = tabv x ((Rect.unit (s := S3x7) ![r, k] ![1, 1] h).emb j) := by
  have h0 : (j 0).val < 1 := (j 0).isLt
  have h1 : (j 1).val < 1 := (j 1).isLt
  show P = tabl x (r + 1 * (j 0).val) (k + 1 * (j 1).val)
  rw [hP, show r + 1 * (j 0).val = r by omega, show k + 1 * (j 1).val = k by omega]

/-- The ends read off the table. -/
theorem tb_tabv (x : Vec F S6 .i32) (k : ℕ) (hk : k < 6) : tb (tabv x) k = en x k := by
  show tabl x 0 (k % 7) = en x k
  rw [Nat.mod_eq_of_lt (by omega)]
  match k, hk with
  | 0, _ | 1, _ | 2, _ | 3, _ | 4, _ | 5, _ => rfl

set_option maxHeartbeats 4000000 in
/-- The table the first step writes. -/
theorem sout_A (c : Dev nD) (i : grid0.Coords) (arg1 : Memref sig .tc .smem S6 .i32) (harg1 : arg1.IsWhole) (arg2 : Memref sig .tc .smem S7 .f32) (harg2 : arg2.IsWhole) (arg3 : Memref sig .tc .smem S7 .f32) (harg3 : arg3.IsWhole) (arg4 : Memref sig .tc .vmem S32x1536 .f32) (harg4 : arg4.IsWhole) (arg5 : Memref sig .tc .vmem S32x640 .f32) (harg5 : arg5.IsWhole) (arg6 : Memref sig .tc .vmem S32x1536 .fp8e4m3) (harg6 : arg6.IsWhole) (arg7 : Memref sig .tc .vmem S32x640 .fp8e4m3) (harg7 : arg7.IsWhole) (arg8 : Memref sig .tc .smem S3x7 .i32) (harg8 : arg8.IsWhole) (hc0 : cond0_0 i)
    (x0 : Vec F S6 .i32) (x1 : Vec F S7 .f32) (x2 : Vec F S7 .f32) (x3 : Vec F S32x1536 .f32) (x4 : Vec F S32x640 .f32) :
    sout0_A_0 c i arg1 harg1 arg2 harg2 arg3 harg3 arg4 harg4 arg5 harg5 arg6 harg6 arg7 harg7 arg8 harg8 hc0 x0 x1 x2 x3 x4 = tabv x0 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  funext y
  refine View.canon_apply_of_pieces (tabv x0) _ (View.PiecesOf.mem ?_) y (scover0_A_0 c i arg1 harg1 arg2 harg2 arg3 harg3 arg4 harg4 arg5 harg5 arg6 harg6 arg7 harg7 arg8 harg8 hc0 x0 x1 x2 x3 x4 y)
  unfold kernelRun0_A
  dsimp only
  sl_unfold_words
  simp only [View.readAt_eq_ld, harg1.read_unread]
  rw [ld_sz x0 0, ld_sz x0 1, ld_sz x0 2, ld_sz x0 3, ld_sz x0 4, ld_sz x0 5]
  exact ⟨fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, fun j => tpc _ _ _ (by decide) j _ rfl, trivial⟩

/-- The blocks depend on the ends of the six experts alone. -/
theorem blk_congr {m : ℕ} (i : grid0.Coords) (T T' : ℕ → BitVec 32) (hT : ∀ k < 6, T k = T' k) (g : Vec F S7 .f32) (a : Vec F (⟨2, ![32, m]⟩ : Shape) .f32) : blk i T g a = blk i T' g a := by
  funext y
  unfold blk sel
  rw [hT 0 (by decide), hT 1 (by decide), hT 2 (by decide), hT 3 (by decide), hT 4 (by decide), hT 5 (by decide)]

end Cert.ScalesIdeal.Hand
-- ==== Proof.ScD.lean ====
module

public import proofs.«01_k».proof.Proof.ScB
public import proofs.«01_k».proof.Proof.ScC

@[expose] public section

set_option maxRecDepth 16384

noncomputable section

namespace Cert.ScalesIdeal.Hand

open Cert.ScalesIdeal Cert.ScalesIdeal.Gen Cert.ScalesIdeal.Value
open Idealize.ShloMosaic Idealize.ShloMosaic.TcCoe

variable {F : FTy → Type} [FloatOps F]
variable (m : (ℓ : Loc nD τ sig) → Buf (Elt F) ℓ)

/-- The group sizes. -/
def gsA (c : Dev nD) : Vec F S6 .i32 := V m c main_arg0
/-- The left array's global scales. -/
def gxA (c : Dev nD) : Vec F S7 .f32 := V m c main_arg1
/-- The right array's global scales. -/
def gyA (c : Dev nD) : Vec F S7 .f32 := V m c main_arg2

theorem iblk0 (c : Dev nD) (t : Fin cfg0.N) : iblk m c 0 t = gsA m c := by
  funext j
  unfold iblk
  rw [View.read_apply]
  show V m c main_arg0 _ = V m c main_arg0 _
  congr 1
  funext a
  apply Fin.ext
  match a with
  | ⟨0, _⟩ => show 0 * 6 + 1 * (j 0).val = (j 0).val; omega
theorem iblk1 (c : Dev nD) (t : Fin cfg0.N) : iblk m c 1 t = gxA m c := by
  funext j
  unfold iblk
  rw [View.read_apply]
  show V m c main_arg1 _ = V m c main_arg1 _
  congr 1
  funext a
  apply Fin.ext
  match a with
  | ⟨0, _⟩ => show 0 * 7 + 1 * (j 0).val = (j 0).val; omega
theorem iblk2 (c : Dev nD) (t : Fin cfg0.N) : iblk m c 2 t = gyA m c := by
  funext j
  unfold iblk
  rw [View.read_apply]
  show V m c main_arg2 _ = V m c main_arg2 _
  congr 1
  funext a
  apply Fin.ext
  match a with
  | ⟨0, _⟩ => show 0 * 7 + 1 * (j 0).val = (j 0).val; omega

/-- Every step leaves its blocks of the two results and the same table. -/
theorem outs (c : Dev nD) : ∀ (n : ℕ) (h : n < cfg0.N), outsAt0 m c n h =
    (blk (grid0.coords ⟨n, h⟩) (en (gsA m c)) (gxA m c) (iblk m c 3 ⟨n, h⟩), blk (grid0.coords ⟨n, h⟩) (en (gsA m c)) (gyA m c) (iblk m c 4 ⟨n, h⟩), tabv (gsA m c))
  | 0, h => by
    rw [outsAt0_A m c ⟨0, h⟩ (Nat.zero_mod _), out_A5, out_A6, sout_A, iblk0, iblk1, iblk2]
  | n + 1, h => by
    have hN : n + 1 < 25 := N_0 ▸ h
    have h0 : ¬(⟨n + 1, h⟩ : Fin cfg0.N).val % 25 = 0 := by dsimp only; omega
    rw [outsAt0_B m c ⟨n + 1, h⟩ h0, out_B5, out_B6, iblk1, iblk2]
    have hT : (outsAt0 m c ((⟨n + 1, h⟩ : Fin cfg0.N).val - 1) (Nat.lt_of_le_of_lt (Nat.sub_le _ _) (⟨n + 1, h⟩ : Fin cfg0.N).isLt)).2.2 = tabv (gsA m c) :=
      congrArg (fun p => p.2.2) (outs c n (Nat.lt_of_succ_lt h))
    rw [hT]
    refine Prod.ext ?_ (Prod.ext ?_ ?_)
    · exact blk_congr _ _ _ (fun k hk => tb_tabv _ k hk) _ _
    · exact blk_congr _ _ _ (fun k hk => tb_tabv _ k hk) _ _
    · rfl

theorem coords_val (t : Fin cfg0.N) : ((grid0.coords t) 0).val = t.val :=
  (by decide +kernel : ∀ t : Fin grid0.N, ((grid0.coords t) 0).val = t.val) t

theorem idx3 : ∀ t : Fin grid0.N, win0_3.index t = ![t.val, 0] := by decide +kernel
theorem idx4 : ∀ t : Fin grid0.N, win0_4.index t = ![t.val, 0] := by decide +kernel

/-- What the left result holds. -/
def scX (c : Dev nD) : Vec F S800x1536 .fp8e4m3 := fun i =>
  scale1 ((V m c main_arg3 : Vec F S800x1536 .f32) i) (sel (en (gsA m c)) (gv (gxA m c)) (BitVec.ofNat 32 (i 0).val))
/-- What the right result holds. -/
def scY (c : Dev nD) : Vec F S800x640 .fp8e4m3 := fun i =>
  scale1 ((V m c main_arg4 : Vec F S800x640 .f32) i) (sel (en (gsA m c)) (gv (gyA m c)) (BitVec.ofNat 32 (i 0).val))

/-- A step's block of the left array's maxima, entry by entry. -/
theorem iblk3_at (c : Dev nD) (t : Fin cfg0.N) (y : S32x1536.Idx) (i : S800x1536.Idx) (h0 : t.val * 32 + (y 0).val = (i 0).val) (h1 : (y 1).val = (i 1).val) :
    (iblk m c 3 t : Vec F S32x1536 .f32) y = (V m c main_arg3 : Vec F S800x1536 .f32) i := by
  unfold iblk
  rw [View.read_apply]
  show V m c main_arg3 _ = V m c main_arg3 _
  congr 1
  funext a
  apply Fin.ext
  match a with
  | ⟨0, _⟩ =>
    show win0_3.index t 0 * 32 + 1 * (y 0).val = (i 0).val
    rw [idx3]; show t.val * 32 + 1 * (y 0).val = (i 0).val; rw [Nat.one_mul]; exact h0
  | ⟨1, _⟩ =>
    show win0_3.index t 1 * 1536 + 1 * (y 1).val = (i 1).val
    rw [idx3]; show 0 * 1536 + 1 * (y 1).val = (i 1).val; rw [Nat.zero_mul, Nat.zero_add, Nat.one_mul]; exact h1

theorem G5_eq (c : Dev nD) : G5 m c = scX m c := by
  funext i
  have h0 : (i 0).val < 800 := (i 0).isLt
  have h1 : (i 1).val < 1536 := (i 1).isLt
  have hp : pt5Of i = (i 0).val / 32 := by show 1 * ((i 0).val / 32 - 0) + 1 * ((i 1).val / 1536 - 0) = _; omega
  have h : pt5Of i < cfg0.N := lt_of_lt_of_eq (show pt5Of i < 25 by omega) N_0.symm
  refine (dif_pos h).trans ?_
  rw [← outsAt0_sweep m c (pt5Of i) h, outs]
  have hw : 32 * ((grid0.coords ⟨pt5Of i, h⟩) 0).val + (i 0).val % 32 = (i 0).val := by
    rw [coords_val]; show 32 * pt5Of i + _ = _; rw [hp]; omega
  have ha : (iblk m c 3 ⟨pt5Of i, h⟩ : Vec F S32x1536 .f32) (loc5Of i) = (V m c main_arg3 : Vec F S800x1536 .f32) i :=
    iblk3_at m c ⟨pt5Of i, h⟩ (loc5Of i) i (by show pt5Of i * 32 + (i 0).val % 32 = _; rw [hp]; omega) (Nat.mod_eq_of_lt h1)
  exact congrArg₂ (fun a b => scale1 a (sel (en (gsA m c)) (gv (gxA m c)) (BitVec.ofNat 32 b))) ha hw

/-- A step's block of the right array's maxima, entry by entry. -/
theorem iblk4_at (c : Dev nD) (t : Fin cfg0.N) (y : S32x640.Idx) (i : S800x640.Idx) (h0 : t.val * 32 + (y 0).val = (i 0).val) (h1 : (y 1).val = (i 1).val) :
    (iblk m c 4 t : Vec F S32x640 .f32) y = (V m c main_arg4 : Vec F S800x640 .f32) i := by
  unfold iblk
  rw [View.read_apply]
  show V m c main_arg4 _ = V m c main_arg4 _
  congr 1
  funext a
  apply Fin.ext
  match a with
  | ⟨0, _⟩ =>
    show win0_4.index t 0 * 32 + 1 * (y 0).val = (i 0).val
    rw [idx4]; show t.val * 32 + 1 * (y 0).val = (i 0).val; rw [Nat.one_mul]; exact h0
  | ⟨1, _⟩ =>
    show win0_4.index t 1 * 640 + 1 * (y 1).val = (i 1).val
    rw [idx4]; show 0 * 640 + 1 * (y 1).val = (i 1).val; rw [Nat.zero_mul, Nat.zero_add, Nat.one_mul]; exact h1

theorem G6_eq (c : Dev nD) : G6 m c = scY m c := by
  funext i
  have h0 : (i 0).val < 800 := (i 0).isLt
  have h1 : (i 1).val < 640 := (i 1).isLt
  have hp : pt6Of i = (i 0).val / 32 := by show 1 * ((i 0).val / 32 - 0) + 1 * ((i 1).val / 640 - 0) = _; omega
  have h : pt6Of i < cfg0.N := lt_of_lt_of_eq (show pt6Of i < 25 by omega) N_0.symm
  refine (dif_pos h).trans ?_
  rw [← outsAt0_sweep m c (pt6Of i) h, outs]
  have hw : 32 * ((grid0.coords ⟨pt6Of i, h⟩) 0).val + (i 0).val % 32 = (i 0).val := by
    rw [coords_val]; show 32 * pt6Of i + _ = _; rw [hp]; omega
  have ha : (iblk m c 4 ⟨pt6Of i, h⟩ : Vec F S32x640 .f32) (loc6Of i) = (V m c main_arg4 : Vec F S800x640 .f32) i :=
    iblk4_at m c ⟨pt6Of i, h⟩ (loc6Of i) i (by show pt6Of i * 32 + (i 0).val % 32 = _; rw [hp]; omega) (Nat.mod_eq_of_lt h1)
  exact congrArg₂ (fun a b => scale1 a (sel (en (gsA m c)) (gv (gyA m c)) (BitVec.ofNat 32 b))) ha hw

end Cert.ScalesIdeal.Hand
-- ==== Proof.ScE.lean ====
module

public import proofs.«01_k».proof.Proof.ScD
public import proofs.«01_k».proof.Proof.Val5
public import proofs.«01_k».proof.Proof.Size
public import proofs.«01_k».proof.Proof.Gen.ScalesReferenceIdeal.Run
public import proofs.«01_k».proof.Proof.Gen.Pre_scale_sizes_fit

@[expose] public section

set_option maxRecDepth 16384

noncomputable section

namespace Cert.ScalesReferenceIdeal.Hand

open Cert.ScalesReferenceIdeal Cert.ScalesReferenceIdeal.Gen Cert.ScalesReferenceIdeal.Value
open Idealize.ShloMosaic Idealize.ShloMosaic.TcCoe
open Cert.ScalesIdeal.Hand (gv sz en sel scale1 scX scY gsA gxA gyA)
open Cert.Kernel.Hand (mk)

/-- The precondition bounds every size. -/
theorem size_le (a0 : Vec Ideal S6 .i32) (a1 a2 a3 a4) (h : Cert.Pre_scale_sizes_fit.fn (F := Ideal) a0 a1 a2 a3 a4 = fun _ => 1#1) (k : ℕ) (hk : k < 6) : (sz (F := Ideal) a0 k).toNat ≤ 12288 := by
  have hg : ∀ (k : ℕ) (i : S6.Idx), (i 0).val = k → a0 i = sz (F := Ideal) a0 k := fun k i e => by
    refine congrArg a0 (funext fun a => Fin.ext ?_)
    match a with
    | ⟨0, _⟩ => subst e; exact (Nat.mod_eq_of_lt (i 0).isLt).symm
  have hs : ∑ j ∈ Finset.range 6, (sz (F := Ideal) a0 j).toNat ≤ 12288 := by
    refine Cert.Hand.fits_sum _ ?_
    have q := congrFun h (fun a => a.elim0)
    unfold Cert.Hand.fits
    refine Eq.trans ?_ q
    unfold Cert.Pre_scale_sizes_fit.fn Cert.Pre_scale_sizes_fit.fn_part1 Cert.Pre_scale_sizes_fit.fn_part2 Cert.Pre_scale_sizes_fit.fn_part3
    dsimp only [andi, addi, cmpi, constantI, shapeCast, extractStridedSlice]
    rw [hg 0 _ rfl, hg 1 _ rfl, hg 2 _ rfl, hg 3 _ rfl, hg 4 _ rfl, hg 5 _ rfl]
  exact (Finset.single_le_sum (f := fun j => (sz (F := Ideal) a0 j).toNat) (fun _ _ => Nat.zero_le _) (Finset.mem_range.mpr hk)).trans hs

theorem fd_shr : ∀ g : Fin 12289, Cert.Hand.fdW (BitVec.ofNat 32 g.val) = Scalar.shrui (Scalar.addi (BitVec.ofNat 32 g.val) 15#32) 4#32 := by decide +kernel

/-- One expert's end, from the end of the expert before it: the floor division by 16 is the kernel's shift by 4. -/
theorem end_step (lw x : IVec S_ 32) (a s : BitVec 32) (hl : lw = fun _ => a) (hx : x = fun _ => s) (hs : s.toNat ≤ 12288) :
    addi lw (select (andi (cmpi .ne (signi (addi x (constantI S_ 32 15#32))) (signi (id (constantI S_ 32 16#32)))) (cmpi .ne (Host.remsi (addi x (constantI S_ 32 15#32)) (id (constantI S_ 32 16#32))) (constantI S_ 32 0#32))) (subi (Host.divsi (addi x (constantI S_ 32 15#32)) (id (constantI S_ 32 16#32))) (constantI S_ 32 1#32)) (Host.divsi (addi x (constantI S_ 32 15#32)) (id (constantI S_ 32 16#32))))
      = fun _ => Scalar.addi a (Scalar.shrui (Scalar.addi s 15#32) 4#32) := by
  have e : Cert.Hand.fdW s = Scalar.shrui (Scalar.addi s 15#32) 4#32 := by
    have := fd_shr ⟨s.toNat, by omega⟩
    rwa [show BitVec.ofNat 32 s.toNat = s from by simp] at this
  subst hl hx
  rw [← e]
  unfold Cert.Hand.fdW
  rfl

theorem sl6 (G : IVec S6 32) (e : Fin 6) (h : S6.Slices ![e.val] S1) (h') : shapeCast S_ (extractStridedSlice S1 ![e.val] G h) h' = fun _ => sz (F := Ideal) G e.val := by
  funext j
  pointwise
  exact congrArg G (by funext a; match a with | ⟨0, _⟩ => exact Fin.ext (Nat.mod_eq_of_lt e.isLt).symm)

theorem sl7 (G : FVec Ideal S7 .f32) (e : Fin 7) (h : S7.Slices ![e.val] S1) (h') : shapeCast S_ (extractStridedSlice S1 ![e.val] G h) h' = fun _ => gv (F := Ideal) G e.val := by
  funext j
  pointwise
  exact congrArg G (by funext a; match a with | ⟨0, _⟩ => exact Fin.ext (Nat.mod_eq_of_lt e.isLt).symm)

/-- The reference's scale of one block is the kernel's. -/
theorem scale_at (n : ℕ) (hb) (A : FVec Ideal ⟨2, ![800, n]⟩ .f32) (E0 E1 E2 E3 E4 E5 : IVec S_ 32) (g0 g1 g2 g3 g4 g5 g6 : FVec Ideal S_ .f32) (T : ℕ → BitVec 32) (G : ℕ → Ideal .f32)
    (e0 : E0 = fun _ => T 0) (e1 : E1 = fun _ => T 1) (e2 : E2 = fun _ => T 2) (e3 : E3 = fun _ => T 3) (e4 : E4 = fun _ => T 4) (e5 : E5 = fun _ => T 5)
    (h0 : g0 = fun _ => G 0) (h1 : g1 = fun _ => G 1) (h2 : g2 = fun _ => G 2) (h3 : g3 = fun _ => G 3) (h4 : g4 = fun _ => G 4) (h5 : g5 = fun _ => G 5) (h6 : g6 = fun _ => G 6) :
    Host.convertf .fp8e4m3 (minimumf (broadcastInDim ⟨2, ![800, n]⟩ ![] hb (id (constant S_ .f32 0x43E00000#32))) (maximumf (broadcastInDim ⟨2, ![800, n]⟩ ![] hb (id (constant S_ .f32 0x00000000#32))) (Host.divf (mulf A (broadcastInDim ⟨2, ![800, n]⟩ ![] hb (constant S_ .f32 0x3F800800#32))) (mulf (broadcastInDim ⟨2, ![800, n]⟩ ![] hb (constant S_ .f32 0x40C00000#32))
      (select (cmpi .sge (iotaInDim ⟨2, ![800, n]⟩ 32 0) (broadcastInDim ⟨2, ![800, n]⟩ ![] hb E5)) (broadcastInDim ⟨2, ![800, n]⟩ ![] hb g6)
      (select (cmpi .sge (iotaInDim ⟨2, ![800, n]⟩ 32 0) (broadcastInDim ⟨2, ![800, n]⟩ ![] hb E4)) (broadcastInDim ⟨2, ![800, n]⟩ ![] hb g5)
      (select (cmpi .sge (iotaInDim ⟨2, ![800, n]⟩ 32 0) (broadcastInDim ⟨2, ![800, n]⟩ ![] hb E3)) (broadcastInDim ⟨2, ![800, n]⟩ ![] hb g4)
      (select (cmpi .sge (iotaInDim ⟨2, ![800, n]⟩ 32 0) (broadcastInDim ⟨2, ![800, n]⟩ ![] hb E2)) (broadcastInDim ⟨2, ![800, n]⟩ ![] hb g3)
      (select (cmpi .sge (iotaInDim ⟨2, ![800, n]⟩ 32 0) (broadcastInDim ⟨2, ![800, n]⟩ ![] hb E1)) (broadcastInDim ⟨2, ![800, n]⟩ ![] hb g2)
      (select (cmpi .sge (iotaInDim ⟨2, ![800, n]⟩ 32 0) (broadcastInDim ⟨2, ![800, n]⟩ ![] hb E0)) (broadcastInDim ⟨2, ![800, n]⟩ ![] hb g1) (broadcastInDim ⟨2, ![800, n]⟩ ![] hb g0)))))))))))
      = fun i => scale1 (A i) (sel T G (BitVec.ofNat 32 (i 0).val)) := by
  subst e0 e1 e2 e3 e4 e5 h0 h1 h2 h3 h4 h5 h6
  rfl

/-- Where the experts end, in the reference's left array. -/
theorem ends8 (V0 : Valuation τ sig (Elt Ideal)) (G : Vec Ideal S6 .i32) (h0 : V0 (Proc.devRef .tc main_arg0) = G) (hs : ∀ k, k < 6 → (sz (F := Ideal) G k).toNat ≤ 12288) :
    (res_main_v8 V0 = fun _ => en (F := Ideal) G 0) ∧ (res_main_v18 V0 = fun _ => en (F := Ideal) G 1) ∧ (res_main_v28 V0 = fun _ => en (F := Ideal) G 2) ∧ (res_main_v38 V0 = fun _ => en (F := Ideal) G 3) ∧ (res_main_v48 V0 = fun _ => en (F := Ideal) G 4)
    ∧ (addi (res_main_v48 V0) (select (andi (cmpi .ne (signi (res_main_v56 V0)) (signi (res_main_call10_v0 V0))) (cmpi .ne (Host.remsi (res_main_v56 V0) (res_main_call10_v0 V0)) (constantI S_ 32 0#32))) (subi (res_main_call10_v1 V0) (constantI S_ 32 1#32)) (res_main_call10_v1 V0)) = fun _ => en (F := Ideal) G 5) := by
  subst h0
  have w0 : res_main_v8 V0 = fun _ => en (F := Ideal) (V0 (Proc.devRef .tc main_arg0)) 0 := end_step _ _ _ _ rfl (sl6 _ 0 _ _) (hs 0 (by omega))
  have w1 : res_main_v18 V0 = fun _ => en (F := Ideal) (V0 (Proc.devRef .tc main_arg0)) 1 := end_step _ _ _ _ w0 (sl6 _ 1 _ _) (hs 1 (by omega))
  have w2 : res_main_v28 V0 = fun _ => en (F := Ideal) (V0 (Proc.devRef .tc main_arg0)) 2 := end_step _ _ _ _ w1 (sl6 _ 2 _ _) (hs 2 (by omega))
  have w3 : res_main_v38 V0 = fun _ => en (F := Ideal) (V0 (Proc.devRef .tc main_arg0)) 3 := end_step _ _ _ _ w2 (sl6 _ 3 _ _) (hs 3 (by omega))
  have w4 : res_main_v48 V0 = fun _ => en (F := Ideal) (V0 (Proc.devRef .tc main_arg0)) 4 := end_step _ _ _ _ w3 (sl6 _ 4 _ _) (hs 4 (by omega))
  exact ⟨w0, w1, w2, w3, w4, end_step _ _ _ _ w4 (sl6 _ 5 _ _) (hs 5 (by omega))⟩

/-- Where the experts end, in the reference's right array. -/
theorem ends79 (V0 : Valuation τ sig (Elt Ideal)) (G : Vec Ideal S6 .i32) (h0 : V0 (Proc.devRef .tc main_arg0) = G) (hs : ∀ k, k < 6 → (sz (F := Ideal) G k).toNat ≤ 12288) :
    (res_main_v79 V0 = fun _ => en (F := Ideal) G 0) ∧ (res_main_v89 V0 = fun _ => en (F := Ideal) G 1) ∧ (res_main_v99 V0 = fun _ => en (F := Ideal) G 2) ∧ (res_main_v109 V0 = fun _ => en (F := Ideal) G 3) ∧ (res_main_v119 V0 = fun _ => en (F := Ideal) G 4)
    ∧ (addi (res_main_v119 V0) (select (andi (cmpi .ne (signi (res_main_v127 V0)) (signi (res_main_call23_v0 V0))) (cmpi .ne (Host.remsi (res_main_v127 V0) (res_main_call23_v0 V0)) (constantI S_ 32 0#32))) (subi (res_main_call23_v1 V0) (constantI S_ 32 1#32)) (res_main_call23_v1 V0)) = fun _ => en (F := Ideal) G 5) := by
  subst h0
  have w0 : res_main_v79 V0 = fun _ => en (F := Ideal) (V0 (Proc.devRef .tc main_arg0)) 0 := end_step _ _ _ _ rfl (sl6 _ 0 _ _) (hs 0 (by omega))
  have w1 : res_main_v89 V0 = fun _ => en (F := Ideal) (V0 (Proc.devRef .tc main_arg0)) 1 := end_step _ _ _ _ w0 (sl6 _ 1 _ _) (hs 1 (by omega))
  have w2 : res_main_v99 V0 = fun _ => en (F := Ideal) (V0 (Proc.devRef .tc main_arg0)) 2 := end_step _ _ _ _ w1 (sl6 _ 2 _ _) (hs 2 (by omega))
  have w3 : res_main_v109 V0 = fun _ => en (F := Ideal) (V0 (Proc.devRef .tc main_arg0)) 3 := end_step _ _ _ _ w2 (sl6 _ 3 _ _) (hs 3 (by omega))
  have w4 : res_main_v119 V0 = fun _ => en (F := Ideal) (V0 (Proc.devRef .tc main_arg0)) 4 := end_step _ _ _ _ w3 (sl6 _ 4 _ _) (hs 4 (by omega))
  exact ⟨w0, w1, w2, w3, w4, end_step _ _ _ _ w4 (sl6 _ 5 _ _) (hs 5 (by omega))⟩

/-- The left array's block scales in the reference are the kernel's. -/
theorem valueX (m : (ℓ : Loc Cert.ScalesIdeal.nD Cert.ScalesIdeal.τ Cert.ScalesIdeal.sig) → Buf (Elt Ideal) ℓ) (c : Dev Cert.ScalesIdeal.nD) (V0 : Valuation τ sig (Elt Ideal))
    (h0 : V0 (Proc.devRef .tc main_arg0) = gsA m c) (hg : V0 (Proc.devRef .tc main_arg1) = gxA m c) (ha : V0 (Proc.devRef .tc main_arg3) = Cert.ScalesIdeal.Gen.V m c Cert.ScalesIdeal.main_arg3)
    (hs : ∀ k, k < 6 → (sz (F := Ideal) (gsA m c) k).toNat ≤ 12288) :
    (Host.convertf .fp8e4m3 (minimumf (broadcastInDim S800x1536 ![] bcast_S_S800x1536 (id (constant S_ .f32 0x43E00000#32))) (maximumf (broadcastInDim S800x1536 ![] bcast_S_S800x1536 (id (constant S_ .f32 0x00000000#32))) (Host.divf (mulf (V0 (Proc.devRef .tc main_arg3)) (broadcastInDim S800x1536 ![] bcast_S_S800x1536 (constant S_ .f32 0x3F800800#32))) (mulf (broadcastInDim S800x1536 ![] bcast_S_S800x1536 (constant S_ .f32 0x40C00000#32)) (select (cmpi .sge (res_main_v0 V0) (broadcastInDim S800x1536 ![] bcast_S_S800x1536 (addi (res_main_v48 V0) (select (andi (cmpi .ne (signi (res_main_v56 V0)) (signi (res_main_call10_v0 V0))) (cmpi .ne (Host.remsi (res_main_v56 V0) (res_main_call10_v0 V0)) (constantI S_ 32 0#32))) (subi (res_main_call10_v1 V0) (constantI S_ 32 1#32)) (res_main_call10_v1 V0))))) (broadcastInDim S800x1536 ![] bcast_S_S800x1536 (shapeCast _ (extractStridedSlice S1 ![6] (V0 (Proc.devRef .tc main_arg1)) slices_S7_S1_6) shapeCasts_S1_S_)) (select (cmpi .sge (res_main_v0 V0) (broadcastInDim S800x1536 ![] bcast_S_S800x1536 (res_main_v48 V0))) (broadcastInDim S800x1536 ![] bcast_S_S800x1536 (shapeCast _ (extractStridedSlice S1 ![5] (V0 (Proc.devRef .tc main_arg1)) slices_S7_S1_5) shapeCasts_S1_S_)) (select (cmpi .sge (res_main_v0 V0) (broadcastInDim S800x1536 ![] bcast_S_S800x1536 (res_main_v38 V0))) (broadcastInDim S800x1536 ![] bcast_S_S800x1536 (shapeCast _ (extractStridedSlice S1 ![4] (V0 (Proc.devRef .tc main_arg1)) slices_S7_S1_4) shapeCasts_S1_S_)) (select (cmpi .sge (res_main_v0 V0) (broadcastInDim S800x1536 ![] bcast_S_S800x1536 (res_main_v28 V0))) (broadcastInDim S800x1536 ![] bcast_S_S800x1536 (shapeCast _ (extractStridedSlice S1 ![3] (V0 (Proc.devRef .tc main_arg1)) slices_S7_S1_3) shapeCasts_S1_S_)) (select (cmpi .sge (res_main_v0 V0) (broadcastInDim S800x1536 ![] bcast_S_S800x1536 (res_main_v18 V0))) (broadcastInDim S800x1536 ![] bcast_S_S800x1536 (shapeCast _ (extractStridedSlice S1 ![2] (V0 (Proc.devRef .tc main_arg1)) slices_S7_S1_2) shapeCasts_S1_S_)) (select (cmpi .sge (res_main_v0 V0) (broadcastInDim S800x1536 ![] bcast_S_S800x1536 (res_main_v8 V0))) (broadcastInDim S800x1536 ![] bcast_S_S800x1536 (shapeCast _ (extractStridedSlice S1 ![1] (V0 (Proc.devRef .tc main_arg1)) slices_S7_S1_1) shapeCasts_S1_S_)) (broadcastInDim S800x1536 ![] bcast_S_S800x1536 (shapeCast _ (extractStridedSlice S1 ![0] (V0 (Proc.devRef .tc main_arg1)) slices_S7_S1_0) shapeCasts_S1_S_)))))))))))) : FVec Ideal S800x1536 .fp8e4m3) = scX m c := by
  obtain ⟨w0, w1, w2, w3, w4, w5⟩ := ends8 V0 _ h0 hs
  have s : ∀ (e : Fin 7) (h h'), shapeCast S_ (extractStridedSlice S1 ![e.val] (V0 (Proc.devRef .tc main_arg1) : FVec Ideal S7 .f32) h) h' = fun _ => gv (F := Ideal) (gxA m c) e.val := fun e h h' => by
    rw [hg]; exact sl7 _ e h h'
  refine (scale_at 1536 _ _ _ _ _ _ _ _ _ _ _ _ _ _ _ (en (F := Ideal) (gsA m c)) (gv (F := Ideal) (gxA m c)) w0 w1 w2 w3 w4 w5 (s 0 _ _) (s 1 _ _) (s 2 _ _) (s 3 _ _) (s 4 _ _) (s 5 _ _) (s 6 _ _)).trans ?_
  rw [ha]
  rfl

/-- The right array's block scales in the reference are the kernel's. -/
theorem valueY (m : (ℓ : Loc Cert.ScalesIdeal.nD Cert.ScalesIdeal.τ Cert.ScalesIdeal.sig) → Buf (Elt Ideal) ℓ) (c : Dev Cert.ScalesIdeal.nD) (V0 : Valuation τ sig (Elt Ideal))
    (h0 : V0 (Proc.devRef .tc main_arg0) = gsA m c) (hg : V0 (Proc.devRef .tc main_arg2) = gyA m c) (ha : V0 (Proc.devRef .tc main_arg4) = Cert.ScalesIdeal.Gen.V m c Cert.ScalesIdeal.main_arg4)
    (hs : ∀ k, k < 6 → (sz (F := Ideal) (gsA m c) k).toNat ≤ 12288) :
    (Host.convertf .fp8e4m3 (minimumf (broadcastInDim S800x640 ![] bcast_S_S800x640 (id (constant S_ .f32 0x43E00000#32))) (maximumf (broadcastInDim S800x640 ![] bcast_S_S800x640 (id (constant S_ .f32 0x00000000#32))) (Host.divf (mulf (V0 (Proc.devRef .tc main_arg4)) (broadcastInDim S800x640 ![] bcast_S_S800x640 (constant S_ .f32 0x3F800800#32))) (mulf (broadcastInDim S800x640 ![] bcast_S_S800x640 (constant S_ .f32 0x40C00000#32)) (select (cmpi .sge (res_main_v71 V0) (broadcastInDim S800x640 ![] bcast_S_S800x640 (addi (res_main_v119 V0) (select (andi (cmpi .ne (signi (res_main_v127 V0)) (signi (res_main_call23_v0 V0))) (cmpi .ne (Host.remsi (res_main_v127 V0) (res_main_call23_v0 V0)) (constantI S_ 32 0#32))) (subi (res_main_call23_v1 V0) (constantI S_ 32 1#32)) (res_main_call23_v1 V0))))) (broadcastInDim S800x640 ![] bcast_S_S800x640 (shapeCast _ (extractStridedSlice S1 ![6] (V0 (Proc.devRef .tc main_arg2)) slices_S7_S1_6) shapeCasts_S1_S_)) (select (cmpi .sge (res_main_v71 V0) (broadcastInDim S800x640 ![] bcast_S_S800x640 (res_main_v119 V0))) (broadcastInDim S800x640 ![] bcast_S_S800x640 (shapeCast _ (extractStridedSlice S1 ![5] (V0 (Proc.devRef .tc main_arg2)) slices_S7_S1_5) shapeCasts_S1_S_)) (select (cmpi .sge (res_main_v71 V0) (broadcastInDim S800x640 ![] bcast_S_S800x640 (res_main_v109 V0))) (broadcastInDim S800x640 ![] bcast_S_S800x640 (shapeCast _ (extractStridedSlice S1 ![4] (V0 (Proc.devRef .tc main_arg2)) slices_S7_S1_4) shapeCasts_S1_S_)) (select (cmpi .sge (res_main_v71 V0) (broadcastInDim S800x640 ![] bcast_S_S800x640 (res_main_v99 V0))) (broadcastInDim S800x640 ![] bcast_S_S800x640 (shapeCast _ (extractStridedSlice S1 ![3] (V0 (Proc.devRef .tc main_arg2)) slices_S7_S1_3) shapeCasts_S1_S_)) (select (cmpi .sge (res_main_v71 V0) (broadcastInDim S800x640 ![] bcast_S_S800x640 (res_main_v89 V0))) (broadcastInDim S800x640 ![] bcast_S_S800x640 (shapeCast _ (extractStridedSlice S1 ![2] (V0 (Proc.devRef .tc main_arg2)) slices_S7_S1_2) shapeCasts_S1_S_)) (select (cmpi .sge (res_main_v71 V0) (broadcastInDim S800x640 ![] bcast_S_S800x640 (res_main_v79 V0))) (broadcastInDim S800x640 ![] bcast_S_S800x640 (shapeCast _ (extractStridedSlice S1 ![1] (V0 (Proc.devRef .tc main_arg2)) slices_S7_S1_1) shapeCasts_S1_S_)) (broadcastInDim S800x640 ![] bcast_S_S800x640 (shapeCast _ (extractStridedSlice S1 ![0] (V0 (Proc.devRef .tc main_arg2)) slices_S7_S1_0) shapeCasts_S1_S_)))))))))))) : FVec Ideal S800x640 .fp8e4m3) = scY m c := by
  obtain ⟨w0, w1, w2, w3, w4, w5⟩ := ends79 V0 _ h0 hs
  have s : ∀ (e : Fin 7) (h h'), shapeCast S_ (extractStridedSlice S1 ![e.val] (V0 (Proc.devRef .tc main_arg2) : FVec Ideal S7 .f32) h) h' = fun _ => gv (F := Ideal) (gyA m c) e.val := fun e h h' => by
    rw [hg]; exact sl7 _ e h h'
  refine (scale_at 640 _ _ _ _ _ _ _ _ _ _ _ _ _ _ _ (en (F := Ideal) (gsA m c)) (gv (F := Ideal) (gyA m c)) w0 w1 w2 w3 w4 w5 (s 0 _ _) (s 1 _ _) (s 2 _ _) (s 3 _ _) (s 4 _ _) (s 5 _ _) (s 6 _ _)).trans ?_
  rw [ha]
  rfl

end Cert.ScalesReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sizes_fit
public import proofs.«01_k».proof.Proof.Gen.Scales
public import proofs.«01_k».proof.Proof.Gen.Scales.Frame
public import proofs.«01_k».proof.Proof.Gen.ScalesIdeal
public import proofs.«01_k».proof.Proof.Gen.ScalesIdeal.Frame
public import proofs.«01_k».proof.Proof.Gen.ScalesIdeal.Value
public import proofs.«01_k».proof.Proof.Gen.ScalesReferenceIdeal
public import proofs.«01_k».proof.Proof.Gen.ScalesReferenceIdeal.Run
public import proofs.«01_k».proof.Proof.Gen.Pre_scale_sizes_fit
public import proofs.«01_k».proof.Proof.Flow
public import proofs.«01_k».proof.Proof.Size
public import proofs.«01_k».proof.Proof.Eqv
public import proofs.«01_k».proof.Proof.Val6
public import proofs.«01_k».proof.Proof.ScE

@[expose] public section

noncomputable section

namespace Cert.Proof

open Idealize.ShloMosaic Idealize.ShloMosaic.TcCoe Idealize.SL.Sem

variable {F : FTy → Type} [FloatOps F]

/-- The precondition, read as the kernel's proof uses it. -/
theorem sizes (m : (ℓ : Loc Cert.Kernel.nD Cert.Kernel.τ Cert.Kernel.sig) → Buf (Elt F) ℓ) (c : Dev Cert.Kernel.nD) (a1 a2 a3 a4 a5 a6)
    (h : Cert.Pre_sizes_fit.fn (F := F) (m ((c.tc : Thread Cert.Kernel.nD Cert.Kernel.τ).loc Cert.Kernel.main_arg0)) a1 a2 a3 a4 a5 a6 = fun _ => 1#1) :
    Cert.Kernel.Hand.Sizes (Cert.Kernel.Hand.gN m c) :=
  ⟨Cert.Hand.sizes_sum _ a1 a2 a3 a4 a5 a6 h (fun k => Cert.Kernel.Hand.gvA m c (Cert.Kernel.Hand.mk Cert.Kernel.S6 ![k])) fun k i e => by
    unfold Cert.Kernel.Hand.gvA
    refine congrArg (m ((c.tc : Thread Cert.Kernel.nD Cert.Kernel.τ).loc Cert.Kernel.main_arg0)) ?_
    funext a
    match a with
    | ⟨0, _⟩ =>
      refine Fin.ext ?_
      subst e
      exact (Nat.mod_eq_of_lt (i 0).isLt).symm⟩

theorem frame_p : Cert.quiescent_Kernel := fun m ρ h =>
  (θ_run _ _ _).mono (fun _ k => ⟨fun c => (k.1 c).2, k.2⟩) (Cert.Kernel.Hand.run m ρ fun c => sizes m c _ _ _ _ _ _ (h c))

/-- The idealized kernel's run. -/
theorem run_i (m : (ℓ : Loc Cert.Kernel.nD Cert.Kernel.τ Cert.Kernel.sig) → Buf (Elt Ideal) ℓ) (ρ : Dev Cert.Kernel.nD → PrngReg) (h : ∀ c, Cert.Kernel.Hand.Sizes (Cert.Kernel.Hand.gN m c)) :
    θ_run (Cert.KernelIdeal.defs (F := Ideal)) (onTc (τ := Cert.KernelIdeal.τ) (Cert.KernelIdeal.main (F := Ideal))) ⟨m, fun _ => 0, ρ⟩ (fun r : PUnit × MemSt Cert.Kernel.nD Cert.Kernel.τ Cert.Kernel.sig (Elt Ideal) => (∀ c : Dev Cert.Kernel.nD,
      r.2.mem ((c.tc : Thread Cert.Kernel.nD Cert.Kernel.τ).loc Cert.Kernel.main_v0) = Cert.Kernel.Hand.dwN m c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) :=
  (Cert.Hand.run_eq (F := Ideal) m ρ _).mpr (Cert.Kernel.Hand.run m ρ h)

theorem frame_i : Cert.quiescent_KernelIdeal := fun m ρ h =>
  (θ_run _ _ _).mono (fun _ k => ⟨fun c => (k.1 c).2, k.2⟩) (run_i m ρ fun c => sizes m c _ _ _ _ _ _ (h c))

theorem frame_r : Cert.quiescent_ReferenceIdeal := fun m ρ _ =>
  (θ_run _ _ _).mono (fun r k => ⟨fun c => (k c).2, Idealize.ShloMosaic.sem_eq_zero_of_no_sems (by decide) r.2⟩) (Cert.ReferenceIdeal.Value.run m ρ)

theorem frame_r' : Cert.quiescent_ReferenceIdeal_pre_sizes_fit := fun m ρ _ =>
  (θ_run _ _ _).mono (fun r k => ⟨fun c => (k c).2, Idealize.ShloMosaic.sem_eq_zero_of_no_sems (by decide) r.2⟩) (Cert.ReferenceIdeal.Value.run m ρ)

/-- The kernel's `dw` is the reference's, over the extended reals. -/
theorem alg : Cert.algebraic_KernelIdeal_ReferenceIdeal := fun m g m' g' h hm => by
  have hs := fun c => sizes m c _ _ _ _ _ _ (h c)
  refine ⟨fun c => Cert.Kernel.Hand.dwN m c, (θ_run _ _ _).mono (fun _ k => k.1) (run_i m g hs), (θ_run _ _ _).mono (fun r k c => ?_) (Cert.ReferenceIdeal.Value.run m' g')⟩
  obtain ⟨a0, a1, a2, a3, a4, a5, a6⟩ := hm c
  exact ⟨(k c).1.trans (Cert.Hand.value m c (hs c) _ a0 a1 a2 a3 a4 a5 a6), (k c).2⟩

theorem frame_s : Cert.quiescent_Scales := fun m ρ _ => Cert.Scales.Gen.frame m ρ

theorem frame_si : Cert.quiescent_ScalesIdeal := fun m ρ _ => Cert.ScalesIdeal.Gen.frame m ρ

theorem frame_si' : Cert.quiescent_ScalesIdeal_pre_scale_sizes_fit := fun m ρ _ => Cert.ScalesIdeal.Gen.frame m ρ

theorem frame_t : Cert.quiescent_ScalesReferenceIdeal := fun m ρ _ =>
  (θ_run _ _ _).mono (fun r k => ⟨fun c => (k c).2.2, Idealize.ShloMosaic.sem_eq_zero_of_no_sems (by decide) r.2⟩) (Cert.ScalesReferenceIdeal.Value.run m ρ)

theorem frame_t' : Cert.quiescent_ScalesReferenceIdeal_pre_scale_sizes_fit := fun m ρ _ =>
  (θ_run _ _ _).mono (fun r k => ⟨fun c => (k c).2.2, Idealize.ShloMosaic.sem_eq_zero_of_no_sems (by decide) r.2⟩) (Cert.ScalesReferenceIdeal.Value.run m ρ)

/-- The kernel's block scales are the reference's, over the extended reals. -/
theorem alg_s : Cert.algebraic_ScalesIdeal_ScalesReferenceIdeal_pre_scale_sizes_fit := fun m g m' g' h hm => by
  refine ⟨fun c => Cert.ScalesIdeal.Hand.scX m c, fun c => Cert.ScalesIdeal.Hand.scY m c,
    (θ_run _ _ _).mono (fun _ k c => ⟨(k c).1.trans (Cert.ScalesIdeal.Hand.G5_eq m c), (k c).2.1.trans (Cert.ScalesIdeal.Hand.G6_eq m c), (k c).2.2⟩) (Cert.ScalesIdeal.Value.run m g),
    (θ_run _ _ _).mono (fun r k c => ?_) (Cert.ScalesReferenceIdeal.Value.run m' g')⟩
  obtain ⟨a0, a1, a2, a3, a4⟩ := hm c
  have hs := fun k hk => Cert.ScalesReferenceIdeal.Hand.size_le _ _ _ _ _ (h c) k hk
  exact ⟨(k c).1.trans (Cert.ScalesReferenceIdeal.Hand.valueX m c _ a0 a1 a3 hs), (k c).2.1.trans (Cert.ScalesReferenceIdeal.Hand.valueY m c _ a0 a2 a4 hs), (k c).2.2⟩

theorem claim : Cert.Claim :=
  ⟨Cert.Kernel.Gen.facts, Cert.KernelIdeal.Gen.facts, Cert.ReferenceIdeal.Gen.facts, Cert.Scales.Gen.facts, Cert.ScalesIdeal.Gen.facts, Cert.ScalesReferenceIdeal.Gen.facts,
    Cert.Pre_sizes_fit.Gen.facts, Cert.Pre_scale_sizes_fit.Gen.facts,
    frame_p, frame_i, frame_r, frame_r', frame_s, frame_si, frame_si', frame_t, frame_t', trivial, alg, trivial, alg_s⟩

end Cert.Proof

end
